-- ==== Defs.lean ====
def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_DeltaOut (m : (ℓ : Loc Cert.DeltaOut.nD Cert.DeltaOut.τ Cert.DeltaOut.sig) → Buf (Elt Bits) ℓ) : Prop :=
  True

def Pre_DeltaOutIdeal (m : (ℓ : Loc Cert.DeltaOutIdeal.nD Cert.DeltaOutIdeal.τ Cert.DeltaOutIdeal.sig) → Buf (Elt Ideal) ℓ) : Prop :=
  True

def Pre_DeltaOutRefIdeal (m : (ℓ : Loc Cert.DeltaOutRefIdeal.nD Cert.DeltaOutRefIdeal.τ Cert.DeltaOutRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumKv (m : (ℓ : Loc Cert.SumKv.nD Cert.SumKv.τ Cert.SumKv.sig) → Buf (Elt Bits) ℓ) : Prop :=
  True

def Pre_SumKvIdeal (m : (ℓ : Loc Cert.SumKvIdeal.nD Cert.SumKvIdeal.τ Cert.SumKvIdeal.sig) → Buf (Elt Ideal) ℓ) : Prop :=
  True

def Pre_SumKvRefIdeal (m : (ℓ : Loc Cert.SumKvRefIdeal.nD Cert.SumKvRefIdeal.τ Cert.SumKvRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AttnCFwd (m : (ℓ : Loc Cert.AttnCFwd.nD Cert.AttnCFwd.τ Cert.AttnCFwd.sig) → Buf (Elt Bits) ℓ) : Prop :=
  True

def Pre_AttnCFwdIdeal (m : (ℓ : Loc Cert.AttnCFwdIdeal.nD Cert.AttnCFwdIdeal.τ Cert.AttnCFwdIdeal.sig) → Buf (Elt Ideal) ℓ) : Prop :=
  True

def Pre_AttnCFwdRefIdeal (m : (ℓ : Loc Cert.AttnCFwdRefIdeal.nD Cert.AttnCFwdRefIdeal.τ Cert.AttnCFwdRefIdeal.sig) → Buf (Elt Ideal) ℓ) : Prop :=
  True

def Pre_PairIn (m : (ℓ : Loc Cert.PairIn.nD Cert.PairIn.τ Cert.PairIn.sig) → Buf (Elt Bits) ℓ) : Prop :=
  True

def Pre_PairInIdeal (m : (ℓ : Loc Cert.PairInIdeal.nD Cert.PairInIdeal.τ Cert.PairInIdeal.sig) → Buf (Elt Ideal) ℓ) : Prop :=
  True

def Pre_PairInRefIdeal (m : (ℓ : Loc Cert.PairInRefIdeal.nD Cert.PairInRefIdeal.τ Cert.PairInRefIdeal.sig) → Buf (Elt Ideal) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_PairKv (m : (ℓ : Loc Cert.PairKv.nD Cert.PairKv.τ Cert.PairKv.sig) → Buf (Elt Bits) ℓ) : Prop :=
  True

def Pre_PairKvIdeal (m : (ℓ : Loc Cert.PairKvIdeal.nD Cert.PairKvIdeal.τ Cert.PairKvIdeal.sig) → Buf (Elt Ideal) ℓ) : Prop :=
  True

def Pre_PairKvRefIdeal (m : (ℓ : Loc Cert.PairKvRefIdeal.nD Cert.PairKvRefIdeal.τ Cert.PairKvRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def Pre_AttnCGrad (m : (ℓ : Loc Cert.AttnCGrad.nD Cert.AttnCGrad.τ Cert.AttnCGrad.sig) → Buf (Elt Bits) ℓ) : Prop :=
  True

def Pre_AttnCGradIdeal (m : (ℓ : Loc Cert.AttnCGradIdeal.nD Cert.AttnCGradIdeal.τ Cert.AttnCGradIdeal.sig) → Buf (Elt Ideal) ℓ) : Prop :=
  True

def Pre_AttnBFwd (m : (ℓ : Loc Cert.AttnBFwd.nD Cert.AttnBFwd.τ Cert.AttnBFwd.sig) → Buf (Elt Bits) ℓ) : Prop :=
  True

def Pre_AttnBFwdIdeal (m : (ℓ : Loc Cert.AttnBFwdIdeal.nD Cert.AttnBFwdIdeal.τ Cert.AttnBFwdIdeal.sig) → Buf (Elt Ideal) ℓ) : Prop :=
  True

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1)
      ∧ r.2.mem ((c.tc : Thread Cert.InWeightRefIdeal.nD Cert.InWeightRefIdeal.τ).loc Cert.InWeightRefIdeal.main_arg2) = m ((c.tc : Thread Cert.InWeightRefIdeal.nD Cert.InWeightRefIdeal.τ).loc Cert.InWeightRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4))
      ∧ r.2.sem = fun _ => 0)

def quiescent_DeltaOut [hDeltaOut : Cert.DeltaOut.Facts] : Prop :=
  ∀ (m : (ℓ : Loc Cert.DeltaOut.nD Cert.DeltaOut.τ Cert.DeltaOut.sig) → Buf (Elt Bits) ℓ) (g : Dev Cert.DeltaOut.nD → PrngReg), Pre_DeltaOut m →
    θ_run (Cert.DeltaOut.defs (F := Bits)) (onTc (τ := Cert.DeltaOut.τ) (Cert.DeltaOut.main (F := Bits))) ⟨m, fun _ => 0, g⟩ (fun r => (∀ c : Dev Cert.DeltaOut.nD,
      r.2.mem ((c.tc : Thread Cert.DeltaOut.nD Cert.DeltaOut.τ).loc Cert.DeltaOut.main_arg0) = m ((c.tc : Thread Cert.DeltaOut.nD Cert.DeltaOut.τ).loc Cert.DeltaOut.main_arg0)
      ∧ r.2.mem ((c.tc : Thread Cert.DeltaOut.nD Cert.DeltaOut.τ).loc Cert.DeltaOut.main_arg1) = m ((c.tc : Thread Cert.DeltaOut.nD Cert.DeltaOut.τ).loc Cert.DeltaOut.main_arg1)
      ∧ r.2.mem ((c.tc : Thread Cert.DeltaOut.nD Cert.DeltaOut.τ).loc Cert.DeltaOut.main_arg2) = m ((c.tc : Thread Cert.DeltaOut.nD Cert.DeltaOut.τ).loc Cert.DeltaOut.main_arg2)
      ∧ r.2.mem ((c.tc : Thread Cert.DeltaOut.nD Cert.DeltaOut.τ).loc Cert.DeltaOut.main_arg3) = m ((c.tc : Thread Cert.DeltaOut.nD Cert.DeltaOut.τ).loc Cert.DeltaOut.main_arg3))
      ∧ r.2.sem = fun _ => 0)

def quiescent_DeltaOutIdeal [hDeltaOutIdeal : Cert.DeltaOutIdeal.Facts] : Prop :=
  ∀ (m : (ℓ : Loc Cert.DeltaOutIdeal.nD Cert.DeltaOutIdeal.τ Cert.DeltaOutIdeal.sig) → Buf (Elt Ideal) ℓ) (g : Dev Cert.DeltaOutIdeal.nD → PrngReg), Pre_DeltaOutIdeal m →
    θ_run (Cert.DeltaOutIdeal.defs (F := Ideal)) (onTc (τ := Cert.DeltaOutIdeal.τ) (Cert.DeltaOutIdeal.main (F := Ideal))) ⟨m, fun _ => 0, g⟩ (fun r => (∀ c : Dev Cert.DeltaOutIdeal.nD,
      r.2.mem ((c.tc : Thread Cert.DeltaOutIdeal.nD Cert.DeltaOutIdeal.τ).loc Cert.DeltaOutIdeal.main_arg0) = m ((c.tc : Thread Cert.DeltaOutIdeal.nD Cert.DeltaOutIdeal.τ).loc Cert.DeltaOutIdeal.main_arg0)
      ∧ r.2.mem ((c.tc : Thread Cert.DeltaOutIdeal.nD Cert.DeltaOutIdeal.τ).loc Cert.DeltaOutIdeal.main_arg1) = m ((c.tc : Thread Cert.DeltaOutIdeal.nD Cert.DeltaOutIdeal.τ).loc Cert.DeltaOutIdeal.main_arg1)
      ∧ r.2.mem ((c.tc : Thread Cert.DeltaOutIdeal.nD Cert.DeltaOutIdeal.τ).loc Cert.DeltaOutIdeal.main_arg2) = m ((c.tc : Thread Cert.DeltaOutIdeal.nD Cert.DeltaOutIdeal.τ).loc Cert.DeltaOutIdeal.main_arg2)
      ∧ r.2.mem ((c.tc : Thread Cert.DeltaOutIdeal.nD Cert.DeltaOutIdeal.τ).loc Cert.DeltaOutIdeal.main_arg3) = m ((c.tc : Thread Cert.DeltaOutIdeal.nD Cert.DeltaOutIdeal.τ).loc Cert.DeltaOutIdeal.main_arg3))
      ∧ r.2.sem = fun _ => 0)

def quiescent_DeltaOutRefIdeal [hDeltaOutRefIdeal : Cert.DeltaOutRefIdeal.Facts] : Prop :=
  ∀ (m : (ℓ : Loc Cert.DeltaOutRefIdeal.nD Cert.DeltaOutRefIdeal.τ Cert.DeltaOutRefIdeal.sig) → Buf (Elt Ideal) ℓ) (g : Dev Cert.DeltaOutRefIdeal.nD → PrngReg), Pre_DeltaOutRefIdeal m →
    θ_run (Cert.DeltaOutRefIdeal.defs (F := Ideal)) (onTc (τ := Cert.DeltaOutRefIdeal.τ) (Cert.DeltaOutRefIdeal.main (F := Ideal))) ⟨m, fun _ => 0, g⟩ (fun r => (∀ c : Dev Cert.DeltaOutRefIdeal.nD,
      r.2.mem ((c.tc : Thread Cert.DeltaOutRefIdeal.nD Cert.DeltaOutRefIdeal.τ).loc Cert.DeltaOutRefIdeal.main_arg0) = m ((c.tc : Thread Cert.DeltaOutRefIdeal.nD Cert.DeltaOutRefIdeal.τ).loc Cert.DeltaOutRefIdeal.main_arg0)
      ∧ r.2.mem ((c.tc : Thread Cert.DeltaOutRefIdeal.nD Cert.DeltaOutRefIdeal.τ).loc Cert.DeltaOutRefIdeal.main_arg1) = m ((c.tc : Thread Cert.DeltaOutRefIdeal.nD Cert.DeltaOutRefIdeal.τ).loc Cert.DeltaOutRefIdeal.main_arg1)
      ∧ r.2.mem ((c.tc : Thread Cert.DeltaOutRefIdeal.nD Cert.DeltaOutRefIdeal.τ).loc Cert.DeltaOutRefIdeal.main_arg2) = m ((c.tc : Thread Cert.DeltaOutRefIdeal.nD Cert.DeltaOutRefIdeal.τ).loc Cert.DeltaOutRefIdeal.main_arg2)
      ∧ r.2.mem ((c.tc : Thread Cert.DeltaOutRefIdeal.nD Cert.DeltaOutRefIdeal.τ).loc Cert.DeltaOutRefIdeal.main_arg3) = m ((c.tc : Thread Cert.DeltaOutRefIdeal.nD Cert.DeltaOutRefIdeal.τ).loc Cert.DeltaOutRefIdeal.main_arg3))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2))
      ∧ r.2.sem = fun _ => 0)

def quiescent_SumKv [hSumKv : Cert.SumKv.Facts] : Prop :=
  ∀ (m : (ℓ : Loc Cert.SumKv.nD Cert.SumKv.τ Cert.SumKv.sig) → Buf (Elt Bits) ℓ) (g : Dev Cert.SumKv.nD → PrngReg), Pre_SumKv m →
    θ_run (Cert.SumKv.defs (F := Bits)) (onTc (τ := Cert.SumKv.τ) (Cert.SumKv.main (F := Bits))) ⟨m, fun _ => 0, g⟩ (fun r => (∀ c : Dev Cert.SumKv.nD,
      r.2.mem ((c.tc : Thread Cert.SumKv.nD Cert.SumKv.τ).loc Cert.SumKv.main_arg0) = m ((c.tc : Thread Cert.SumKv.nD Cert.SumKv.τ).loc Cert.SumKv.main_arg0)
      ∧ r.2.mem ((c.tc : Thread Cert.SumKv.nD Cert.SumKv.τ).loc Cert.SumKv.main_arg1) = m ((c.tc : Thread Cert.SumKv.nD Cert.SumKv.τ).loc Cert.SumKv.main_arg1)
      ∧ r.2.mem ((c.tc : Thread Cert.SumKv.nD Cert.SumKv.τ).loc Cert.SumKv.main_arg2) = m ((c.tc : Thread Cert.SumKv.nD Cert.SumKv.τ).loc Cert.SumKv.main_arg2))
      ∧ r.2.sem = fun _ => 0)

def quiescent_SumKvIdeal [hSumKvIdeal : Cert.SumKvIdeal.Facts] : Prop :=
  ∀ (m : (ℓ : Loc Cert.SumKvIdeal.nD Cert.SumKvIdeal.τ Cert.SumKvIdeal.sig) → Buf (Elt Ideal) ℓ) (g : Dev Cert.SumKvIdeal.nD → PrngReg), Pre_SumKvIdeal m →
    θ_run (Cert.SumKvIdeal.defs (F := Ideal)) (onTc (τ := Cert.SumKvIdeal.τ) (Cert.SumKvIdeal.main (F := Ideal))) ⟨m, fun _ => 0, g⟩ (fun r => (∀ c : Dev Cert.SumKvIdeal.nD,
      r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0)
      ∧ r.2.mem ((c.tc : Thread Cert.SumKvIdeal.nD Cert.SumKvIdeal.τ).loc Cert.SumKvIdeal.main_arg1) = m ((c.tc : Thread Cert.SumKvIdeal.nD Cert.SumKvIdeal.τ).loc Cert.SumKvIdeal.main_arg1)
      ∧ r.2.mem ((c.tc : Thread Cert.SumKvIdeal.nD Cert.SumKvIdeal.τ).loc Cert.SumKvIdeal.main_arg2) = m ((c.tc : Thread Cert.SumKvIdeal.nD Cert.SumKvIdeal.τ).loc Cert.SumKvIdeal.main_arg2))
      ∧ r.2.sem = fun _ => 0)

def quiescent_SumKvRefIdeal [hSumKvRefIdeal : Cert.SumKvRefIdeal.Facts] : Prop :=
  ∀ (m : (ℓ : Loc Cert.SumKvRefIdeal.nD Cert.SumKvRefIdeal.τ Cert.SumKvRefIdeal.sig) → Buf (Elt Ideal) ℓ) (g : Dev Cert.SumKvRefIdeal.nD → PrngReg), Pre_SumKvRefIdeal m →
    θ_run (Cert.SumKvRefIdeal.defs (F := Ideal)) (onTc (τ := Cert.SumKvRefIdeal.τ) (Cert.SumKvRefIdeal.main (F := Ideal))) ⟨m, fun _ => 0, g⟩ (fun r => (∀ c : Dev Cert.SumKvRefIdeal.nD,
      r.2.mem ((c.tc : Thread Cert.SumKvRefIdeal.nD Cert.SumKvRefIdeal.τ).loc Cert.SumKvRefIdeal.main_arg0) = m ((c.tc : Thread Cert.SumKvRefIdeal.nD Cert.SumKvRefIdeal.τ).loc Cert.SumKvRefIdeal.main_arg0)
      ∧ r.2.mem ((c.tc : Thread Cert.SumKvRefIdeal.nD Cert.SumKvRefIdeal.τ).loc Cert.SumKvRefIdeal.main_arg1) = m ((c.tc : Thread Cert.SumKvRefIdeal.nD Cert.SumKvRefIdeal.τ).loc Cert.SumKvRefIdeal.main_arg1)
      ∧ r.2.mem ((c.tc : Thread Cert.SumKvRefIdeal.nD Cert.SumKvRefIdeal.τ).loc Cert.SumKvRefIdeal.main_arg2) = m ((c.tc : Thread Cert.SumKvRefIdeal.nD Cert.SumKvRefIdeal.τ).loc Cert.SumKvRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_AttnCFwd [hAttnCFwd : Cert.AttnCFwd.Facts] : Prop :=
  ∀ (m : (ℓ : Loc Cert.AttnCFwd.nD Cert.AttnCFwd.τ Cert.AttnCFwd.sig) → Buf (Elt Bits) ℓ) (g : Dev Cert.AttnCFwd.nD → PrngReg), Pre_AttnCFwd m →
    θ_run (Cert.AttnCFwd.defs (F := Bits)) (onTc (τ := Cert.AttnCFwd.τ) (Cert.AttnCFwd.main (F := Bits))) ⟨m, fun _ => 0, g⟩ (fun r => (∀ c : Dev Cert.AttnCFwd.nD,
      r.2.mem ((c.tc : Thread Cert.AttnCFwd.nD Cert.AttnCFwd.τ).loc Cert.AttnCFwd.main_arg0) = m ((c.tc : Thread Cert.AttnCFwd.nD Cert.AttnCFwd.τ).loc Cert.AttnCFwd.main_arg0)
      ∧ r.2.mem ((c.tc : Thread Cert.AttnCFwd.nD Cert.AttnCFwd.τ).loc Cert.AttnCFwd.main_arg1) = m ((c.tc : Thread Cert.AttnCFwd.nD Cert.AttnCFwd.τ).loc Cert.AttnCFwd.main_arg1)
      ∧ r.2.mem ((c.tc : Thread Cert.AttnCFwd.nD Cert.AttnCFwd.τ).loc Cert.AttnCFwd.main_arg2) = m ((c.tc : Thread Cert.AttnCFwd.nD Cert.AttnCFwd.τ).loc Cert.AttnCFwd.main_arg2)
      ∧ r.2.mem ((c.tc : Thread Cert.AttnCFwd.nD Cert.AttnCFwd.τ).loc Cert.AttnCFwd.main_arg3) = m ((c.tc : Thread Cert.AttnCFwd.nD Cert.AttnCFwd.τ).loc Cert.AttnCFwd.main_arg3)
      ∧ r.2.mem ((c.tc : Thread Cert.AttnCFwd.nD Cert.AttnCFwd.τ).loc Cert.AttnCFwd.main_arg4) = m ((c.tc : Thread Cert.AttnCFwd.nD Cert.AttnCFwd.τ).loc Cert.AttnCFwd.main_arg4))
      ∧ r.2.sem = fun _ => 0)

def quiescent_AttnCFwdIdeal [hAttnCFwdIdeal : Cert.AttnCFwdIdeal.Facts] : Prop :=
  ∀ (m : (ℓ : Loc Cert.AttnCFwdIdeal.nD Cert.AttnCFwdIdeal.τ Cert.AttnCFwdIdeal.sig) → Buf (Elt Ideal) ℓ) (g : Dev Cert.AttnCFwdIdeal.nD → PrngReg), Pre_AttnCFwdIdeal m →
    θ_run (Cert.AttnCFwdIdeal.defs (F := Ideal)) (onTc (τ := Cert.AttnCFwdIdeal.τ) (Cert.AttnCFwdIdeal.main (F := Ideal))) ⟨m, fun _ => 0, g⟩ (fun r => (∀ c : Dev Cert.AttnCFwdIdeal.nD,
      r.2.mem ((c.tc : Thread Cert.AttnCFwdIdeal.nD Cert.AttnCFwdIdeal.τ).loc Cert.AttnCFwdIdeal.main_arg0) = m ((c.tc : Thread Cert.AttnCFwdIdeal.nD Cert.AttnCFwdIdeal.τ).loc Cert.AttnCFwdIdeal.main_arg0)
      ∧ r.2.mem ((c.tc : Thread Cert.AttnCFwdIdeal.nD Cert.AttnCFwdIdeal.τ).loc Cert.AttnCFwdIdeal.main_arg1) = m ((c.tc : Thread Cert.AttnCFwdIdeal.nD Cert.AttnCFwdIdeal.τ).loc Cert.AttnCFwdIdeal.main_arg1)
      ∧ r.2.mem ((c.tc : Thread Cert.AttnCFwdIdeal.nD Cert.AttnCFwdIdeal.τ).loc Cert.AttnCFwdIdeal.main_arg2) = m ((c.tc : Thread Cert.AttnCFwdIdeal.nD Cert.AttnCFwdIdeal.τ).loc Cert.AttnCFwdIdeal.main_arg2)
      ∧ r.2.mem ((c.tc : Thread Cert.AttnCFwdIdeal.nD Cert.AttnCFwdIdeal.τ).loc Cert.AttnCFwdIdeal.main_arg3) = m ((c.tc : Thread Cert.AttnCFwdIdeal.nD Cert.AttnCFwdIdeal.τ).loc Cert.AttnCFwdIdeal.main_arg3)
      ∧ r.2.mem ((c.tc : Thread Cert.AttnCFwdIdeal.nD Cert.AttnCFwdIdeal.τ).loc Cert.AttnCFwdIdeal.main_arg4) = m ((c.tc : Thread Cert.AttnCFwdIdeal.nD Cert.AttnCFwdIdeal.τ).loc Cert.AttnCFwdIdeal.main_arg4))
      ∧ r.2.sem = fun _ => 0)

def quiescent_AttnCFwdRefIdeal [hAttnCFwdRefIdeal : Cert.AttnCFwdRefIdeal.Facts] : Prop :=
  ∀ (m : (ℓ : Loc Cert.AttnCFwdRefIdeal.nD Cert.AttnCFwdRefIdeal.τ Cert.AttnCFwdRefIdeal.sig) → Buf (Elt Ideal) ℓ) (g : Dev Cert.AttnCFwdRefIdeal.nD → PrngReg), Pre_AttnCFwdRefIdeal m →
    θ_run (Cert.AttnCFwdRefIdeal.defs (F := Ideal)) (onTc (τ := Cert.AttnCFwdRefIdeal.τ) (Cert.AttnCFwdRefIdeal.main (F := Ideal))) ⟨m, fun _ => 0, g⟩ (fun r => (∀ c : Dev Cert.AttnCFwdRefIdeal.nD,
      r.2.mem ((c.tc : Thread Cert.AttnCFwdRefIdeal.nD Cert.AttnCFwdRefIdeal.τ).loc Cert.AttnCFwdRefIdeal.main_arg0) = m ((c.tc : Thread Cert.AttnCFwdRefIdeal.nD Cert.AttnCFwdRefIdeal.τ).loc Cert.AttnCFwdRefIdeal.main_arg0)
      ∧ r.2.mem ((c.tc : Thread Cert.AttnCFwdRefIdeal.nD Cert.AttnCFwdRefIdeal.τ).loc Cert.AttnCFwdRefIdeal.main_arg1) = m ((c.tc : Thread Cert.AttnCFwdRefIdeal.nD Cert.AttnCFwdRefIdeal.τ).loc Cert.AttnCFwdRefIdeal.main_arg1)
      ∧ r.2.mem ((c.tc : Thread Cert.AttnCFwdRefIdeal.nD Cert.AttnCFwdRefIdeal.τ).loc Cert.AttnCFwdRefIdeal.main_arg2) = m ((c.tc : Thread Cert.AttnCFwdRefIdeal.nD Cert.AttnCFwdRefIdeal.τ).loc Cert.AttnCFwdRefIdeal.main_arg2)
      ∧ r.2.mem ((c.tc : Thread Cert.AttnCFwdRefIdeal.nD Cert.AttnCFwdRefIdeal.τ).loc Cert.AttnCFwdRefIdeal.main_arg3) = m ((c.tc : Thread Cert.AttnCFwdRefIdeal.nD Cert.AttnCFwdRefIdeal.τ).loc Cert.AttnCFwdRefIdeal.main_arg3)
      ∧ r.2.mem ((c.tc : Thread Cert.AttnCFwdRefIdeal.nD Cert.AttnCFwdRefIdeal.τ).loc Cert.AttnCFwdRefIdeal.main_arg4) = m ((c.tc : Thread Cert.AttnCFwdRefIdeal.nD Cert.AttnCFwdRefIdeal.τ).loc Cert.AttnCFwdRefIdeal.main_arg4))
      ∧ r.2.sem = fun _ => 0)

def quiescent_PairIn [hPairIn : Cert.PairIn.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1))
      ∧ r.2.sem = fun _ => 0)

def quiescent_PairInIdeal [hPairInIdeal : Cert.PairInIdeal.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1))
      ∧ r.2.sem = fun _ => 0)

def quiescent_PairKv [hPairKv : Cert.PairKv.Facts] : Prop :=
  ∀ (m : (ℓ : Loc Cert.PairKv.nD Cert.PairKv.τ Cert.PairKv.sig) → Buf (Elt Bits) ℓ) (g : Dev Cert.PairKv.nD → PrngReg), Pre_PairKv m →
    θ_run (Cert.PairKv.defs (F := Bits)) (onTc (τ := Cert.PairKv.τ) (Cert.PairKv.main (F := Bits))) ⟨m, fun _ => 0, g⟩ (fun r => (∀ c : Dev Cert.PairKv.nD,
      r.2.mem ((c.tc : Thread Cert.PairKv.nD Cert.PairKv.τ).loc Cert.PairKv.main_arg0) = m ((c.tc : Thread Cert.PairKv.nD Cert.PairKv.τ).loc Cert.PairKv.main_arg0)
      ∧ r.2.mem ((c.tc : Thread Cert.PairKv.nD Cert.PairKv.τ).loc Cert.PairKv.main_arg1) = m ((c.tc : Thread Cert.PairKv.nD Cert.PairKv.τ).loc Cert.PairKv.main_arg1))
      ∧ r.2.sem = fun _ => 0)

def quiescent_PairKvIdeal [hPairKvIdeal : Cert.PairKvIdeal.Facts] : Prop :=
  ∀ (m : (ℓ : Loc Cert.PairKvIdeal.nD Cert.PairKvIdeal.τ Cert.PairKvIdeal.sig) → Buf (Elt Ideal) ℓ) (g : Dev Cert.PairKvIdeal.nD → PrngReg), Pre_PairKvIdeal m →
    θ_run (Cert.PairKvIdeal.defs (F := Ideal)) (onTc (τ := Cert.PairKvIdeal.τ) (Cert.PairKvIdeal.main (F := Ideal))) ⟨m, fun _ => 0, g⟩ (fun r => (∀ c : Dev Cert.PairKvIdeal.nD,
      r.2.mem ((c.tc : Thread Cert.PairKvIdeal.nD Cert.PairKvIdeal.τ).loc Cert.PairKvIdeal.main_arg0) = m ((c.tc : Thread Cert.PairKvIdeal.nD Cert.PairKvIdeal.τ).loc Cert.PairKvIdeal.main_arg0)
      ∧ r.2.mem ((c.tc : Thread Cert.PairKvIdeal.nD Cert.PairKvIdeal.τ).loc Cert.PairKvIdeal.main_arg1) = m ((c.tc : Thread Cert.PairKvIdeal.nD Cert.PairKvIdeal.τ).loc Cert.PairKvIdeal.main_arg1))
      ∧ r.2.sem = fun _ => 0)

def quiescent_PairKvRefIdeal [hPairKvRefIdeal : Cert.PairKvRefIdeal.Facts] : Prop :=
  ∀ (m : (ℓ : Loc Cert.PairKvRefIdeal.nD Cert.PairKvRefIdeal.τ Cert.PairKvRefIdeal.sig) → Buf (Elt Ideal) ℓ) (g : Dev Cert.PairKvRefIdeal.nD → PrngReg), Pre_PairKvRefIdeal m →
    θ_run (Cert.PairKvRefIdeal.defs (F := Ideal)) (onTc (τ := Cert.PairKvRefIdeal.τ) (Cert.PairKvRefIdeal.main (F := Ideal))) ⟨m, fun _ => 0, g⟩ (fun r => (∀ c : Dev Cert.PairKvRefIdeal.nD,
      r.2.mem ((c.tc : Thread Cert.PairKvRefIdeal.nD Cert.PairKvRefIdeal.τ).loc Cert.PairKvRefIdeal.main_arg0) = m ((c.tc : Thread Cert.PairKvRefIdeal.nD Cert.PairKvRefIdeal.τ).loc Cert.PairKvRefIdeal.main_arg0)
      ∧ r.2.mem ((c.tc : Thread Cert.PairKvRefIdeal.nD Cert.PairKvRefIdeal.τ).loc Cert.PairKvRefIdeal.main_arg1) = m ((c.tc : Thread Cert.PairKvRefIdeal.nD Cert.PairKvRefIdeal.τ).loc Cert.PairKvRefIdeal.main_arg1))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1)
      ∧ r.2.mem ((c.tc : Thread Cert.ProjGrad.nD Cert.ProjGrad.τ).loc Cert.ProjGrad.main_arg2) = m ((c.tc : Thread Cert.ProjGrad.nD Cert.ProjGrad.τ).loc Cert.ProjGrad.main_arg2)
      ∧ r.2.mem ((c.tc : Thread Cert.ProjGrad.nD Cert.ProjGrad.τ).loc Cert.ProjGrad.main_arg3) = m ((c.tc : Thread Cert.ProjGrad.nD Cert.ProjGrad.τ).loc Cert.ProjGrad.main_arg3)
      ∧ r.2.mem ((c.tc : Thread Cert.ProjGrad.nD Cert.ProjGrad.τ).loc Cert.ProjGrad.main_arg4) = m ((c.tc : Thread Cert.ProjGrad.nD Cert.ProjGrad.τ).loc Cert.ProjGrad.main_arg4)
      ∧ r.2.mem ((c.tc : Thread Cert.ProjGrad.nD Cert.ProjGrad.τ).loc Cert.ProjGrad.main_arg5) = m ((c.tc : Thread Cert.ProjGrad.nD Cert.ProjGrad.τ).loc Cert.ProjGrad.main_arg5)
      ∧ r.2.mem ((c.tc : Thread Cert.ProjGrad.nD Cert.ProjGrad.τ).loc Cert.ProjGrad.main_arg6) = m ((c.tc : Thread Cert.ProjGrad.nD Cert.ProjGrad.τ).loc Cert.ProjGrad.main_arg6)
      ∧ r.2.mem ((c.tc : Thread Cert.ProjGrad.nD Cert.ProjGrad.τ).loc Cert.ProjGrad.main_arg7) = m ((c.tc : Thread Cert.ProjGrad.nD Cert.ProjGrad.τ).loc Cert.ProjGrad.main_arg7)
      ∧ r.2.mem ((c.tc : Thread Cert.ProjGrad.nD Cert.ProjGrad.τ).loc Cert.ProjGrad.main_arg8) = m ((c.tc : Thread Cert.ProjGrad.nD Cert.ProjGrad.τ).loc Cert.ProjGrad.main_arg8))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
      ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5)
      ∧ r.2.mem ((c.tc : Thread Cert.ProjGradIdeal.nD Cert.ProjGradIdeal.τ).loc Cert.ProjGradIdeal.main_arg6) = m ((c.tc : Thread Cert.ProjGradIdeal.nD Cert.ProjGradIdeal.τ).loc Cert.ProjGradIdeal.main_arg6)
      ∧ r.2.mem ((c.tc : Thread Cert.ProjGradIdeal.nD Cert.ProjGradIdeal.τ).loc Cert.ProjGradIdeal.main_arg7) = m ((c.tc : Thread Cert.ProjGradIdeal.nD Cert.ProjGradIdeal.τ).loc Cert.ProjGradIdeal.main_arg7)
      ∧ r.2.mem ((c.tc : Thread Cert.ProjGradIdeal.nD Cert.ProjGradIdeal.τ).loc Cert.ProjGradIdeal.main_arg8) = m ((c.tc : Thread Cert.ProjGradIdeal.nD Cert.ProjGradIdeal.τ).loc Cert.ProjGradIdeal.main_arg8))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1)
      ∧ r.2.mem ((c.tc : Thread Cert.ProjGradRefIdeal.nD Cert.ProjGradRefIdeal.τ).loc Cert.ProjGradRefIdeal.main_arg2) = m ((c.tc : Thread Cert.ProjGradRefIdeal.nD Cert.ProjGradRefIdeal.τ).loc Cert.ProjGradRefIdeal.main_arg2)
      ∧ r.2.mem ((c.tc : Thread Cert.ProjGradRefIdeal.nD Cert.ProjGradRefIdeal.τ).loc Cert.ProjGradRefIdeal.main_arg3) = m ((c.tc : Thread Cert.ProjGradRefIdeal.nD Cert.ProjGradRefIdeal.τ).loc Cert.ProjGradRefIdeal.main_arg3)
      ∧ r.2.mem ((c.tc : Thread Cert.ProjGradRefIdeal.nD Cert.ProjGradRefIdeal.τ).loc Cert.ProjGradRefIdeal.main_arg4) = m ((c.tc : Thread Cert.ProjGradRefIdeal.nD Cert.ProjGradRefIdeal.τ).loc Cert.ProjGradRefIdeal.main_arg4)
      ∧ r.2.mem ((c.tc : Thread Cert.ProjGradRefIdeal.nD Cert.ProjGradRefIdeal.τ).loc Cert.ProjGradRefIdeal.main_arg5) = m ((c.tc : Thread Cert.ProjGradRefIdeal.nD Cert.ProjGradRefIdeal.τ).loc Cert.ProjGradRefIdeal.main_arg5)
      ∧ r.2.mem ((c.tc : Thread Cert.ProjGradRefIdeal.nD Cert.ProjGradRefIdeal.τ).loc Cert.ProjGradRefIdeal.main_arg6) = m ((c.tc : Thread Cert.ProjGradRefIdeal.nD Cert.ProjGradRefIdeal.τ).loc Cert.ProjGradRefIdeal.main_arg6)
      ∧ r.2.mem ((c.tc : Thread Cert.ProjGradRefIdeal.nD Cert.ProjGradRefIdeal.τ).loc Cert.ProjGradRefIdeal.main_arg7) = m ((c.tc : Thread Cert.ProjGradRefIdeal.nD Cert.ProjGradRefIdeal.τ).loc Cert.ProjGradRefIdeal.main_arg7)
      ∧ r.2.mem ((c.tc : Thread Cert.ProjGradRefIdeal.nD Cert.ProjGradRefIdeal.τ).loc Cert.ProjGradRefIdeal.main_arg8) = m ((c.tc : Thread Cert.ProjGradRefIdeal.nD Cert.ProjGradRefIdeal.τ).loc Cert.ProjGradRefIdeal.main_arg8))
      ∧ r.2.sem = fun _ => 0)

def quiescent_AttnCGrad [hAttnCGrad : Cert.AttnCGrad.Facts] : Prop :=
  ∀ (m : (ℓ : Loc Cert.AttnCGrad.nD Cert.AttnCGrad.τ Cert.AttnCGrad.sig) → Buf (Elt Bits) ℓ) (g : Dev Cert.AttnCGrad.nD → PrngReg), Pre_AttnCGrad m →
    θ_run (Cert.AttnCGrad.defs (F := Bits)) (onTc (τ := Cert.AttnCGrad.τ) (Cert.AttnCGrad.main (F := Bits))) ⟨m, fun _ => 0, g⟩ (fun r => (∀ c : Dev Cert.AttnCGrad.nD,
      r.2.mem ((c.tc : Thread Cert.AttnCGrad.nD Cert.AttnCGrad.τ).loc Cert.AttnCGrad.main_arg0) = m ((c.tc : Thread Cert.AttnCGrad.nD Cert.AttnCGrad.τ).loc Cert.AttnCGrad.main_arg0)
      ∧ r.2.mem ((c.tc : Thread Cert.AttnCGrad.nD Cert.AttnCGrad.τ).loc Cert.AttnCGrad.main_arg1) = m ((c.tc : Thread Cert.AttnCGrad.nD Cert.AttnCGrad.τ).loc Cert.AttnCGrad.main_arg1)
      ∧ r.2.mem ((c.tc : Thread Cert.AttnCGrad.nD Cert.AttnCGrad.τ).loc Cert.AttnCGrad.main_arg2) = m ((c.tc : Thread Cert.AttnCGrad.nD Cert.AttnCGrad.τ).loc Cert.AttnCGrad.main_arg2)
      ∧ r.2.mem ((c.tc : Thread Cert.AttnCGrad.nD Cert.AttnCGrad.τ).loc Cert.AttnCGrad.main_arg3) = m ((c.tc : Thread Cert.AttnCGrad.nD Cert.AttnCGrad.τ).loc Cert.AttnCGrad.main_arg3)
      ∧ r.2.mem ((c.tc : Thread Cert.AttnCGrad.nD Cert.AttnCGrad.τ).loc Cert.AttnCGrad.main_arg4) = m ((c.tc : Thread Cert.AttnCGrad.nD Cert.AttnCGrad.τ).loc Cert.AttnCGrad.main_arg4))
      ∧ r.2.sem = fun _ => 0)

def quiescent_AttnCGradIdeal [hAttnCGradIdeal : Cert.AttnCGradIdeal.Facts] : Prop :=
  ∀ (m : (ℓ : Loc Cert.AttnCGradIdeal.nD Cert.AttnCGradIdeal.τ Cert.AttnCGradIdeal.sig) → Buf (Elt Ideal) ℓ) (g : Dev Cert.AttnCGradIdeal.nD → PrngReg), Pre_AttnCGradIdeal m →
    θ_run (Cert.AttnCGradIdeal.defs (F := Ideal)) (onTc (τ := Cert.AttnCGradIdeal.τ) (Cert.AttnCGradIdeal.main (F := Ideal))) ⟨m, fun _ => 0, g⟩ (fun r => (∀ c : Dev Cert.AttnCGradIdeal.nD,
      r.2.mem ((c.tc : Thread Cert.AttnCGradIdeal.nD Cert.AttnCGradIdeal.τ).loc Cert.AttnCGradIdeal.main_arg0) = m ((c.tc : Thread Cert.AttnCGradIdeal.nD Cert.AttnCGradIdeal.τ).loc Cert.AttnCGradIdeal.main_arg0)
      ∧ r.2.mem ((c.tc : Thread Cert.AttnCGradIdeal.nD Cert.AttnCGradIdeal.τ).loc Cert.AttnCGradIdeal.main_arg1) = m ((c.tc : Thread Cert.AttnCGradIdeal.nD Cert.AttnCGradIdeal.τ).loc Cert.AttnCGradIdeal.main_arg1)
      ∧ r.2.mem ((c.tc : Thread Cert.AttnCGradIdeal.nD Cert.AttnCGradIdeal.τ).loc Cert.AttnCGradIdeal.main_arg2) = m ((c.tc : Thread Cert.AttnCGradIdeal.nD Cert.AttnCGradIdeal.τ).loc Cert.AttnCGradIdeal.main_arg2)
      ∧ r.2.mem ((c.tc : Thread Cert.AttnCGradIdeal.nD Cert.AttnCGradIdeal.τ).loc Cert.AttnCGradIdeal.main_arg3) = m ((c.tc : Thread Cert.AttnCGradIdeal.nD Cert.AttnCGradIdeal.τ).loc Cert.AttnCGradIdeal.main_arg3)
      ∧ r.2.mem ((c.tc : Thread Cert.AttnCGradIdeal.nD Cert.AttnCGradIdeal.τ).loc Cert.AttnCGradIdeal.main_arg4) = m ((c.tc : Thread Cert.AttnCGradIdeal.nD Cert.AttnCGradIdeal.τ).loc Cert.AttnCGradIdeal.main_arg4))
      ∧ r.2.sem = fun _ => 0)

def quiescent_AttnBFwd [hAttnBFwd : Cert.AttnBFwd.Facts] : Prop :=
  ∀ (m : (ℓ : Loc Cert.AttnBFwd.nD Cert.AttnBFwd.τ Cert.AttnBFwd.sig) → Buf (Elt Bits) ℓ) (g : Dev Cert.AttnBFwd.nD → PrngReg), Pre_AttnBFwd m →
    θ_run (Cert.AttnBFwd.defs (F := Bits)) (onTc (τ := Cert.AttnBFwd.τ) (Cert.AttnBFwd.main (F := Bits))) ⟨m, fun _ => 0, g⟩ (fun r => (∀ c : Dev Cert.AttnBFwd.nD,
      r.2.mem ((c.tc : Thread Cert.AttnBFwd.nD Cert.AttnBFwd.τ).loc Cert.AttnBFwd.main_arg0) = m ((c.tc : Thread Cert.AttnBFwd.nD Cert.AttnBFwd.τ).loc Cert.AttnBFwd.main_arg0)
      ∧ r.2.mem ((c.tc : Thread Cert.AttnBFwd.nD Cert.AttnBFwd.τ).loc Cert.AttnBFwd.main_arg1) = m ((c.tc : Thread Cert.AttnBFwd.nD Cert.AttnBFwd.τ).loc Cert.AttnBFwd.main_arg1)
      ∧ r.2.mem ((c.tc : Thread Cert.AttnBFwd.nD Cert.AttnBFwd.τ).loc Cert.AttnBFwd.main_arg2) = m ((c.tc : Thread Cert.AttnBFwd.nD Cert.AttnBFwd.τ).loc Cert.AttnBFwd.main_arg2)
      ∧ r.2.mem ((c.tc : Thread Cert.AttnBFwd.nD Cert.AttnBFwd.τ).loc Cert.AttnBFwd.main_arg3) = m ((c.tc : Thread Cert.AttnBFwd.nD Cert.AttnBFwd.τ).loc Cert.AttnBFwd.main_arg3)
      ∧ r.2.mem ((c.tc : Thread Cert.AttnBFwd.nD Cert.AttnBFwd.τ).loc Cert.AttnBFwd.main_arg4) = m ((c.tc : Thread Cert.AttnBFwd.nD Cert.AttnBFwd.τ).loc Cert.AttnBFwd.main_arg4))
      ∧ r.2.sem = fun _ => 0)

def quiescent_AttnBFwdIdeal [hAttnBFwdIdeal : Cert.AttnBFwdIdeal.Facts] : Prop :=
  ∀ (m : (ℓ : Loc Cert.AttnBFwdIdeal.nD Cert.AttnBFwdIdeal.τ Cert.AttnBFwdIdeal.sig) → Buf (Elt Ideal) ℓ) (g : Dev Cert.AttnBFwdIdeal.nD → PrngReg), Pre_AttnBFwdIdeal m →
    θ_run (Cert.AttnBFwdIdeal.defs (F := Ideal)) (onTc (τ := Cert.AttnBFwdIdeal.τ) (Cert.AttnBFwdIdeal.main (F := Ideal))) ⟨m, fun _ => 0, g⟩ (fun r => (∀ c : Dev Cert.AttnBFwdIdeal.nD,
      r.2.mem ((c.tc : Thread Cert.AttnBFwdIdeal.nD Cert.AttnBFwdIdeal.τ).loc Cert.AttnBFwdIdeal.main_arg0) = m ((c.tc : Thread Cert.AttnBFwdIdeal.nD Cert.AttnBFwdIdeal.τ).loc Cert.AttnBFwdIdeal.main_arg0)
      ∧ r.2.mem ((c.tc : Thread Cert.AttnBFwdIdeal.nD Cert.AttnBFwdIdeal.τ).loc Cert.AttnBFwdIdeal.main_arg1) = m ((c.tc : Thread Cert.AttnBFwdIdeal.nD Cert.AttnBFwdIdeal.τ).loc Cert.AttnBFwdIdeal.main_arg1)
      ∧ r.2.mem ((c.tc : Thread Cert.AttnBFwdIdeal.nD Cert.AttnBFwdIdeal.τ).loc Cert.AttnBFwdIdeal.main_arg2) = m ((c.tc : Thread Cert.AttnBFwdIdeal.nD Cert.AttnBFwdIdeal.τ).loc Cert.AttnBFwdIdeal.main_arg2)
      ∧ r.2.mem ((c.tc : Thread Cert.AttnBFwdIdeal.nD Cert.AttnBFwdIdeal.τ).loc Cert.AttnBFwdIdeal.main_arg3) = m ((c.tc : Thread Cert.AttnBFwdIdeal.nD Cert.AttnBFwdIdeal.τ).loc Cert.AttnBFwdIdeal.main_arg3)
      ∧ r.2.mem ((c.tc : Thread Cert.AttnBFwdIdeal.nD Cert.AttnBFwdIdeal.τ).loc Cert.AttnBFwdIdeal.main_arg4) = m ((c.tc : Thread Cert.AttnBFwdIdeal.nD Cert.AttnBFwdIdeal.τ).loc Cert.AttnBFwdIdeal.main_arg4))
      ∧ r.2.sem = fun _ => 0)

def preserves_ConvGrad_ConvGradIdeal : Prop :=
  True

def algebraic_ConvGradIdeal_ConvRefIdeal [hConvGradIdeal : Cert.ConvGradIdeal.Facts] [hConvRefIdeal : Cert.ConvRefIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvGradIdeal m →
    (∀ c : Dev Cert.ConvGradIdeal.nD,
      m' ((c.tc : Thread Cert.ConvRefIdeal.nD Cert.ConvRefIdeal.τ).loc Cert.ConvRefIdeal.main_arg0) = m ((c.tc : Thread Cert.ConvGradIdeal.nD Cert.ConvGradIdeal.τ).loc Cert.ConvGradIdeal.main_arg0)
      ∧ m' ((c.tc : Thread Cert.ConvRefIdeal.nD Cert.ConvRefIdeal.τ).loc Cert.ConvRefIdeal.main_arg1) = m ((c.tc : Thread Cert.ConvGradIdeal.nD Cert.ConvGradIdeal.τ).loc Cert.ConvGradIdeal.main_arg1)
      ∧ m' ((c.tc : Thread Cert.ConvRefIdeal.nD Cert.ConvRefIdeal.τ).loc Cert.ConvRefIdeal.main_arg2) = m ((c.tc : Thread Cert.ConvGradIdeal.nD Cert.ConvGradIdeal.τ).loc Cert.ConvGradIdeal.main_arg2)) →
    ∃ (v0 : (c : Dev Cert.ConvGradIdeal.nD) → Buf (Elt Ideal) ((c.tc : Thread Cert.ConvGradIdeal.nD Cert.ConvGradIdeal.τ).loc Cert.ConvGradIdeal.main_v0_0)) (v1 : (c : Dev Cert.ConvGradIdeal.nD) → Buf (Elt Ideal) ((c.tc : Thread Cert.ConvGradIdeal.nD Cert.ConvGradIdeal.τ).loc Cert.ConvGradIdeal.main_v0_1)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v0_0) = v0 c
          ∧ r.2.mem ((c.tc : Thread Cert.ConvGradIdeal.nD Cert.ConvGradIdeal.τ).loc Cert.ConvGradIdeal.main_v0_1) = v1 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v78) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)
      ∧ m' ((c.tc : Thread Cert.InWeightRefIdeal.nD Cert.InWeightRefIdeal.τ).loc Cert.InWeightRefIdeal.main_arg2) = m ((c.tc : Thread Cert.InWeightIdeal.nD Cert.InWeightIdeal.τ).loc Cert.InWeightIdeal.main_arg2)) →
    ∃ (v0 : (c : Dev Cert.InWeightIdeal.nD) → Buf (Elt Ideal) ((c.tc : Thread Cert.InWeightIdeal.nD Cert.InWeightIdeal.τ).loc Cert.InWeightIdeal.main_v1)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v1) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v18) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1)
          ∧ r.2.mem ((c.tc : Thread Cert.InWeightRefIdeal.nD Cert.InWeightRefIdeal.τ).loc Cert.InWeightRefIdeal.main_arg2) = m' ((c.tc : Thread Cert.InWeightRefIdeal.nD Cert.InWeightRefIdeal.τ).loc Cert.InWeightRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)) →
    ∃ (v0 : (c : Dev Cert.InGradIdeal.nD) → Buf (Elt Ideal) ((c.tc : Thread Cert.InGradIdeal.nD Cert.InGradIdeal.τ).loc Cert.InGradIdeal.main_v0_0)) (v1 : (c : Dev Cert.InGradIdeal.nD) → Buf (Elt Ideal) ((c.tc : Thread Cert.InGradIdeal.nD Cert.InGradIdeal.τ).loc Cert.InGradIdeal.main_v0_1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0_0) = v0 c
          ∧ r.2.mem ((c.tc : Thread Cert.InGradIdeal.nD Cert.InGradIdeal.τ).loc Cert.InGradIdeal.main_v0_1) = v1 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v39) = v0 c
          ∧ r.2.mem ((c.tc : Thread Cert.InGradRefIdeal.nD Cert.InGradRefIdeal.τ).loc Cert.InGradRefIdeal.main_v22) = v1 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4))

def preserves_DeltaOut_DeltaOutIdeal : Prop :=
  True

def algebraic_DeltaOutIdeal_DeltaOutRefIdeal [hDeltaOutIdeal : Cert.DeltaOutIdeal.Facts] [hDeltaOutRefIdeal : Cert.DeltaOutRefIdeal.Facts] : Prop :=
  ∀ (m : (ℓ : Loc Cert.DeltaOutIdeal.nD Cert.DeltaOutIdeal.τ Cert.DeltaOutIdeal.sig) → Buf (Elt Ideal) ℓ) (g : Dev Cert.DeltaOutIdeal.nD → PrngReg)
    (m' : (ℓ : Loc Cert.DeltaOutRefIdeal.nD Cert.DeltaOutRefIdeal.τ Cert.DeltaOutRefIdeal.sig) → Buf (Elt Ideal) ℓ) (g' : Dev Cert.DeltaOutRefIdeal.nD → PrngReg), Pre_DeltaOutIdeal m →
    (∀ c : Dev Cert.DeltaOutIdeal.nD,
      m' ((c.tc : Thread Cert.DeltaOutRefIdeal.nD Cert.DeltaOutRefIdeal.τ).loc Cert.DeltaOutRefIdeal.main_arg0) = m ((c.tc : Thread Cert.DeltaOutIdeal.nD Cert.DeltaOutIdeal.τ).loc Cert.DeltaOutIdeal.main_arg0)
      ∧ m' ((c.tc : Thread Cert.DeltaOutRefIdeal.nD Cert.DeltaOutRefIdeal.τ).loc Cert.DeltaOutRefIdeal.main_arg1) = m ((c.tc : Thread Cert.DeltaOutIdeal.nD Cert.DeltaOutIdeal.τ).loc Cert.DeltaOutIdeal.main_arg1)
      ∧ m' ((c.tc : Thread Cert.DeltaOutRefIdeal.nD Cert.DeltaOutRefIdeal.τ).loc Cert.DeltaOutRefIdeal.main_arg2) = m ((c.tc : Thread Cert.DeltaOutIdeal.nD Cert.DeltaOutIdeal.τ).loc Cert.DeltaOutIdeal.main_arg2)
      ∧ m' ((c.tc : Thread Cert.DeltaOutRefIdeal.nD Cert.DeltaOutRefIdeal.τ).loc Cert.DeltaOutRefIdeal.main_arg3) = m ((c.tc : Thread Cert.DeltaOutIdeal.nD Cert.DeltaOutIdeal.τ).loc Cert.DeltaOutIdeal.main_arg3)) →
    ∃ (v0 : (c : Dev Cert.DeltaOutIdeal.nD) → Buf (Elt Ideal) ((c.tc : Thread Cert.DeltaOutIdeal.nD Cert.DeltaOutIdeal.τ).loc Cert.DeltaOutIdeal.main_v3_0)) (v1 : (c : Dev Cert.DeltaOutIdeal.nD) → Buf (Elt Ideal) ((c.tc : Thread Cert.DeltaOutIdeal.nD Cert.DeltaOutIdeal.τ).loc Cert.DeltaOutIdeal.main_v3_1)) (v2 : (c : Dev Cert.DeltaOutIdeal.nD) → Buf (Elt Ideal) ((c.tc : Thread Cert.DeltaOutIdeal.nD Cert.DeltaOutIdeal.τ).loc Cert.DeltaOutIdeal.main_v3_2)),
      θ_run (Cert.DeltaOutIdeal.defs (F := Ideal)) (onTc (τ := Cert.DeltaOutIdeal.τ) (Cert.DeltaOutIdeal.main (F := Ideal))) ⟨m, fun _ => 0, g⟩ (fun r => ∀ c : Dev Cert.DeltaOutIdeal.nD,
          r.2.mem ((c.tc : Thread Cert.DeltaOutIdeal.nD Cert.DeltaOutIdeal.τ).loc Cert.DeltaOutIdeal.main_v3_0) = v0 c
          ∧ r.2.mem ((c.tc : Thread Cert.DeltaOutIdeal.nD Cert.DeltaOutIdeal.τ).loc Cert.DeltaOutIdeal.main_v3_1) = v1 c
          ∧ r.2.mem ((c.tc : Thread Cert.DeltaOutIdeal.nD Cert.DeltaOutIdeal.τ).loc Cert.DeltaOutIdeal.main_v3_2) = v2 c
          ∧ r.2.mem ((c.tc : Thread Cert.DeltaOutIdeal.nD Cert.DeltaOutIdeal.τ).loc Cert.DeltaOutIdeal.main_arg0) = m ((c.tc : Thread Cert.DeltaOutIdeal.nD Cert.DeltaOutIdeal.τ).loc Cert.DeltaOutIdeal.main_arg0)
          ∧ r.2.mem ((c.tc : Thread Cert.DeltaOutIdeal.nD Cert.DeltaOutIdeal.τ).loc Cert.DeltaOutIdeal.main_arg1) = m ((c.tc : Thread Cert.DeltaOutIdeal.nD Cert.DeltaOutIdeal.τ).loc Cert.DeltaOutIdeal.main_arg1)
          ∧ r.2.mem ((c.tc : Thread Cert.DeltaOutIdeal.nD Cert.DeltaOutIdeal.τ).loc Cert.DeltaOutIdeal.main_arg2) = m ((c.tc : Thread Cert.DeltaOutIdeal.nD Cert.DeltaOutIdeal.τ).loc Cert.DeltaOutIdeal.main_arg2)
          ∧ r.2.mem ((c.tc : Thread Cert.DeltaOutIdeal.nD Cert.DeltaOutIdeal.τ).loc Cert.DeltaOutIdeal.main_arg3) = m ((c.tc : Thread Cert.DeltaOutIdeal.nD Cert.DeltaOutIdeal.τ).loc Cert.DeltaOutIdeal.main_arg3))
      ∧ θ_run (Cert.DeltaOutRefIdeal.defs (F := Ideal)) (onTc (τ := Cert.DeltaOutRefIdeal.τ) (Cert.DeltaOutRefIdeal.main (F := Ideal))) ⟨m', fun _ => 0, g'⟩ (fun r => ∀ c : Dev Cert.DeltaOutRefIdeal.nD,
          r.2.mem ((c.tc : Thread Cert.DeltaOutRefIdeal.nD Cert.DeltaOutRefIdeal.τ).loc Cert.DeltaOutRefIdeal.main_v56) = v0 c
          ∧ r.2.mem ((c.tc : Thread Cert.DeltaOutRefIdeal.nD Cert.DeltaOutRefIdeal.τ).loc Cert.DeltaOutRefIdeal.main_v58) = v1 c
          ∧ r.2.mem ((c.tc : Thread Cert.DeltaOutRefIdeal.nD Cert.DeltaOutRefIdeal.τ).loc Cert.DeltaOutRefIdeal.main_v60) = v2 c
          ∧ r.2.mem ((c.tc : Thread Cert.DeltaOutRefIdeal.nD Cert.DeltaOutRefIdeal.τ).loc Cert.DeltaOutRefIdeal.main_arg0) = m' ((c.tc : Thread Cert.DeltaOutRefIdeal.nD Cert.DeltaOutRefIdeal.τ).loc Cert.DeltaOutRefIdeal.main_arg0)
          ∧ r.2.mem ((c.tc : Thread Cert.DeltaOutRefIdeal.nD Cert.DeltaOutRefIdeal.τ).loc Cert.DeltaOutRefIdeal.main_arg1) = m' ((c.tc : Thread Cert.DeltaOutRefIdeal.nD Cert.DeltaOutRefIdeal.τ).loc Cert.DeltaOutRefIdeal.main_arg1)
          ∧ r.2.mem ((c.tc : Thread Cert.DeltaOutRefIdeal.nD Cert.DeltaOutRefIdeal.τ).loc Cert.DeltaOutRefIdeal.main_arg2) = m' ((c.tc : Thread Cert.DeltaOutRefIdeal.nD Cert.DeltaOutRefIdeal.τ).loc Cert.DeltaOutRefIdeal.main_arg2)
          ∧ r.2.mem ((c.tc : Thread Cert.DeltaOutRefIdeal.nD Cert.DeltaOutRefIdeal.τ).loc Cert.DeltaOutRefIdeal.main_arg3) = m' ((c.tc : Thread Cert.DeltaOutRefIdeal.nD Cert.DeltaOutRefIdeal.τ).loc Cert.DeltaOutRefIdeal.main_arg3))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v5)) (v1 : (c : Dev Cert.HeadIdeal.nD) → Buf (Elt Ideal) ((c.tc : Thread Cert.HeadIdeal.nD Cert.HeadIdeal.τ).loc Cert.HeadIdeal.main_v0_0)) (v2 : (c : Dev Cert.HeadIdeal.nD) → Buf (Elt Ideal) ((c.tc : Thread Cert.HeadIdeal.nD Cert.HeadIdeal.τ).loc Cert.HeadIdeal.main_v1)) (v3 : (c : Dev Cert.HeadIdeal.nD) → Buf (Elt Ideal) ((c.tc : Thread Cert.HeadIdeal.nD Cert.HeadIdeal.τ).loc Cert.HeadIdeal.main_v2)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5) = v0 c
          ∧ r.2.mem ((c.tc : Thread Cert.HeadIdeal.nD Cert.HeadIdeal.τ).loc Cert.HeadIdeal.main_v0_0) = v1 c
          ∧ r.2.mem ((c.tc : Thread Cert.HeadIdeal.nD Cert.HeadIdeal.τ).loc Cert.HeadIdeal.main_v1) = v2 c
          ∧ r.2.mem ((c.tc : Thread Cert.HeadIdeal.nD Cert.HeadIdeal.τ).loc Cert.HeadIdeal.main_v2) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v12) = v0 c
          ∧ r.2.mem ((c.tc : Thread Cert.HeadRefIdeal.nD Cert.HeadRefIdeal.τ).loc Cert.HeadRefIdeal.main_v18) = v1 c
          ∧ r.2.mem ((c.tc : Thread Cert.HeadRefIdeal.nD Cert.HeadRefIdeal.τ).loc Cert.HeadRefIdeal.main_v21) = v2 c
          ∧ r.2.mem ((c.tc : Thread Cert.HeadRefIdeal.nD Cert.HeadRefIdeal.τ).loc Cert.HeadRefIdeal.main_v20) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0)) (v1 : (c : Dev Cert.MemKvIdeal.nD) → Buf (Elt Ideal) ((c.tc : Thread Cert.MemKvIdeal.nD Cert.MemKvIdeal.τ).loc Cert.MemKvIdeal.main_v1_0)) (v2 : (c : Dev Cert.MemKvIdeal.nD) → Buf (Elt Ideal) ((c.tc : Thread Cert.MemKvIdeal.nD Cert.MemKvIdeal.τ).loc Cert.MemKvIdeal.main_v1_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_v1_0) = v1 c
          ∧ r.2.mem ((c.tc : Thread Cert.MemKvIdeal.nD Cert.MemKvIdeal.τ).loc Cert.MemKvIdeal.main_v1_1) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v13) = v0 c
          ∧ r.2.mem ((c.tc : Thread Cert.MemKvRefIdeal.nD Cert.MemKvRefIdeal.τ).loc Cert.MemKvRefIdeal.main_v15) = v1 c
          ∧ r.2.mem ((c.tc : Thread Cert.MemKvRefIdeal.nD Cert.MemKvRefIdeal.τ).loc Cert.MemKvRefIdeal.main_v19) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4)) (v1 : (c : Dev Cert.AdamInIdeal.nD) → Buf (Elt Ideal) ((c.tc : Thread Cert.AdamInIdeal.nD Cert.AdamInIdeal.τ).loc Cert.AdamInIdeal.main_v5)) (v2 : (c : Dev Cert.AdamInIdeal.nD) → Buf (Elt Ideal) ((c.tc : Thread Cert.AdamInIdeal.nD Cert.AdamInIdeal.τ).loc Cert.AdamInIdeal.main_v6)) (v3 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4) = v0 c
          ∧ r.2.mem ((c.tc : Thread Cert.AdamInIdeal.nD Cert.AdamInIdeal.τ).loc Cert.AdamInIdeal.main_v5) = v1 c
          ∧ r.2.mem ((c.tc : Thread Cert.AdamInIdeal.nD Cert.AdamInIdeal.τ).loc Cert.AdamInIdeal.main_v6) = v2 c
          ∧ r.2.mem ((c.tc : Thread Cert.AdamInIdeal.nD Cert.AdamInIdeal.τ).loc Cert.AdamInIdeal.main_v7) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v5) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v0) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg1) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)) →
    ∃ (v0 : (c : Dev Cert.SumInIdeal.nD) → Buf (Elt Ideal) ((c.tc : Thread Cert.SumInIdeal.nD Cert.SumInIdeal.τ).loc Cert.SumInIdeal.main_v4)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v4) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v8) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)) →
    ∃ (v0 : (c : Dev Cert.SumOutIdeal.nD) → Buf (Elt Ideal) ((c.tc : Thread Cert.SumOutIdeal.nD Cert.SumOutIdeal.τ).loc Cert.SumOutIdeal.main_v4)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v4) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v8) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2))

def preserves_SumKv_SumKvIdeal : Prop :=
  True

def algebraic_SumKvIdeal_SumKvRefIdeal [hSumKvIdeal : Cert.SumKvIdeal.Facts] [hSumKvRefIdeal : Cert.SumKvRefIdeal.Facts] : Prop :=
  ∀ (m : (ℓ : Loc Cert.SumKvIdeal.nD Cert.SumKvIdeal.τ Cert.SumKvIdeal.sig) → Buf (Elt Ideal) ℓ) (g : Dev Cert.SumKvIdeal.nD → PrngReg)
    (m' : (ℓ : Loc Cert.SumKvRefIdeal.nD Cert.SumKvRefIdeal.τ Cert.SumKvRefIdeal.sig) → Buf (Elt Ideal) ℓ) (g' : Dev Cert.SumKvRefIdeal.nD → PrngReg), Pre_SumKvIdeal m →
    (∀ c : Dev Cert.SumKvIdeal.nD,
      m' ((c.tc : Thread Cert.SumKvRefIdeal.nD Cert.SumKvRefIdeal.τ).loc Cert.SumKvRefIdeal.main_arg0) = m ((c.tc : Thread Cert.SumKvIdeal.nD Cert.SumKvIdeal.τ).loc Cert.SumKvIdeal.main_arg0)
      ∧ m' ((c.tc : Thread Cert.SumKvRefIdeal.nD Cert.SumKvRefIdeal.τ).loc Cert.SumKvRefIdeal.main_arg1) = m ((c.tc : Thread Cert.SumKvIdeal.nD Cert.SumKvIdeal.τ).loc Cert.SumKvIdeal.main_arg1)
      ∧ m' ((c.tc : Thread Cert.SumKvRefIdeal.nD Cert.SumKvRefIdeal.τ).loc Cert.SumKvRefIdeal.main_arg2) = m ((c.tc : Thread Cert.SumKvIdeal.nD Cert.SumKvIdeal.τ).loc Cert.SumKvIdeal.main_arg2)) →
    ∃ (v0 : (c : Dev Cert.SumKvIdeal.nD) → Buf (Elt Ideal) ((c.tc : Thread Cert.SumKvIdeal.nD Cert.SumKvIdeal.τ).loc Cert.SumKvIdeal.main_v4)),
      θ_run (Cert.SumKvIdeal.defs (F := Ideal)) (onTc (τ := Cert.SumKvIdeal.τ) (Cert.SumKvIdeal.main (F := Ideal))) ⟨m, fun _ => 0, g⟩ (fun r => ∀ c : Dev Cert.SumKvIdeal.nD,
          r.2.mem ((c.tc : Thread Cert.SumKvIdeal.nD Cert.SumKvIdeal.τ).loc Cert.SumKvIdeal.main_v4) = v0 c
          ∧ r.2.mem ((c.tc : Thread Cert.SumKvIdeal.nD Cert.SumKvIdeal.τ).loc Cert.SumKvIdeal.main_arg0) = m ((c.tc : Thread Cert.SumKvIdeal.nD Cert.SumKvIdeal.τ).loc Cert.SumKvIdeal.main_arg0)
          ∧ r.2.mem ((c.tc : Thread Cert.SumKvIdeal.nD Cert.SumKvIdeal.τ).loc Cert.SumKvIdeal.main_arg1) = m ((c.tc : Thread Cert.SumKvIdeal.nD Cert.SumKvIdeal.τ).loc Cert.SumKvIdeal.main_arg1)
          ∧ r.2.mem ((c.tc : Thread Cert.SumKvIdeal.nD Cert.SumKvIdeal.τ).loc Cert.SumKvIdeal.main_arg2) = m ((c.tc : Thread Cert.SumKvIdeal.nD Cert.SumKvIdeal.τ).loc Cert.SumKvIdeal.main_arg2))
      ∧ θ_run (Cert.SumKvRefIdeal.defs (F := Ideal)) (onTc (τ := Cert.SumKvRefIdeal.τ) (Cert.SumKvRefIdeal.main (F := Ideal))) ⟨m', fun _ => 0, g'⟩ (fun r => ∀ c : Dev Cert.SumKvRefIdeal.nD,
          r.2.mem ((c.tc : Thread Cert.SumKvRefIdeal.nD Cert.SumKvRefIdeal.τ).loc Cert.SumKvRefIdeal.main_v8) = v0 c
          ∧ r.2.mem ((c.tc : Thread Cert.SumKvRefIdeal.nD Cert.SumKvRefIdeal.τ).loc Cert.SumKvRefIdeal.main_arg0) = m' ((c.tc : Thread Cert.SumKvRefIdeal.nD Cert.SumKvRefIdeal.τ).loc Cert.SumKvRefIdeal.main_arg0)
          ∧ r.2.mem ((c.tc : Thread Cert.SumKvRefIdeal.nD Cert.SumKvRefIdeal.τ).loc Cert.SumKvRefIdeal.main_arg1) = m' ((c.tc : Thread Cert.SumKvRefIdeal.nD Cert.SumKvRefIdeal.τ).loc Cert.SumKvRefIdeal.main_arg1)
          ∧ r.2.mem ((c.tc : Thread Cert.SumKvRefIdeal.nD Cert.SumKvRefIdeal.τ).loc Cert.SumKvRefIdeal.main_arg2) = m' ((c.tc : Thread Cert.SumKvRefIdeal.nD Cert.SumKvRefIdeal.τ).loc Cert.SumKvRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v45) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_AttnCFwd_AttnCFwdIdeal : Prop :=
  True

def algebraic_AttnCFwdIdeal_AttnCFwdRefIdeal [hAttnCFwdIdeal : Cert.AttnCFwdIdeal.Facts] [hAttnCFwdRefIdeal : Cert.AttnCFwdRefIdeal.Facts] : Prop :=
  ∀ (m : (ℓ : Loc Cert.AttnCFwdIdeal.nD Cert.AttnCFwdIdeal.τ Cert.AttnCFwdIdeal.sig) → Buf (Elt Ideal) ℓ) (g : Dev Cert.AttnCFwdIdeal.nD → PrngReg)
    (m' : (ℓ : Loc Cert.AttnCFwdRefIdeal.nD Cert.AttnCFwdRefIdeal.τ Cert.AttnCFwdRefIdeal.sig) → Buf (Elt Ideal) ℓ) (g' : Dev Cert.AttnCFwdRefIdeal.nD → PrngReg), Pre_AttnCFwdIdeal m →
    (∀ c : Dev Cert.AttnCFwdIdeal.nD,
      m' ((c.tc : Thread Cert.AttnCFwdRefIdeal.nD Cert.AttnCFwdRefIdeal.τ).loc Cert.AttnCFwdRefIdeal.main_arg0) = m ((c.tc : Thread Cert.AttnCFwdIdeal.nD Cert.AttnCFwdIdeal.τ).loc Cert.AttnCFwdIdeal.main_arg0)
      ∧ m' ((c.tc : Thread Cert.AttnCFwdRefIdeal.nD Cert.AttnCFwdRefIdeal.τ).loc Cert.AttnCFwdRefIdeal.main_arg1) = m ((c.tc : Thread Cert.AttnCFwdIdeal.nD Cert.AttnCFwdIdeal.τ).loc Cert.AttnCFwdIdeal.main_arg1)
      ∧ m' ((c.tc : Thread Cert.AttnCFwdRefIdeal.nD Cert.AttnCFwdRefIdeal.τ).loc Cert.AttnCFwdRefIdeal.main_arg2) = m ((c.tc : Thread Cert.AttnCFwdIdeal.nD Cert.AttnCFwdIdeal.τ).loc Cert.AttnCFwdIdeal.main_arg2)
      ∧ m' ((c.tc : Thread Cert.AttnCFwdRefIdeal.nD Cert.AttnCFwdRefIdeal.τ).loc Cert.AttnCFwdRefIdeal.main_arg3) = m ((c.tc : Thread Cert.AttnCFwdIdeal.nD Cert.AttnCFwdIdeal.τ).loc Cert.AttnCFwdIdeal.main_arg3)
      ∧ m' ((c.tc : Thread Cert.AttnCFwdRefIdeal.nD Cert.AttnCFwdRefIdeal.τ).loc Cert.AttnCFwdRefIdeal.main_arg4) = m ((c.tc : Thread Cert.AttnCFwdIdeal.nD Cert.AttnCFwdIdeal.τ).loc Cert.AttnCFwdIdeal.main_arg4)) →
    ∃ (v0 : (c : Dev Cert.AttnCFwdIdeal.nD) → Buf (Elt Ideal) ((c.tc : Thread Cert.AttnCFwdIdeal.nD Cert.AttnCFwdIdeal.τ).loc Cert.AttnCFwdIdeal.main_v2)),
      θ_run (Cert.AttnCFwdIdeal.defs (F := Ideal)) (onTc (τ := Cert.AttnCFwdIdeal.τ) (Cert.AttnCFwdIdeal.main (F := Ideal))) ⟨m, fun _ => 0, g⟩ (fun r => ∀ c : Dev Cert.AttnCFwdIdeal.nD,
          r.2.mem ((c.tc : Thread Cert.AttnCFwdIdeal.nD Cert.AttnCFwdIdeal.τ).loc Cert.AttnCFwdIdeal.main_v2) = v0 c
          ∧ r.2.mem ((c.tc : Thread Cert.AttnCFwdIdeal.nD Cert.AttnCFwdIdeal.τ).loc Cert.AttnCFwdIdeal.main_arg0) = m ((c.tc : Thread Cert.AttnCFwdIdeal.nD Cert.AttnCFwdIdeal.τ).loc Cert.AttnCFwdIdeal.main_arg0)
          ∧ r.2.mem ((c.tc : Thread Cert.AttnCFwdIdeal.nD Cert.AttnCFwdIdeal.τ).loc Cert.AttnCFwdIdeal.main_arg1) = m ((c.tc : Thread Cert.AttnCFwdIdeal.nD Cert.AttnCFwdIdeal.τ).loc Cert.AttnCFwdIdeal.main_arg1)
          ∧ r.2.mem ((c.tc : Thread Cert.AttnCFwdIdeal.nD Cert.AttnCFwdIdeal.τ).loc Cert.AttnCFwdIdeal.main_arg2) = m ((c.tc : Thread Cert.AttnCFwdIdeal.nD Cert.AttnCFwdIdeal.τ).loc Cert.AttnCFwdIdeal.main_arg2)
          ∧ r.2.mem ((c.tc : Thread Cert.AttnCFwdIdeal.nD Cert.AttnCFwdIdeal.τ).loc Cert.AttnCFwdIdeal.main_arg3) = m ((c.tc : Thread Cert.AttnCFwdIdeal.nD Cert.AttnCFwdIdeal.τ).loc Cert.AttnCFwdIdeal.main_arg3)
          ∧ r.2.mem ((c.tc : Thread Cert.AttnCFwdIdeal.nD Cert.AttnCFwdIdeal.τ).loc Cert.AttnCFwdIdeal.main_arg4) = m ((c.tc : Thread Cert.AttnCFwdIdeal.nD Cert.AttnCFwdIdeal.τ).loc Cert.AttnCFwdIdeal.main_arg4))
      ∧ θ_run (Cert.AttnCFwdRefIdeal.defs (F := Ideal)) (onTc (τ := Cert.AttnCFwdRefIdeal.τ) (Cert.AttnCFwdRefIdeal.main (F := Ideal))) ⟨m', fun _ => 0, g'⟩ (fun r => ∀ c : Dev Cert.AttnCFwdRefIdeal.nD,
          r.2.mem ((c.tc : Thread Cert.AttnCFwdRefIdeal.nD Cert.AttnCFwdRefIdeal.τ).loc Cert.AttnCFwdRefIdeal.main_v60) = v0 c
          ∧ r.2.mem ((c.tc : Thread Cert.AttnCFwdRefIdeal.nD Cert.AttnCFwdRefIdeal.τ).loc Cert.AttnCFwdRefIdeal.main_arg0) = m' ((c.tc : Thread Cert.AttnCFwdRefIdeal.nD Cert.AttnCFwdRefIdeal.τ).loc Cert.AttnCFwdRefIdeal.main_arg0)
          ∧ r.2.mem ((c.tc : Thread Cert.AttnCFwdRefIdeal.nD Cert.AttnCFwdRefIdeal.τ).loc Cert.AttnCFwdRefIdeal.main_arg1) = m' ((c.tc : Thread Cert.AttnCFwdRefIdeal.nD Cert.AttnCFwdRefIdeal.τ).loc Cert.AttnCFwdRefIdeal.main_arg1)
          ∧ r.2.mem ((c.tc : Thread Cert.AttnCFwdRefIdeal.nD Cert.AttnCFwdRefIdeal.τ).loc Cert.AttnCFwdRefIdeal.main_arg2) = m' ((c.tc : Thread Cert.AttnCFwdRefIdeal.nD Cert.AttnCFwdRefIdeal.τ).loc Cert.AttnCFwdRefIdeal.main_arg2)
          ∧ r.2.mem ((c.tc : Thread Cert.AttnCFwdRefIdeal.nD Cert.AttnCFwdRefIdeal.τ).loc Cert.AttnCFwdRefIdeal.main_arg3) = m' ((c.tc : Thread Cert.AttnCFwdRefIdeal.nD Cert.AttnCFwdRefIdeal.τ).loc Cert.AttnCFwdRefIdeal.main_arg3)
          ∧ r.2.mem ((c.tc : Thread Cert.AttnCFwdRefIdeal.nD Cert.AttnCFwdRefIdeal.τ).loc Cert.AttnCFwdRefIdeal.main_arg4) = m' ((c.tc : Thread Cert.AttnCFwdRefIdeal.nD Cert.AttnCFwdRefIdeal.τ).loc Cert.AttnCFwdRefIdeal.main_arg4))

def preserves_PairIn_PairInIdeal : Prop :=
  True

def algebraic_PairInIdeal_PairInRefIdeal [hPairInIdeal : Cert.PairInIdeal.Facts] [hPairInRefIdeal : Cert.PairInRefIdeal.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)) →
    ∃ (v0 : (c : Dev Cert.PairInIdeal.nD) → Buf (Elt Ideal) ((c.tc : Thread Cert.PairInIdeal.nD Cert.PairInIdeal.τ).loc Cert.PairInIdeal.main_v2)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v2) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v3) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)) →
    ∃ (v0 : (c : Dev Cert.PairOutIdeal.nD) → Buf (Elt Ideal) ((c.tc : Thread Cert.PairOutIdeal.nD Cert.PairOutIdeal.τ).loc Cert.PairOutIdeal.main_v2)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v2) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v3) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1))

def preserves_PairKv_PairKvIdeal : Prop :=
  True

def algebraic_PairKvIdeal_PairKvRefIdeal [hPairKvIdeal : Cert.PairKvIdeal.Facts] [hPairKvRefIdeal : Cert.PairKvRefIdeal.Facts] : Prop :=
  ∀ (m : (ℓ : Loc Cert.PairKvIdeal.nD Cert.PairKvIdeal.τ Cert.PairKvIdeal.sig) → Buf (Elt Ideal) ℓ) (g : Dev Cert.PairKvIdeal.nD → PrngReg)
    (m' : (ℓ : Loc Cert.PairKvRefIdeal.nD Cert.PairKvRefIdeal.τ Cert.PairKvRefIdeal.sig) → Buf (Elt Ideal) ℓ) (g' : Dev Cert.PairKvRefIdeal.nD → PrngReg), Pre_PairKvIdeal m →
    (∀ c : Dev Cert.PairKvIdeal.nD,
      m' ((c.tc : Thread Cert.PairKvRefIdeal.nD Cert.PairKvRefIdeal.τ).loc Cert.PairKvRefIdeal.main_arg0) = m ((c.tc : Thread Cert.PairKvIdeal.nD Cert.PairKvIdeal.τ).loc Cert.PairKvIdeal.main_arg0)
      ∧ m' ((c.tc : Thread Cert.PairKvRefIdeal.nD Cert.PairKvRefIdeal.τ).loc Cert.PairKvRefIdeal.main_arg1) = m ((c.tc : Thread Cert.PairKvIdeal.nD Cert.PairKvIdeal.τ).loc Cert.PairKvIdeal.main_arg1)) →
    ∃ (v0 : (c : Dev Cert.PairKvIdeal.nD) → Buf (Elt Ideal) ((c.tc : Thread Cert.PairKvIdeal.nD Cert.PairKvIdeal.τ).loc Cert.PairKvIdeal.main_v2)),
      θ_run (Cert.PairKvIdeal.defs (F := Ideal)) (onTc (τ := Cert.PairKvIdeal.τ) (Cert.PairKvIdeal.main (F := Ideal))) ⟨m, fun _ => 0, g⟩ (fun r => ∀ c : Dev Cert.PairKvIdeal.nD,
          r.2.mem ((c.tc : Thread Cert.PairKvIdeal.nD Cert.PairKvIdeal.τ).loc Cert.PairKvIdeal.main_v2) = v0 c
          ∧ r.2.mem ((c.tc : Thread Cert.PairKvIdeal.nD Cert.PairKvIdeal.τ).loc Cert.PairKvIdeal.main_arg0) = m ((c.tc : Thread Cert.PairKvIdeal.nD Cert.PairKvIdeal.τ).loc Cert.PairKvIdeal.main_arg0)
          ∧ r.2.mem ((c.tc : Thread Cert.PairKvIdeal.nD Cert.PairKvIdeal.τ).loc Cert.PairKvIdeal.main_arg1) = m ((c.tc : Thread Cert.PairKvIdeal.nD Cert.PairKvIdeal.τ).loc Cert.PairKvIdeal.main_arg1))
      ∧ θ_run (Cert.PairKvRefIdeal.defs (F := Ideal)) (onTc (τ := Cert.PairKvRefIdeal.τ) (Cert.PairKvRefIdeal.main (F := Ideal))) ⟨m', fun _ => 0, g'⟩ (fun r => ∀ c : Dev Cert.PairKvRefIdeal.nD,
          r.2.mem ((c.tc : Thread Cert.PairKvRefIdeal.nD Cert.PairKvRefIdeal.τ).loc Cert.PairKvRefIdeal.main_v3) = v0 c
          ∧ r.2.mem ((c.tc : Thread Cert.PairKvRefIdeal.nD Cert.PairKvRefIdeal.τ).loc Cert.PairKvRefIdeal.main_arg0) = m' ((c.tc : Thread Cert.PairKvRefIdeal.nD Cert.PairKvRefIdeal.τ).loc Cert.PairKvRefIdeal.main_arg0)
          ∧ r.2.mem ((c.tc : Thread Cert.PairKvRefIdeal.nD Cert.PairKvRefIdeal.τ).loc Cert.PairKvRefIdeal.main_arg1) = m' ((c.tc : Thread Cert.PairKvRefIdeal.nD Cert.PairKvRefIdeal.τ).loc Cert.PairKvRefIdeal.main_arg1))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)
      ∧ m' ((c.tc : Thread Cert.ProjGradRefIdeal.nD Cert.ProjGradRefIdeal.τ).loc Cert.ProjGradRefIdeal.main_arg2) = m ((c.tc : Thread Cert.ProjGradIdeal.nD Cert.ProjGradIdeal.τ).loc Cert.ProjGradIdeal.main_arg2)
      ∧ m' ((c.tc : Thread Cert.ProjGradRefIdeal.nD Cert.ProjGradRefIdeal.τ).loc Cert.ProjGradRefIdeal.main_arg3) = m ((c.tc : Thread Cert.ProjGradIdeal.nD Cert.ProjGradIdeal.τ).loc Cert.ProjGradIdeal.main_arg3)
      ∧ m' ((c.tc : Thread Cert.ProjGradRefIdeal.nD Cert.ProjGradRefIdeal.τ).loc Cert.ProjGradRefIdeal.main_arg4) = m ((c.tc : Thread Cert.ProjGradIdeal.nD Cert.ProjGradIdeal.τ).loc Cert.ProjGradIdeal.main_arg4)
      ∧ m' ((c.tc : Thread Cert.ProjGradRefIdeal.nD Cert.ProjGradRefIdeal.τ).loc Cert.ProjGradRefIdeal.main_arg5) = m ((c.tc : Thread Cert.ProjGradIdeal.nD Cert.ProjGradIdeal.τ).loc Cert.ProjGradIdeal.main_arg5)
      ∧ m' ((c.tc : Thread Cert.ProjGradRefIdeal.nD Cert.ProjGradRefIdeal.τ).loc Cert.ProjGradRefIdeal.main_arg6) = m ((c.tc : Thread Cert.ProjGradIdeal.nD Cert.ProjGradIdeal.τ).loc Cert.ProjGradIdeal.main_arg6)
      ∧ m' ((c.tc : Thread Cert.ProjGradRefIdeal.nD Cert.ProjGradRefIdeal.τ).loc Cert.ProjGradRefIdeal.main_arg7) = m ((c.tc : Thread Cert.ProjGradIdeal.nD Cert.ProjGradIdeal.τ).loc Cert.ProjGradIdeal.main_arg7)
      ∧ m' ((c.tc : Thread Cert.ProjGradRefIdeal.nD Cert.ProjGradRefIdeal.τ).loc Cert.ProjGradRefIdeal.main_arg8) = m ((c.tc : Thread Cert.ProjGradIdeal.nD Cert.ProjGradIdeal.τ).loc Cert.ProjGradIdeal.main_arg8)) →
    ∃ (v0 : (c : Dev Cert.ProjGradIdeal.nD) → Buf (Elt Ideal) ((c.tc : Thread Cert.ProjGradIdeal.nD Cert.ProjGradIdeal.τ).loc Cert.ProjGradIdeal.main_v0)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v0) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
          ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
          ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
          ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5)
          ∧ r.2.mem ((c.tc : Thread Cert.ProjGradIdeal.nD Cert.ProjGradIdeal.τ).loc Cert.ProjGradIdeal.main_arg6) = m ((c.tc : Thread Cert.ProjGradIdeal.nD Cert.ProjGradIdeal.τ).loc Cert.ProjGradIdeal.main_arg6)
          ∧ r.2.mem ((c.tc : Thread Cert.ProjGradIdeal.nD Cert.ProjGradIdeal.τ).loc Cert.ProjGradIdeal.main_arg7) = m ((c.tc : Thread Cert.ProjGradIdeal.nD Cert.ProjGradIdeal.τ).loc Cert.ProjGradIdeal.main_arg7)
          ∧ r.2.mem ((c.tc : Thread Cert.ProjGradIdeal.nD Cert.ProjGradIdeal.τ).loc Cert.ProjGradIdeal.main_arg8) = m ((c.tc : Thread Cert.ProjGradIdeal.nD Cert.ProjGradIdeal.τ).loc Cert.ProjGradIdeal.main_arg8))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v8) = v0 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1)
          ∧ r.2.mem ((c.tc : Thread Cert.ProjGradRefIdeal.nD Cert.ProjGradRefIdeal.τ).loc Cert.ProjGradRefIdeal.main_arg2) = m' ((c.tc : Thread Cert.ProjGradRefIdeal.nD Cert.ProjGradRefIdeal.τ).loc Cert.ProjGradRefIdeal.main_arg2)
          ∧ r.2.mem ((c.tc : Thread Cert.ProjGradRefIdeal.nD Cert.ProjGradRefIdeal.τ).loc Cert.ProjGradRefIdeal.main_arg3) = m' ((c.tc : Thread Cert.ProjGradRefIdeal.nD Cert.ProjGradRefIdeal.τ).loc Cert.ProjGradRefIdeal.main_arg3)
          ∧ r.2.mem ((c.tc : Thread Cert.ProjGradRefIdeal.nD Cert.ProjGradRefIdeal.τ).loc Cert.ProjGradRefIdeal.main_arg4) = m' ((c.tc : Thread Cert.ProjGradRefIdeal.nD Cert.ProjGradRefIdeal.τ).loc Cert.ProjGradRefIdeal.main_arg4)
          ∧ r.2.mem ((c.tc : Thread Cert.ProjGradRefIdeal.nD Cert.ProjGradRefIdeal.τ).loc Cert.ProjGradRefIdeal.main_arg5) = m' ((c.tc : Thread Cert.ProjGradRefIdeal.nD Cert.ProjGradRefIdeal.τ).loc Cert.ProjGradRefIdeal.main_arg5)
          ∧ r.2.mem ((c.tc : Thread Cert.ProjGradRefIdeal.nD Cert.ProjGradRefIdeal.τ).loc Cert.ProjGradRefIdeal.main_arg6) = m' ((c.tc : Thread Cert.ProjGradRefIdeal.nD Cert.ProjGradRefIdeal.τ).loc Cert.ProjGradRefIdeal.main_arg6)
          ∧ r.2.mem ((c.tc : Thread Cert.ProjGradRefIdeal.nD Cert.ProjGradRefIdeal.τ).loc Cert.ProjGradRefIdeal.main_arg7) = m' ((c.tc : Thread Cert.ProjGradRefIdeal.nD Cert.ProjGradRefIdeal.τ).loc Cert.ProjGradRefIdeal.main_arg7)
          ∧ r.2.mem ((c.tc : Thread Cert.ProjGradRefIdeal.nD Cert.ProjGradRefIdeal.τ).loc Cert.ProjGradRefIdeal.main_arg8) = m' ((c.tc : Thread Cert.ProjGradRefIdeal.nD Cert.ProjGradRefIdeal.τ).loc Cert.ProjGradRefIdeal.main_arg8))

def preserves_AttnCGrad_AttnCGradIdeal : Prop :=
  True

def preserves_AttnBFwd_AttnBFwdIdeal : Prop :=
  True

def Claim : Prop :=
  ∃ (hConvGrad : Cert.ConvGrad.Facts) (hConvGradIdeal : Cert.ConvGradIdeal.Facts) (hConvRefIdeal : Cert.ConvRefIdeal.Facts) (hInWeight : Cert.InWeight.Facts) (hInWeightIdeal : Cert.InWeightIdeal.Facts) (hInWeightRefIdeal : Cert.InWeightRefIdeal.Facts) (hInGrad : Cert.InGrad.Facts) (hInGradIdeal : Cert.InGradIdeal.Facts) (hInGradRefIdeal : Cert.InGradRefIdeal.Facts) (hDeltaOut : Cert.DeltaOut.Facts) (hDeltaOutIdeal : Cert.DeltaOutIdeal.Facts) (hDeltaOutRefIdeal : Cert.DeltaOutRefIdeal.Facts) (hHead : Cert.Head.Facts) (hHeadIdeal : Cert.HeadIdeal.Facts) (hHeadRefIdeal : Cert.HeadRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumKv : Cert.SumKv.Facts) (hSumKvIdeal : Cert.SumKvIdeal.Facts) (hSumKvRefIdeal : Cert.SumKvRefIdeal.Facts) (hConvFwd : Cert.ConvFwd.Facts) (hConvFwdIdeal : Cert.ConvFwdIdeal.Facts) (hConvFwdRefIdeal : Cert.ConvFwdRefIdeal.Facts) (hAttnCFwd : Cert.AttnCFwd.Facts) (hAttnCFwdIdeal : Cert.AttnCFwdIdeal.Facts) (hAttnCFwdRefIdeal : Cert.AttnCFwdRefIdeal.Facts) (hPairIn : Cert.PairIn.Facts) (hPairInIdeal : Cert.PairInIdeal.Facts) (hPairInRefIdeal : Cert.PairInRefIdeal.Facts) (hPairOut : Cert.PairOut.Facts) (hPairOutIdeal : Cert.PairOutIdeal.Facts) (hPairOutRefIdeal : Cert.PairOutRefIdeal.Facts) (hPairKv : Cert.PairKv.Facts) (hPairKvIdeal : Cert.PairKvIdeal.Facts) (hPairKvRefIdeal : Cert.PairKvRefIdeal.Facts) (hProjGrad : Cert.ProjGrad.Facts) (hProjGradIdeal : Cert.ProjGradIdeal.Facts) (hProjGradRefIdeal : Cert.ProjGradRefIdeal.Facts) (hAttnCGrad : Cert.AttnCGrad.Facts) (hAttnCGradIdeal : Cert.AttnCGradIdeal.Facts) (hAttnBFwd : Cert.AttnBFwd.Facts) (hAttnBFwdIdeal : Cert.AttnBFwdIdeal.Facts),
    quiescent_ConvGrad (hConvGrad := hConvGrad)
    ∧ quiescent_ConvGradIdeal (hConvGradIdeal := hConvGradIdeal)
    ∧ quiescent_ConvRefIdeal (hConvRefIdeal := hConvRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_DeltaOut (hDeltaOut := hDeltaOut)
    ∧ quiescent_DeltaOutIdeal (hDeltaOutIdeal := hDeltaOutIdeal)
    ∧ quiescent_DeltaOutRefIdeal (hDeltaOutRefIdeal := hDeltaOutRefIdeal)
    ∧ quiescent_Head (hHead := hHead)
    ∧ quiescent_HeadIdeal (hHeadIdeal := hHeadIdeal)
    ∧ quiescent_HeadRefIdeal (hHeadRefIdeal := hHeadRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumKv (hSumKv := hSumKv)
    ∧ quiescent_SumKvIdeal (hSumKvIdeal := hSumKvIdeal)
    ∧ quiescent_SumKvRefIdeal (hSumKvRefIdeal := hSumKvRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AttnCFwd (hAttnCFwd := hAttnCFwd)
    ∧ quiescent_AttnCFwdIdeal (hAttnCFwdIdeal := hAttnCFwdIdeal)
    ∧ quiescent_AttnCFwdRefIdeal (hAttnCFwdRefIdeal := hAttnCFwdRefIdeal)
    ∧ quiescent_PairIn (hPairIn := hPairIn)
    ∧ quiescent_PairInIdeal (hPairInIdeal := hPairInIdeal)
    ∧ quiescent_PairInRefIdeal (hPairInRefIdeal := hPairInRefIdeal)
    ∧ quiescent_PairOut (hPairOut := hPairOut)
    ∧ quiescent_PairOutIdeal (hPairOutIdeal := hPairOutIdeal)
    ∧ quiescent_PairOutRefIdeal (hPairOutRefIdeal := hPairOutRefIdeal)
    ∧ quiescent_PairKv (hPairKv := hPairKv)
    ∧ quiescent_PairKvIdeal (hPairKvIdeal := hPairKvIdeal)
    ∧ quiescent_PairKvRefIdeal (hPairKvRefIdeal := hPairKvRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ quiescent_AttnCGrad (hAttnCGrad := hAttnCGrad)
    ∧ quiescent_AttnCGradIdeal (hAttnCGradIdeal := hAttnCGradIdeal)
    ∧ quiescent_AttnBFwd (hAttnBFwd := hAttnBFwd)
    ∧ quiescent_AttnBFwdIdeal (hAttnBFwdIdeal := hAttnBFwdIdeal)
    ∧ preserves_ConvGrad_ConvGradIdeal
    ∧ algebraic_ConvGradIdeal_ConvRefIdeal (hConvGradIdeal := hConvGradIdeal) (hConvRefIdeal := hConvRefIdeal)
    ∧ preserves_InWeight_InWeightIdeal
    ∧ algebraic_InWeightIdeal_InWeightRefIdeal (hInWeightIdeal := hInWeightIdeal) (hInWeightRefIdeal := hInWeightRefIdeal)
    ∧ preserves_InGrad_InGradIdeal
    ∧ algebraic_InGradIdeal_InGradRefIdeal (hInGradIdeal := hInGradIdeal) (hInGradRefIdeal := hInGradRefIdeal)
    ∧ preserves_DeltaOut_DeltaOutIdeal
    ∧ algebraic_DeltaOutIdeal_DeltaOutRefIdeal (hDeltaOutIdeal := hDeltaOutIdeal) (hDeltaOutRefIdeal := hDeltaOutRefIdeal)
    ∧ preserves_Head_HeadIdeal
    ∧ algebraic_HeadIdeal_HeadRefIdeal (hHeadIdeal := hHeadIdeal) (hHeadRefIdeal := hHeadRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumKv_SumKvIdeal
    ∧ algebraic_SumKvIdeal_SumKvRefIdeal (hSumKvIdeal := hSumKvIdeal) (hSumKvRefIdeal := hSumKvRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AttnCFwd_AttnCFwdIdeal
    ∧ algebraic_AttnCFwdIdeal_AttnCFwdRefIdeal (hAttnCFwdIdeal := hAttnCFwdIdeal) (hAttnCFwdRefIdeal := hAttnCFwdRefIdeal)
    ∧ preserves_PairIn_PairInIdeal
    ∧ algebraic_PairInIdeal_PairInRefIdeal (hPairInIdeal := hPairInIdeal) (hPairInRefIdeal := hPairInRefIdeal)
    ∧ preserves_PairOut_PairOutIdeal
    ∧ algebraic_PairOutIdeal_PairOutRefIdeal (hPairOutIdeal := hPairOutIdeal) (hPairOutRefIdeal := hPairOutRefIdeal)
    ∧ preserves_PairKv_PairKvIdeal
    ∧ algebraic_PairKvIdeal_PairKvRefIdeal (hPairKvIdeal := hPairKvIdeal) (hPairKvRefIdeal := hPairKvRefIdeal)
    ∧ preserves_ProjGrad_ProjGradIdeal
    ∧ algebraic_ProjGradIdeal_ProjGradRefIdeal (hProjGradIdeal := hProjGradIdeal) (hProjGradRefIdeal := hProjGradRefIdeal)
    ∧ preserves_AttnCGrad_AttnCGradIdeal
    ∧ preserves_AttnBFwd_AttnBFwdIdeal
-- ==== ConvGrad.lean ====
abbrev S2048x6656 : Shape := ⟨2, ![2048, 6656]⟩
abbrev S5x3072 : Shape := ⟨2, ![5, 3072]⟩
abbrev S3x2048x1024 : Shape := ⟨3, ![3, 2048, 1024]⟩
abbrev S2048x3072 : Shape := ⟨2, ![2048, 3072]⟩
abbrev S2048x128 : Shape := ⟨2, ![2048, 128]⟩
abbrev S5x128 : Shape := ⟨2, ![5, 128]⟩
abbrev S1x2048x128 : Shape := ⟨3, ![1, 2048, 128]⟩
abbrev S1x128 : Shape := ⟨2, ![1, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x6656, .f32⟩
  | .hbm, ⟨1, _⟩ => ⟨S5x3072, .f32⟩
  | .hbm, ⟨2, _⟩ => ⟨S3x2048x1024, .f32⟩
  | .hbm, ⟨3, _⟩ => ⟨S2048x3072, .bf16⟩
  | .hbm, ⟨4, _⟩ => ⟨S5x3072, .f32⟩
  | .local _ .vmem, ⟨0, _⟩ => ⟨S2048x128, .f32⟩
  | .local _ .vmem, ⟨1, _⟩ => ⟨S2048x128, .f32⟩
  | .local _ .vmem, ⟨2, _⟩ => ⟨S5x128, .f32⟩
  | .local _ .vmem, ⟨3, _⟩ => ⟨S5x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x128, .bf16⟩
  | .local _ .vmem, ⟨7, _⟩ => ⟨S2048x128, .bf16⟩
  | .local _ .vmem, ⟨8, _⟩ => ⟨S5x128, .f32⟩
  | .local _ .vmem, ⟨9, _⟩ => ⟨S5x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S2048x6656 : Shape := ⟨2, ![2048, 6656]⟩
abbrev S5x3072 : Shape := ⟨2, ![5, 3072]⟩
abbrev S3x2048x1024 : Shape := ⟨3, ![3, 2048, 1024]⟩
abbrev S2048x3072 : Shape := ⟨2, ![2048, 3072]⟩
abbrev S1x2048x1024 : Shape := ⟨3, ![1, 2048, 1024]⟩
abbrev S2048x1024 : Shape := ⟨2, ![2048, 1024]⟩
abbrev S_ : Shape := ⟨0, ![]⟩
abbrev S2x3072 : Shape := ⟨2, ![2, 3072]⟩
abbrev S2052x3072 : Shape := ⟨2, ![2052, 3072]⟩
abbrev S1x3072 : Shape := ⟨2, ![1, 3072]⟩
abbrev S3072 : Shape := ⟨1, ![3072]⟩

abbrev nBuf : Space → Nat
  | .hbm => 104
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S5x3072, .f32⟩
  | .hbm, ⟨2, _⟩ => ⟨S3x2048x1024, .f32⟩
  | .hbm, ⟨3, _⟩ => ⟨S2048x3072, .f32⟩
  | .hbm, ⟨4, _⟩ => ⟨S1x2048x1024, .f32⟩
  | .hbm, ⟨5, _⟩ => ⟨S2048x1024, .f32⟩
  | .hbm, ⟨6, _⟩ => ⟨S1x2048x1024, .f32⟩
  | .hbm, ⟨7, _⟩ => ⟨S2048x1024, .f32⟩
  | .hbm, ⟨8, _⟩ => ⟨S1x2048x1024, .f32⟩
  | .hbm, ⟨9, _⟩ => ⟨S2048x1024, .f32⟩
  | .hbm, ⟨10, _⟩ => ⟨S2048x3072, .f32⟩
  | .hbm, ⟨11, _⟩ => ⟨S_, .f32⟩
  | .hbm, ⟨12, _⟩ => ⟨S2x3072, .f32⟩
  | .hbm, ⟨13, _⟩ => ⟨S2052x3072, .f32⟩
  | .hbm, ⟨14, _⟩ => ⟨S_, .f32⟩
  | .hbm, ⟨15, _⟩ => ⟨S2x3072, .f32⟩
  | .hbm, ⟨16, _⟩ => ⟨S_, .f32⟩
  | .hbm, ⟨17, _⟩ => ⟨S2x3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S1x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S1x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S1x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S_, .f32⟩
  | .hbm, ⟨46, _⟩ => ⟨S3072, .f32⟩
  | .hbm, ⟨47, _⟩ => ⟨S1x3072, .f32⟩
  | .hbm, ⟨48, _⟩ => ⟨S_, .f32⟩
  | .hbm, ⟨49, _⟩ => ⟨S2052x3072, .f32⟩
  | .hbm, ⟨50, _⟩ => ⟨S_, .f32⟩
  | .hbm, ⟨51, _⟩ => ⟨S5x3072, .f32⟩
  | .hbm, ⟨52, _⟩ => ⟨S2048x3072, .f32⟩
  | .hbm, ⟨53, _⟩ => ⟨S2048x3072, .f32⟩
  | .hbm, ⟨54, _⟩ => ⟨S2048x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S_, .f32⟩
  | .hbm, ⟨59, _⟩ => ⟨S2052x3072, .f32⟩
  | .hbm, ⟨60, _⟩ => ⟨S2052x3072, .f32⟩
  | .hbm, ⟨61, _⟩ => ⟨S_, .f32⟩
  | .hbm, ⟨62, _⟩ => ⟨S5x3072, .f32⟩
  | .hbm, ⟨63, _⟩ => ⟨S5x3072, .f32⟩
  | .hbm, ⟨64, _⟩ => ⟨S2048x3072, .f32⟩
  | .hbm, ⟨65, _⟩ => ⟨S2048x3072, .f32⟩
  | .hbm, ⟨66, _⟩ => ⟨S2048x3072, .f32⟩
  | .hbm, ⟨67, _⟩ => ⟨S_, .f32⟩
  | .hbm, ⟨68, _⟩ => ⟨S3072, .f32⟩
  | .hbm, ⟨69, _⟩ => ⟨S1x3072, .f32⟩
  | .hbm, ⟨70, _⟩ => ⟨S_, .f32⟩
  | .hbm, ⟨71, _⟩ => ⟨S2052x3072, .f32⟩
  | .hbm, ⟨72, _⟩ => ⟨S2052x3072, .f32⟩
  | .hbm, ⟨73, _⟩ => ⟨S_, .f32⟩
  | .hbm, ⟨74, _⟩ => ⟨S5x3072, .f32⟩
  | .hbm, ⟨75, _⟩ => ⟨S5x3072, .f32⟩
  | .hbm, ⟨76, _⟩ => ⟨S2048x3072, .f32⟩
  | .hbm, ⟨77, _⟩ => ⟨S2048x3072, .f32⟩
  | .hbm, ⟨78, _⟩ => ⟨S2048x3072, .f32⟩
  | .hbm, ⟨79, _⟩ => ⟨S_, .f32⟩
  | .hbm, ⟨80, _⟩ => ⟨S3072, .f32⟩
  | .hbm, ⟨81, _⟩ => ⟨S1x3072, .f32⟩
  | .hbm, ⟨82, _⟩ => ⟨S_, .f32⟩
  | .hbm, ⟨83, _⟩ => ⟨S2052x3072, .f32⟩
  | .hbm, ⟨84, _⟩ => ⟨S2052x3072, .f32⟩
  | .hbm, ⟨85, _⟩ => ⟨S_, .f32⟩
  | .hbm, ⟨86, _⟩ => ⟨S5x3072, .f32⟩
  | .hbm, ⟨87, _⟩ => ⟨S5x3072, .f32⟩
  | .hbm, ⟨88, _⟩ => ⟨S2048x3072, .f32⟩
  | .hbm, ⟨89, _⟩ => ⟨S2048x3072, .f32⟩
  | .hbm, ⟨90, _⟩ => ⟨S2048x3072, .f32⟩
  | .hbm, ⟨91, _⟩ => ⟨S_, .f32⟩
  | .hbm, ⟨92, _⟩ => ⟨S3072, .f32⟩
  | .hbm, ⟨93, _⟩ => ⟨S1x3072, .f32⟩
  | .hbm, ⟨94, _⟩ => ⟨S_, .f32⟩
  | .hbm, ⟨95, _⟩ => ⟨S2052x3072, .f32⟩
  | .hbm, ⟨96, _⟩ => ⟨S2052x3072, .f32⟩
  | .hbm, ⟨97, _⟩ => ⟨S_, .f32⟩
  | .hbm, ⟨98, _⟩ => ⟨S5x3072, .f32⟩
  | .hbm, ⟨99, _⟩ => ⟨S5x3072, .f32⟩
  | .hbm, ⟨100, _⟩ => ⟨S2x3072, .f32⟩
  | .hbm, ⟨101, _⟩ => ⟨S2048x3072, .f32⟩
  | .hbm, ⟨102, _⟩ => ⟨S2x3072, .f32⟩
  | .hbm, ⟨103, _⟩ => ⟨S2048x3072, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_cst_12 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== InWeight.lean ====
abbrev S2048x2048 : Shape := ⟨2, ![2048, 2048]⟩
abbrev S1x2048 : Shape := ⟨2, ![1, 2048]⟩
abbrev S2048x6656 : Shape := ⟨2, ![2048, 6656]⟩
abbrev S256x2048 : Shape := ⟨2, ![256, 2048]⟩
abbrev S256 : Shape := ⟨1, ![256]⟩
abbrev S256x1 : Shape := ⟨2, ![256, 1]⟩
abbrev S6656x2048 : Shape := ⟨2, ![6656, 2048]⟩
abbrev S2048x512 : Shape := ⟨2, ![2048, 512]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x6656, .bf16⟩
  | .hbm, ⟨3, _⟩ => ⟨S2048x2048, .bf16⟩
  | .hbm, ⟨4, _⟩ => ⟨S6656x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x512, .bf16⟩
  | .local _ .vmem, ⟨6, _⟩ => ⟨S2048x512, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![13, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== InWeightRefIdeal.lean ====
abbrev S2048x2048 : Shape := ⟨2, ![2048, 2048]⟩
abbrev S1x2048 : Shape := ⟨2, ![1, 2048]⟩
abbrev S2048x6656 : Shape := ⟨2, ![2048, 6656]⟩
abbrev S_ : Shape := ⟨0, ![]⟩
abbrev S6656x2048 : Shape := ⟨2, ![6656, 2048]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x6656, .bf16⟩
  | .hbm, ⟨3, _⟩ => ⟨S_, .f32⟩
  | .hbm, ⟨4, _⟩ => ⟨S6656x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x6656, .f32⟩
  | .hbm, ⟨21, _⟩ => ⟨S2048x6656, .f32⟩
  | .hbm, ⟨22, _⟩ => ⟨S2048x6656, .f32⟩
  | .hbm, ⟨23, _⟩ => ⟨S6656x2048, .f32⟩
  | .hbm, ⟨24, _⟩ => ⟨S2048x6656, .f32⟩
  | .hbm, ⟨25, _⟩ => ⟨S6656x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InGrad.lean ====
abbrev S2048x2048 : Shape := ⟨2, ![2048, 2048]⟩
abbrev S1x2048 : Shape := ⟨2, ![1, 2048]⟩
abbrev S6656x2048 : Shape := ⟨2, ![6656, 2048]⟩
abbrev S2048x6656 : Shape := ⟨2, ![2048, 6656]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S6656x2048, .bf16⟩
  | .hbm, ⟨3, _⟩ => ⟨S2048x6656, .bf16⟩
  | .hbm, ⟨4, _⟩ => ⟨S2048x2048, .f32⟩
  | .hbm, ⟨5, _⟩ => ⟨S2048x2048, .f32⟩
  | .hbm, ⟨6, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 13], ![false, false]⟩

def k0_cond3 (i : grid0.Coords) : BitVec 1 :=
  let arg1 : BitVec 32 := BitVec.ofNat 32 (i 1).val
  let c12_i32 : BitVec 32 := 12#32
  let v16 : BitVec 1 := Scalar.cmpi .eq arg1 c12_i32
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c13_i32 : BitVec 32 := 13#32
  let v0 : BitVec 32 := Scalar.muli arg0 c13_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InGradRefIdeal.lean ====
abbrev S2048x2048 : Shape := ⟨2, ![2048, 2048]⟩
abbrev S1x2048 : Shape := ⟨2, ![1, 2048]⟩
abbrev S6656x2048 : Shape := ⟨2, ![6656, 2048]⟩
abbrev S2048x6656 : Shape := ⟨2, ![2048, 6656]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S6656x2048, .bf16⟩
  | .hbm, ⟨3, _⟩ => ⟨S2048x6656, .bf16⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S6656x2048, .f32⟩
  | .hbm, ⟨25, _⟩ => ⟨S2048x6656, .f32⟩
  | .hbm, ⟨26, _⟩ => ⟨S2048x6656, .f32⟩
  | .hbm, ⟨27, _⟩ => ⟨S2048x6656, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DeltaOut.lean ====
abbrev S2048x1024 : Shape := ⟨2, ![2048, 1024]⟩
abbrev S2048x6656 : Shape := ⟨2, ![2048, 6656]⟩
abbrev S1x128 : Shape := ⟨2, ![1, 128]⟩
abbrev S2048x2048 : Shape := ⟨2, ![2048, 2048]⟩
abbrev S_ : Shape := ⟨0, ![]⟩
abbrev S4x128 : Shape := ⟨2, ![4, 128]⟩
abbrev S3x128 : Shape := ⟨2, ![3, 128]⟩
abbrev S8x128 : Shape := ⟨2, ![8, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x896 : Shape := ⟨2, ![256, 896]⟩
abbrev S128 : Shape := ⟨1, ![128]⟩
abbrev S5x128 : Shape := ⟨2, ![5, 128]⟩
abbrev S256x768 : Shape := ⟨2, ![256, 768]⟩
abbrev S256x640 : Shape := ⟨2, ![256, 640]⟩
abbrev S256x256 : Shape := ⟨2, ![256, 256]⟩
abbrev S256x512 : Shape := ⟨2, ![256, 512]⟩
abbrev S256x384 : Shape := ⟨2, ![256, 384]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x2048, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S3x128, .f32⟩
  | .hbm, ⟨8, _⟩ => ⟨S8x128, .f32⟩
  | .hbm, ⟨9, _⟩ => ⟨S2048x1024, .f32⟩
  | .hbm, ⟨10, _⟩ => ⟨S2048x1024, .bf16⟩
  | .hbm, ⟨11, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DeltaOutRefIdeal.lean ====
abbrev S2048x1024 : Shape := ⟨2, ![2048, 1024]⟩
abbrev S2048x6656 : Shape := ⟨2, ![2048, 6656]⟩
abbrev S1x128 : Shape := ⟨2, ![1, 128]⟩
abbrev S2048x2048 : Shape := ⟨2, ![2048, 2048]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S128 : Shape := ⟨1, ![128]⟩
abbrev S4x128 : Shape := ⟨2, ![4, 128]⟩
abbrev S3x128 : Shape := ⟨2, ![3, 128]⟩
abbrev S8x128 : Shape := ⟨2, ![8, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6656, .f32⟩
  | .hbm, ⟨2, _⟩ => ⟨S1x128, .f32⟩
  | .hbm, ⟨3, _⟩ => ⟨S2048x2048, .f32⟩
  | .hbm, ⟨4, _⟩ => ⟨S2048x1024, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S16384x128, .f32⟩
  | .hbm, ⟨48, _⟩ => ⟨S16384x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x128, .f32⟩
  | .hbm, ⟨59, _⟩ => ⟨S16384x128, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S2048x1024, .f32⟩
  | .hbm, ⟨72, _⟩ => ⟨S_, .f32⟩
  | .hbm, ⟨73, _⟩ => ⟨S4x128, .f32⟩
  | .hbm, ⟨74, _⟩ => ⟨S2048x1024, .bf16⟩
  | .hbm, ⟨75, _⟩ => ⟨S3x128, .f32⟩
  | .hbm, ⟨76, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Head.lean ====
abbrev S2048x2048 : Shape := ⟨2, ![2048, 2048]⟩
abbrev S8x8x128 : Shape := ⟨3, ![8, 8, 128]⟩
abbrev S1024x2048 : Shape := ⟨2, ![1024, 2048]⟩
abbrev S2048x512 : Shape := ⟨2, ![2048, 512]⟩
abbrev S1024x512 : Shape := ⟨2, ![1024, 512]⟩
abbrev S1x8x128 : Shape := ⟨3, ![1, 8, 128]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S512x2048 : Shape := ⟨2, ![512, 2048]⟩
abbrev S2048x1024 : Shape := ⟨2, ![2048, 1024]⟩
abbrev S8x1x1 : Shape := ⟨3, ![8, 1, 1]⟩
abbrev S8 : Shape := ⟨1, ![8]⟩
abbrev S_ : Shape := ⟨0, ![]⟩

abbrev nBuf : Space → Nat
  | .hbm => 13
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S8x8x128, .f32⟩
  | .hbm, ⟨7, _⟩ => ⟨S2048x2048, .f32⟩
  | .hbm, ⟨8, _⟩ => ⟨S2048x2048, .f32⟩
  | .hbm, ⟨9, _⟩ => ⟨S8x1x1, .f32⟩
  | .hbm, ⟨10, _⟩ => ⟨S8, .f32⟩
  | .hbm, ⟨11, _⟩ => ⟨S_, .f32⟩
  | .hbm, ⟨12, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1x8x128, .f32⟩
  | .local _ .vmem, ⟨13, _⟩ => ⟨S1x8x128, .f32⟩
  | .local _ .vmem, ⟨14, _⟩ => ⟨S1024x2048, .bf16⟩
  | .local _ .vmem, ⟨15, _⟩ => ⟨S1024x2048, .bf16⟩
  | .local _ .vmem, ⟨16, _⟩ => ⟨S512x2048, .bf16⟩
  | .local _ .vmem, ⟨17, _⟩ => ⟨S512x2048, .bf16⟩
  | .local _ .vmem, ⟨18, _⟩ => ⟨S1024x512, .f32⟩
  | .local _ .vmem, ⟨19, _⟩ => ⟨S1024x512, .f32⟩
  | .local _ .vmem, ⟨20, _⟩ => ⟨S2048x1024, .bf16⟩
  | .local _ .vmem, ⟨21, _⟩ => ⟨S2048x1024, .bf16⟩
  | .local _ .vmem, ⟨22, _⟩ => ⟨S2048x512, .bf16⟩
  | .local _ .vmem, ⟨23, _⟩ => ⟨S2048x512, .bf16⟩
  | .local _ .vmem, ⟨24, _⟩ => ⟨S1024x512, .f32⟩
  | .local _ .vmem, ⟨25, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== HeadRefIdeal.lean ====
abbrev S2048x2048 : Shape := ⟨2, ![2048, 2048]⟩
abbrev S_ : Shape := ⟨0, ![]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== InProj.lean ====
abbrev S2048x2048 : Shape := ⟨2, ![2048, 2048]⟩
abbrev S1x2048 : Shape := ⟨2, ![1, 2048]⟩
abbrev S6656x2048 : Shape := ⟨2, ![6656, 2048]⟩
abbrev S256x2048 : Shape := ⟨2, ![256, 2048]⟩
abbrev S256 : Shape := ⟨1, ![256]⟩
abbrev S256x1 : Shape := ⟨2, ![256, 1]⟩
abbrev S2048x6656 : Shape := ⟨2, ![2048, 6656]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S6656x2048, .bf16⟩
  | .hbm, ⟨3, _⟩ => ⟨S2048x2048, .bf16⟩
  | .hbm, ⟨4, _⟩ => ⟨S2048x6656, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .bf16⟩
  | .local _ .vmem, ⟨8, _⟩ => ⟨S512x2048, .bf16⟩
  | .local _ .vmem, ⟨9, _⟩ => ⟨S1024x512, .f32⟩
  | .local _ .vmem, ⟨10, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== InProjRefIdeal.lean ====
abbrev S2048x2048 : Shape := ⟨2, ![2048, 2048]⟩
abbrev S1x2048 : Shape := ⟨2, ![1, 2048]⟩
abbrev S6656x2048 : Shape := ⟨2, ![6656, 2048]⟩
abbrev S_ : Shape := ⟨0, ![]⟩
abbrev S2048 : Shape := ⟨1, ![2048]⟩
abbrev S2048x1 : Shape := ⟨2, ![2048, 1]⟩
abbrev S2048x6656 : Shape := ⟨2, ![2048, 6656]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S6656x2048, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S6656x2048, .f32⟩
  | .hbm, ⟨19, _⟩ => ⟨S2048x6656, .f32⟩
  | .hbm, ⟨20, _⟩ => ⟨S2048x6656, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKv.lean ====
abbrev S256x2048 : Shape := ⟨2, ![256, 2048]⟩
abbrev S1x2048 : Shape := ⟨2, ![1, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x1024, .f32⟩
  | .hbm, ⟨4, _⟩ => ⟨S256x1024, .f32⟩
  | .hbm, ⟨5, _⟩ => ⟨S2048x1024, .f32⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | .local _ .vmem, ⟨4, _⟩ => ⟨S256x2048, .f32⟩
  | .local _ .vmem, ⟨5, _⟩ => ⟨S1x2048, .f32⟩
  | .local _ .vmem, ⟨6, _⟩ => ⟨S2048x1024, .bf16⟩
  | .local _ .vmem, ⟨7, _⟩ => ⟨S256x1024, .f32⟩
  | .local _ .vmem, ⟨8, _⟩ => ⟨S2048x1024, .f32⟩
  | .local _ .vmem, ⟨9, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== MemKvRefIdeal.lean ====
abbrev S256x2048 : Shape := ⟨2, ![256, 2048]⟩
abbrev S1x2048 : Shape := ⟨2, ![1, 2048]⟩
abbrev S2048x1024 : Shape := ⟨2, ![2048, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x1024, .f32⟩
  | .hbm, ⟨4, _⟩ => ⟨S2048x1024, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x1024, .f32⟩
  | .hbm, ⟨21, _⟩ => ⟨S1024x2048, .f32⟩
  | .hbm, ⟨22, _⟩ => ⟨S2048x1024, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== AdamIn.lean ====
abbrev S2048x1608 : Shape := ⟨2, ![2048, 1608]⟩
abbrev S1608x2048 : Shape := ⟨2, ![1608, 2048]⟩
abbrev S536x1024 : Shape := ⟨2, ![536, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2048x1608, .f32⟩
  | .hbm, ⟨1, _⟩ => ⟨S1608x2048, .f32⟩
  | .hbm, ⟨2, _⟩ => ⟨S2048x1608, .f32⟩
  | .hbm, ⟨3, _⟩ => ⟨S2048x1608, .f32⟩
  | .hbm, ⟨4, _⟩ => ⟨S1608x2048, .f32⟩
  | .hbm, ⟨5, _⟩ => ⟨S1608x2048, .f32⟩
  | .hbm, ⟨6, _⟩ => ⟨S1608x2048, .f32⟩
  | .hbm, ⟨7, _⟩ => ⟨S1608x2048, .f32⟩
  | .hbm, ⟨8, _⟩ => ⟨S1608x2048, .f32⟩
  | .hbm, ⟨9, _⟩ => ⟨S1608x2048, .f32⟩
  | .hbm, ⟨10, _⟩ => ⟨S1608x2048, .f32⟩
  | .hbm, ⟨11, _⟩ => ⟨S2048x1608, .f32⟩
  | .hbm, ⟨12, _⟩ => ⟨S2048x1608, .f32⟩
  | .hbm, ⟨13, _⟩ => ⟨S2048x1608, .f32⟩
  | .hbm, ⟨14, _⟩ => ⟨S2048x1608, .f32⟩
  | .local _ .vmem, ⟨0, _⟩ => ⟨S536x1024, .f32⟩
  | .local _ .vmem, ⟨1, _⟩ => ⟨S536x1024, .f32⟩
  | .local _ .vmem, ⟨2, _⟩ => ⟨S536x1024, .f32⟩
  | .local _ .vmem, ⟨3, _⟩ => ⟨S536x1024, .f32⟩
  | .local _ .vmem, ⟨4, _⟩ => ⟨S536x1024, .f32⟩
  | .local _ .vmem, ⟨5, _⟩ => ⟨S536x1024, .f32⟩
  | .local _ .vmem, ⟨6, _⟩ => ⟨S536x1024, .f32⟩
  | .local _ .vmem, ⟨7, _⟩ => ⟨S536x1024, .f32⟩
  | .local _ .vmem, ⟨8, _⟩ => ⟨S536x1024, .f32⟩
  | .local _ .vmem, ⟨9, _⟩ => ⟨S536x1024, .f32⟩
  | .local _ .vmem, ⟨10, _⟩ => ⟨S536x1024, .f32⟩
  | .local _ .vmem, ⟨11, _⟩ => ⟨S536x1024, .f32⟩
  | .local _ .vmem, ⟨12, _⟩ => ⟨S536x1024, .f32⟩
  | .local _ .vmem, ⟨13, _⟩ => ⟨S536x1024, .f32⟩
  | .local _ .vmem, ⟨14, _⟩ => ⟨S536x1024, .f32⟩
  | .local _ .vmem, ⟨15, _⟩ => ⟨S536x1024, .f32⟩
  | _, _ => ⟨S2048x1608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S536x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S536x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S536x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S536x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S536x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2048x1608 : Shape := ⟨2, ![2048, 1608]⟩
abbrev S1608x2048 : Shape := ⟨2, ![1608, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1608, .f32⟩
  | .hbm, ⟨1, _⟩ => ⟨S1608x2048, .f32⟩
  | .hbm, ⟨2, _⟩ => ⟨S2048x1608, .f32⟩
  | .hbm, ⟨3, _⟩ => ⟨S2048x1608, .f32⟩
  | .hbm, ⟨4, _⟩ => ⟨S2048x1608, .f32⟩
  | .hbm, ⟨5, _⟩ => ⟨S_, .f32⟩
  | .hbm, ⟨6, _⟩ => ⟨S2048x1608, .f32⟩
  | .hbm, ⟨7, _⟩ => ⟨S2048x1608, .f32⟩
  | .hbm, ⟨8, _⟩ => ⟨S_, .f32⟩
  | .hbm, ⟨9, _⟩ => ⟨S2048x1608, .f32⟩
  | .hbm, ⟨10, _⟩ => ⟨S2048x1608, .f32⟩
  | .hbm, ⟨11, _⟩ => ⟨S2048x1608, .f32⟩
  | .hbm, ⟨12, _⟩ => ⟨S_, .f32⟩
  | .hbm, ⟨13, _⟩ => ⟨S2048x1608, .f32⟩
  | .hbm, ⟨14, _⟩ => ⟨S2048x1608, .f32⟩
  | .hbm, ⟨15, _⟩ => ⟨S2048x1608, .f32⟩
  | .hbm, ⟨16, _⟩ => ⟨S_, .f32⟩
  | .hbm, ⟨17, _⟩ => ⟨S2048x1608, .f32⟩
  | .hbm, ⟨18, _⟩ => ⟨S2048x1608, .f32⟩
  | .hbm, ⟨19, _⟩ => ⟨S2048x1608, .f32⟩
  | .hbm, ⟨20, _⟩ => ⟨S_, .f32⟩
  | .hbm, ⟨21, _⟩ => ⟨S2048x1608, .f32⟩
  | .hbm, ⟨22, _⟩ => ⟨S2048x1608, .f32⟩
  | .hbm, ⟨23, _⟩ => ⟨S_, .f32⟩
  | .hbm, ⟨24, _⟩ => ⟨S2048x1608, .f32⟩
  | .hbm, ⟨25, _⟩ => ⟨S2048x1608, .f32⟩
  | .hbm, ⟨26, _⟩ => ⟨S2048x1608, .f32⟩
  | .hbm, ⟨27, _⟩ => ⟨S_, .f32⟩
  | .hbm, ⟨28, _⟩ => ⟨S2048x1608, .f32⟩
  | .hbm, ⟨29, _⟩ => ⟨S2048x1608, .f32⟩
  | .hbm, ⟨30, _⟩ => ⟨S2048x1608, .f32⟩
  | .hbm, ⟨31, _⟩ => ⟨S_, .f32⟩
  | .hbm, ⟨32, _⟩ => ⟨S2048x1608, .f32⟩
  | .hbm, ⟨33, _⟩ => ⟨S2048x1608, .f32⟩
  | .hbm, ⟨34, _⟩ => ⟨S2048x1608, .f32⟩
  | .hbm, ⟨35, _⟩ => ⟨S_, .f32⟩
  | .hbm, ⟨36, _⟩ => ⟨S2048x1608, .f32⟩
  | .hbm, ⟨37, _⟩ => ⟨S2048x1608, .f32⟩
  | _, _ => ⟨S2048x1608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamOut.lean ====
abbrev S512x2048 : Shape := ⟨2, ![512, 2048]⟩
abbrev S512x1024 : Shape := ⟨2, ![512, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamKvRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S5x768 : Shape := ⟨2, ![5, 768]⟩

abbrev nBuf : Space → Nat
  | .hbm => 7
  | .vmem => 7
  | .smem => 0
  | _ => 0

abbrev bufTy : (tb : Table) → Fin (tcTables nBuf tb) → BufTy
  | .hbm, ⟨0, _⟩ => ⟨S5x768, .f32⟩
  | .hbm, ⟨1, _⟩ => ⟨S5x768, .f32⟩
  | .hbm, ⟨2, _⟩ => ⟨S5x768, .f32⟩
  | .hbm, ⟨3, _⟩ => ⟨S5x768, .f32⟩
  | .hbm, ⟨4, _⟩ => ⟨S5x768, .f32⟩
  | .hbm, ⟨5, _⟩ => ⟨S5x768, .f32⟩
  | .hbm, ⟨6, _⟩ => ⟨S5x768, .f32⟩
  | .local _ .vmem, ⟨0, _⟩ => ⟨S5x768, .f32⟩
  | .local _ .vmem, ⟨1, _⟩ => ⟨S5x768, .f32⟩
  | .local _ .vmem, ⟨2, _⟩ => ⟨S5x768, .f32⟩
  | .local _ .vmem, ⟨3, _⟩ => ⟨S5x768, .f32⟩
  | .local _ .vmem, ⟨4, _⟩ => ⟨S5x768, .f32⟩
  | .local _ .vmem, ⟨5, _⟩ => ⟨S5x768, .f32⟩
  | .local _ .vmem, ⟨6, _⟩ => ⟨S5x768, .f32⟩
  | _, _ => ⟨S5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S5x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S5x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S5x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamConvRefIdeal.lean ====
abbrev S5x768 : Shape := ⟨2, ![5, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5x768, .f32⟩
  | .hbm, ⟨1, _⟩ => ⟨S5x768, .f32⟩
  | .hbm, ⟨2, _⟩ => ⟨S5x768, .f32⟩
  | .hbm, ⟨3, _⟩ => ⟨S5x768, .f32⟩
  | .hbm, ⟨4, _⟩ => ⟨S_, .f32⟩
  | .hbm, ⟨5, _⟩ => ⟨S5x768, .f32⟩
  | .hbm, ⟨6, _⟩ => ⟨S5x768, .f32⟩
  | .hbm, ⟨7, _⟩ => ⟨S_, .f32⟩
  | .hbm, ⟨8, _⟩ => ⟨S5x768, .f32⟩
  | .hbm, ⟨9, _⟩ => ⟨S5x768, .f32⟩
  | .hbm, ⟨10, _⟩ => ⟨S5x768, .f32⟩
  | .hbm, ⟨11, _⟩ => ⟨S_, .f32⟩
  | .hbm, ⟨12, _⟩ => ⟨S5x768, .f32⟩
  | .hbm, ⟨13, _⟩ => ⟨S5x768, .f32⟩
  | .hbm, ⟨14, _⟩ => ⟨S5x768, .f32⟩
  | .hbm, ⟨15, _⟩ => ⟨S_, .f32⟩
  | .hbm, ⟨16, _⟩ => ⟨S5x768, .f32⟩
  | .hbm, ⟨17, _⟩ => ⟨S5x768, .f32⟩
  | .hbm, ⟨18, _⟩ => ⟨S5x768, .f32⟩
  | .hbm, ⟨19, _⟩ => ⟨S_, .f32⟩
  | .hbm, ⟨20, _⟩ => ⟨S5x768, .f32⟩
  | .hbm, ⟨21, _⟩ => ⟨S5x768, .f32⟩
  | .hbm, ⟨22, _⟩ => ⟨S_, .f32⟩
  | .hbm, ⟨23, _⟩ => ⟨S5x768, .f32⟩
  | .hbm, ⟨24, _⟩ => ⟨S5x768, .f32⟩
  | .hbm, ⟨25, _⟩ => ⟨S5x768, .f32⟩
  | .hbm, ⟨26, _⟩ => ⟨S_, .f32⟩
  | .hbm, ⟨27, _⟩ => ⟨S5x768, .f32⟩
  | .hbm, ⟨28, _⟩ => ⟨S5x768, .f32⟩
  | .hbm, ⟨29, _⟩ => ⟨S5x768, .f32⟩
  | .hbm, ⟨30, _⟩ => ⟨S_, .f32⟩
  | .hbm, ⟨31, _⟩ => ⟨S5x768, .f32⟩
  | .hbm, ⟨32, _⟩ => ⟨S5x768, .f32⟩
  | .hbm, ⟨33, _⟩ => ⟨S5x768, .f32⟩
  | .hbm, ⟨34, _⟩ => ⟨S_, .f32⟩
  | .hbm, ⟨35, _⟩ => ⟨S5x768, .f32⟩
  | .hbm, ⟨36, _⟩ => ⟨S5x768, .f32⟩
  | _, _ => ⟨S5x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S160x128 : Shape := ⟨2, ![160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S160x128, .f32⟩
  | .hbm, ⟨15, _⟩ => ⟨S_, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S_, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S160x128, .f32⟩
  | .hbm, ⟨36, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S4x1664x2048 : Shape := ⟨3, ![4, 1664, 2048]⟩
abbrev S4x1664x1024 : Shape := ⟨3, ![4, 1664, 1024]⟩
abbrev S3x1664x1024 : Shape := ⟨3, ![3, 1664, 1024]⟩
abbrev S_ : Shape := ⟨0, ![]⟩
abbrev S1 : Shape := ⟨1, ![1]⟩
abbrev S2 : Shape := ⟨1, ![2]⟩
abbrev S1664x1024 : Shape := ⟨2, ![1664, 1024]⟩
abbrev S1x416x1024 : Shape := ⟨3, ![1, 416, 1024]⟩
abbrev S3x416x1024 : Shape := ⟨3, ![3, 416, 1024]⟩
abbrev S416x1024 : Shape := ⟨2, ![416, 1024]⟩

abbrev nBuf : Space → Nat
  | .hbm => 9
  | .vmem => 8
  | .smem => 1
  | _ => 0

abbrev bufTy : (tb : Table) → Fin (tcTables nBuf tb) → BufTy
  | .hbm, ⟨0, _⟩ => ⟨S4x1664x2048, .f32⟩
  | .hbm, ⟨1, _⟩ => ⟨S4x1664x1024, .bf16⟩
  | .hbm, ⟨2, _⟩ => ⟨S3x1664x1024, .bf16⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2, .i32⟩
  | .hbm, ⟨8, _⟩ => ⟨S1664x1024, .f32⟩
  | .local _ .vmem, ⟨0, _⟩ => ⟨S1x416x1024, .f32⟩
  | .local _ .vmem, ⟨1, _⟩ => ⟨S1x416x1024, .f32⟩
  | .local _ .vmem, ⟨2, _⟩ => ⟨S1x416x1024, .bf16⟩
  | .local _ .vmem, ⟨3, _⟩ => ⟨S1x416x1024, .bf16⟩
  | .local _ .vmem, ⟨4, _⟩ => ⟨S3x416x1024, .bf16⟩
  | .local _ .vmem, ⟨5, _⟩ => ⟨S3x416x1024, .bf16⟩
  | .local _ .vmem, ⟨6, _⟩ => ⟨S416x1024, .f32⟩
  | .local _ .vmem, ⟨7, _⟩ => ⟨S416x1024, .f32⟩
  | .local _ .smem, ⟨0, _⟩ => ⟨S2, .i32⟩
  | _, _ => ⟨S4x1664x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v4 : Ref sig .tc := ⟨.hbm, 8, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  ![v0.toNat, arg0.toNat, v1.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SumInRefIdeal.lean ====
abbrev S4x1664x2048 : Shape := ⟨3, ![4, 1664, 2048]⟩
abbrev S4x1664x1024 : Shape := ⟨3, ![4, 1664, 1024]⟩
abbrev S3x1664x1024 : Shape := ⟨3, ![3, 1664, 1024]⟩
abbrev S1x1664x1024 : Shape := ⟨3, ![1, 1664, 1024]⟩
abbrev S1664x1024 : Shape := ⟨2, ![1664, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1664x2048, .f32⟩
  | .hbm, ⟨1, _⟩ => ⟨S4x1664x1024, .bf16⟩
  | .hbm, ⟨2, _⟩ => ⟨S3x1664x1024, .bf16⟩
  | .hbm, ⟨3, _⟩ => ⟨S1x1664x1024, .f32⟩
  | .hbm, ⟨4, _⟩ => ⟨S1664x1024, .f32⟩
  | .hbm, ⟨5, _⟩ => ⟨S1x1664x1024, .bf16⟩
  | .hbm, ⟨6, _⟩ => ⟨S1664x1024, .bf16⟩
  | .hbm, ⟨7, _⟩ => ⟨S1664x1024, .f32⟩
  | .hbm, ⟨8, _⟩ => ⟨S1664x1024, .f32⟩
  | .hbm, ⟨9, _⟩ => ⟨S3x1664x1024, .f32⟩
  | .hbm, ⟨10, _⟩ => ⟨S_, .f32⟩
  | .hbm, ⟨11, _⟩ => ⟨S1664x1024, .f32⟩
  | .hbm, ⟨12, _⟩ => ⟨S1664x1024, .f32⟩
  | _, _ => ⟨S4x1664x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== SumOut.lean ====
abbrev S4x512x2048 : Shape := ⟨3, ![4, 512, 2048]⟩
abbrev S4x512x1024 : Shape := ⟨3, ![4, 512, 1024]⟩
abbrev S3x512x1024 : Shape := ⟨3, ![3, 512, 1024]⟩
abbrev S_ : Shape := ⟨0, ![]⟩
abbrev S1 : Shape := ⟨1, ![1]⟩
abbrev S2 : Shape := ⟨1, ![2]⟩
abbrev S512x1024 : Shape := ⟨2, ![512, 1024]⟩
abbrev S1x512x1024 : Shape := ⟨3, ![1, 512, 1024]⟩

abbrev nBuf : Space → Nat
  | .hbm => 9
  | .vmem => 4
  | .smem => 1
  | _ => 0

abbrev bufTy : (tb : Table) → Fin (tcTables nBuf tb) → BufTy
  | .hbm, ⟨0, _⟩ => ⟨S4x512x2048, .f32⟩
  | .hbm, ⟨1, _⟩ => ⟨S4x512x1024, .bf16⟩
  | .hbm, ⟨2, _⟩ => ⟨S3x512x1024, .bf16⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2, .i32⟩
  | .hbm, ⟨8, _⟩ => ⟨S512x1024, .f32⟩
  | .local _ .vmem, ⟨0, _⟩ => ⟨S1x512x1024, .f32⟩
  | .local _ .vmem, ⟨1, _⟩ => ⟨S1x512x1024, .bf16⟩
  | .local _ .vmem, ⟨2, _⟩ => ⟨S3x512x1024, .bf16⟩
  | .local _ .vmem, ⟨3, _⟩ => ⟨S512x1024, .f32⟩
  | .local _ .smem, ⟨0, _⟩ => ⟨S2, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v4 : Ref sig .tc := ⟨.hbm, 8, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  ![v0.toNat, arg0.toNat, v1.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumOutRefIdeal.lean ====
abbrev S4x512x2048 : Shape := ⟨3, ![4, 512, 2048]⟩
abbrev S4x512x1024 : Shape := ⟨3, ![4, 512, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x1024, .bf16⟩
  | .hbm, ⟨2, _⟩ => ⟨S3x512x1024, .bf16⟩
  | .hbm, ⟨3, _⟩ => ⟨S1x512x1024, .f32⟩
  | .hbm, ⟨4, _⟩ => ⟨S512x1024, .f32⟩
  | .hbm, ⟨5, _⟩ => ⟨S1x512x1024, .bf16⟩
  | .hbm, ⟨6, _⟩ => ⟨S512x1024, .bf16⟩
  | .hbm, ⟨7, _⟩ => ⟨S512x1024, .f32⟩
  | .hbm, ⟨8, _⟩ => ⟨S512x1024, .f32⟩
  | .hbm, ⟨9, _⟩ => ⟨S3x512x1024, .f32⟩
  | .hbm, ⟨10, _⟩ => ⟨S_, .f32⟩
  | .hbm, ⟨11, _⟩ => ⟨S512x1024, .f32⟩
  | .hbm, ⟨12, _⟩ => ⟨S512x1024, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== SumKv.lean ====
abbrev S4x512x1024 : Shape := ⟨3, ![4, 512, 1024]⟩
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S512x512 : Shape := ⟨2, ![512, 512]⟩
abbrev S1x512x512 : Shape := ⟨3, ![1, 512, 512]⟩

abbrev nBuf : Space → Nat
  | .hbm => 9
  | .vmem => 4
  | .smem => 1
  | _ => 0

abbrev bufTy : (tb : Table) → Fin (tcTables nBuf tb) → BufTy
  | .hbm, ⟨0, _⟩ => ⟨S4x512x1024, .f32⟩
  | .hbm, ⟨1, _⟩ => ⟨S4x512x512, .bf16⟩
  | .hbm, ⟨2, _⟩ => ⟨S3x512x512, .bf16⟩
  | .hbm, ⟨3, _⟩ => ⟨S_, .i32⟩
  | .hbm, ⟨4, _⟩ => ⟨S_, .i32⟩
  | .hbm, ⟨5, _⟩ => ⟨S1, .i32⟩
  | .hbm, ⟨6, _⟩ => ⟨S1, .i32⟩
  | .hbm, ⟨7, _⟩ => ⟨S2, .i32⟩
  | .hbm, ⟨8, _⟩ => ⟨S512x512, .f32⟩
  | .local _ .vmem, ⟨0, _⟩ => ⟨S1x512x512, .f32⟩
  | .local _ .vmem, ⟨1, _⟩ => ⟨S1x512x512, .bf16⟩
  | .local _ .vmem, ⟨2, _⟩ => ⟨S3x512x512, .bf16⟩
  | .local _ .vmem, ⟨3, _⟩ => ⟨S512x512, .f32⟩
  | .local _ .smem, ⟨0, _⟩ => ⟨S2, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v4 : Ref sig .tc := ⟨.hbm, 8, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  ![v0.toNat, arg0.toNat, v1.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SumKvRefIdeal.lean ====
abbrev S4x512x1024 : Shape := ⟨3, ![4, 512, 1024]⟩
abbrev S4x512x512 : Shape := ⟨3, ![4, 512, 512]⟩
abbrev S3x512x512 : Shape := ⟨3, ![3, 512, 512]⟩
abbrev S1x512x512 : Shape := ⟨3, ![1, 512, 512]⟩
abbrev S512x512 : Shape := ⟨2, ![512, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x512, .bf16⟩
  | .hbm, ⟨2, _⟩ => ⟨S3x512x512, .bf16⟩
  | .hbm, ⟨3, _⟩ => ⟨S1x512x512, .f32⟩
  | .hbm, ⟨4, _⟩ => ⟨S512x512, .f32⟩
  | .hbm, ⟨5, _⟩ => ⟨S1x512x512, .bf16⟩
  | .hbm, ⟨6, _⟩ => ⟨S512x512, .bf16⟩
  | .hbm, ⟨7, _⟩ => ⟨S512x512, .f32⟩
  | .hbm, ⟨8, _⟩ => ⟨S512x512, .f32⟩
  | .hbm, ⟨9, _⟩ => ⟨S3x512x512, .f32⟩
  | .hbm, ⟨10, _⟩ => ⟨S_, .f32⟩
  | .hbm, ⟨11, _⟩ => ⟨S512x512, .f32⟩
  | .hbm, ⟨12, _⟩ => ⟨S512x512, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ConvFwd.lean ====
abbrev S2048x6656 : Shape := ⟨2, ![2048, 6656]⟩
abbrev S5x3072 : Shape := ⟨2, ![5, 3072]⟩
abbrev S3x2048x1024 : Shape := ⟨3, ![3, 2048, 1024]⟩
abbrev S2048x512 : Shape := ⟨2, ![2048, 512]⟩
abbrev S5x512 : Shape := ⟨2, ![5, 512]⟩
abbrev S1x2048x512 : Shape := ⟨3, ![1, 2048, 512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x6656, .f32⟩
  | .hbm, ⟨1, _⟩ => ⟨S5x3072, .f32⟩
  | .hbm, ⟨2, _⟩ => ⟨S3x2048x1024, .f32⟩
  | .local _ .vmem, ⟨0, _⟩ => ⟨S2048x512, .f32⟩
  | .local _ .vmem, ⟨1, _⟩ => ⟨S2048x512, .f32⟩
  | .local _ .vmem, ⟨2, _⟩ => ⟨S5x512, .f32⟩
  | .local _ .vmem, ⟨3, _⟩ => ⟨S5x512, .f32⟩
  | .local _ .vmem, ⟨4, _⟩ => ⟨S1x2048x512, .f32⟩
  | .local _ .vmem, ⟨5, _⟩ => ⟨S1x2048x512, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S2048x6656 : Shape := ⟨2, ![2048, 6656]⟩
abbrev S5x3072 : Shape := ⟨2, ![5, 3072]⟩
abbrev S2048x3072 : Shape := ⟨2, ![2048, 3072]⟩
abbrev S_ : Shape := ⟨0, ![]⟩
abbrev S2x3072 : Shape := ⟨2, ![2, 3072]⟩
abbrev S2052x3072 : Shape := ⟨2, ![2052, 3072]⟩
abbrev S1x3072 : Shape := ⟨2, ![1, 3072]⟩
abbrev S3072 : Shape := ⟨1, ![3072]⟩
abbrev S2048x1024 : Shape := ⟨2, ![2048, 1024]⟩
abbrev S1x2048x1024 : Shape := ⟨3, ![1, 2048, 1024]⟩
abbrev S3x2048x1024 : Shape := ⟨3, ![3, 2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S5x3072, .f32⟩
  | .hbm, ⟨2, _⟩ => ⟨S2048x3072, .f32⟩
  | .hbm, ⟨3, _⟩ => ⟨S_, .f32⟩
  | .hbm, ⟨4, _⟩ => ⟨S2x3072, .f32⟩
  | .hbm, ⟨5, _⟩ => ⟨S2052x3072, .f32⟩
  | .hbm, ⟨6, _⟩ => ⟨S1x3072, .f32⟩
  | .hbm, ⟨7, _⟩ => ⟨S3072, .f32⟩
  | .hbm, ⟨8, _⟩ => ⟨S2048x3072, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S1x3072, .f32⟩
  | .hbm, ⟨16, _⟩ => ⟨S3072, .f32⟩
  | .hbm, ⟨17, _⟩ => ⟨S2048x3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S3072, .f32⟩
  | .hbm, ⟨24, _⟩ => ⟨S2048x3072, .f32⟩
  | .hbm, ⟨25, _⟩ => ⟨S1x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S1x3072, .f32⟩
  | .hbm, ⟨30, _⟩ => ⟨S3072, .f32⟩
  | .hbm, ⟨31, _⟩ => ⟨S2048x3072, .f32⟩
  | .hbm, ⟨32, _⟩ => ⟨S1x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S1x3072, .f32⟩
  | .hbm, ⟨37, _⟩ => ⟨S3072, .f32⟩
  | .hbm, ⟨38, _⟩ => ⟨S2048x3072, .f32⟩
  | .hbm, ⟨39, _⟩ => ⟨S1x3072, .f32⟩
  | .hbm, ⟨40, _⟩ => ⟨S2048x3072, .f32⟩
  | .hbm, ⟨41, _⟩ => ⟨S2048x3072, .f32⟩
  | .hbm, ⟨42, _⟩ => ⟨S2048x3072, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S3x2048x1024, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩

abbrev nD : Nat := 1
abbrev τ : Topo := Topo.v7x

variable {F : FTy → Type} [FloatOps F]
-- ==== AttnCFwd.lean ====
abbrev S2048x6656 : Shape := ⟨2, ![2048, 6656]⟩
abbrev S256x1024 : Shape := ⟨2, ![256, 1024]⟩
abbrev S1x128 : Shape := ⟨2, ![1, 128]⟩
abbrev S2048x2048 : Shape := ⟨2, ![2048, 2048]⟩
abbrev S_ : Shape := ⟨0, ![]⟩
abbrev S6x128 : Shape := ⟨2, ![6, 128]⟩
abbrev S8x128 : Shape := ⟨2, ![8, 128]⟩
abbrev S256x512 : Shape := ⟨2, ![256, 512]⟩
abbrev S256x128 : Shape := ⟨2, ![256, 128]⟩
abbrev S1x256x128 : Shape := ⟨3, ![1, 256, 128]⟩
abbrev S4x256x128 : Shape := ⟨3, ![4, 256, 128]⟩
abbrev S4x256 : Shape := ⟨2, ![4, 256]⟩
abbrev S4x256x1 : Shape := ⟨3, ![4, 256, 1]⟩
abbrev S1x1x128 : Shape := ⟨3, ![1, 1, 128]⟩
abbrev S4x256x256 : Shape := ⟨3, ![4, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S2048x6656, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x2048, .bf16⟩
  | .hbm, ⟨5, _⟩ => ⟨S_, .f32⟩
  | .hbm, ⟨6, _⟩ => ⟨S6x128, .f32⟩
  | .hbm, ⟨7, _⟩ => ⟨S8x128, .f32⟩
  | .hbm, ⟨8, _⟩ => ⟨S2048x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S8x128, .f32⟩
  | .local _ .vmem, ⟨6, _⟩ => ⟨S256x512, .bf16⟩
  | .local _ .vmem, ⟨7, _⟩ => ⟨S256x512, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnCFwdRefIdeal.lean ====
abbrev S2048x6656 : Shape := ⟨2, ![2048, 6656]⟩
abbrev S256x1024 : Shape := ⟨2, ![256, 1024]⟩
abbrev S1x128 : Shape := ⟨2, ![1, 128]⟩
abbrev S2048x2048 : Shape := ⟨2, ![2048, 2048]⟩
abbrev S256x512 : Shape := ⟨2, ![256, 512]⟩
abbrev S256x4x128 : Shape := ⟨3, ![256, 4, 128]⟩
abbrev S_ : Shape := ⟨0, ![]⟩
abbrev S256x4 : Shape := ⟨2, ![256, 4]⟩
abbrev S256x4x1 : Shape := ⟨3, ![256, 4, 1]⟩
abbrev S1x1x128 : Shape := ⟨3, ![1, 1, 128]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S2048x1536 : Shape := ⟨2, ![2048, 1536]⟩

abbrev nBuf : Space → Nat
  | .hbm => 78
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x2048, .bf16⟩
  | .hbm, ⟨5, _⟩ => ⟨S256x512, .f32⟩
  | .hbm, ⟨6, _⟩ => ⟨S256x512, .f32⟩
  | .hbm, ⟨7, _⟩ => ⟨S256x4x128, .f32⟩
  | .hbm, ⟨8, _⟩ => ⟨S256x4x128, .f32⟩
  | .hbm, ⟨9, _⟩ => ⟨S_, .f32⟩
  | .hbm, ⟨10, _⟩ => ⟨S256x4, .f32⟩
  | .hbm, ⟨11, _⟩ => ⟨S256x4x1, .f32⟩
  | .hbm, ⟨12, _⟩ => ⟨S_, .f32⟩
  | .hbm, ⟨13, _⟩ => ⟨S256x4x1, .f32⟩
  | .hbm, ⟨14, _⟩ => ⟨S256x4x1, .f32⟩
  | .hbm, ⟨15, _⟩ => ⟨S_, .f32⟩
  | .hbm, ⟨16, _⟩ => ⟨S256x4x1, .f32⟩
  | .hbm, ⟨17, _⟩ => ⟨S256x4x1, .f32⟩
  | .hbm, ⟨18, _⟩ => ⟨S256x4x1, .f32⟩
  | .hbm, ⟨19, _⟩ => ⟨S256x4x128, .f32⟩
  | .hbm, ⟨20, _⟩ => ⟨S256x4x128, .f32⟩
  | .hbm, ⟨21, _⟩ => ⟨S1x1x128, .f32⟩
  | .hbm, ⟨22, _⟩ => ⟨S256x4x128, .f32⟩
  | .hbm, ⟨23, _⟩ => ⟨S256x4x128, .f32⟩
  | .hbm, ⟨24, _⟩ => ⟨S2048x512, .f32⟩
  | .hbm, ⟨25, _⟩ => ⟨S2048x4x128, .f32⟩
  | .hbm, ⟨26, _⟩ => ⟨S2048x4x128, .f32⟩
  | .hbm, ⟨27, _⟩ => ⟨S_, .f32⟩
  | .hbm, ⟨28, _⟩ => ⟨S2048x4, .f32⟩
  | .hbm, ⟨29, _⟩ => ⟨S2048x4x1, .f32⟩
  | .hbm, ⟨30, _⟩ => ⟨S_, .f32⟩
  | .hbm, ⟨31, _⟩ => ⟨S2048x4x1, .f32⟩
  | .hbm, ⟨32, _⟩ => ⟨S2048x4x1, .f32⟩
  | .hbm, ⟨33, _⟩ => ⟨S_, .f32⟩
  | .hbm, ⟨34, _⟩ => ⟨S2048x4x1, .f32⟩
  | .hbm, ⟨35, _⟩ => ⟨S2048x4x1, .f32⟩
  | .hbm, ⟨36, _⟩ => ⟨S2048x4x1, .f32⟩
  | .hbm, ⟨37, _⟩ => ⟨S2048x4x128, .f32⟩
  | .hbm, ⟨38, _⟩ => ⟨S2048x4x128, .f32⟩
  | .hbm, ⟨39, _⟩ => ⟨S1x1x128, .f32⟩
  | .hbm, ⟨40, _⟩ => ⟨S2048x4x128, .f32⟩
  | .hbm, ⟨41, _⟩ => ⟨S2048x4x128, .f32⟩
  | .hbm, ⟨42, _⟩ => ⟨S256x4x128, .f32⟩
  | .hbm, ⟨43, _⟩ => ⟨S4x2048x256, .f32⟩
  | .hbm, ⟨44, _⟩ => ⟨S_, .f32⟩
  | .hbm, ⟨45, _⟩ => ⟨S4x2048x256, .f32⟩
  | .hbm, ⟨46, _⟩ => ⟨S4x2048x256, .f32⟩
  | .hbm, ⟨47, _⟩ => ⟨S_, .f32⟩
  | .hbm, ⟨48, _⟩ => ⟨S4x2048, .f32⟩
  | .hbm, ⟨49, _⟩ => ⟨S_, .f32⟩
  | .hbm, ⟨50, _⟩ => ⟨S4x2048, .f32⟩
  | .hbm, ⟨51, _⟩ => ⟨S4x2048, .f32⟩
  | .hbm, ⟨52, _⟩ => ⟨S4x2048x1, .f32⟩
  | .hbm, ⟨53, _⟩ => ⟨S4x2048x256, .f32⟩
  | .hbm, ⟨54, _⟩ => ⟨S4x2048x256, .f32⟩
  | .hbm, ⟨55, _⟩ => ⟨S4x2048x256, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x256, .f32⟩
  | .hbm, ⟨60, _⟩ => ⟨S4x2048x256, .f32⟩
  | .hbm, ⟨61, _⟩ => ⟨S4x128x2048, .f32⟩
  | .hbm, ⟨62, _⟩ => ⟨S2048x4x128, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S_, .f32⟩
  | .hbm, ⟨68, _⟩ => ⟨S2048x512, .f32⟩
  | .hbm, ⟨69, _⟩ => ⟨S2048x512, .f32⟩
  | .hbm, ⟨70, _⟩ => ⟨S_, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x1536, .bf16⟩
  | .hbm, ⟨76, _⟩ => ⟨S2048x512, .bf16⟩
  | .hbm, ⟨77, _⟩ => ⟨S2048x2048, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== PairIn.lean ====
abbrev S4x1664x2048 : Shape := ⟨3, ![4, 1664, 2048]⟩
abbrev S4x1664x1024 : Shape := ⟨3, ![4, 1664, 1024]⟩
abbrev S_ : Shape := ⟨0, ![]⟩
abbrev S1 : Shape := ⟨1, ![1]⟩
abbrev S1x416x1024 : Shape := ⟨3, ![1, 416, 1024]⟩
abbrev S416x1024 : Shape := ⟨2, ![416, 1024]⟩

abbrev nBuf : Space → Nat
  | .hbm => 5
  | .vmem => 6
  | .smem => 1
  | _ => 0

abbrev bufTy : (tb : Table) → Fin (tcTables nBuf tb) → BufTy
  | .hbm, ⟨0, _⟩ => ⟨S4x1664x2048, .f32⟩
  | .hbm, ⟨1, _⟩ => ⟨S4x1664x1024, .bf16⟩
  | .hbm, ⟨2, _⟩ => ⟨S_, .i32⟩
  | .hbm, ⟨3, _⟩ => ⟨S1, .i32⟩
  | .hbm, ⟨4, _⟩ => ⟨S4x1664x1024, .bf16⟩
  | .local _ .vmem, ⟨0, _⟩ => ⟨S1x416x1024, .f32⟩
  | .local _ .vmem, ⟨1, _⟩ => ⟨S1x416x1024, .f32⟩
  | .local _ .vmem, ⟨2, _⟩ => ⟨S1x416x1024, .bf16⟩
  | .local _ .vmem, ⟨3, _⟩ => ⟨S1x416x1024, .bf16⟩
  | .local _ .vmem, ⟨4, _⟩ => ⟨S1x416x1024, .bf16⟩
  | .local _ .vmem, ⟨5, _⟩ => ⟨S1x416x1024, .bf16⟩
  | .local _ .smem, ⟨0, _⟩ => ⟨S1, .i32⟩
  | _, _ => ⟨S4x1664x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInRefIdeal.lean ====
abbrev S4x1664x2048 : Shape := ⟨3, ![4, 1664, 2048]⟩
abbrev S4x1664x1024 : Shape := ⟨3, ![4, 1664, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x1664x2048, .f32⟩
  | .hbm, ⟨1, _⟩ => ⟨S4x1664x1024, .bf16⟩
  | .hbm, ⟨2, _⟩ => ⟨S4x1664x1024, .f32⟩
  | .hbm, ⟨3, _⟩ => ⟨S4x1664x1024, .f32⟩
  | .hbm, ⟨4, _⟩ => ⟨S4x1664x1024, .f32⟩
  | .hbm, ⟨5, _⟩ => ⟨S4x1664x1024, .bf16⟩
  | _, _ => ⟨S4x1664x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairOut.lean ====
abbrev S4x512x2048 : Shape := ⟨3, ![4, 512, 2048]⟩
abbrev S4x512x1024 : Shape := ⟨3, ![4, 512, 1024]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 5
  | .vmem => 6
  | .smem => 1
  | _ => 0

abbrev bufTy : (tb : Table) → Fin (tcTables nBuf tb) → BufTy
  | .hbm, ⟨0, _⟩ => ⟨S4x512x2048, .f32⟩
  | .hbm, ⟨1, _⟩ => ⟨S4x512x1024, .bf16⟩
  | .hbm, ⟨2, _⟩ => ⟨S_, .i32⟩
  | .hbm, ⟨3, _⟩ => ⟨S1, .i32⟩
  | .hbm, ⟨4, _⟩ => ⟨S4x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRefIdeal.lean ====
abbrev S4x512x2048 : Shape := ⟨3, ![4, 512, 2048]⟩
abbrev S4x512x1024 : Shape := ⟨3, ![4, 512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x1024, .bf16⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .bf16⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairKv.lean ====
abbrev S4x512x1024 : Shape := ⟨3, ![4, 512, 1024]⟩
abbrev S4x512x512 : Shape := ⟨3, ![4, 512, 512]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 5
  | .vmem => 6
  | .smem => 1
  | _ => 0

abbrev bufTy : (tb : Table) → Fin (tcTables nBuf tb) → BufTy
  | .hbm, ⟨0, _⟩ => ⟨S4x512x1024, .f32⟩
  | .hbm, ⟨1, _⟩ => ⟨S4x512x512, .bf16⟩
  | .hbm, ⟨2, _⟩ => ⟨S_, .i32⟩
  | .hbm, ⟨3, _⟩ => ⟨S1, .i32⟩
  | .hbm, ⟨4, _⟩ => ⟨S4x512x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .smem, ⟨0, _⟩ => ⟨S1, .i32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v2 : Ref sig .tc := ⟨.hbm, 4, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairKvRefIdeal.lean ====
abbrev S4x512x1024 : Shape := ⟨3, ![4, 512, 1024]⟩
abbrev S4x512x512 : Shape := ⟨3, ![4, 512, 512]⟩

abbrev nBuf : Space → Nat
  | .hbm => 6
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x512, .bf16⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .bf16⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGrad.lean ====
abbrev S2048x3072 : Shape := ⟨2, ![2048, 3072]⟩
abbrev S2048x1024 : Shape := ⟨2, ![2048, 1024]⟩
abbrev S2048x128 : Shape := ⟨2, ![2048, 128]⟩
abbrev S2048x512 : Shape := ⟨2, ![2048, 512]⟩
abbrev S2048x6656 : Shape := ⟨2, ![2048, 6656]⟩
abbrev S256x3072 : Shape := ⟨2, ![256, 3072]⟩
abbrev S256x1024 : Shape := ⟨2, ![256, 1024]⟩
abbrev S256x128 : Shape := ⟨2, ![256, 128]⟩
abbrev S256x512 : Shape := ⟨2, ![256, 512]⟩
abbrev S256x6656 : Shape := ⟨2, ![256, 6656]⟩
abbrev S256x32 : Shape := ⟨2, ![256, 32]⟩
abbrev S256x6432 : Shape := ⟨2, ![256, 6432]⟩
abbrev S256x56 : Shape := ⟨2, ![256, 56]⟩
abbrev S256x1608 : Shape := ⟨2, ![256, 1608]⟩

abbrev nBuf : Space → Nat
  | .hbm => 10
  | .vmem => 20
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x128, .f32⟩
  | .hbm, ⟨3, _⟩ => ⟨S2048x512, .bf16⟩
  | .hbm, ⟨4, _⟩ => ⟨S2048x128, .f32⟩
  | .hbm, ⟨5, _⟩ => ⟨S2048x128, .f32⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S2048x6656, .bf16⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x6656, .bf16⟩
  | .local _ .vmem, ⟨19, _⟩ => ⟨S256x6656, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x6656 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjGradRefIdeal.lean ====
abbrev S2048x3072 : Shape := ⟨2, ![2048, 3072]⟩
abbrev S2048x1024 : Shape := ⟨2, ![2048, 1024]⟩
abbrev S2048x128 : Shape := ⟨2, ![2048, 128]⟩
abbrev S2048x512 : Shape := ⟨2, ![2048, 512]⟩
abbrev S2048x32 : Shape := ⟨2, ![2048, 32]⟩
abbrev S2048x6432 : Shape := ⟨2, ![2048, 6432]⟩
abbrev S2048x4x1608 : Shape := ⟨3, ![2048, 4, 1608]⟩
abbrev S_ : Shape := ⟨0, ![]⟩
abbrev S2048x4x56 : Shape := ⟨3, ![2048, 4, 56]⟩
abbrev S2048x4x1664 : Shape := ⟨3, ![2048, 4, 1664]⟩
abbrev S2048x6656 : Shape := ⟨2, ![2048, 6656]⟩

abbrev nBuf : Space → Nat
  | .hbm => 19
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x128, .f32⟩
  | .hbm, ⟨3, _⟩ => ⟨S2048x512, .bf16⟩
  | .hbm, ⟨4, _⟩ => ⟨S2048x128, .f32⟩
  | .hbm, ⟨5, _⟩ => ⟨S2048x128, .f32⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S2048x32, .f32⟩
  | .hbm, ⟨10, _⟩ => ⟨S2048x32, .bf16⟩
  | .hbm, ⟨11, _⟩ => ⟨S2048x128, .bf16⟩
  | .hbm, ⟨12, _⟩ => ⟨S2048x128, .bf16⟩
  | .hbm, ⟨13, _⟩ => ⟨S2048x6432, .bf16⟩
  | .hbm, ⟨14, _⟩ => ⟨S2048x4x1608, .bf16⟩
  | .hbm, ⟨15, _⟩ => ⟨S_, .bf16⟩
  | .hbm, ⟨16, _⟩ => ⟨S2048x4x56, .bf16⟩
  | .hbm, ⟨17, _⟩ => ⟨S2048x4x1664, .bf16⟩
  | .hbm, ⟨18, _⟩ => ⟨S2048x6656, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== AttnCGrad.lean ====
abbrev S2048x6656 : Shape := ⟨2, ![2048, 6656]⟩
abbrev S256x1024 : Shape := ⟨2, ![256, 1024]⟩
abbrev S1x128 : Shape := ⟨2, ![1, 128]⟩
abbrev S2048x2048 : Shape := ⟨2, ![2048, 2048]⟩
abbrev S_ : Shape := ⟨0, ![]⟩
abbrev S6x128 : Shape := ⟨2, ![6, 128]⟩
abbrev S8x128 : Shape := ⟨2, ![8, 128]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩
abbrev S4x256x128 : Shape := ⟨3, ![4, 256, 128]⟩
abbrev S4x256 : Shape := ⟨2, ![4, 256]⟩
abbrev S4x256x1 : Shape := ⟨3, ![4, 256, 1]⟩
abbrev S1x1x128 : Shape := ⟨3, ![1, 1, 128]⟩
abbrev S4x256x256 : Shape := ⟨3, ![4, 256, 256]⟩
abbrev S3x256x128 : Shape := ⟨3, ![3, 256, 128]⟩
abbrev S2x256x128 : Shape := ⟨3, ![2, 256, 128]⟩
abbrev S128 : Shape := ⟨1, ![128]⟩
abbrev S2x128 : Shape := ⟨2, ![2, 128]⟩
abbrev S7x128 : Shape := ⟨2, ![7, 128]⟩
abbrev S256x896 : Shape := ⟨2, ![256, 896]⟩
abbrev S256x768 : Shape := ⟨2, ![256, 768]⟩
abbrev S256x640 : Shape := ⟨2, ![256, 640]⟩
abbrev S256x256 : Shape := ⟨2, ![256, 256]⟩
abbrev S256x384 : Shape := ⟨2, ![256, 384]⟩

abbrev nBuf : Space → Nat
  | .hbm => 12
  | .vmem => 14
  | .smem => 0
  | _ => 0

abbrev bufTy : (tb : Table) → Fin (tcTables nBuf tb) → BufTy
  | .hbm, ⟨0, _⟩ => ⟨S2048x6656, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x2048, .f32⟩
  | .hbm, ⟨5, _⟩ => ⟨S_, .f32⟩
  | .hbm, ⟨6, _⟩ => ⟨S6x128, .f32⟩
  | .hbm, ⟨7, _⟩ => ⟨S8x128, .f32⟩
  | .hbm, ⟨8, _⟩ => ⟨S2048x512, .bf16⟩
  | .hbm, ⟨9, _⟩ => ⟨S2048x512, .bf16⟩
  | .hbm, ⟨10, _⟩ => ⟨S256x1024, .f32⟩
  | .hbm, ⟨11, _⟩ => ⟨S8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S8x128, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .f32⟩
  | .local _ .vmem, ⟨13, _⟩ => ⟨S8x128, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnBFwd.lean ====
abbrev S2048x6656 : Shape := ⟨2, ![2048, 6656]⟩
abbrev S2048x64 : Shape := ⟨2, ![2048, 64]⟩
abbrev S8x128 : Shape := ⟨2, ![8, 128]⟩
abbrev S2048x2048 : Shape := ⟨2, ![2048, 2048]⟩
abbrev S128x512 : Shape := ⟨2, ![128, 512]⟩
abbrev S128x128 : Shape := ⟨2, ![128, 128]⟩
abbrev S128x64 : Shape := ⟨2, ![128, 64]⟩
abbrev S384x128 : Shape := ⟨2, ![384, 128]⟩
abbrev S384x64 : Shape := ⟨2, ![384, 64]⟩
abbrev S512x384 : Shape := ⟨2, ![512, 384]⟩
abbrev S1x128 : Shape := ⟨2, ![1, 128]⟩
abbrev S1x64 : Shape := ⟨2, ![1, 64]⟩
abbrev S512x64 : Shape := ⟨2, ![512, 64]⟩
abbrev S1 : Shape := ⟨1, ![1]⟩
abbrev S1x1 : Shape := ⟨2, ![1, 1]⟩
abbrev S128x1 : Shape := ⟨2, ![128, 1]⟩
abbrev S512x1 : Shape := ⟨2, ![512, 1]⟩
abbrev S1x512x64 : Shape := ⟨3, ![1, 512, 64]⟩
abbrev S2x512x64 : Shape := ⟨3, ![2, 512, 64]⟩
abbrev S1x384x64 : Shape := ⟨3, ![1, 384, 64]⟩
abbrev S2x384x64 : Shape := ⟨3, ![2, 384, 64]⟩
abbrev S1x512x1 : Shape := ⟨3, ![1, 512, 1]⟩
abbrev S2x512x1 : Shape := ⟨3, ![2, 512, 1]⟩
abbrev S2x384 : Shape := ⟨2, ![2, 384]⟩
abbrev S2x384x1 : Shape := ⟨3, ![2, 384, 1]⟩
abbrev S1x1x64 : Shape := ⟨3, ![1, 1, 64]⟩
abbrev S2x384x32 : Shape := ⟨3, ![2, 384, 32]⟩
abbrev S2x512 : Shape := ⟨2, ![2, 512]⟩
abbrev S2x512x32 : Shape := ⟨3, ![2, 512, 32]⟩
abbrev S2x512x384 : Shape := ⟨3, ![2, 512, 384]⟩
abbrev S1x512x384 : Shape := ⟨3, ![1, 512, 384]⟩
abbrev S1x128x64 : Shape := ⟨3, ![1, 128, 64]⟩

abbrev nBuf : Space → Nat
  | .hbm => 6
  | .vmem => 35
  | .smem => 0
  | _ => 0

abbrev bufTy : (tb : Table) → Fin (tcTables nBuf tb) → BufTy
  | .hbm, ⟨0, _⟩ => ⟨S2048x6656, .f32⟩
  | .hbm, ⟨1, _⟩ => ⟨S2048x64, .f32⟩
  | .hbm, ⟨2, _⟩ => ⟨S2048x64, .f32⟩
  | .hbm, ⟨3, _⟩ => ⟨S8x128, .f32⟩
  | .hbm, ⟨4, _⟩ => ⟨S2048x2048, .bf16⟩
  | .hbm, ⟨5, _⟩ => ⟨S2048x2048, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x64, .f32⟩
  | .local _ .vmem, ⟨17, _⟩ => ⟨S128x64, .f32⟩
  | .local _ .vmem, ⟨18, _⟩ => ⟨S128x64, .f32⟩
  | .local _ .vmem, ⟨19, _⟩ => ⟨S128x64, .f32⟩
  | .local _ .vmem, ⟨20, _⟩ => ⟨S128x64, .f32⟩
  | .local _ .vmem, ⟨21, _⟩ => ⟨S128x64, .f32⟩
  | .local _ .vmem, ⟨22, _⟩ => ⟨S128x64, .f32⟩
  | .local _ .vmem, ⟨23, _⟩ => ⟨S128x64, .f32⟩
  | .local _ .vmem, ⟨24, _⟩ => ⟨S128x64, .f32⟩
  | .local _ .vmem, ⟨25, _⟩ => ⟨S128x64, .f32⟩
  | .local _ .vmem, ⟨26, _⟩ => ⟨S128x64, .f32⟩
  | .local _ .vmem, ⟨27, _⟩ => ⟨S128x64, .f32⟩
  | .local _ .vmem, ⟨28, _⟩ => ⟨S128x64, .f32⟩
  | .local _ .vmem, ⟨29, _⟩ => ⟨S128x64, .f32⟩
  | .local _ .vmem, ⟨30, _⟩ => ⟨S128x64, .f32⟩
  | .local _ .vmem, ⟨31, _⟩ => ⟨S128x64, .f32⟩
  | .local _ .vmem, ⟨32, _⟩ => ⟨S8x128, .f32⟩
  | .local _ .vmem, ⟨33, _⟩ => ⟨S128x512, .bf16⟩
  | .local _ .vmem, ⟨34, _⟩ => ⟨S128x512, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg17_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let c0_i32_0 : BitVec 32 := 0#32
  ![v1.toNat, c48_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c48_i32 : BitVec 32 := 48#32
  let c0_i32 : BitVec 32 := 0#32
  ![v1.toNat, c48_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c49_i32 : BitVec 32 := 49#32
  let c0_i32_0 : BitVec 32 := 0#32
  ![v1.toNat, c49_i32.toNat]

def cc0_transform_6 (i : grid0.Coords) : Fin 2 → Nat :=
  let arg0 : BitVec 32 := BitVec.ofNat 32 (i 0).val
  let c49_i32 : BitVec 32 := 49#32
  let c0_i32 : BitVec 32 := 0#32
  ![arg0.toNat, c49_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c49_i32 : BitVec 32 := 49#32
  let c0_i32 : BitVec 32 := 0#32
  ![v1.toNat, c49_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Proof.ConvShift.lean ====
/- Reading the convolution gradient's shifted copies at an index. -/
module

public import proofs.«01_k».proof.Proof.Gen.ConvGradIdeal.Value
public import Idealize.ShloMosaic.Lib.Pointwise
public import Idealize.ShloMosaic.Lib.KernelVsHost
public import Idealize.ShloMosaic.Lib.Tactic

@[expose] public section

set_option maxRecDepth 16384

noncomputable section

namespace Cert.ConvGradIdeal.Hand

open Cert.ConvGradIdeal Cert.ConvGradIdeal.Gen Idealize.ShloMosaic Idealize.ShloMosaic.TcCoe Idealize.SL.Sem

/-- A column of 2048 rows read with two rows of zeros above and below. -/
def padRead (f : Fin 2048 → EReal) (k : ℕ) : EReal :=
  if h : 2 ≤ k ∧ k < 2050 then f ⟨k - 2, by omega⟩ else 0

/-- The kernel's shifted copy: a rotation along the rows, zero where the row it came from is outside the array. -/
def shifted (n d : BitVec 32) (x : FVec Ideal S2048x128 .f32) : FVec Ideal S2048x128 .f32 :=
  select (andi (cmpi .sge (addi (iota .tc S2048x128 32 [0] iota_S2048x128_d0_w32) (broadcast S2048x128 d)) (broadcast S2048x128 0#32))
      (cmpi .slt (addi (iota .tc S2048x128 32 [0] iota_S2048x128_d0_w32) (broadcast S2048x128 d)) (broadcast S2048x128 2048#32)))
    (dynamicRotate 0 n none x rotates_S2048x128_d0) (broadcast S2048x128 (Scalar.ofBits .f32 0x00000000#32))

theorem mask_word (r : Fin 2048) (d : BitVec 32) (e : ℕ) (he : e ≤ 4) (hd : d = BitVec.ofInt 32 ((e : Int) - 2)) :
    (IntOp.andi (IntOp.cmpi CmpIPredicate.sge (IntOp.addi (BitVec.ofNat 32 r.val) d) 0#32)
        (IntOp.cmpi CmpIPredicate.slt (IntOp.addi (BitVec.ofNat 32 r.val) d) 2048#32))
      = if 2 ≤ r.val + e ∧ r.val + e < 2050 then 1#1 else 0#1 := by
  subst hd
  have hr := r.isLt
  have hv : (IntOp.addi (BitVec.ofNat 32 r.val) (BitVec.ofInt 32 ((e : Int) - 2))).toInt = (r.val : Int) + e - 2 := by
    unfold IntOp.addi
    rw [BitVec.toInt_add, BitVec.toInt_ofInt, BitVec.toInt_ofNat']
    simp only [Int.bmod_def]
    omega
  have h1 : IntOp.cmpi CmpIPredicate.sge (IntOp.addi (BitVec.ofNat 32 r.val) (BitVec.ofInt 32 ((e : Int) - 2))) 0#32
      = if 2 ≤ r.val + e then 1#1 else 0#1 := by
    simp only [IntOp.cmpi, BitVec.sle_eq_decide, hv]
    by_cases h : 2 ≤ r.val + e
    · rw [if_pos h, decide_eq_true (by simp; omega)]; rfl
    · rw [if_neg h, decide_eq_false (by simp; omega)]; rfl
  have h2 : IntOp.cmpi CmpIPredicate.slt (IntOp.addi (BitVec.ofNat 32 r.val) (BitVec.ofInt 32 ((e : Int) - 2))) 2048#32
      = if r.val + e < 2050 then 1#1 else 0#1 := by
    simp only [IntOp.cmpi, BitVec.slt_eq_decide, hv]
    by_cases h : r.val + e < 2050
    · rw [if_pos h, decide_eq_true (by simp; omega)]; rfl
    · rw [if_neg h, decide_eq_false (by simp; omega)]; rfl
  rw [h1, h2]
  by_cases h : 2 ≤ r.val + e <;> by_cases h' : r.val + e < 2050 <;> simp [h, h', IntOp.andi]

theorem shifted_apply (n d : BitVec 32) (e : ℕ) (he : e ≤ 4) (hd : d = BitVec.ofInt 32 ((e : Int) - 2))
    (hn : n.toNat = (2050 - e) % 2048) (x : FVec Ideal S2048x128 .f32) (r : Fin 2048) (l : Fin 128) :
    shifted n d x (ix2 r l) = padRead (fun s => x (ix2 s l)) (r.val + e) := by
  pointwise [shifted]
  have hr := r.isLt
  have hm := mask_word r d e he hd
  unfold padRead
  by_cases h : 2 ≤ r.val + e ∧ r.val + e < 2050
  · rw [dif_pos h]
    rw [if_pos h] at hm
    refine (congrArg (fun w => Scalar.select w _ _) hm).trans ?_
    refine congrArg x (congrArg (fun s => ix2 s l) (Fin.ext ?_))
    dsimp only
    show (r.val + 2048 - n.toNat % 2048) % 2048 = r.val + e - 2
    omega
  · rw [dif_neg h]
    rw [if_neg h] at hm
    exact (congrArg (fun w => Scalar.select w _ _) hm).trans rfl

/-- The gradient of the convolution's input at row `r`, from the column `g` of the output's gradient and the five taps. -/
def dxAt (w : Fin 5 → EReal) (g : Fin 2048 → EReal) (r : ℕ) : EReal :=
  w 0 * padRead g (r + 4) + w 1 * padRead g (r + 3) + w 2 * padRead g (r + 2) + w 3 * padRead g (r + 1) + w 4 * padRead g (r + 0)

/-- The gradient of tap `j`: the products of the input's padded column and the output gradient's column, summed. -/
def dwAt (x g : Fin 2048 → EReal) (j : ℕ) : EReal := ∑ s : Fin 2048, padRead x (s.val + j) * g s

theorem padRead_mid (f : Fin 2048 → EReal) (r : Fin 2048) : padRead f (r.val + 2) = f r := by
  unfold padRead
  rw [dif_pos (by omega)]
  exact congrArg f (Fin.ext (by show r.val + 2 - 2 = r.val; omega))

theorem pay_dx (g : Vec Ideal S1x2048x128 .f32) (w0 w1 w2 w3 w4 : Vec Ideal S1x128 .f32) (r : Fin 2048) (l : Fin 128) :
    k0_pay2 (k0_pay9 (k0_pay3 g) (k0_pay7 (k0_pay3 g) (k0_pay4 g w0) w1 w2) w3) w4 (k0_pay11 (k0_pay3 g)) k0_pay12
        (Scalar.ofBits .f32 0x00000000#32) (ix2 r l)
      = dxAt ![w0 (ix2 0 l), w1 (ix2 0 l), w2 (ix2 0 l), w3 (ix2 0 l), w4 (ix2 0 l)] (fun s => g (ix3 0 s l)) r.val := by
  have e : k0_pay2 (k0_pay9 (k0_pay3 g) (k0_pay7 (k0_pay3 g) (k0_pay4 g w0) w1 w2) w3) w4 (k0_pay11 (k0_pay3 g)) k0_pay12
        (Scalar.ofBits .f32 0x00000000#32)
      = truncf .bf16 (addf (addf (addf (addf (addf (broadcast S2048x128 (Scalar.ofBits .f32 0x00000000#32))
          (mulf (broadcastTo S2048x128 w0 broadcasts_S1x128_S2048x128) (shifted 2046#32 2#32 (k0_pay3 g))))
          (mulf (broadcastTo S2048x128 w1 broadcasts_S1x128_S2048x128) (shifted 2047#32 1#32 (k0_pay3 g))))
          (mulf (broadcastTo S2048x128 w2 broadcasts_S1x128_S2048x128) (k0_pay3 g)))
          (mulf (broadcastTo S2048x128 w3 broadcasts_S1x128_S2048x128) (shifted 1#32 4294967295#32 (k0_pay3 g))))
          (mulf (broadcastTo S2048x128 w4 broadcasts_S1x128_S2048x128) (shifted 2#32 4294967294#32 (k0_pay3 g)))) bitsLt_bf16_f32 := rfl
  rw [e]
  pointwise []
  rw [shifted_apply 2046#32 2#32 4 (by omega) (by decide) (by decide), shifted_apply 2047#32 1#32 3 (by omega) (by decide) (by decide),
    shifted_apply 1#32 4294967295#32 1 (by omega) (by decide) (by decide), shifted_apply 2#32 4294967294#32 0 (by omega) (by decide) (by decide)]
  unfold dxAt
  rw [padRead_mid]
  pointwise [k0_pay3]

theorem pay_dw (n d : BitVec 32) (e : ℕ) (he : e ≤ 4) (hd : d = BitVec.ofInt 32 ((e : Int) - 2))
    (hn : n.toNat = (2050 - e) % 2048) (x : Vec Ideal S2048x128 .f32) (g : Vec Ideal S1x2048x128 .f32) (a : Fin 1) (l : Fin 128) :
    shapeCast S1x128 (multiReduction .add [0] S128 (mulf (shifted n d x) (k0_pay3 g)) 0x00000000#32 reduces_S2048x128_S128 (.inl rfl) rfl)
        shapeCasts_S128_S1x128 (ix2 a l)
      = dwAt (fun s => x (ix2 s l)) (fun s => g (ix3 0 s l)) e := by
  pointwise []
  unfold dwAt
  refine Finset.sum_congr rfl fun s _ => ?_
  rw [shifted_apply n d e he hd hn]
  pointwise [k0_pay3]

end Cert.ConvGradIdeal.Hand
-- ==== Proof.ConvValue.lean ====
/- The convolution gradient's two result arrays, on the kernel's side and on the reference's. -/
module

public import proofs.«01_k».proof.Proof.ConvShift
public import proofs.«01_k».proof.Proof.Gen.ConvRefIdeal.Read
public import Idealize.ShloMosaic.Lib.Pipeline.ValueKit

@[expose] public section

set_option maxRecDepth 16384

noncomputable section

namespace Cert.ConvGradIdeal.Hand

open Cert.ConvGradIdeal Cert.ConvGradIdeal.Gen Idealize.ShloMosaic Idealize.ShloMosaic.TcCoe Idealize.SL.Sem

/-- The output gradient's columns side by side: group `l / 1024`, column `l % 1024`. -/
def ctAt (dc : FVec Ideal S3x2048x1024 .f32) (l : Fin 3072) (s : Fin 2048) : EReal :=
  dc (ix3 ⟨l.val / 1024, by omega⟩ s ⟨l.val % 1024, by omega⟩)

/-- The gradient of the convolution's input. -/
def DX (w : FVec Ideal S5x3072 .f32) (dc : FVec Ideal S3x2048x1024 .f32) : FVec Ideal S2048x3072 .bf16 :=
  fun i => dxAt (fun j => w (ix2 j (i 1))) (ctAt dc (i 1)) (i 0).val

/-- The gradient of the taps. -/
def DW (x : FVec Ideal S2048x6656 .f32) (dc : FVec Ideal S3x2048x1024 .f32) : FVec Ideal S5x3072 .f32 :=
  fun i => dwAt (fun s => x (ix2 s ⟨(i 1).val, by have h : (i 1).val < 3072 := (i 1).isLt; omega⟩)) (ctAt dc (i 1)) (i 0).val

section Kernel
variable (m : (ℓ : Loc nD τ sig) → Buf (Elt Ideal) ℓ)

theorem idx : ∀ t : Fin cfg0.N, win0_0.index t = ![0, t.val] ∧ win0_1.index t = ![0, t.val]
    ∧ win0_2.index t = ![t.val / 8, 0, t.val % 8] ∧ win0_3.index t = ![0, t.val] ∧ win0_4.index t = ![0, t.val] ∧ t.val < 24 :=
  (by decide +kernel : ∀ t : Fin grid0.N, _)

/-- The kernel's column `y 1` of the block is column `128 t + y 1` of the array. -/
theorem ct_read (c : Dev nD) (t : Fin cfg0.N) (a : Fin 128) (l : Fin 3072) (hl : l.val = t.val * 128 + a.val) (s : Fin 2048) :
    View.ld (iblk m c 2 t) r0_1 (ix3 0 s a) = ctAt (m ((c : Thread nD τ).loc main_arg2)) l s := by
  unfold ctAt
  pointwise
  have ht := (idx t).2.2.2.2.2
  blk_ext [iblk, V, idx t]

theorem w_read (c : Dev nD) (t : Fin cfg0.N) (a : Fin 128) (l : Fin 3072) (hl : l.val = t.val * 128 + a.val) :
    View.ld (iblk m c 1 t) r0_2 (ix2 0 a) = (m ((c : Thread nD τ).loc main_arg1) : FVec Ideal S5x3072 .f32) (ix2 0 l)
    ∧ View.ld (iblk m c 1 t) r0_3 (ix2 0 a) = (m ((c : Thread nD τ).loc main_arg1) : FVec Ideal S5x3072 .f32) (ix2 1 l)
    ∧ View.ld (iblk m c 1 t) r0_4 (ix2 0 a) = (m ((c : Thread nD τ).loc main_arg1) : FVec Ideal S5x3072 .f32) (ix2 2 l)
    ∧ View.ld (iblk m c 1 t) r0_5 (ix2 0 a) = (m ((c : Thread nD τ).loc main_arg1) : FVec Ideal S5x3072 .f32) (ix2 3 l)
    ∧ View.ld (iblk m c 1 t) r0_6 (ix2 0 a) = (m ((c : Thread nD τ).loc main_arg1) : FVec Ideal S5x3072 .f32) (ix2 4 l) := by
  refine ⟨?_, ?_, ?_, ?_, ?_⟩ <;> pointwise <;> blk_ext [iblk, V, idx t]

theorem x_read (c : Dev nD) (t : Fin cfg0.N) (a : Fin 128) (l : Fin 3072) (hl : l.val = t.val * 128 + a.val) (s : Fin 2048) :
    View.ld (iblk m c 0 t) r0_0 (ix2 s a)
      = (m ((c : Thread nD τ).loc main_arg0) : FVec Ideal S2048x6656 .f32) (ix2 s ⟨l.val, by omega⟩) := by
  pointwise
  blk_ext [iblk, V, idx t]

theorem ld0 (c : Dev nD) (t : Fin cfg0.N) : View.ld (iblk m c 0 t) r0_0 = iblk m c 0 t := by
  funext y
  refine congrArg (iblk m c 0 t) (funext fun a => Fin.ext ((Rect.idx_unit_val _ _ _ y a).trans ?_))
  fin_cases a <;> exact Nat.zero_add _

theorem ld2 (c : Dev nD) (t : Fin cfg0.N) : View.ld (iblk m c 2 t) r0_1 = iblk m c 2 t := by
  funext y
  refine congrArg (iblk m c 2 t) (funext fun a => Fin.ext ((Rect.idx_unit_val _ _ _ y a).trans ?_))
  fin_cases a <;> exact Nat.zero_add _

theorem pay13_eq (c : Dev nD) (t : Fin cfg0.N) :
    k0_pay13 (iblk m c 0 t) (iblk m c 1 t) (iblk m c 2 t) = k0_pay3 (iblk m c 2 t) := by
  unfold k0_pay13
  rw [ld2]

theorem DX_at (w : FVec Ideal S5x3072 .f32) (dc : FVec Ideal S3x2048x1024 .f32) (i : S2048x3072.Idx) (r : ℕ) (l : Fin 3072)
    (h0 : (i 0).val = r) (h1 : (i 1).val = l.val) : DX w dc i = dxAt (fun j => w (ix2 j l)) (ctAt dc l) r := by
  have e : i 1 = l := Fin.ext h1
  subst e h0
  rfl

theorem DW_at (x : FVec Ideal S2048x6656 .f32) (dc : FVec Ideal S3x2048x1024 .f32) (i : S5x3072.Idx) (r : ℕ) (l : Fin 3072)
    (h0 : (i 0).val = r) (h1 : (i 1).val = l.val) :
    DW x dc i = dwAt (fun s => x (ix2 s ⟨l.val, by omega⟩)) (ctAt dc l) r := by
  have e : i 1 = l := Fin.ext h1
  subst e h0
  rfl

theorem dxAt_congr (w w' : Fin 5 → EReal) (g : Fin 2048 → EReal) (r : ℕ) (h0 : w 0 = w' 0) (h1 : w 1 = w' 1) (h2 : w 2 = w' 2)
    (h3 : w 3 = w' 3) (h4 : w 4 = w' 4) : dxAt w g r = dxAt w' g r := by
  unfold dxAt
  rw [h0, h1, h2, h3, h4]

theorem point3 (c : Dev nD) (t : Fin cfg0.N) (ht : t.val < 24) (i : S2048x3072.Idx) (r : Fin 2048) (a : Fin 128)
    (h0 : (i 0).val = r.val) (h1 : (i 1).val = t.val * 128 + a.val) :
    k0_pay2 (F := Ideal) (k0_pay9 (k0_pay3 (iblk m c 2 t)) (k0_pay7 (k0_pay3 (iblk m c 2 t)) (k0_pay4 (iblk m c 2 t) (View.ld (iblk m c 1 t) r0_2))
          (View.ld (iblk m c 1 t) r0_3) (View.ld (iblk m c 1 t) r0_4)) (View.ld (iblk m c 1 t) r0_5)) (View.ld (iblk m c 1 t) r0_6)
        (k0_pay11 (k0_pay3 (iblk m c 2 t))) k0_pay12 (Scalar.ofBits .f32 0x00000000#32) (ix2 r a)
      = DX (m ((c : Thread nD τ).loc main_arg1)) (m ((c : Thread nD τ).loc main_arg2)) i := by
  rw [DX_at _ _ _ r.val ⟨t.val * 128 + a.val, by omega⟩ h0 h1]
  obtain ⟨e0, e1, e2, e3, e4⟩ := w_read m c t a ⟨t.val * 128 + a.val, by omega⟩ rfl
  have hc := funext (ct_read m c t a ⟨t.val * 128 + a.val, by omega⟩ rfl)
  rw [ld2] at hc
  refine (pay_dx (iblk m c 2 t) (View.ld (iblk m c 1 t) r0_2) (View.ld (iblk m c 1 t) r0_3)
    (View.ld (iblk m c 1 t) r0_4) (View.ld (iblk m c 1 t) r0_5) (View.ld (iblk m c 1 t) r0_6) r a).trans ?_
  rw [hc]
  exact dxAt_congr _ _ _ _ e0 e1 e2 e3 e4

theorem final3 (c : Dev nD) : (dats m 0 c).arrAt 3 (cfgs 0).N
    = DX (m ((c : Thread nD τ).loc main_arg1)) (m ((c : Thread nD τ).loc main_arg2)) := by
  refine (dats m 0 c).arrAt_eq_of_covers 3 _ (by decide +kernel) fun t _ y => ?_
  blk_simp
  rw [after0_3]
  frame_out
  have ht := (idx t).2.2.2.2.2
  rw [pay13_eq]
  have key := fun h0 h1 => point3 m c t ht (((View.whole main_v0_0).slice (win0_3.rect t)).emb y) (y 0) (y 1) h0 h1
  rw [show (ix2 (n0 := 2048) (n1 := 128) (y 0) (y 1)) = y from (eq_ix2 (n0 := 2048) (n1 := 128) y).symm] at key
  exact key (by blk_simp [idx t]) (by blk_simp [idx t])

/-- One tap's row of the block. -/
theorem tap (c : Dev nD) (t : Fin cfg0.N) (ht : t.val < 24) (i : S5x3072.Idx) (a : Fin 128) (e : ℕ)
    (h0 : (i 0).val = e) (h1 : (i 1).val = t.val * 128 + a.val) :
    dwAt (fun s => View.ld (iblk m c 0 t) r0_0 (ix2 s a)) (fun s => View.ld (iblk m c 2 t) r0_1 (ix3 0 s a)) e
      = DW (m ((c : Thread nD τ).loc main_arg0)) (m ((c : Thread nD τ).loc main_arg2)) i := by
  rw [DW_at _ _ _ e ⟨t.val * 128 + a.val, by omega⟩ h0 h1, funext (ct_read m c t a ⟨t.val * 128 + a.val, by omega⟩ rfl),
    funext (x_read m c t a ⟨t.val * 128 + a.val, by omega⟩ rfl)]

theorem pay1_eq (x : Vec Ideal S2048x128 .f32) (g : Vec Ideal S1x2048x128 .f32) (a : Fin 1) (l : Fin 128) :
    k0_pay1 x (k0_pay3 g) (ix2 a l) = dwAt (fun s => x (ix2 s l)) (fun s => g (ix3 0 s l)) 4 :=
  pay_dw 2046#32 2#32 4 (by omega) (by decide) (by decide) x g a l

theorem pay10_eq (x : Vec Ideal S2048x128 .f32) (g : Vec Ideal S1x2048x128 .f32) (a : Fin 1) (l : Fin 128) :
    k0_pay10 x (k0_pay3 g) (ix2 a l) = dwAt (fun s => x (ix2 s l)) (fun s => g (ix3 0 s l)) 3 :=
  pay_dw 2047#32 1#32 3 (by omega) (by decide) (by decide) x g a l

theorem pay8_eq (x : Vec Ideal S2048x128 .f32) (g : Vec Ideal S1x2048x128 .f32) (a : Fin 1) (l : Fin 128) :
    k0_pay8 x (k0_pay3 g) (ix2 a l) = dwAt (fun s => x (ix2 s l)) (fun s => g (ix3 0 s l)) 2 := by
  pointwise [k0_pay8, k0_pay3]
  unfold dwAt
  exact Finset.sum_congr rfl fun s _ => by rw [padRead_mid]

theorem pay6_eq (x : Vec Ideal S2048x128 .f32) (g : Vec Ideal S1x2048x128 .f32) (a : Fin 1) (l : Fin 128) :
    k0_pay6 x (k0_pay3 g) (ix2 a l) = dwAt (fun s => x (ix2 s l)) (fun s => g (ix3 0 s l)) 1 :=
  pay_dw 1#32 4294967295#32 1 (by omega) (by decide) (by decide) x g a l

theorem pay5_eq (x : Vec Ideal S2048x128 .f32) (g : Vec Ideal S1x2048x128 .f32) (a : Fin 1) (l : Fin 128) :
    k0_pay5 x g (ix2 a l) = dwAt (fun s => x (ix2 s l)) (fun s => g (ix3 0 s l)) 0 :=
  pay_dw 2#32 4294967294#32 0 (by omega) (by decide) (by decide) x g a l

theorem final4 (c : Dev nD) : (dats m 0 c).arrAt 4 (cfgs 0).N
    = DW (m ((c : Thread nD τ).loc main_arg0)) (m ((c : Thread nD τ).loc main_arg2)) := by
  refine (dats m 0 c).arrAt_eq_of_covers 4 _ (by decide +kernel) fun t _ y => ?_
  blk_simp
  rw [after0_4]
  frame_out
  have ht := (idx t).2.2.2.2.2
  canon_tiles x h
  all_goals
    obtain ⟨a, l, rfl⟩ : ∃ (a : Fin 1) (l : Fin 128), x = ix2 a l := ⟨x 0, x 1, eq_ix2 (n0 := 1) (n1 := 128) x⟩
    have ha : a.val = 0 := by omega
    dsimp only [ix2_0, ix2_1] at h0 h1
    have key := fun (e : ℕ) h0 h1 => tap m c t ht (((View.whole main_v0_1).slice (win0_4.rect t)).emb y) l e h0 h1
    rw [ld0, ld2] at key
    try rw [pay13_eq]
  · exact (pay1_eq _ _ a l).trans (key 4 (by blk_simp [idx t] <;> omega) (by blk_simp [idx t] <;> omega))
  · exact (pay10_eq _ _ a l).trans (key 3 (by blk_simp [idx t] <;> omega) (by blk_simp [idx t] <;> omega))
  · exact (pay8_eq _ _ a l).trans (key 2 (by blk_simp [idx t] <;> omega) (by blk_simp [idx t] <;> omega))
  · exact (pay6_eq _ _ a l).trans (key 1 (by blk_simp [idx t] <;> omega) (by blk_simp [idx t] <;> omega))
  · exact (pay5_eq _ _ a l).trans (key 0 (by blk_simp [idx t] <;> omega) (by blk_simp [idx t] <;> omega))

end Kernel

section Reference
open Cert.ConvRefIdeal.Read

theorem v7_at (dc : FVec Ideal S3x2048x1024 .f32) (s : Fin 2048) (l : Fin 3072) :
    val_main_v7 (F := Ideal) dc (ix2 s l) = ctAt dc l s := by
  unfold ctAt
  have hl := l.isLt
  pointwise [val_main_v7, val_main_v2, val_main_v4, val_main_v6, val_main_v1, val_main_v3, val_main_v5]
  split_ifs with h h' <;> refine congrArg dc (congrArg₂ (fun a b => ix3 a s b) (Fin.ext ?_) (Fin.ext ?_)) <;> dsimp <;> omega

theorem v9_at (x : FVec Ideal S2048x6656 .f32) (k : Fin 2052) (l : Fin 3072) :
    val_main_v9 (F := Ideal) x (ix2 k l) = padRead (fun s => x (ix2 s ⟨l.val, by omega⟩)) k.val := by
  unfold padRead
  have hl := l.isLt
  pointwise [val_main_v9, val_main_v8, val_main_v0, val_main_cst]
  by_cases h1 : k.val < 2
  · rw [dif_pos h1, dif_neg (by omega)]
  · by_cases h2 : k.val - 2 < 2048
    · rw [dif_neg h1, dif_pos h2, dif_pos (by omega)]
    · rw [dif_neg h1, dif_neg h2, dif_neg (by omega)]

theorem v41_at (w : FVec Ideal S5x3072 .f32) (dc : FVec Ideal S3x2048x1024 .f32) (r : Fin 2048) (l : Fin 3072) :
    val_main_v41 (F := Ideal) w dc (ix2 ⟨2 + r.val, by omega⟩ l) = w (ix2 4 l) * padRead (ctAt dc l) (r.val + 0) := by
  unfold padRead
  pointwise [val_main_v41, val_main_v37, val_main_v36, val_main_v31, val_main_cst_3]
  split_ifs with h h'
  · rw [v7_at]
    refine congrArg (fun s => w (ix2 4 l) * ctAt dc l s) (Fin.ext ?_)
    dsimp
    omega
  · omega
  · omega
  · exact (mul_zero _).symm

theorem v48_at (w : FVec Ideal S5x3072 .f32) (dc : FVec Ideal S3x2048x1024 .f32) (r : Fin 2048) (l : Fin 3072) :
    val_main_v48 (F := Ideal) w dc (ix2 ⟨2 + r.val, by omega⟩ l) = w (ix2 3 l) * padRead (ctAt dc l) (r.val + 1) := by
  unfold padRead
  pointwise [val_main_v48, val_main_v44, val_main_v43, val_main_v26, val_main_cst_6]
  split_ifs with h h'
  · rw [v7_at]
    refine congrArg (fun s => w (ix2 3 l) * ctAt dc l s) (Fin.ext ?_)
    dsimp
    omega
  · omega
  · omega
  · exact (mul_zero _).symm

theorem v57_at (w : FVec Ideal S5x3072 .f32) (dc : FVec Ideal S3x2048x1024 .f32) (r : Fin 2048) (l : Fin 3072) :
    val_main_v57 (F := Ideal) w dc (ix2 ⟨2 + r.val, by omega⟩ l) = w (ix2 2 l) * padRead (ctAt dc l) (r.val + 2) := by
  unfold padRead
  pointwise [val_main_v57, val_main_v53, val_main_v52, val_main_v21, val_main_cst_9]
  rw [v7_at, dif_pos (by omega)]
  refine congrArg (fun s => w (ix2 2 l) * ctAt dc l s) (Fin.ext ?_)
  dsimp
  omega

theorem v66_at (w : FVec Ideal S5x3072 .f32) (dc : FVec Ideal S3x2048x1024 .f32) (r : Fin 2048) (l : Fin 3072) :
    val_main_v66 (F := Ideal) w dc (ix2 ⟨2 + r.val, by omega⟩ l) = w (ix2 1 l) * padRead (ctAt dc l) (r.val + 3) := by
  unfold padRead
  pointwise [val_main_v66, val_main_v62, val_main_v61, val_main_v16, val_main_cst_12]
  split_ifs with h h'
  · rw [v7_at]
    refine congrArg (fun s => w (ix2 1 l) * ctAt dc l s) (Fin.ext ?_)
    dsimp
    omega
  · omega
  · omega
  · exact (mul_zero _).symm

theorem v75_at (w : FVec Ideal S5x3072 .f32) (dc : FVec Ideal S3x2048x1024 .f32) (r : Fin 2048) (l : Fin 3072) :
    val_main_v75 (F := Ideal) w dc (ix2 ⟨2 + r.val, by omega⟩ l) = w (ix2 0 l) * padRead (ctAt dc l) (r.val + 4) := by
  unfold padRead
  pointwise [val_main_v75, val_main_v71, val_main_v70, val_main_v12, val_main_cst_15]
  split_ifs with h h'
  · rw [v7_at]
    refine congrArg (fun s => w (ix2 0 l) * ctAt dc l s) (Fin.ext ?_)
    dsimp
    omega
  · omega
  · omega
  · exact (mul_zero _).symm

theorem ref_dx (w : FVec Ideal S5x3072 .f32) (dc : FVec Ideal S3x2048x1024 .f32) (r : Fin 2048) (l : Fin 3072) :
    val_main_v82 (F := Ideal) w dc (ix2 r l) = DX w dc (ix2 r l) := by
  rw [DX_at w dc _ r.val l rfl rfl]
  pointwise [val_main_v82, val_main_v80, val_main_v76, val_main_v67, val_main_v58, val_main_v49]
  rw [v41_at, v48_at, v57_at, v66_at, v75_at]
  unfold dxAt
  abel

theorem v40_at (x : FVec Ideal S2048x6656 .f32) (dc : FVec Ideal S3x2048x1024 .f32) (a : Fin 1) (l : Fin 3072) :
    val_main_v40 (F := Ideal) x dc (ix2 a l) = dwAt (fun s => x (ix2 s ⟨l.val, by omega⟩)) (ctAt dc l) 4 := by
  unfold dwAt
  pointwise [val_main_v40, val_main_v39, val_main_v38, val_main_v32, val_main_cst_2]
  refine Finset.sum_congr rfl fun s _ => ?_
  rw [v7_at, v9_at, mul_comm]
  exact congrArg (fun k => padRead _ k * _) (by dsimp; omega)

theorem v47_at (x : FVec Ideal S2048x6656 .f32) (dc : FVec Ideal S3x2048x1024 .f32) (a : Fin 1) (l : Fin 3072) :
    val_main_v47 (F := Ideal) x dc (ix2 a l) = dwAt (fun s => x (ix2 s ⟨l.val, by omega⟩)) (ctAt dc l) 3 := by
  unfold dwAt
  pointwise [val_main_v47, val_main_v46, val_main_v45, val_main_v27, val_main_cst_5]
  refine Finset.sum_congr rfl fun s _ => ?_
  rw [v7_at, v9_at, mul_comm]
  exact congrArg (fun k => padRead _ k * _) (by dsimp; omega)

theorem v56_at (x : FVec Ideal S2048x6656 .f32) (dc : FVec Ideal S3x2048x1024 .f32) (a : Fin 1) (l : Fin 3072) :
    val_main_v56 (F := Ideal) x dc (ix2 a l) = dwAt (fun s => x (ix2 s ⟨l.val, by omega⟩)) (ctAt dc l) 2 := by
  unfold dwAt
  pointwise [val_main_v56, val_main_v55, val_main_v54, val_main_v22, val_main_cst_8]
  refine Finset.sum_congr rfl fun s _ => ?_
  rw [v7_at, v9_at, mul_comm]
  exact congrArg (fun k => padRead _ k * _) (by dsimp; omega)

theorem v65_at (x : FVec Ideal S2048x6656 .f32) (dc : FVec Ideal S3x2048x1024 .f32) (a : Fin 1) (l : Fin 3072) :
    val_main_v65 (F := Ideal) x dc (ix2 a l) = dwAt (fun s => x (ix2 s ⟨l.val, by omega⟩)) (ctAt dc l) 1 := by
  unfold dwAt
  pointwise [val_main_v65, val_main_v64, val_main_v63, val_main_v17, val_main_cst_11]
  refine Finset.sum_congr rfl fun s _ => ?_
  rw [v7_at, v9_at, mul_comm]
  exact congrArg (fun k => padRead _ k * _) (by dsimp; omega)

theorem v74_at (x : FVec Ideal S2048x6656 .f32) (dc : FVec Ideal S3x2048x1024 .f32) (a : Fin 1) (l : Fin 3072) :
    val_main_v74 (F := Ideal) x dc (ix2 a l) = dwAt (fun s => x (ix2 s ⟨l.val, by omega⟩)) (ctAt dc l) 0 := by
  unfold dwAt
  pointwise [val_main_v74, val_main_v73, val_main_v72, val_main_v13, val_main_cst_14]
  refine Finset.sum_congr rfl fun s _ => ?_
  rw [v7_at, v9_at, mul_comm]

theorem ref_dw (x : FVec Ideal S2048x6656 .f32) (dc : FVec Ideal S3x2048x1024 .f32) (j : Fin 5) (l : Fin 3072) :
    val_main_v78 (F := Ideal) x dc (ix2 j l) = DW x dc (ix2 j l) := by
  rw [DW_at x dc _ j.val l rfl rfl]
  pointwise [val_main_v78, val_main_v69, val_main_v60, val_main_v51, val_main_v42, val_main_v50, val_main_v59, val_main_v68, val_main_v77,
    val_main_cst_4, val_main_cst_7, val_main_cst_10, val_main_cst_13, val_main_cst_16]
  simp only [v40_at, v47_at, v56_at, v65_at, v74_at]
  fin_cases j <;> simp

end Reference

end Cert.ConvGradIdeal.Hand
-- ==== Proof.ConvClaim.lean ====
/- The convolution gradient computes what the reference computes. -/
module

public import proofs.«01_k».proof.Defs
public import proofs.«01_k».proof.Proof.ConvValue
public import proofs.«01_k».proof.Proof.Gen.ConvRefIdeal.Run

@[expose] public section

noncomputable section

namespace Cert.ConvGradIdeal.Hand

open Cert.ConvGradIdeal Cert.ConvGradIdeal.Gen Idealize.ShloMosaic Idealize.ShloMosaic.TcCoe Idealize.SL.Sem

theorem algebraic : Cert.algebraic_ConvGradIdeal_ConvRefIdeal := fun m ρ m' ρ' _ hag =>
  ⟨fun c => DX (m ((c : Thread nD τ).loc main_arg1)) (m ((c : Thread nD τ).loc main_arg2)),
   fun c => DW (m ((c : Thread nD τ).loc main_arg0)) (m ((c : Thread nD τ).loc main_arg2)),
   (θ_run _ _ _).mono (fun _ h c => ⟨(h c).1.trans (final3 m c), (h c).2.1.trans (final4 m c), (h c).2.2⟩)
     (Cert.ConvGradIdeal.Value.run_blocks m ρ),
   (θ_run _ _ _).mono (fun _ h c => ⟨(h c).1.trans (by
        rw [Cert.ConvRefIdeal.Read.val_main_v82_eq, (hag c).2.1, (hag c).2.2]
        funext i
        exact (congrArg _ (eq_ix2 (n0 := 2048) (n1 := 3072) i)).trans ((ref_dx _ _ _ _).trans (congrArg _ (eq_ix2 (n0 := 2048) (n1 := 3072) i).symm))),
      (h c).2.1.trans (by
        rw [Cert.ConvRefIdeal.Read.val_main_v78_eq, (hag c).1, (hag c).2.2]
        funext i
        exact (congrArg _ (eq_ix2 (n0 := 5) (n1 := 3072) i)).trans ((ref_dw _ _ _ _).trans (congrArg _ (eq_ix2 (n0 := 5) (n1 := 3072) i).symm))),
      (h c).2.2⟩)
     (Cert.ConvRefIdeal.Value.run m' ρ')⟩

end Cert.ConvGradIdeal.Hand
-- ==== Proof.RmsRow.lean ====
/- The factor a row is scaled by: one over the root of its mean square. -/
module

public import Idealize.ShloMosaic.Lib.Pointwise
public import Idealize.ShloMosaic.Lib.Pipeline.ValueKit

@[expose] public section

noncomputable section

namespace Cert.Rows

open Idealize.ShloMosaic

/-- One over the root of the row's mean square. -/
def rinv (v : Fin 2048 → EReal) : EReal :=
  Ideal.rsqrt (Ideal.div (∑ k : Fin 2048, v k * v k) (Ideal.ofBits .f32 0x45000000#32) + Ideal.ofBits .f32 0x358637BD#32)

/-- Column `k` of the normalised row. -/
def nrow (v w : Fin 2048 → EReal) (k : Fin 2048) : EReal := v k * rinv v * w k

theorem nrow_congr {v v' w w' : Fin 2048 → EReal} {k k' : Fin 2048} (hv : ∀ j, v j = v' j) (hw : ∀ j, w j = w' j) (hk : k.val = k'.val) :
    nrow v w k = nrow v' w' k' := by
  rw [funext hv, funext hw, Fin.ext hk]

end Cert.Rows

end
-- ==== Proof.InWeightValue.lean ====
/- The gradient of the packed input weight: the gradient's columns against the normalised rows' columns. -/
module

public import proofs.«01_k».proof.Proof.RmsRow
public import proofs.«01_k».proof.Proof.Gen.InWeightIdeal.Frame
public import proofs.«01_k».proof.Proof.Gen.InWeightRefIdeal.Read

@[expose] public section

set_option maxRecDepth 16384

noncomputable section

namespace Cert.InWeightIdeal.Hand

open Cert.InWeightIdeal Cert.InWeightIdeal.Gen Cert.Rows Idealize.ShloMosaic Idealize.ShloMosaic.TcCoe Idealize.SL.Sem

/-- The normalised rows. -/
def HN (x : FVec Ideal S2048x2048 .f32) (w : FVec Ideal S1x2048 .f32) : FVec Ideal S2048x2048 .bf16 :=
  fun i => nrow (fun k => x (ix2 (i 0) k)) (fun k => w (ix2 0 k)) (i 1)

/-- Columns of `g` against columns of `h`. -/
def GW (g : FVec Ideal S2048x6656 .bf16) (h : FVec Ideal S2048x2048 .bf16) : FVec Ideal S6656x2048 .f32 :=
  fun i => ∑ k : Fin 2048, g (ix2 k (i 0)) * h (ix2 k (i 1))

theorem pay0 (x : Vec Ideal S256x2048 .f32) (w : Vec Ideal S1x2048 .f32) (r : Fin 256) (l : Fin 2048) :
    k0_pay1 (F := Ideal) x w (ix2 r l) = nrow (fun k => x (ix2 r k)) (fun k => w (ix2 0 k)) l := by
  pointwise [k0_pay1, nrow, rinv]

theorem pay1 (a : Vec Ideal S2048x512 .bf16) (b : Vec Ideal S2048x2048 .bf16) (r : Fin 512) (l : Fin 2048) :
    k1_pay1 (F := Ideal) a b (ix2 r l) = ∑ k : Fin 2048, a (ix2 k r) * b (ix2 k l) := by
  pointwise [k1_pay1]

theorem ref (x : FVec Ideal S2048x2048 .f32) (w : FVec Ideal S1x2048 .f32) (g : FVec Ideal S2048x6656 .bf16) (r : Fin 6656) (l : Fin 2048) :
    Cert.InWeightRefIdeal.Read.val_main_v18 (F := Ideal) x w g (ix2 r l) = GW g (HN x w) (ix2 r l) := by
  rw [← Cert.InWeightRefIdeal.Read.val_main_v18_eq]
  pointwise [GW, HN, nrow, rinv]

section Kernel
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ t.val < 8 :=
  (by decide +kernel : ∀ t : Fin grid0.N, _)

theorem idx1 : ∀ t : Fin cfg1.N, win1_0.index t = ![0, t.val] ∧ win1_1.index t = ![0, 0]
    ∧ win1_2.index t = ![t.val, 0] ∧ t.val < 13 :=
  (by decide +kernel : ∀ t : Fin grid1.N, _)

theorem final0 (c : Dev nD) : (dat0 V c).arrAt 2 cfg0.N = HN (V c main_arg0) (V c main_arg1) := by
  refine (dat0 V c).arrAt_eq_of_covers 2 _ (by decide +kernel) fun t _ y => ?_
  blk_simp
  rw [after0_2]
  frame_out
  rw [eq_ix2 (n0 := 256) (n1 := 2048) y]
  refine (pay0 _ _ (y 0) (y 1)).trans ?_
  refine nrow_congr (fun k => ?_) (fun k => ?_) ?_
  · blk_ext [iblk0, idx0 t]
  · blk_ext [iblk0, idx0 t]
  · blk_simp [idx0 t]

theorem final1 (c : Dev nD) : (dat1 V c).arrAt 2 cfg1.N = GW (V c main_arg2) (V c main_v0) := by
  refine (dat1 V c).arrAt_eq_of_covers 2 _ (by decide +kernel) fun t _ y => ?_
  blk_simp
  rw [after1_2]
  frame_out
  rw [eq_ix2 (n0 := 512) (n1 := 2048) y]
  refine (pay1 _ _ (y 0) (y 1)).trans ?_
  refine Fin.sum_fin_congr fun k => ?_
  blk_point [iblk1, idx1 t]

end Kernel
end Cert.InWeightIdeal.Hand

end
-- ==== Proof.InWeightRun.lean ====
/- The run of `InWeightIdeal` with what every array holds at its end. -/
module

public import proofs.«01_k».proof.Proof.Gen.InWeightIdeal.Frame

@[expose] public section

set_option maxRecDepth 16384

noncomputable section

namespace Cert.InWeightIdeal.Hand

open Cert.InWeightIdeal Cert.InWeightIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The launch's share of the protocol's cells, the devices owing nothing. -/
theorem start : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj))) ∗
      bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- At the end every array is at the last boundary's contents. -/
theorem ends (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W2 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      iapply start
      iexact Hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W2 m ρ c b)
    (hfin := fun c s => by
      iintro ⟨⟨Hh, -⟩, HSI⟩
      unfold StableHlo.held
      imodintro
      iapply (pointsTo_read_all (Pipeline.ucRefs τ sig) (fun b => (((c : Thread nD τ)).1, b)) (W2 m ρ c) s)
      isplitl [Hh] <;> iassumption)
    (hQ := fun s h _ c b hb => h c _ (mem_uc b hb))

end Cert.InWeightIdeal.Hand

end
-- ==== Proof.InWeightClaim.lean ====
/- The gradient of the packed input weight computes what the reference computes. -/
module

public import proofs.«01_k».proof.Defs
public import proofs.«01_k».proof.Proof.InWeightValue
public import proofs.«01_k».proof.Proof.InWeightRun
public import proofs.«01_k».proof.Proof.Gen.InWeightRefIdeal.Run

@[expose] public section

set_option maxRecDepth 16384

noncomputable section

namespace Cert.InWeightIdeal.Hand

open Cert.InWeightIdeal Cert.InWeightIdeal.Gen Cert.Rows Idealize.ShloMosaic Idealize.ShloMosaic.TcCoe Idealize.SL.Sem

section
variable (m : (ℓ : Loc nD τ sig) → Buf (Elt Ideal) ℓ) (ρ : Dev nD → PrngReg)

theorem mid (c : Dev nD) : V1 m ρ c main_v0 = HN (m ((c : Thread nD τ).loc main_arg0)) (m ((c : Thread nD τ).loc main_arg1)) :=
  (W1_arr m ρ c 2).trans (final0 (V0 m ρ) c)

theorem last (c : Dev nD) : W2 m ρ c (Proc.devRef .tc main_v1)
    = GW (m ((c : Thread nD τ).loc main_arg2)) (HN (m ((c : Thread nD τ).loc main_arg0)) (m ((c : Thread nD τ).loc main_arg1))) := by
  refine (W2_arr m ρ c 2).trans ((final1 (V1 m ρ) c).trans ?_)
  rw [mid m ρ c]
  exact congrArg (GW · _) (W1_args m ρ c main_arg2 (by decide))

end

theorem algebraic : Cert.algebraic_InWeightIdeal_InWeightRefIdeal := fun m ρ m' ρ' _ hag =>
  ⟨fun c => GW (m ((c : Thread nD τ).loc main_arg2)) (HN (m ((c : Thread nD τ).loc main_arg0)) (m ((c : Thread nD τ).loc main_arg1))),
    (θ_run _ _ _).mono (fun _ h c => ⟨(h c main_v1 (by decide)).trans (last m ρ c),
      (h c main_arg0 (by decide)).trans (W2_main_arg0 m ρ c), (h c main_arg1 (by decide)).trans (W2_main_arg1 m ρ c),
      (h c main_arg2 (by decide)).trans (W2_main_arg2 m ρ c)⟩) (ends m ρ),
    (θ_run _ _ _).mono (fun _ h c => ⟨(h c).1.trans (by
      rw [Cert.InWeightRefIdeal.Read.val_main_v18_eq, (hag c).1, (hag c).2.1, (hag c).2.2]
      funext i
      exact (congrArg _ (eq_ix2 (n0 := 6656) (n1 := 2048) i)).trans ((ref _ _ _ _ _).trans (congrArg _ (eq_ix2 (n0 := 6656) (n1 := 2048) i).symm))),
      (h c).2⟩) (Cert.InWeightRefIdeal.Value.run m' ρ')⟩

end Cert.InWeightIdeal.Hand

end
-- ==== Proof.InGradRow.lean ====
/- The gradient through the input projection and the norm before it: a row's gradient, and the norm weight's. -/
module

public import proofs.«01_k».proof.Proof.RmsRow
public import proofs.«01_k».proof.Proof.Gen.InGradIdeal.Value
public import proofs.«01_k».proof.Proof.Gen.InGradRefIdeal.Run
public import proofs.«01_k».proof.Proof.Gen.InGradRefIdeal.Read
public import proofs.«01_k».proof.Defs

@[expose] public section

set_option maxRecDepth 16384

noncomputable section

namespace Cert.InGradIdeal.Hand

open Cert.InGradIdeal Cert.InGradIdeal.Gen Cert.Rows Idealize.ShloMosaic Idealize.ShloMosaic.TcCoe Idealize.SL.Sem

/-- A row's mean square and the small constant. -/
def msq (v : Fin 2048 → EReal) : EReal :=
  Ideal.div (∑ k : Fin 2048, v k * v k) (Ideal.ofBits .f32 0x45000000#32) + Ideal.ofBits .f32 0x358637BD#32

/-- What the row's normaliser passes back to each entry, over the entry. -/
def back (v w g : Fin 2048 → EReal) : EReal :=
  Ideal.div ((∑ k : Fin 2048, v k * (g k * w k)) * (Ideal.ofBits .f32 0xBF000000#32 * Ideal.div (Ideal.rsqrt (msq v)) (msq v)))
    (Ideal.ofBits .f32 0x45000000#32)

/-- A row's gradient through the norm, added to what the row had already. -/
def rowGrad (v w g : Fin 2048 → EReal) (y : EReal) (l : Fin 2048) : EReal :=
  y + (g l * w l * Ideal.rsqrt (msq v) + v l * back v w g + back v w g * v l)

theorem rowGrad_congr {v v' w w' g g' : Fin 2048 → EReal} {y y' : EReal} {l l' : Fin 2048} (hv : ∀ k, v k = v' k) (hw : ∀ k, w k = w' k)
    (hg : ∀ k, g k = g' k) (hy : y = y') (hl : l.val = l'.val) : rowGrad v w g y l = rowGrad v' w' g' y' l' := by
  rw [funext hv, funext hw, funext hg, hy, Fin.ext hl]

/-- The projection's gradient taken back through its weight. -/
def CT (d : FVec Ideal S2048x6656 .bf16) (wt : FVec Ideal S6656x2048 .bf16) : FVec Ideal S2048x2048 .f32 :=
  fun i => ∑ k : Fin 6656, d (ix2 (i 0) k) * wt (ix2 k (i 1))

def GX (x : FVec Ideal S2048x2048 .f32) (w : FVec Ideal S1x2048 .f32) (ct : FVec Ideal S2048x2048 .f32) (dy : FVec Ideal S2048x2048 .f32) : FVec Ideal S2048x2048 .f32 :=
  fun i => rowGrad (fun k => x (ix2 (i 0) k)) (fun k => w (ix2 0 k)) (fun k => ct (ix2 (i 0) k)) (dy i) (i 1)

def GN (x ct : FVec Ideal S2048x2048 .f32) : FVec Ideal S1x2048 .f32 :=
  fun i => ∑ r : Fin 2048, x (ix2 r (i 1)) * Ideal.rsqrt (msq fun k => x (ix2 r k)) * ct (ix2 r (i 1))

theorem pay1 (j : S1x2048.Idx) : k0_pay1 (F := Ideal) j = 0 := by pointwise [k0_pay1]
theorem pay2 (j : S512x2048.Idx) : k0_pay2 (F := Ideal) j = 0 := by pointwise [k0_pay2]
theorem pay3 (a : Vec Ideal S512x2048 .f32) (d : Vec Ideal S512x512 .bf16) (w : Vec Ideal S512x2048 .bf16) (j : S512x2048.Idx) :
    k0_pay3 (F := Ideal) a d w j = a j + ∑ k : Fin 512, d (ix2 (j 0) k) * w (ix2 k (j 1)) := by
  pointwise [k0_pay3]
theorem pay4 (a b : Vec Ideal S1x2048 .f32) (j : S1x2048.Idx) : k0_pay4 (F := Ideal) a b j = b j + a j := by pointwise [k0_pay4]
theorem pay7 (x ct : Vec Ideal S512x2048 .f32) (j : S1x2048.Idx) :
    k0_pay7 (F := Ideal) x ct j = ∑ r : Fin 512, x (ix2 r (j 1)) * Ideal.rsqrt (msq fun k => x (ix2 r k)) * ct (ix2 r (j 1)) := by
  pointwise [k0_pay7, k0_pay6, k0_pay5, msq]
theorem pay8 (x : Vec Ideal S512x2048 .f32) (w : Vec Ideal S1x2048 .f32) (ct dy : Vec Ideal S512x2048 .f32) (r : Fin 512) (l : Fin 2048) :
    k0_pay8 (F := Ideal) x w ct dy (ix2 r l) = rowGrad (fun k => x (ix2 r k)) (fun k => w (ix2 0 k)) (fun k => ct (ix2 r k)) (dy (ix2 r l)) l := by
  pointwise [k0_pay8, k0_pay6, k0_pay5, msq, back, rowGrad]
  simp only [Fin.sum_univ_one]

theorem ref_gn (x : FVec Ideal S2048x2048 .f32) (wt : FVec Ideal S6656x2048 .bf16) (d : FVec Ideal S2048x6656 .bf16) (r : Fin 1) (l : Fin 2048) :
    Cert.InGradRefIdeal.Read.val_main_v22 (F := Ideal) x wt d (ix2 r l) = GN x (CT d wt) (ix2 r l) := by
  rw [← Cert.InGradRefIdeal.Read.val_main_v22_eq]
  pointwise [GN, CT, msq]

theorem ref_ct (wt : FVec Ideal S6656x2048 .bf16) (d : FVec Ideal S2048x6656 .bf16) : Cert.InGradRefIdeal.Read.val_main_v19 (F := Ideal) wt d = CT d wt := by
  funext i
  unfold Cert.InGradRefIdeal.Read.val_main_v19 Cert.InGradRefIdeal.Read.val_main_v18 Cert.InGradRefIdeal.Read.val_main_v16 Cert.InGradRefIdeal.Read.val_main_v15
  pointwise [CT]

theorem ref_s (x : FVec Ideal S2048x2048 .f32) (w : FVec Ideal S1x2048 .f32) (wt : FVec Ideal S6656x2048 .bf16) (d : FVec Ideal S2048x6656 .bf16) (r : Fin 2048) (l : Fin 2048) :
    Cert.InGradRefIdeal.Read.val_main_v35 (F := Ideal) x w wt d (ix2 r l) = back (fun k => x (ix2 r k)) (fun k => w (ix2 0 k)) (fun k => CT d wt (ix2 r k)) := by
  unfold Cert.InGradRefIdeal.Read.val_main_v35 Cert.InGradRefIdeal.Read.val_main_v34 Cert.InGradRefIdeal.Read.val_main_v33 Cert.InGradRefIdeal.Read.val_main_v32 Cert.InGradRefIdeal.Read.val_main_v31 Cert.InGradRefIdeal.Read.val_main_v27 Cert.InGradRefIdeal.Read.val_main_v26 Cert.InGradRefIdeal.Read.val_main_v25 Cert.InGradRefIdeal.Read.val_main_v24 Cert.InGradRefIdeal.Read.val_main_v23 Cert.InGradRefIdeal.Read.val_main_v10 Cert.InGradRefIdeal.Read.val_main_v9 Cert.InGradRefIdeal.Read.val_main_v8 Cert.InGradRefIdeal.Read.val_main_v7 Cert.InGradRefIdeal.Read.val_main_v6 Cert.InGradRefIdeal.Read.val_main_v5 Cert.InGradRefIdeal.Read.val_main_v4 Cert.InGradRefIdeal.Read.val_main_v3 Cert.InGradRefIdeal.Read.val_main_v2 Cert.InGradRefIdeal.Read.val_main_v1 Cert.InGradRefIdeal.Read.val_main_v0 Cert.InGradRefIdeal.Read.val_main_cst Cert.InGradRefIdeal.Read.val_main_cst_0 Cert.InGradRefIdeal.Read.val_main_cst_1 Cert.InGradRefIdeal.Read.val_main_cst_2 Cert.InGradRefIdeal.Read.val_main_cst_4 Cert.InGradRefIdeal.Read.val_main_cst_5 Cert.InGradRefIdeal.Read.val_main_cst_6
  rw [ref_ct]
  generalize CT d wt = ct
  pointwise [back, msq]
  simp only [Fin.sum_univ_one]

theorem ref_gx (x : FVec Ideal S2048x2048 .f32) (w : FVec Ideal S1x2048 .f32) (wt : FVec Ideal S6656x2048 .bf16) (d : FVec Ideal S2048x6656 .bf16) (dy : FVec Ideal S2048x2048 .f32) (r : Fin 2048) (l : Fin 2048) :
    Cert.InGradRefIdeal.Read.val_main_v39 (F := Ideal) x w wt d dy (ix2 r l) = GX x w (CT d wt) dy (ix2 r l) := by
  unfold Cert.InGradRefIdeal.Read.val_main_v39 Cert.InGradRefIdeal.Read.val_main_v38 Cert.InGradRefIdeal.Read.val_main_v37 Cert.InGradRefIdeal.Read.val_main_v36 Cert.InGradRefIdeal.Read.val_main_v30 Cert.InGradRefIdeal.Read.val_main_v29 Cert.InGradRefIdeal.Read.val_main_v28 Cert.InGradRefIdeal.Read.val_main_v24 Cert.InGradRefIdeal.Read.val_main_v23 Cert.InGradRefIdeal.Read.val_main_v7 Cert.InGradRefIdeal.Read.val_main_v6 Cert.InGradRefIdeal.Read.val_main_v5 Cert.InGradRefIdeal.Read.val_main_v4 Cert.InGradRefIdeal.Read.val_main_v3 Cert.InGradRefIdeal.Read.val_main_v2 Cert.InGradRefIdeal.Read.val_main_v1 Cert.InGradRefIdeal.Read.val_main_v0 Cert.InGradRefIdeal.Read.val_main_cst Cert.InGradRefIdeal.Read.val_main_cst_0 Cert.InGradRefIdeal.Read.val_main_cst_1
  rw [ref_ct]
  have h := ref_s x w wt d r l
  revert h
  generalize Cert.InGradRefIdeal.Read.val_main_v35 (F := Ideal) x w wt d = s
  generalize CT d wt = ct
  intro h
  pointwise [GX, rowGrad, msq]
  rw [h]
  simp only [add_assoc]

end Cert.InGradIdeal.Hand

end
-- ==== Proof.InGradClaim.lean ====
/- The gradient through the input projection: the sums over the grid, and the claim. -/
module

public import proofs.«01_k».proof.Proof.InGradRow
public import proofs.«01_k».proof.Proof.Gen.InGradIdeal.Value
public import proofs.«01_k».proof.Proof.Gen.InGradRefIdeal.Run
public import proofs.«01_k».proof.Proof.Gen.InGradRefIdeal.Read
public import proofs.«01_k».proof.Defs

@[expose] public section

set_option maxRecDepth 16384

noncomputable section

namespace Cert.InGradIdeal.Hand

open Cert.InGradIdeal Cert.InGradIdeal.Gen Cert.Rows Idealize.ShloMosaic Idealize.ShloMosaic.TcCoe Idealize.SL.Sem

/-- Addends at the last step of each of four tiles of thirteen steps, each the sum of a tile's rows. -/
theorem regroup (F : Fin 52 → EReal) (g : Fin 2048 → EReal) (h0 : ∀ p : Fin 52, ¬p.val % 13 = 12 → F p = 0)
    (h1 : ∀ p : Fin 52, p.val % 13 = 12 → F p = ∑ q : Fin 512, g ⟨p.val / 13 * 512 + q.val, by have := p.isLt; have := q.isLt; omega⟩) :
    ∑ p, F p = ∑ r, g r := by
  rw [← Fin.sum_mul_add_fin 4 512 g rfl]
  refine (Fin.sum_divmod_congr (A := 4) (S := 13)
    (f := fun a s => if s.val = 12 then ∑ q : Fin 512, g ⟨a.val * 512 + q.val, by have := a.isLt; have := q.isLt; omega⟩ else 0) fun p ha hs => ?_).trans ?_
  · by_cases h : p.val % 13 = 12
    · rw [h1 p h, if_pos h]
    · rw [h0 p h, if_neg h]
  · refine Finset.sum_congr rfl fun a _ => ?_
    exact (Finset.sum_eq_single (12 : Fin 13) (fun b _ hb => if_neg fun e => hb (Fin.ext e)) (fun h => absurd (Finset.mem_univ _) h)).trans (if_pos rfl)

section Kernel
variable (m : (ℓ : Loc nD τ sig) → Buf (Elt Ideal) ℓ)

theorem idx : ∀ t : Fin cfg0.N, win0_0.index t = ![t.val / 13, t.val % 13] ∧ win0_1.index t = ![t.val % 13, 0] ∧ win0_2.index t = ![t.val / 13, 0]
    ∧ win0_3.index t = ![0, 0] ∧ win0_4.index t = ![t.val / 13, 0] ∧ win0_5.index t = ![t.val / 13, 0] ∧ win0_6.index t = ![0, 0] ∧ t.val < 52 :=
  (by decide +kernel : ∀ t : Fin grid0.N, _)

/-- The scratch after a row tile's last step holds the tile's rows of the product. -/
theorem scratch (c : Dev nD) (t : Fin cfg0.N) (ht : t.val % 13 = 12) (r : Fin 512) (l : Fin 2048) (hr : t.val / 13 * 512 + r.val < 2048) :
    (outsAt0 m c t.val t.isLt).2.2 (ix2 r l) = CT (m ((c : Thread nD τ).loc main_arg3)) (m ((c : Thread nD τ).loc main_arg2)) (ix2 ⟨t.val / 13 * 512 + r.val, hr⟩ l) := by
  have hz : ∀ n : ℕ, n % 52 = 0 → n % 13 = 0 := fun n h => by omega
  rw [Pipeline.eq_sum_fin_of_reset_step_apply_of_flush (fun n h => (outsAt0 m c n h).2.2) 13 (fun _ => 0)
    (fun p j => ∑ k : Fin 512, (show FVec Ideal S512x512 .bf16 from iblk m c 0 p) (ix2 (j 0) k) * (show FVec Ideal S512x2048 .bf16 from iblk m c 1 p) (ix2 k (j 1)))
    (fun t h j => by
      by_cases h0 : t.val % 52 = 0
      · rw [outsAt0_A m c t h0 h (by omega)]; frame_out; rw [pay3, pay2]
      · rw [outsAt0_D m c t h0 h (by omega)]; frame_out; rw [pay3, pay2])
    (fun t h j => by
      have h0 : ¬ t.val % 52 = 0 := fun e => h (hz _ e)
      have hu := (Memref.isWhole_whole (sig := sig) (κ := .tc) cc0_scratch0).read_unread (Val := Elt Ideal) (outsAt0 m c (t.val - 1) (Nat.lt_of_le_of_lt (Nat.sub_le _ _) t.isLt)).2.2
      by_cases h2 : t.val % 13 = 12
      · rw [outsAt0_C m c t h0 h h2]; frame_out; rw [pay3]; exact congrArg (· + _) (congrFun hu j)
      · rw [outsAt0_B m c t h0 h h2]; frame_out; rw [pay3]; exact congrArg (· + _) (congrFun hu j))
    t ht _, zero_add]
  unfold CT
  refine Fin.sum_mul_add_congr fun s k hl => ?_
  blk_point [iblk, V, idx t, idx ⟨_, Pipeline.run_point_lt_of_flush t ht s⟩]

theorem out5_C (c : Dev nD) (t : Fin cfg0.N) (ht : t.val % 13 = 12) :
    (outsAt0 m c t.val t.isLt).1 = k0_pay8 (F := Ideal) (iblk m c 2 t) (iblk m c 3 t) (outsAt0 m c t.val t.isLt).2.2 (iblk m c 4 t) := by
  rw [outsAt0_C m c t (by omega) (by omega) ht]
  frame_out

theorem out6_C (c : Dev nD) (t : Fin cfg0.N) (ht : t.val % 13 = 12) :
    (outsAt0 m c t.val t.isLt).2.1 = k0_pay4 (F := Ideal) (k0_pay7 (F := Ideal) (iblk m c 2 t) (outsAt0 m c t.val t.isLt).2.2)
      (outsAt0 m c (t.val - 1) (Nat.lt_of_le_of_lt (Nat.sub_le _ _) t.isLt)).2.1 := by
  rw [outsAt0_C m c t (by omega) (by omega) ht]
  frame_out

theorem final5 (c : Dev nD) : (dats m 0 c).arrAt 5 (cfgs 0).N = GX (m ((c : Thread nD τ).loc main_arg0)) (m ((c : Thread nD τ).loc main_arg1)) (CT (m ((c : Thread nD τ).loc main_arg3)) (m ((c : Thread nD τ).loc main_arg2))) (m ((c : Thread nD τ).loc main_arg4)) := by
  refine (dats m 0 c).arrAt_eq_of_covers 5 _ (by decide +kernel) fun t hf y => ?_
  have ht : t.val % 13 = 12 := (flush0_5 t).mp hf
  blk_simp
  rw [after0_5, out5_C m c t ht]
  rw [eq_ix2 (n0 := 512) (n1 := 2048) y]
  refine (pay8 _ _ _ _ (y 0) (y 1)).trans ?_
  refine rowGrad_congr (fun k => ?_) (fun k => ?_) (fun k => ?_) ?_ ?_
  · blk_ext [iblk, V, idx t]
  · blk_ext [iblk, V, idx t]
  · refine (scratch m c t ht (y 0) k (by have h1 := (idx t).2.2.2.2.2.2.2; have h2 : (y 0).val < 512 := (y 0).isLt; omega)).trans ?_
    blk_ext [idx t]
  · blk_ext [iblk, V, idx t]
  · blk_simp [idx t]

theorem final6 (c : Dev nD) : (dats m 0 c).arrAt 6 (cfgs 0).N = GN (m ((c : Thread nD τ).loc main_arg0)) (CT (m ((c : Thread nD τ).loc main_arg3)) (m ((c : Thread nD τ).loc main_arg2))) := by
  refine (dats m 0 c).arrAt_eq_of_covers 6 _ (by decide +kernel) fun t hf y => ?_
  have ht : t.val % 52 = 51 := (flush0_6 t).mp hf
  blk_simp
  rw [after0_6, Pipeline.eq_sum_fin_of_reset_step_apply_of_flush (fun n h => (outsAt0 m c n h).2.1) 52 (fun _ => 0)
    (fun p j => if p.val % 13 = 12 then k0_pay7 (F := Ideal) (iblk m c 2 p) (outsAt0 m c p.val p.isLt).2.2 j else 0)
    (fun t h j => by
      rw [if_neg (by omega), outsAt0_A m c t h (by omega) (by omega)]; frame_out; rw [pay1, add_zero])
    (fun t h j => by
      by_cases h1 : t.val % 13 = 0
      · rw [if_neg (by omega), outsAt0_D m c t h h1 (by omega), add_zero]; rfl
      · by_cases h2 : t.val % 13 = 12
        · rw [if_pos h2, out6_C m c t h2, pay4]
        · rw [if_neg h2, outsAt0_B m c t h h1 h2, add_zero]; rfl)
    t ht _, zero_add]
  unfold GN
  refine regroup _ _ (fun p hp => if_neg (by have := p.isLt; have := (idx t).2.2.2.2.2.2.2; dsimp only; omega)) (fun p hp => ?_)
  have hq := Pipeline.run_point_lt_of_flush t ht p
  have h52 : 52 * (t.val / 52) + p.val = p.val := by have := p.isLt; have := (idx t).2.2.2.2.2.2.2; omega
  have h13 : (52 * (t.val / 52) + p.val) % 13 = 12 := by rw [h52]; exact hp
  refine (if_pos h13).trans ((pay7 _ _ _).trans ?_)
  refine Fin.sum_fin_congr fun q => ?_
  refine congrArg₂ (· * ·) (congrArg₂ (· * ·) ?_ (congrArg Ideal.rsqrt (congrArg msq (funext fun k => ?_)))) ?_
  · blk_ext [iblk, V, idx t, idx ⟨_, hq⟩]
  · blk_ext [iblk, V, idx t, idx ⟨_, hq⟩]
  · refine (scratch m c ⟨_, hq⟩ h13 q (y 1) (by have := p.isLt; have := q.isLt; dsimp only; omega)).trans ?_
    blk_ext [idx t]

end Kernel

theorem algebraic : Cert.algebraic_InGradIdeal_InGradRefIdeal := fun m ρ m' ρ' _ hag =>
  ⟨fun c => GX (m ((c : Thread nD τ).loc main_arg0)) (m ((c : Thread nD τ).loc main_arg1)) (CT (m ((c : Thread nD τ).loc main_arg3)) (m ((c : Thread nD τ).loc main_arg2))) (m ((c : Thread nD τ).loc main_arg4)), fun c => GN (m ((c : Thread nD τ).loc main_arg0)) (CT (m ((c : Thread nD τ).loc main_arg3)) (m ((c : Thread nD τ).loc main_arg2))),
   (θ_run _ _ _).mono (fun _ h c => ⟨(h c).1.trans (final5 m c), (h c).2.1.trans (final6 m c), (h c).2.2⟩)
     (Cert.InGradIdeal.Value.run_blocks m ρ),
   (θ_run _ _ _).mono (fun _ h c => ⟨(h c).1.trans (by
        rw [Cert.InGradRefIdeal.Read.val_main_v39_eq, (hag c).1, (hag c).2.1, (hag c).2.2.1, (hag c).2.2.2.1, (hag c).2.2.2.2]
        funext i
        exact (congrArg _ (eq_ix2 (n0 := 2048) (n1 := 2048) i)).trans ((ref_gx _ _ _ _ _ _ _).trans (congrArg _ (eq_ix2 (n0 := 2048) (n1 := 2048) i).symm))),
      (h c).2.1.trans (by
        rw [Cert.InGradRefIdeal.Read.val_main_v22_eq, (hag c).1, (hag c).2.2.1, (hag c).2.2.2.1]
        funext i
        exact (congrArg _ (eq_ix2 (n0 := 1) (n1 := 2048) i)).trans ((ref_gn _ _ _ _ _).trans (congrArg _ (eq_ix2 (n0 := 1) (n1 := 2048) i).symm))),
      (h c).2.2⟩)
     (Cert.InGradRefIdeal.Value.run m' ρ')⟩

end Cert.InGradIdeal.Hand

end
-- ==== Proof.DeltaOutRow.lean ====
/- The delta rule's output norm and gate, taken back: one row of one head, and the kernel's terms head by head. -/
module

public import Idealize.ShloMosaic.Lib.Pointwise
public import Idealize.ShloMosaic.Lib.Pipeline.ValueKit
public import proofs.«01_k».proof.Proof.Gen.DeltaOutIdeal.Value
public import proofs.«01_k».proof.Defs

@[expose] public section

set_option maxRecDepth 16384

noncomputable section

namespace Cert.DeltaOutIdeal.Hand

open Cert.DeltaOutIdeal Cert.DeltaOutIdeal.Gen Idealize.ShloMosaic Idealize.ShloMosaic.TcCoe Idealize.SL.Sem

/-- A head's mean square and the small constant. -/
def hms (v : Fin 128 → EReal) : EReal :=
  Ideal.div (∑ k : Fin 128, v k * v k) (Ideal.ofBits .f32 0x43000000#32) + Ideal.ofBits .f32 0x358637BD#32

/-- The gate of one entry. -/
def gate (z : EReal) : EReal := z * Ideal.logistic z

/-- What a head's normaliser passes back to each entry, over the entry. -/
def hback (v w g : Fin 128 → EReal) : EReal :=
  Ideal.div ((∑ k : Fin 128, v k * (g k * w k)) * (Ideal.ofBits .f32 0xBF000000#32 * Ideal.div (Ideal.rsqrt (hms v)) (hms v)))
    (Ideal.ofBits .f32 0x43000000#32)

/-- A head's gradient through the gate and the norm. -/
def headO (v z w d : Fin 128 → EReal) (l : Fin 128) : EReal :=
  d l * gate (z l) * w l * Ideal.rsqrt (hms v) + v l * hback v w (fun k => d k * gate (z k)) + hback v w (fun k => d k * gate (z k)) * v l

/-- A head's gradient in the gate's argument. -/
def headZ (v z w d : Fin 128 → EReal) (l : Fin 128) : EReal :=
  v l * Ideal.rsqrt (hms v) * w l * d l * Ideal.logistic (z l)
    + z l * (v l * Ideal.rsqrt (hms v) * w l * d l) * (Ideal.logistic (z l) * (Ideal.ofBits .f32 0x3F800000#32 - Ideal.logistic (z l)))

/-- One head's part of the gradient of the norm's weight. -/
def headW (v z d : Fin 128 → EReal) (l : Fin 128) : EReal := v l * Ideal.rsqrt (hms v) * (d l * gate (z l))

/-- Column `128 * h + k`. -/
def col (h : Fin 8) (k : Fin 128) : Fin 1024 := ⟨128 * h.val + k.val, by have := h.isLt; have := k.isLt; omega⟩

def KO (o z : Vec Ideal S256x1024 .f32) (w : Vec Ideal S8x128 .f32) (d : Vec Ideal S256x1024 .f32) : FVec Ideal S256x1024 .f32 :=
  k0_pay1 (F := Ideal) (k0_pay6 o) (k0_pay9 o) (k0_pay10 o) (k0_pay135 (k0_pay17 o) (k0_pay18 w) (k0_pay20 o) (k0_pay22 (k0_pay21 o) (Scalar.ofBits (F := Ideal) .f32 0xBF000000#32)) (k0_pay131 (k0_pay29 o) (k0_pay30 (k0_pay5 w)) (k0_pay32 o) (k0_pay33 o) (k0_pay39 z) (k0_pay96 d) (k0_pay123 (k0_pay51 o) (k0_pay116 (k0_pay62 o) (k0_pay65 o) (k0_pay66 o) (k0_pay109 (k0_pay73 o) (k0_pay74 (k0_pay5 w)) (k0_pay76 o) (k0_pay77 o) (k0_pay105 (k0_pay84 o) (k0_pay85 (k0_pay5 w)) (k0_pay87 o) (k0_pay88 o) (k0_pay91 z) (k0_pay92 z) d) (k0_pay106 (k0_pay83 z) d)) (k0_pay113 (k0_pay63 (k0_pay5 w)) (k0_pay72 (k0_pay69 z) (k0_pay70 z)) (k0_pay99 d)) (k0_pay114 (k0_pay62 o) (k0_pay63 (k0_pay5 w)) (k0_pay72 (k0_pay69 z) (k0_pay70 z)) (k0_pay99 d))) (k0_pay121 (k0_pay52 (k0_pay5 w)) (k0_pay54 o) (k0_pay61 z) (k0_pay98 d)) (k0_pay122 (k0_pay51 o) (k0_pay52 (k0_pay5 w)) (k0_pay55 o) (k0_pay61 z) (k0_pay98 d))) (k0_pay126 (k0_pay40 o) (k0_pay41 (k0_pay5 w)) (k0_pay43 o) (k0_pay44 o) (k0_pay50 z) (k0_pay97 d)) (Scalar.ofBits (F := Ideal) .f32 0x00000000#32)) (k0_pay132 (k0_pay28 z) (k0_pay95 d))) (k0_pay139 (k0_pay7 w) (k0_pay16 z) (k0_pay94 d)) (k0_pay140 (k0_pay6 o) (k0_pay7 w) (k0_pay16 z) (k0_pay94 d))

def KZ (o z : Vec Ideal S256x1024 .f32) (w : Vec Ideal S8x128 .f32) (d : Vec Ideal S256x1024 .f32) : FVec Ideal S256x1024 .bf16 :=
  k0_pay2 (F := Ideal) (k0_pay137 (k0_pay12 o w) (k0_pay13 z) (k0_pay14 z) (k0_pay15 z) (k0_pay94 d) (k0_pay129 (k0_pay35 o (k0_pay5 w)) (k0_pay36 z) (k0_pay37 z) (k0_pay38 z) (k0_pay96 d) (k0_pay125 (k0_pay46 (k0_pay41 (k0_pay5 w)) (k0_pay45 o)) (k0_pay47 z) (k0_pay48 z) (k0_pay49 z) (k0_pay97 d) (k0_pay118 (k0_pay57 o (k0_pay5 w)) (k0_pay58 z) (k0_pay59 z) (k0_pay60 z) (k0_pay98 d) (k0_pay111 (k0_pay68 o (k0_pay5 w)) (k0_pay69 z) (k0_pay70 z) (k0_pay71 (k0_pay70 z)) (k0_pay99 d) (k0_pay103 (k0_pay90 o (k0_pay5 w)) (k0_pay91 z) (k0_pay92 z) (k0_pay93 z) d) (k0_pay107 (k0_pay79 o (k0_pay5 w)) (k0_pay80 z) (k0_pay81 z) (k0_pay82 z) d) (Scalar.ofBits (F := Ideal) .f32 0x00000000#32))))) (k0_pay133 (k0_pay24 (k0_pay17 o) (k0_pay18 w) (k0_pay20 o)) (k0_pay25 z) (k0_pay26 z) (k0_pay27 z) (k0_pay95 d)) (Scalar.ofBits (F := Ideal) .f32 0x00000000#32))

def KW (o z : Vec Ideal S256x1024 .f32) (w : Vec Ideal S8x128 .f32) (d : Vec Ideal S256x1024 .f32) (acc : Vec Ideal S8x128 .f32) : FVec Ideal S8x128 .f32 :=
  k0_pay3 (F := Ideal) (k0_pay134 (k0_pay23 (k0_pay17 o) (k0_pay20 o)) (k0_pay130 (k0_pay34 o) (k0_pay39 z) (k0_pay96 d) (k0_pay127 (k0_pay45 o) (k0_pay50 z) (k0_pay97 d) (k0_pay115 (k0_pay108 (k0_pay78 o) (k0_pay104 (k0_pay89 o) (k0_pay91 z) (k0_pay92 z) d) (k0_pay106 (k0_pay83 z) d)) (k0_pay112 (k0_pay67 o) (k0_pay72 (k0_pay69 z) (k0_pay70 z)) (k0_pay99 d))) (k0_pay119 (k0_pay56 o) (k0_pay61 z) (k0_pay98 d)))) (k0_pay132 (k0_pay28 z) (k0_pay95 d))) (k0_pay138 (k0_pay11 o) (k0_pay16 z) (k0_pay94 d)) acc

set_option maxHeartbeats 4000000 in
theorem ko0 (o z : Vec Ideal S256x1024 .f32) (w : Vec Ideal S8x128 .f32) (d : Vec Ideal S256x1024 .f32) (r : Fin 256) (k : Fin 128) :
    KO o z w d (ix2 r ⟨0 + k.val, by have := k.isLt; omega⟩) = headO (fun k => o (ix2 r ⟨0 + k.val, by have := k.isLt; omega⟩))
      (fun k => z (ix2 r ⟨0 + k.val, by have := k.isLt; omega⟩)) (fun k => w (ix2 4 k)) (fun k => d (ix2 r ⟨0 + k.val, by have := k.isLt; omega⟩)) k := by
  have hk := k.isLt
  have h1 : (k.val < 128) = True := by simp only [eq_iff_iff, iff_true, iff_false]; omega
  have h2 : (k.val < 256) = True := by simp only [eq_iff_iff, iff_true, iff_false]; omega
  have h3 : (k.val < 384) = True := by simp only [eq_iff_iff, iff_true, iff_false]; omega
  have h4 : (k.val < 512) = True := by simp only [eq_iff_iff, iff_true, iff_false]; omega
  have h5 : (k.val < 640) = True := by simp only [eq_iff_iff, iff_true, iff_false]; omega
  have h6 : (k.val < 768) = True := by simp only [eq_iff_iff, iff_true, iff_false]; omega
  have h7 : (k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  try simp only [h1, h2, h3, h4, h5, h6, h7, ↓reduceDIte, zero_add, add_zero, Fin.sum_univ_one]
  try simp only [add_assoc]
set_option maxHeartbeats 4000000 in
theorem ko1 (o z : Vec Ideal S256x1024 .f32) (w : Vec Ideal S8x128 .f32) (d : Vec Ideal S256x1024 .f32) (r : Fin 256) (k : Fin 128) :
    KO o z w d (ix2 r ⟨128 + k.val, by have := k.isLt; omega⟩) = headO (fun k => o (ix2 r ⟨128 + k.val, by have := k.isLt; omega⟩))
      (fun k => z (ix2 r ⟨128 + k.val, by have := k.isLt; omega⟩)) (fun k => w (ix2 4 k)) (fun k => d (ix2 r ⟨128 + k.val, by have := k.isLt; omega⟩)) k := by
  have hk := k.isLt
  have h1 : (128 + k.val < 128) = False := by simp only [eq_iff_iff, iff_true, iff_false]; omega
  have h2 : (128 + k.val < 256) = True := by simp only [eq_iff_iff, iff_true, iff_false]; omega
  have h3 : (128 + k.val < 384) = True := by simp only [eq_iff_iff, iff_true, iff_false]; omega
  have h4 : (128 + k.val < 512) = True := by simp only [eq_iff_iff, iff_true, iff_false]; omega
  have h5 : (128 + k.val < 640) = True := by simp only [eq_iff_iff, iff_true, iff_false]; omega
  have h6 : (128 + k.val < 768) = True := by simp only [eq_iff_iff, iff_true, iff_false]; omega
  have h7 : (128 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko2 (o z : Vec Ideal S256x1024 .f32) (w : Vec Ideal S8x128 .f32) (d : Vec Ideal S256x1024 .f32) (r : Fin 256) (k : Fin 128) :
    KO o z w d (ix2 r ⟨256 + k.val, by have := k.isLt; omega⟩) = headO (fun k => o (ix2 r ⟨256 + k.val, by have := k.isLt; omega⟩))
      (fun k => z (ix2 r ⟨256 + k.val, by have := k.isLt; omega⟩)) (fun k => w (ix2 4 k)) (fun k => d (ix2 r ⟨256 + k.val, by have := k.isLt; omega⟩)) k := by
  have hk := k.isLt
  have h1 : (256 + k.val < 128) = False := by simp only [eq_iff_iff, iff_true, iff_false]; omega
  have h2 : (256 + k.val < 256) = False := by simp only [eq_iff_iff, iff_true, iff_false]; omega
  have h3 : (256 + k.val < 384) = True := by simp only [eq_iff_iff, iff_true, iff_false]; omega
  have h4 : (256 + k.val < 512) = True := by simp only [eq_iff_iff, iff_true, iff_false]; omega
  have h5 : (256 + k.val < 640) = True := by simp only [eq_iff_iff, iff_true, iff_false]; omega
  have h6 : (256 + k.val < 768) = True := by simp only [eq_iff_iff, iff_true, iff_false]; omega
  have h7 : (256 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko3 (o z : Vec Ideal S256x1024 .f32) (w : Vec Ideal S8x128 .f32) (d : Vec Ideal S256x1024 .f32) (r : Fin 256) (k : Fin 128) :
    KO o z w d (ix2 r ⟨384 + k.val, by have := k.isLt; omega⟩) = headO (fun k => o (ix2 r ⟨384 + k.val, by have := k.isLt; omega⟩))
      (fun k => z (ix2 r ⟨384 + k.val, by have := k.isLt; omega⟩)) (fun k => w (ix2 4 k)) (fun k => d (ix2 r ⟨384 + k.val, by have := k.isLt; omega⟩)) k := by
  have hk := k.isLt
  have h1 : (384 + k.val < 128) = False := by simp only [eq_iff_iff, iff_true, iff_false]; omega
  have h2 : (384 + k.val < 256) = False := by simp only [eq_iff_iff, iff_true, iff_false]; omega
  have h3 : (384 + k.val < 384) = False := by simp only [eq_iff_iff, iff_true, iff_false]; omega
  have h4 : (384 + k.val < 512) = True := by simp only [eq_iff_iff, iff_true, iff_false]; omega
  have h5 : (384 + k.val < 640) = True := by simp only [eq_iff_iff, iff_true, iff_false]; omega
  have h6 : (384 + k.val < 768) = True := by simp only [eq_iff_iff, iff_true, iff_false]; omega
  have h7 : (384 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko4 (o z : Vec Ideal S256x1024 .f32) (w : Vec Ideal S8x128 .f32) (d : Vec Ideal S256x1024 .f32) (r : Fin 256) (k : Fin 128) :
    KO o z w d (ix2 r ⟨512 + k.val, by have := k.isLt; omega⟩) = headO (fun k => o (ix2 r ⟨512 + k.val, by have := k.isLt; omega⟩))
      (fun k => z (ix2 r ⟨512 + k.val, by have := k.isLt; omega⟩)) (fun k => w (ix2 4 k)) (fun k => d (ix2 r ⟨512 + k.val, by have := k.isLt; omega⟩)) k := by
  have hk := k.isLt
  have h1 : (512 + k.val < 128) = False := by simp only [eq_iff_iff, iff_true, iff_false]; omega
  have h2 : (512 + k.val < 256) = False := by simp only [eq_iff_iff, iff_true, iff_false]; omega
  have h3 : (512 + k.val < 384) = False := by simp only [eq_iff_iff, iff_true, iff_false]; omega
  have h4 : (512 + k.val < 512) = False := by simp only [eq_iff_iff, iff_true, iff_false]; omega
  have h5 : (512 + k.val < 640) = True := by simp only [eq_iff_iff, iff_true, iff_false]; omega
  have h6 : (512 + k.val < 768) = True := by simp only [eq_iff_iff, iff_true, iff_false]; omega
  have h7 : (512 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko5 (o z : Vec Ideal S256x1024 .f32) (w : Vec Ideal S8x128 .f32) (d : Vec Ideal S256x1024 .f32) (r : Fin 256) (k : Fin 128) :
    KO o z w d (ix2 r ⟨640 + k.val, by have := k.isLt; omega⟩) = headO (fun k => o (ix2 r ⟨640 + k.val, by have := k.isLt; omega⟩))
      (fun k => z (ix2 r ⟨640 + k.val, by have := k.isLt; omega⟩)) (fun k => w (ix2 4 k)) (fun k => d (ix2 r ⟨640 + k.val, by have := k.isLt; omega⟩)) k := by
  have hk := k.isLt
  have h1 : (640 + k.val < 128) = False := by simp only [eq_iff_iff, iff_true, iff_false]; omega
  have h2 : (640 + k.val < 256) = False := by simp only [eq_iff_iff, iff_true, iff_false]; omega
  have h3 : (640 + k.val < 384) = False := by simp only [eq_iff_iff, iff_true, iff_false]; omega
  have h4 : (640 + k.val < 512) = False := by simp only [eq_iff_iff, iff_true, iff_false]; omega
  have h5 : (640 + k.val < 640) = False := by simp only [eq_iff_iff, iff_true, iff_false]; omega
  have h6 : (640 + k.val < 768) = True := by simp only [eq_iff_iff, iff_true, iff_false]; omega
  have h7 : (640 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko6 (o z : Vec Ideal S256x1024 .f32) (w : Vec Ideal S8x128 .f32) (d : Vec Ideal S256x1024 .f32) (r : Fin 256) (k : Fin 128) :
    KO o z w d (ix2 r ⟨768 + k.val, by have := k.isLt; omega⟩) = headO (fun k => o (ix2 r ⟨768 + k.val, by have := k.isLt; omega⟩))
      (fun k => z (ix2 r ⟨768 + k.val, by have := k.isLt; omega⟩)) (fun k => w (ix2 4 k)) (fun k => d (ix2 r ⟨768 + k.val, by have := k.isLt; omega⟩)) k := by
  have hk := k.isLt
  have h1 : (768 + k.val < 128) = False := by simp only [eq_iff_iff, iff_true, iff_false]; omega
  have h2 : (768 + k.val < 256) = False := by simp only [eq_iff_iff, iff_true, iff_false]; omega
  have h3 : (768 + k.val < 384) = False := by simp only [eq_iff_iff, iff_true, iff_false]; omega
  have h4 : (768 + k.val < 512) = False := by simp only [eq_iff_iff, iff_true, iff_false]; omega
  have h5 : (768 + k.val < 640) = False := by simp only [eq_iff_iff, iff_true, iff_false]; omega
  have h6 : (768 + k.val < 768) = False := by simp only [eq_iff_iff, iff_true, iff_false]; omega
  have h7 : (768 + k.val < 896) = True := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem ko7 (o z : Vec Ideal S256x1024 .f32) (w : Vec Ideal S8x128 .f32) (d : Vec Ideal S256x1024 .f32) (r : Fin 256) (k : Fin 128) :
    KO o z w d (ix2 r ⟨896 + k.val, by have := k.isLt; omega⟩) = headO (fun k => o (ix2 r ⟨896 + k.val, by have := k.isLt; omega⟩))
      (fun k => z (ix2 r ⟨896 + k.val, by have := k.isLt; omega⟩)) (fun k => w (ix2 4 k)) (fun k => d (ix2 r ⟨896 + k.val, by have := k.isLt; omega⟩)) k := by
  have hk := k.isLt
  have h1 : (896 + k.val < 128) = False := by simp only [eq_iff_iff, iff_true, iff_false]; omega
  have h2 : (896 + k.val < 256) = False := by simp only [eq_iff_iff, iff_true, iff_false]; omega
  have h3 : (896 + k.val < 384) = False := by simp only [eq_iff_iff, iff_true, iff_false]; omega
  have h4 : (896 + k.val < 512) = False := by simp only [eq_iff_iff, iff_true, iff_false]; omega
  have h5 : (896 + k.val < 640) = False := by simp only [eq_iff_iff, iff_true, iff_false]; omega
  have h6 : (896 + k.val < 768) = False := by simp only [eq_iff_iff, iff_true, iff_false]; omega
  have h7 : (896 + k.val < 896) = False := by simp only [eq_iff_iff, iff_true, iff_false]; omega
  pointwise [KO, k0_pay1, k0_pay5, k0_pay6, k0_pay7, k0_pay8, k0_pay9, k0_pay10, k0_pay13, k0_pay14, k0_pay16, k0_pay17, k0_pay18, k0_pay19, k0_pay20, k0_pay21, k0_pay22, k0_pay25, k0_pay26, k0_pay28, k0_pay29, k0_pay30, k0_pay31, k0_pay32, k0_pay33, k0_pay36, k0_pay37, k0_pay39, k0_pay40, k0_pay41, k0_pay42, k0_pay43, k0_pay44, k0_pay47, k0_pay48, k0_pay50, k0_pay51, k0_pay52, k0_pay53, k0_pay54, k0_pay55, k0_pay58, k0_pay59, k0_pay61, k0_pay62, k0_pay63, k0_pay64, k0_pay65, k0_pay66, k0_pay69, k0_pay70, k0_pay72, k0_pay73, k0_pay74, k0_pay75, k0_pay76, k0_pay77, k0_pay80, k0_pay81, k0_pay83, k0_pay84, k0_pay85, k0_pay86, k0_pay87, k0_pay88, k0_pay91, k0_pay92, k0_pay94, k0_pay95, k0_pay96, k0_pay97, k0_pay98, k0_pay99, k0_pay100, k0_pay101, k0_pay102, k0_pay105, k0_pay106, k0_pay109, k0_pay110, k0_pay113, k0_pay114, k0_pay116, k0_pay117, k0_pay120, k0_pay121, k0_pay122, k0_pay123, k0_pay124, k0_pay126, k0_pay128, k0_pay131, k0_pay132, k0_pay135, k0_pay136, k0_pay139, k0_pay140, headO, hback, hms, gate]
  simp only [h1, h2, h3, h4, h5, h6, h7, ↓reduceDIte, zero_add, add_zero, Nat.add_sub_cancel_left, Fin.sum_univ_one]
set_option maxHeartbeats 4000000 in
theorem kz0 (o z : Vec Ideal S256x1024 .f32) (w : Vec Ideal S8x128 .f32) (d : Vec Ideal S256x1024 .f32) (r : Fin 256) (k : Fin 128) :
    KZ o z w d (ix2 r ⟨0 + k.val, by have := k.isLt; omega⟩) = headZ (fun k => o (ix2 r ⟨0 + k.val, by have := k.isLt; omega⟩))
      (fun k => z (ix2 r ⟨0 + k.val, by have := k.isLt; omega⟩)) (fun k => w (ix2 4 k)) (fun k => d (ix2 r ⟨0 + k.val, by have := k.isLt; omega⟩)) k := by
  have hk := k.isLt
  have h1 : (k.val < 128) = True := by simp only [eq_iff_iff, iff_true, iff_false]; omega
  have h2 : (k.val < 256) = True := by simp only [eq_iff_iff, iff_true, iff_false]; omega
  have h3 : (k.val < 384) = True := by simp only [eq_iff_iff, iff_true, iff_false]; omega
  have h4 : (k.val < 512) = True := by simp only [eq_iff_iff, iff_true, iff_false]; omega
  have h5 : (k.val < 640) = True := by simp only [eq_iff_iff, iff_true, iff_false]; omega
  have h6 : (k.val < 768) = True := by simp only [eq_iff_iff, iff_true, iff_false]; omega
  have h7 : (k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  try simp only [h1, h2, h3, h4, h5, h6, h7, ↓reduceDIte, zero_add, add_zero, Fin.sum_univ_one]
  try simp only [add_assoc]
set_option maxHeartbeats 4000000 in
theorem kz1 (o z : Vec Ideal S256x1024 .f32) (w : Vec Ideal S8x128 .f32) (d : Vec Ideal S256x1024 .f32) (r : Fin 256) (k : Fin 128) :
    KZ o z w d (ix2 r ⟨128 + k.val, by have := k.isLt; omega⟩) = headZ (fun k => o (ix2 r ⟨128 + k.val, by have := k.isLt; omega⟩))
      (fun k => z (ix2 r ⟨128 + k.val, by have := k.isLt; omega⟩)) (fun k => w (ix2 4 k)) (fun k => d (ix2 r ⟨128 + k.val, by have := k.isLt; omega⟩)) k := by
  have hk := k.isLt
  have h1 : (128 + k.val < 128) = False := by simp only [eq_iff_iff, iff_true, iff_false]; omega
  have h2 : (128 + k.val < 256) = True := by simp only [eq_iff_iff, iff_true, iff_false]; omega
  have h3 : (128 + k.val < 384) = True := by simp only [eq_iff_iff, iff_true, iff_false]; omega
  have h4 : (128 + k.val < 512) = True := by simp only [eq_iff_iff, iff_true, iff_false]; omega
  have h5 : (128 + k.val < 640) = True := by simp only [eq_iff_iff, iff_true, iff_false]; omega
  have h6 : (128 + k.val < 768) = True := by simp only [eq_iff_iff, iff_true, iff_false]; omega
  have h7 : (128 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz2 (o z : Vec Ideal S256x1024 .f32) (w : Vec Ideal S8x128 .f32) (d : Vec Ideal S256x1024 .f32) (r : Fin 256) (k : Fin 128) :
    KZ o z w d (ix2 r ⟨256 + k.val, by have := k.isLt; omega⟩) = headZ (fun k => o (ix2 r ⟨256 + k.val, by have := k.isLt; omega⟩))
      (fun k => z (ix2 r ⟨256 + k.val, by have := k.isLt; omega⟩)) (fun k => w (ix2 4 k)) (fun k => d (ix2 r ⟨256 + k.val, by have := k.isLt; omega⟩)) k := by
  have hk := k.isLt
  have h1 : (256 + k.val < 128) = False := by simp only [eq_iff_iff, iff_true, iff_false]; omega
  have h2 : (256 + k.val < 256) = False := by simp only [eq_iff_iff, iff_true, iff_false]; omega
  have h3 : (256 + k.val < 384) = True := by simp only [eq_iff_iff, iff_true, iff_false]; omega
  have h4 : (256 + k.val < 512) = True := by simp only [eq_iff_iff, iff_true, iff_false]; omega
  have h5 : (256 + k.val < 640) = True := by simp only [eq_iff_iff, iff_true, iff_false]; omega
  have h6 : (256 + k.val < 768) = True := by simp only [eq_iff_iff, iff_true, iff_false]; omega
  have h7 : (256 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz3 (o z : Vec Ideal S256x1024 .f32) (w : Vec Ideal S8x128 .f32) (d : Vec Ideal S256x1024 .f32) (r : Fin 256) (k : Fin 128) :
    KZ o z w d (ix2 r ⟨384 + k.val, by have := k.isLt; omega⟩) = headZ (fun k => o (ix2 r ⟨384 + k.val, by have := k.isLt; omega⟩))
      (fun k => z (ix2 r ⟨384 + k.val, by have := k.isLt; omega⟩)) (fun k => w (ix2 4 k)) (fun k => d (ix2 r ⟨384 + k.val, by have := k.isLt; omega⟩)) k := by
  have hk := k.isLt
  have h1 : (384 + k.val < 128) = False := by simp only [eq_iff_iff, iff_true, iff_false]; omega
  have h2 : (384 + k.val < 256) = False := by simp only [eq_iff_iff, iff_true, iff_false]; omega
  have h3 : (384 + k.val < 384) = False := by simp only [eq_iff_iff, iff_true, iff_false]; omega
  have h4 : (384 + k.val < 512) = True := by simp only [eq_iff_iff, iff_true, iff_false]; omega
  have h5 : (384 + k.val < 640) = True := by simp only [eq_iff_iff, iff_true, iff_false]; omega
  have h6 : (384 + k.val < 768) = True := by simp only [eq_iff_iff, iff_true, iff_false]; omega
  have h7 : (384 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz4 (o z : Vec Ideal S256x1024 .f32) (w : Vec Ideal S8x128 .f32) (d : Vec Ideal S256x1024 .f32) (r : Fin 256) (k : Fin 128) :
    KZ o z w d (ix2 r ⟨512 + k.val, by have := k.isLt; omega⟩) = headZ (fun k => o (ix2 r ⟨512 + k.val, by have := k.isLt; omega⟩))
      (fun k => z (ix2 r ⟨512 + k.val, by have := k.isLt; omega⟩)) (fun k => w (ix2 4 k)) (fun k => d (ix2 r ⟨512 + k.val, by have := k.isLt; omega⟩)) k := by
  have hk := k.isLt
  have h1 : (512 + k.val < 128) = False := by simp only [eq_iff_iff, iff_true, iff_false]; omega
  have h2 : (512 + k.val < 256) = False := by simp only [eq_iff_iff, iff_true, iff_false]; omega
  have h3 : (512 + k.val < 384) = False := by simp only [eq_iff_iff, iff_true, iff_false]; omega
  have h4 : (512 + k.val < 512) = False := by simp only [eq_iff_iff, iff_true, iff_false]; omega
  have h5 : (512 + k.val < 640) = True := by simp only [eq_iff_iff, iff_true, iff_false]; omega
  have h6 : (512 + k.val < 768) = True := by simp only [eq_iff_iff, iff_true, iff_false]; omega
  have h7 : (512 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz5 (o z : Vec Ideal S256x1024 .f32) (w : Vec Ideal S8x128 .f32) (d : Vec Ideal S256x1024 .f32) (r : Fin 256) (k : Fin 128) :
    KZ o z w d (ix2 r ⟨640 + k.val, by have := k.isLt; omega⟩) = headZ (fun k => o (ix2 r ⟨640 + k.val, by have := k.isLt; omega⟩))
      (fun k => z (ix2 r ⟨640 + k.val, by have := k.isLt; omega⟩)) (fun k => w (ix2 4 k)) (fun k => d (ix2 r ⟨640 + k.val, by have := k.isLt; omega⟩)) k := by
  have hk := k.isLt
  have h1 : (640 + k.val < 128) = False := by simp only [eq_iff_iff, iff_true, iff_false]; omega
  have h2 : (640 + k.val < 256) = False := by simp only [eq_iff_iff, iff_true, iff_false]; omega
  have h3 : (640 + k.val < 384) = False := by simp only [eq_iff_iff, iff_true, iff_false]; omega
  have h4 : (640 + k.val < 512) = False := by simp only [eq_iff_iff, iff_true, iff_false]; omega
  have h5 : (640 + k.val < 640) = False := by simp only [eq_iff_iff, iff_true, iff_false]; omega
  have h6 : (640 + k.val < 768) = True := by simp only [eq_iff_iff, iff_true, iff_false]; omega
  have h7 : (640 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz6 (o z : Vec Ideal S256x1024 .f32) (w : Vec Ideal S8x128 .f32) (d : Vec Ideal S256x1024 .f32) (r : Fin 256) (k : Fin 128) :
    KZ o z w d (ix2 r ⟨768 + k.val, by have := k.isLt; omega⟩) = headZ (fun k => o (ix2 r ⟨768 + k.val, by have := k.isLt; omega⟩))
      (fun k => z (ix2 r ⟨768 + k.val, by have := k.isLt; omega⟩)) (fun k => w (ix2 4 k)) (fun k => d (ix2 r ⟨768 + k.val, by have := k.isLt; omega⟩)) k := by
  have hk := k.isLt
  have h1 : (768 + k.val < 128) = False := by simp only [eq_iff_iff, iff_true, iff_false]; omega
  have h2 : (768 + k.val < 256) = False := by simp only [eq_iff_iff, iff_true, iff_false]; omega
  have h3 : (768 + k.val < 384) = False := by simp only [eq_iff_iff, iff_true, iff_false]; omega
  have h4 : (768 + k.val < 512) = False := by simp only [eq_iff_iff, iff_true, iff_false]; omega
  have h5 : (768 + k.val < 640) = False := by simp only [eq_iff_iff, iff_true, iff_false]; omega
  have h6 : (768 + k.val < 768) = False := by simp only [eq_iff_iff, iff_true, iff_false]; omega
  have h7 : (768 + k.val < 896) = True := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]
set_option maxHeartbeats 4000000 in
theorem kz7 (o z : Vec Ideal S256x1024 .f32) (w : Vec Ideal S8x128 .f32) (d : Vec Ideal S256x1024 .f32) (r : Fin 256) (k : Fin 128) :
    KZ o z w d (ix2 r ⟨896 + k.val, by have := k.isLt; omega⟩) = headZ (fun k => o (ix2 r ⟨896 + k.val, by have := k.isLt; omega⟩))
      (fun k => z (ix2 r ⟨896 + k.val, by have := k.isLt; omega⟩)) (fun k => w (ix2 4 k)) (fun k => d (ix2 r ⟨896 + k.val, by have := k.isLt; omega⟩)) k := by
  have hk := k.isLt
  have h1 : (896 + k.val < 128) = False := by simp only [eq_iff_iff, iff_true, iff_false]; omega
  have h2 : (896 + k.val < 256) = False := by simp only [eq_iff_iff, iff_true, iff_false]; omega
  have h3 : (896 + k.val < 384) = False := by simp only [eq_iff_iff, iff_true, iff_false]; omega
  have h4 : (896 + k.val < 512) = False := by simp only [eq_iff_iff, iff_true, iff_false]; omega
  have h5 : (896 + k.val < 640) = False := by simp only [eq_iff_iff, iff_true, iff_false]; omega
  have h6 : (896 + k.val < 768) = False := by simp only [eq_iff_iff, iff_true, iff_false]; omega
  have h7 : (896 + k.val < 896) = False := by simp only [eq_iff_iff, iff_true, iff_false]; omega
  pointwise [KZ, k0_pay2, k0_pay5, k0_pay6, k0_pay7, k0_pay8, k0_pay9, k0_pay11, k0_pay12, k0_pay13, k0_pay14, k0_pay15, k0_pay17, k0_pay18, k0_pay19, k0_pay20, k0_pay23, k0_pay24, k0_pay25, k0_pay26, k0_pay27, k0_pay29, k0_pay30, k0_pay31, k0_pay32, k0_pay34, k0_pay35, k0_pay36, k0_pay37, k0_pay38, k0_pay40, k0_pay41, k0_pay42, k0_pay43, k0_pay45, k0_pay46, k0_pay47, k0_pay48, k0_pay49, k0_pay51, k0_pay52, k0_pay53, k0_pay54, k0_pay56, k0_pay57, k0_pay58, k0_pay59, k0_pay60, k0_pay62, k0_pay63, k0_pay64, k0_pay65, k0_pay67, k0_pay68, k0_pay69, k0_pay70, k0_pay71, k0_pay73, k0_pay74, k0_pay75, k0_pay76, k0_pay78, k0_pay79, k0_pay80, k0_pay81, k0_pay82, k0_pay84, k0_pay85, k0_pay86, k0_pay87, k0_pay89, k0_pay90, k0_pay91, k0_pay92, k0_pay93, k0_pay94, k0_pay95, k0_pay96, k0_pay97, k0_pay98, k0_pay99, k0_pay100, k0_pay101, k0_pay103, k0_pay107, k0_pay111, k0_pay118, k0_pay125, k0_pay129, k0_pay133, k0_pay137, headZ, hback, hms, gate]
  simp only [h1, h2, h3, h4, h5, h6, h7, ↓reduceDIte, zero_add, add_zero, Nat.add_sub_cancel_left, Fin.sum_univ_one]

theorem head_congr {v v' z z' w w' d d' : Fin 128 → EReal} {l l' : Fin 128} (f : (Fin 128 → EReal) → (Fin 128 → EReal) → (Fin 128 → EReal) → (Fin 128 → EReal) → Fin 128 → EReal)
    (hv : ∀ k, v k = v' k) (hz : ∀ k, z k = z' k) (hw : ∀ k, w k = w' k) (hd : ∀ k, d k = d' k) (hl : l.val = l'.val) : f v z w d l = f v' z' w' d' l' := by
  rw [funext hv, funext hz, funext hw, funext hd, Fin.ext hl]

theorem headW_congr {v v' z z' d d' : Fin 128 → EReal} {l l' : Fin 128} (hv : ∀ k, v k = v' k) (hz : ∀ k, z k = z' k) (hd : ∀ k, d k = d' k)
    (hl : l.val = l'.val) : headW v z d l = headW v' z' d' l' := by
  rw [funext hv, funext hz, funext hd, Fin.ext hl]

/-- Column `k` of the head that column `l` lies in. -/
def colOf (l : Fin 1024) (k : Fin 128) : Fin 1024 := ⟨128 * (l.val / 128) + k.val, by have := l.isLt; have := k.isLt; omega⟩

theorem ko (o z : Vec Ideal S256x1024 .f32) (w : Vec Ideal S8x128 .f32) (d : Vec Ideal S256x1024 .f32) (r : Fin 256) (l : Fin 1024) :
    KO o z w d (ix2 r l) = headO (fun k => o (ix2 r (colOf l k))) (fun k => z (ix2 r (colOf l k))) (fun k => w (ix2 4 k)) (fun k => d (ix2 r (colOf l k)))
      ⟨l.val % 128, Nat.mod_lt _ (by decide)⟩ := by
  have hl := l.isLt
  rcases (by omega : l.val / 128 = 0 ∨ l.val / 128 = 1 ∨ l.val / 128 = 2 ∨ l.val / 128 = 3 ∨ l.val / 128 = 4 ∨ l.val / 128 = 5 ∨ l.val / 128 = 6 ∨ l.val / 128 = 7) with h | h | h | h | h | h | h | h
  · refine (congrArg (fun c => KO o z w d (ix2 r c)) (Fin.ext (by dsimp only; omega) : l = ⟨0 + (⟨l.val % 128, Nat.mod_lt _ (by decide)⟩ : Fin 128).val, by dsimp only; omega⟩)).trans ((ko0 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨128 + (⟨l.val % 128, Nat.mod_lt _ (by decide)⟩ : Fin 128).val, by dsimp only; omega⟩)).trans ((ko1 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨256 + (⟨l.val % 128, Nat.mod_lt _ (by decide)⟩ : Fin 128).val, by dsimp only; omega⟩)).trans ((ko2 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨384 + (⟨l.val % 128, Nat.mod_lt _ (by decide)⟩ : Fin 128).val, by dsimp only; omega⟩)).trans ((ko3 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨512 + (⟨l.val % 128, Nat.mod_lt _ (by decide)⟩ : Fin 128).val, by dsimp only; omega⟩)).trans ((ko4 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨640 + (⟨l.val % 128, Nat.mod_lt _ (by decide)⟩ : Fin 128).val, by dsimp only; omega⟩)).trans ((ko5 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨768 + (⟨l.val % 128, Nat.mod_lt _ (by decide)⟩ : Fin 128).val, by dsimp only; omega⟩)).trans ((ko6 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KO o z w d (ix2 r c)) (Fin.ext (by dsimp only; omega) : l = ⟨896 + (⟨l.val % 128, Nat.mod_lt _ (by decide)⟩ : Fin 128).val, by dsimp only; omega⟩)).trans ((ko7 o z w d r _).trans ?_)
    exact head_congr headO (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl

theorem kz (o z : Vec Ideal S256x1024 .f32) (w : Vec Ideal S8x128 .f32) (d : Vec Ideal S256x1024 .f32) (r : Fin 256) (l : Fin 1024) :
    KZ o z w d (ix2 r l) = headZ (fun k => o (ix2 r (colOf l k))) (fun k => z (ix2 r (colOf l k))) (fun k => w (ix2 4 k)) (fun k => d (ix2 r (colOf l k)))
      ⟨l.val % 128, Nat.mod_lt _ (by decide)⟩ := by
  have hl := l.isLt
  rcases (by omega : l.val / 128 = 0 ∨ l.val / 128 = 1 ∨ l.val / 128 = 2 ∨ l.val / 128 = 3 ∨ l.val / 128 = 4 ∨ l.val / 128 = 5 ∨ l.val / 128 = 6 ∨ l.val / 128 = 7) with h | h | h | h | h | h | h | h
  · refine (congrArg (fun c => KZ o z w d (ix2 r c)) (Fin.ext (by dsimp only; omega) : l = ⟨0 + (⟨l.val % 128, Nat.mod_lt _ (by decide)⟩ : Fin 128).val, by dsimp only; omega⟩)).trans ((kz0 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨128 + (⟨l.val % 128, Nat.mod_lt _ (by decide)⟩ : Fin 128).val, by dsimp only; omega⟩)).trans ((kz1 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨256 + (⟨l.val % 128, Nat.mod_lt _ (by decide)⟩ : Fin 128).val, by dsimp only; omega⟩)).trans ((kz2 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨384 + (⟨l.val % 128, Nat.mod_lt _ (by decide)⟩ : Fin 128).val, by dsimp only; omega⟩)).trans ((kz3 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨512 + (⟨l.val % 128, Nat.mod_lt _ (by decide)⟩ : Fin 128).val, by dsimp only; omega⟩)).trans ((kz4 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨640 + (⟨l.val % 128, Nat.mod_lt _ (by decide)⟩ : Fin 128).val, by dsimp only; omega⟩)).trans ((kz5 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨768 + (⟨l.val % 128, Nat.mod_lt _ (by decide)⟩ : Fin 128).val, by dsimp only; omega⟩)).trans ((kz6 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl
  · refine (congrArg (fun c => KZ o z w d (ix2 r c)) (Fin.ext (by dsimp only; omega) : l = ⟨896 + (⟨l.val % 128, Nat.mod_lt _ (by decide)⟩ : Fin 128).val, by dsimp only; omega⟩)).trans ((kz7 o z w d r _).trans ?_)
    exact head_congr headZ (fun k => congrArg (fun c => o (ix2 r c)) (Fin.ext (by simp only [colOf, h]))) (fun k => congrArg (fun c => z (ix2 r c)) (Fin.ext (by simp only [colOf, h])))
      (fun k => rfl) (fun k => congrArg (fun c => d (ix2 r c)) (Fin.ext (by simp only [colOf, h]))) rfl

theorem add8 (a b c d e f g h : EReal) : a + b + c + d + e + f + g + h = h + g + f + e + d + c + b + a := by ac_rfl

set_option maxHeartbeats 4000000 in
theorem kw (o z : Vec Ideal S256x1024 .f32) (w : Vec Ideal S8x128 .f32) (d : Vec Ideal S256x1024 .f32) (acc : Vec Ideal S8x128 .f32) (i : Fin 8) (l : Fin 128) :
    KW o z w d acc (ix2 i l) = acc (ix2 i l) + if i.val = 4 then
      ∑ h : Fin 8, ∑ r : Fin 256, headW (fun k => o (ix2 r (col h k))) (fun k => z (ix2 r (col h k))) (fun k => d (ix2 r (col h k))) l else 0 := by
  have hi := i.isLt
  pointwise [KW, k0_pay3, k0_pay6, k0_pay8, k0_pay9, k0_pay11, k0_pay13, k0_pay14, k0_pay16, k0_pay17, k0_pay19, k0_pay20, k0_pay23, k0_pay25, k0_pay26, k0_pay28, k0_pay29, k0_pay31, k0_pay32, k0_pay34, k0_pay36, k0_pay37, k0_pay39, k0_pay40, k0_pay42, k0_pay43, k0_pay45, k0_pay47, k0_pay48, k0_pay50, k0_pay51, k0_pay53, k0_pay54, k0_pay56, k0_pay58, k0_pay59, k0_pay61, k0_pay62, k0_pay64, k0_pay65, k0_pay67, k0_pay69, k0_pay70, k0_pay72, k0_pay73, k0_pay75, k0_pay76, k0_pay78, k0_pay80, k0_pay81, k0_pay83, k0_pay84, k0_pay86, k0_pay87, k0_pay89, k0_pay91, k0_pay92, k0_pay94, k0_pay95, k0_pay96, k0_pay97, k0_pay98, k0_pay99, k0_pay100, k0_pay101, k0_pay102, k0_pay104, k0_pay106, k0_pay108, k0_pay110, k0_pay112, k0_pay115, k0_pay117, k0_pay119, k0_pay124, k0_pay127, k0_pay128, k0_pay130, k0_pay132, k0_pay134, k0_pay136, k0_pay138, headW, hms, gate]
  by_cases h4 : i.val = 4
  · rw [if_pos h4]
    simp only [h4, Nat.reduceLT, ↓reduceDIte]
    rw [Fin.sum_univ_eight]
    refine congrArg (_ + ·) ((add8 _ _ _ _ _ _ _ _).trans ?_)
    have c0 : ∀ k : Fin 128, col 0 k = ⟨k.val, by have := k.isLt; omega⟩ := fun k => Fin.ext (by simp only [col]; exact Nat.zero_add _)
    simp only [c0]
    rfl
  · rw [if_neg h4]
    by_cases h : i.val < 4
    · have e4 : (i.val < 4) = True := by simp only [eq_iff_iff, iff_true]; omega
      have e5 : (i.val < 5) = True := by simp only [eq_iff_iff, iff_true]; omega
      simp only [e4, e5, ↓reduceDIte, add_zero]
    · have e5 : (i.val < 5) = False := by simp only [eq_iff_iff, iff_false]; omega
      simp only [e5, ↓reduceDIte, add_zero]

end Cert.DeltaOutIdeal.Hand

end
-- ==== Proof.DeltaOutRef.lean ====
/- The delta rule's output norm and gate, taken back: the reference, one row of one head at a time. -/
module

public import proofs.«01_k».proof.Proof.DeltaOutRow
public import proofs.«01_k».proof.Proof.Gen.DeltaOutRefIdeal.Run
public import proofs.«01_k».proof.Proof.Gen.DeltaOutRefIdeal.Read

@[expose] public section

set_option maxRecDepth 16384

noncomputable section

namespace Cert.DeltaOutIdeal.Hand

open Cert.DeltaOutRefIdeal Cert.DeltaOutRefIdeal.Gen Idealize.ShloMosaic Idealize.ShloMosaic.TcCoe Idealize.SL.Sem

/-- Head `R % 8` of row `R / 8`. -/
def hrow (o : FVec Ideal S2048x1024 .f32) (R : Fin 16384) (k : Fin 128) : EReal :=
  o (ix2 ⟨R.val / 8, by have := R.isLt; omega⟩ ⟨128 * (R.val % 8) + k.val, by have := k.isLt; omega⟩)

/-- The row and head of an entry, as one number. -/
def rowOf (t : Fin 2048) (l : Fin 1024) : Fin 16384 := ⟨t.val * 8 + l.val / 128, by have := t.isLt; have := l.isLt; omega⟩
def laneOf (l : Fin 1024) : Fin 128 := ⟨l.val % 128, Nat.mod_lt _ (by decide)⟩

/-- The gate's arguments, columns 3072 to 4095 of the projection. -/
def ZA (x1 : FVec Ideal S2048x6656 .f32) : FVec Ideal S2048x1024 .f32 := fun i => x1 (ix2 (i 0) ⟨3072 + (i 1).val, by have h : (i 1).val < 1024 := (i 1).isLt; omega⟩)

/-- The first 1024 columns of the mixed gradient. -/
def DM (x3 : FVec Ideal S2048x2048 .f32) : FVec Ideal S2048x1024 .f32 := fun i => x3 (ix2 (i 0) ⟨(i 1).val, by have h : (i 1).val < 1024 := (i 1).isLt; omega⟩)

def GO (o z : FVec Ideal S2048x1024 .f32) (w : FVec Ideal S1x128 .f32) (d : FVec Ideal S2048x1024 .f32) : FVec Ideal S2048x1024 .f32 :=
  fun i => headO (hrow o (rowOf (i 0) (i 1))) (hrow z (rowOf (i 0) (i 1))) (fun k => w (ix2 0 k)) (hrow d (rowOf (i 0) (i 1))) (laneOf (i 1))

def GZ (o z : FVec Ideal S2048x1024 .f32) (w : FVec Ideal S1x128 .f32) (d : FVec Ideal S2048x1024 .f32) : FVec Ideal S2048x1024 .bf16 :=
  fun i => headZ (hrow o (rowOf (i 0) (i 1))) (hrow z (rowOf (i 0) (i 1))) (fun k => w (ix2 0 k)) (hrow d (rowOf (i 0) (i 1))) (laneOf (i 1))

def GW (o z d : FVec Ideal S2048x1024 .f32) : FVec Ideal S8x128 .f32 :=
  fun i => if (i 0).val = 4 then ∑ R : Fin 16384, headW (hrow o R) (hrow z R) (hrow d R) (i 1) else 0

theorem ref_v1 (x0 : FVec Ideal S2048x1024 .f32) (R : Fin 16384) (k : Fin 128) : Cert.DeltaOutRefIdeal.Read.val_main_v1 (F := Ideal) x0 (ix2 R k) = hrow x0 R k := by
  rw [Cert.DeltaOutRefIdeal.Read.val_main_v1_apply]
  have hk := k.isLt
  refine congrArg x0 (funext fun a => Fin.ext ?_)
  match a with
  | ⟨0, _⟩ => show (R.val * 128 + k.val) / 1024 = R.val / 8; omega
  | ⟨1, _⟩ => show (R.val * 128 + k.val) % 1024 = 128 * (R.val % 8) + k.val; omega

theorem ref_v31 (x1 : FVec Ideal S2048x6656 .f32) (x3 : FVec Ideal S2048x2048 .f32) (t : Fin 2048) (l : Fin 1024) :
    Cert.DeltaOutRefIdeal.Read.val_main_v31 (F := Ideal) x1 x3 (ix2 t l) = DM x3 (ix2 t l) * gate (ZA x1 (ix2 t l)) := by
  unfold Cert.DeltaOutRefIdeal.Read.val_main_v31 Cert.DeltaOutRefIdeal.Read.val_main_v29 Cert.DeltaOutRefIdeal.Read.val_main_v27 Cert.DeltaOutRefIdeal.Read.val_main_v23 Cert.DeltaOutRefIdeal.Read.val_main_v22 Cert.DeltaOutRefIdeal.Read.val_main_v21 Cert.DeltaOutRefIdeal.Read.val_main_v20 Cert.DeltaOutRefIdeal.Read.val_main_v19 Cert.DeltaOutRefIdeal.Read.val_main_v18 Cert.DeltaOutRefIdeal.Read.val_main_v0 Cert.DeltaOutRefIdeal.Read.val_main_cst_4 Cert.DeltaOutRefIdeal.Read.val_main_cst_3
  pointwise [DM, ZA, gate, Ideal.logistic]

theorem ref_v36 (x1 : FVec Ideal S2048x6656 .f32) (x3 : FVec Ideal S2048x2048 .f32) (R : Fin 16384) (k : Fin 128) :
    Cert.DeltaOutRefIdeal.Read.val_main_v36 (F := Ideal) x1 x3 (ix2 R k) = hrow (DM x3) R k * gate (hrow (ZA x1) R k) := by
  have hk := k.isLt
  have hR := R.isLt
  refine (Cert.DeltaOutRefIdeal.Read.val_main_v36_apply (F := Ideal) x1 x3 (ix2 R k)).trans ?_
  refine (congrArg (Cert.DeltaOutRefIdeal.Read.val_main_v31 (F := Ideal) x1 x3) (funext fun a => Fin.ext ?_)).trans
    (ref_v31 x1 x3 ⟨R.val / 8, by omega⟩ ⟨128 * (R.val % 8) + k.val, by omega⟩)
  match a with
  | ⟨0, _⟩ => show (R.val * 128 + k.val) / 1024 = R.val / 8; omega
  | ⟨1, _⟩ => show (R.val * 128 + k.val) % 1024 = 128 * (R.val % 8) + k.val; omega

theorem ref_v55 (x0 : FVec Ideal S2048x1024 .f32) (x1 : FVec Ideal S2048x6656 .f32) (x2 : FVec Ideal S1x128 .f32) (x3 : FVec Ideal S2048x2048 .f32) (R : Fin 16384) (k : Fin 128) : Cert.DeltaOutRefIdeal.Read.val_main_v55 (F := Ideal) x0 x1 x2 x3 (ix2 R k) =
    headO (hrow x0 R) (hrow (ZA x1) R) (fun k => x2 (ix2 0 k)) (hrow (DM x3) R) k := by
  unfold Cert.DeltaOutRefIdeal.Read.val_main_v55 Cert.DeltaOutRefIdeal.Read.val_main_v54 Cert.DeltaOutRefIdeal.Read.val_main_v53 Cert.DeltaOutRefIdeal.Read.val_main_v52 Cert.DeltaOutRefIdeal.Read.val_main_v51 Cert.DeltaOutRefIdeal.Read.val_main_v50 Cert.DeltaOutRefIdeal.Read.val_main_v49 Cert.DeltaOutRefIdeal.Read.val_main_v48 Cert.DeltaOutRefIdeal.Read.val_main_v47 Cert.DeltaOutRefIdeal.Read.val_main_v46 Cert.DeltaOutRefIdeal.Read.val_main_v45 Cert.DeltaOutRefIdeal.Read.val_main_v44 Cert.DeltaOutRefIdeal.Read.val_main_v43 Cert.DeltaOutRefIdeal.Read.val_main_v42 Cert.DeltaOutRefIdeal.Read.val_main_v41 Cert.DeltaOutRefIdeal.Read.val_main_v40 Cert.DeltaOutRefIdeal.Read.val_main_v12 Cert.DeltaOutRefIdeal.Read.val_main_v11 Cert.DeltaOutRefIdeal.Read.val_main_v10 Cert.DeltaOutRefIdeal.Read.val_main_v9 Cert.DeltaOutRefIdeal.Read.val_main_v8 Cert.DeltaOutRefIdeal.Read.val_main_v7 Cert.DeltaOutRefIdeal.Read.val_main_v6 Cert.DeltaOutRefIdeal.Read.val_main_v5 Cert.DeltaOutRefIdeal.Read.val_main_v4 Cert.DeltaOutRefIdeal.Read.val_main_v3 Cert.DeltaOutRefIdeal.Read.val_main_v2 Cert.DeltaOutRefIdeal.Read.val_main_cst_9 Cert.DeltaOutRefIdeal.Read.val_main_cst_8 Cert.DeltaOutRefIdeal.Read.val_main_cst_7 Cert.DeltaOutRefIdeal.Read.val_main_cst_2 Cert.DeltaOutRefIdeal.Read.val_main_cst_1 Cert.DeltaOutRefIdeal.Read.val_main_cst Cert.DeltaOutRefIdeal.Read.val_main_cst_0
  have h1 := ref_v1 x0 R
  have h36 := ref_v36 x1 x3 R
  revert h1 h36
  generalize Cert.DeltaOutRefIdeal.Read.val_main_v1 (F := Ideal) x0 = a1
  generalize Cert.DeltaOutRefIdeal.Read.val_main_v36 (F := Ideal) x1 x3 = a36
  intro h1 h36
  pointwise [headO, hback, hms]
  simp only [h1, h36, Fin.sum_univ_one, add_assoc]

theorem ref_o (x0 : FVec Ideal S2048x1024 .f32) (x1 : FVec Ideal S2048x6656 .f32) (x2 : FVec Ideal S1x128 .f32) (x3 : FVec Ideal S2048x2048 .f32) (t : Fin 2048) (l : Fin 1024) : Cert.DeltaOutRefIdeal.Read.val_main_v56 (F := Ideal) x0 x1 x2 x3 (ix2 t l) =
    GO x0 (ZA x1) x2 (DM x3) (ix2 t l) := by
  have hl := l.isLt
  refine (Cert.DeltaOutRefIdeal.Read.val_main_v56_apply (F := Ideal) x0 x1 x2 x3 (ix2 t l)).trans ?_
  refine (congrArg (Cert.DeltaOutRefIdeal.Read.val_main_v55 (F := Ideal) x0 x1 x2 x3) (funext fun a => Fin.ext ?_)).trans
    (ref_v55 x0 x1 x2 x3 (rowOf t l) (laneOf l))
  match a with
  | ⟨0, _⟩ => show (t.val * 1024 + l.val) / 128 = t.val * 8 + l.val / 128; omega
  | ⟨1, _⟩ => show (t.val * 1024 + l.val) % 128 = l.val % 128; omega

theorem ref_v16 (x0 : FVec Ideal S2048x1024 .f32) (x2 : FVec Ideal S1x128 .f32) (R : Fin 16384) (k : Fin 128) : Cert.DeltaOutRefIdeal.Read.val_main_v16 (F := Ideal) x0 x2 (ix2 R k) =
    hrow x0 R k * Ideal.rsqrt (hms (hrow x0 R)) * x2 (ix2 0 k) := by
  unfold Cert.DeltaOutRefIdeal.Read.val_main_v16 Cert.DeltaOutRefIdeal.Read.val_main_v15 Cert.DeltaOutRefIdeal.Read.val_main_v14 Cert.DeltaOutRefIdeal.Read.val_main_v13 Cert.DeltaOutRefIdeal.Read.val_main_v9 Cert.DeltaOutRefIdeal.Read.val_main_v8 Cert.DeltaOutRefIdeal.Read.val_main_v7 Cert.DeltaOutRefIdeal.Read.val_main_v6 Cert.DeltaOutRefIdeal.Read.val_main_v5 Cert.DeltaOutRefIdeal.Read.val_main_v4 Cert.DeltaOutRefIdeal.Read.val_main_v3 Cert.DeltaOutRefIdeal.Read.val_main_v2 Cert.DeltaOutRefIdeal.Read.val_main_cst_1 Cert.DeltaOutRefIdeal.Read.val_main_cst Cert.DeltaOutRefIdeal.Read.val_main_cst_0
  have h1 := ref_v1 x0 R
  revert h1
  generalize Cert.DeltaOutRefIdeal.Read.val_main_v1 (F := Ideal) x0 = a1
  intro h1
  pointwise [hms]
  simp only [h1]

theorem ref_v17 (x0 : FVec Ideal S2048x1024 .f32) (x2 : FVec Ideal S1x128 .f32) (t : Fin 2048) (l : Fin 1024) : Cert.DeltaOutRefIdeal.Read.val_main_v17 (F := Ideal) x0 x2 (ix2 t l) =
    hrow x0 (rowOf t l) (laneOf l) * Ideal.rsqrt (hms (hrow x0 (rowOf t l))) * x2 (ix2 0 (laneOf l)) := by
  have hl := l.isLt
  refine (Cert.DeltaOutRefIdeal.Read.val_main_v17_apply (F := Ideal) x0 x2 (ix2 t l)).trans ?_
  refine (congrArg (Cert.DeltaOutRefIdeal.Read.val_main_v16 (F := Ideal) x0 x2) (funext fun a => Fin.ext ?_)).trans (ref_v16 x0 x2 (rowOf t l) (laneOf l))
  match a with
  | ⟨0, _⟩ => show (t.val * 1024 + l.val) / 128 = t.val * 8 + l.val / 128; omega
  | ⟨1, _⟩ => show (t.val * 1024 + l.val) % 128 = l.val % 128; omega

theorem hrow_rowOf (o : FVec Ideal S2048x1024 .f32) (t : Fin 2048) (l : Fin 1024) : hrow o (rowOf t l) (laneOf l) = o (ix2 t l) := by
  have hl := l.isLt
  refine congrArg o (funext fun a => Fin.ext ?_)
  match a with
  | ⟨0, _⟩ => show (t.val * 8 + l.val / 128) / 8 = t.val; omega
  | ⟨1, _⟩ => show 128 * ((t.val * 8 + l.val / 128) % 8) + l.val % 128 = l.val; omega

theorem ref_z (x0 : FVec Ideal S2048x1024 .f32) (x1 : FVec Ideal S2048x6656 .f32) (x2 : FVec Ideal S1x128 .f32) (x3 : FVec Ideal S2048x2048 .f32) (t : Fin 2048) (l : Fin 1024) : Cert.DeltaOutRefIdeal.Read.val_main_v58 (F := Ideal) x0 x1 x2 x3 (ix2 t l) =
    GZ x0 (ZA x1) x2 (DM x3) (ix2 t l) := by
  show _ = headZ (hrow x0 (rowOf t l)) (hrow (ZA x1) (rowOf t l)) (fun k => x2 (ix2 0 k)) (hrow (DM x3) (rowOf t l)) (laneOf l)
  unfold headZ
  rw [hrow_rowOf (ZA x1), hrow_rowOf (DM x3)]
  have h17 := ref_v17 x0 x2 t l
  unfold Cert.DeltaOutRefIdeal.Read.val_main_v58 Cert.DeltaOutRefIdeal.Read.val_main_v35 Cert.DeltaOutRefIdeal.Read.val_main_v34 Cert.DeltaOutRefIdeal.Read.val_main_v33 Cert.DeltaOutRefIdeal.Read.val_main_v32 Cert.DeltaOutRefIdeal.Read.val_main_v30 Cert.DeltaOutRefIdeal.Read.val_main_v29 Cert.DeltaOutRefIdeal.Read.val_main_v26 Cert.DeltaOutRefIdeal.Read.val_main_v25 Cert.DeltaOutRefIdeal.Read.val_main_v24 Cert.DeltaOutRefIdeal.Read.val_main_v23 Cert.DeltaOutRefIdeal.Read.val_main_v22 Cert.DeltaOutRefIdeal.Read.val_main_v21 Cert.DeltaOutRefIdeal.Read.val_main_v20 Cert.DeltaOutRefIdeal.Read.val_main_v19 Cert.DeltaOutRefIdeal.Read.val_main_v18 Cert.DeltaOutRefIdeal.Read.val_main_v0 Cert.DeltaOutRefIdeal.Read.val_main_cst_5 Cert.DeltaOutRefIdeal.Read.val_main_cst_4 Cert.DeltaOutRefIdeal.Read.val_main_cst_3
  revert h17
  generalize Cert.DeltaOutRefIdeal.Read.val_main_v17 (F := Ideal) x0 x2 = a17
  intro h17
  rw [← h17]
  pointwise [DM, ZA, Ideal.logistic]

theorem ref_w (x0 : FVec Ideal S2048x1024 .f32) (x1 : FVec Ideal S2048x6656 .f32) (x3 : FVec Ideal S2048x2048 .f32) (i : Fin 8) (l : Fin 128) : Cert.DeltaOutRefIdeal.Read.val_main_v60 (F := Ideal) x0 x1 x3 (ix2 i l) =
    GW x0 (ZA x1) (DM x3) (ix2 i l) := by
  unfold Cert.DeltaOutRefIdeal.Read.val_main_v60 Cert.DeltaOutRefIdeal.Read.val_main_v59 Cert.DeltaOutRefIdeal.Read.val_main_v57 Cert.DeltaOutRefIdeal.Read.val_main_v39 Cert.DeltaOutRefIdeal.Read.val_main_v38 Cert.DeltaOutRefIdeal.Read.val_main_v37 Cert.DeltaOutRefIdeal.Read.val_main_v14 Cert.DeltaOutRefIdeal.Read.val_main_v13 Cert.DeltaOutRefIdeal.Read.val_main_v9 Cert.DeltaOutRefIdeal.Read.val_main_v8 Cert.DeltaOutRefIdeal.Read.val_main_v7 Cert.DeltaOutRefIdeal.Read.val_main_v6 Cert.DeltaOutRefIdeal.Read.val_main_v5 Cert.DeltaOutRefIdeal.Read.val_main_v4 Cert.DeltaOutRefIdeal.Read.val_main_v3 Cert.DeltaOutRefIdeal.Read.val_main_v2 Cert.DeltaOutRefIdeal.Read.val_main_cst_10 Cert.DeltaOutRefIdeal.Read.val_main_cst_6 Cert.DeltaOutRefIdeal.Read.val_main_cst_1 Cert.DeltaOutRefIdeal.Read.val_main_cst Cert.DeltaOutRefIdeal.Read.val_main_cst_0
  have h1 := ref_v1 x0
  have h36 := ref_v36 x1 x3
  revert h1 h36
  generalize Cert.DeltaOutRefIdeal.Read.val_main_v1 (F := Ideal) x0 = a1
  generalize Cert.DeltaOutRefIdeal.Read.val_main_v36 (F := Ideal) x1 x3 = a36
  intro h1 h36
  have hi := i.isLt
  show _ = if i.val = 4 then ∑ R : Fin 16384, headW (hrow x0 R) (hrow (ZA x1) R) (hrow (DM x3) R) l else 0
  pointwise [headW, hms]
  by_cases h4 : i.val = 4
  · rw [if_pos h4]
    simp only [h4, h1, h36, Nat.reduceLT, Nat.reduceSub, ↓reduceDIte]
  · rw [if_neg h4]
    by_cases h : i.val < 4
    · have e4 : (i.val < 4) = True := by simp only [eq_iff_iff, iff_true]; omega
      simp only [e4, ↓reduceDIte]
    · have e4 : (i.val < 4) = False := by simp only [eq_iff_iff, iff_false]; omega
      have e5 : (i.val - 4 < 1) = False := by simp only [eq_iff_iff, iff_false]; omega
      simp only [e4, e5, ↓reduceDIte]

end Cert.DeltaOutIdeal.Hand

end
-- ==== Proof.DeltaOutClaim.lean ====
/- The delta rule's output norm and gate, taken back: the blocks over the grid, and the claim. -/
module

public import proofs.«01_k».proof.Proof.DeltaOutRef

@[expose] public section

set_option maxRecDepth 16384

noncomputable section

namespace Cert.DeltaOutIdeal.Hand

open Cert.DeltaOutIdeal Cert.DeltaOutIdeal.Gen Idealize.ShloMosaic Idealize.ShloMosaic.TcCoe Idealize.SL.Sem

/-- Rows tile by tile and heads, in another order. -/
theorem regroup (g : Fin 16384 → EReal) :
    ∑ p : Fin 8, ∑ h : Fin 8, ∑ r : Fin 256, g ⟨(p.val * 256 + r.val) * 8 + h.val, by have := p.isLt; have := h.isLt; have := r.isLt; omega⟩ = ∑ R, g R := by
  rw [← Fin.sum_mul_add_fin 2048 8 g rfl]
  rw [← Fin.sum_mul_add_fin 8 256 (fun t : Fin 2048 => ∑ h : Fin 8, g ⟨t.val * 8 + h.val, by have := t.isLt; have := h.isLt; omega⟩) rfl]
  exact Finset.sum_congr rfl fun p _ => Finset.sum_comm

theorem regroup_row (b b' : Prop) [Decidable b] [Decidable b'] (hb : b ↔ b') (f : Fin 8 → Fin 8 → Fin 256 → EReal) (g : Fin 16384 → EReal)
    (h : ∀ p h r, f p h r = g ⟨(p.val * 256 + r.val) * 8 + h.val, by have := p.isLt; have := h.isLt; have := r.isLt; omega⟩) :
    (∑ p : Fin 8, if b then ∑ h : Fin 8, ∑ r : Fin 256, f p h r else 0) = if b' then ∑ R, g R else 0 := by
  by_cases hp : b
  · rw [if_pos (hb.mp hp), ← regroup]
    refine Finset.sum_congr rfl fun p _ => ?_
    rw [if_pos hp]
    exact Finset.sum_congr rfl fun k _ => Finset.sum_congr rfl fun r _ => h p k r
  · rw [if_neg (fun q => hp (hb.mpr q))]
    exact Finset.sum_eq_zero fun p _ => if_neg hp

section Kernel
variable (m : (ℓ : Loc nD τ sig) → Buf (Elt Ideal) ℓ)

theorem idx : ∀ t : Fin cfg0.N, win0_0.index t = ![t.val, 0] ∧ win0_1.index t = ![t.val, 3] ∧ win0_2.index t = ![0, 0]
    ∧ win0_3.index t = ![t.val, 0] ∧ win0_4.index t = ![t.val, 0] ∧ win0_5.index t = ![t.val, 0] ∧ win0_6.index t = ![0, 0] ∧ t.val < 8 :=
  (by decide +kernel : ∀ t : Fin grid0.N, _)

theorem V_v2 (c : Dev nD) (k : Fin 128) : (show FVec Ideal S8x128 .f32 from V m c main_v2) (ix2 4 k) = (m ((c : Thread nD τ).loc main_arg2)) (ix2 0 k) := by
  have h : V m c main_v2 = concatenate S8x128 0 [⟨S4x128, broadcastInDim S4x128 ![] bcast_S_S4x128 (constant (F := Ideal) S_ .f32 0x00000000#32)⟩, ⟨S1x128, (m ((c : Thread nD τ).loc main_arg2))⟩,
      ⟨S3x128, broadcastInDim S3x128 ![] bcast_S_S3x128 (constant (F := Ideal) S_ .f32 0x00000000#32)⟩] concatenates_S4x128_S1x128_S3x128_S8x128_d0 := by
    show StableHlo.after hostOps0 (fun b => m (c, b)) (Proc.devRef .tc main_v2) = _
    after_results
    rfl
  rw [h]
  pointwise []

theorem outO (c : Dev nD) (t : Fin cfg0.N) : (outsAt0 m c t.val t.isLt).1 = KO (iblk m c 0 t) (X0_1 m c t) (iblk m c 2 t) (iblk m c 3 t) := by
  by_cases h0 : t.val % 8 = 0
  · rw [outsAt0_A m c t h0]; frame_out; rfl
  · rw [outsAt0_B m c t h0]; frame_out; rfl

theorem outZ (c : Dev nD) (t : Fin cfg0.N) : (outsAt0 m c t.val t.isLt).2.1 = KZ (iblk m c 0 t) (X0_1 m c t) (iblk m c 2 t) (iblk m c 3 t) := by
  by_cases h0 : t.val % 8 = 0
  · rw [outsAt0_A m c t h0]; frame_out; rfl
  · rw [outsAt0_B m c t h0]; frame_out; rfl

theorem outW0 (c : Dev nD) (t : Fin cfg0.N) (h0 : t.val % 8 = 0) :
    (outsAt0 m c t.val t.isLt).2.2 = KW (iblk m c 0 t) (X0_1 m c t) (iblk m c 2 t) (iblk m c 3 t) (k0_pay4 (F := Ideal)) := by
  rw [outsAt0_A m c t h0]; frame_out; rfl

theorem outW1 (c : Dev nD) (t : Fin cfg0.N) (h0 : ¬ t.val % 8 = 0) :
    (outsAt0 m c t.val t.isLt).2.2 = KW (iblk m c 0 t) (X0_1 m c t) (iblk m c 2 t) (iblk m c 3 t) (outsAt0 m c (t.val - 1) (Nat.lt_of_le_of_lt (Nat.sub_le _ _) t.isLt)).2.2 := by
  rw [outsAt0_B m c t h0]; frame_out; rfl

theorem rowO (c : Dev nD) (t : Fin cfg0.N) (r : Fin 256) (j : Fin 1024) (R : Fin 16384) (k : Fin 128) (hR : R.val = (t.val * 256 + r.val) * 8 + j.val / 128) (hk : k.val = j.val % 128) :
    (show FVec Ideal S256x1024 .f32 from iblk m c 0 t) (ix2 r j) = hrow (m ((c : Thread nD τ).loc main_arg0)) R k := by
  have hr := r.isLt
  have hj := j.isLt
  unfold hrow
  blk_ext [iblk, V, idx t]

theorem rowD (c : Dev nD) (t : Fin cfg0.N) (r : Fin 256) (j : Fin 1024) (R : Fin 16384) (k : Fin 128) (hR : R.val = (t.val * 256 + r.val) * 8 + j.val / 128) (hk : k.val = j.val % 128) :
    (show FVec Ideal S256x1024 .f32 from iblk m c 3 t) (ix2 r j) = hrow (DM (m ((c : Thread nD τ).loc main_arg3))) R k := by
  have hr := r.isLt
  have hj := j.isLt
  unfold hrow DM
  blk_ext [iblk, V, idx t]

theorem rowZ (c : Dev nD) (t : Fin cfg0.N) (r : Fin 256) (j : Fin 1024) (R : Fin 16384) (k : Fin 128) (hR : R.val = (t.val * 256 + r.val) * 8 + j.val / 128) (hk : k.val = j.val % 128) :
    (show FVec Ideal S256x1024 .f32 from X0_1 m c t) (ix2 r j) = hrow (ZA (m ((c : Thread nD τ).loc main_arg1))) R k := by
  have hr := r.isLt
  have hj := j.isLt
  unfold hrow ZA X0_1 Pipeline.Window.fill
  refine (dif_pos (moved0_1 t _)).trans ?_
  blk_ext [iblk, V, idx t]

theorem rowW (c : Dev nD) (t : Fin cfg0.N) (k : Fin 128) : (show FVec Ideal S8x128 .f32 from iblk m c 2 t) (ix2 4 k) = (m ((c : Thread nD τ).loc main_arg2)) (ix2 0 k) := by
  rw [← V_v2 m c k]
  blk_ext [iblk, idx t]

theorem final4 (c : Dev nD) : (dats m 0 c).arrAt 4 (cfgs 0).N = GO (m ((c : Thread nD τ).loc main_arg0)) (ZA (m ((c : Thread nD τ).loc main_arg1))) (m ((c : Thread nD τ).loc main_arg2)) (DM (m ((c : Thread nD τ).loc main_arg3))) := by
  refine (dats m 0 c).arrAt_eq_of_covers 4 _ (by decide +kernel) fun t _ y => ?_
  blk_simp
  rw [after0_4, outO]
  rw [eq_ix2 (n0 := 256) (n1 := 1024) y]
  refine (ko _ _ _ _ (y 0) (y 1)).trans ?_
  have h0 : (y 0).val < 256 := (y 0).isLt
  have h1 : (y 1).val < 1024 := (y 1).isLt
  refine head_congr headO (fun k => rowO m c t _ _ _ _ ?_ ?_) (fun k => rowZ m c t _ _ _ _ ?_ ?_) (fun k => rowW m c t k) (fun k => rowD m c t _ _ _ _ ?_ ?_) ?_
  all_goals blk_simp [idx t, rowOf, laneOf, colOf]
  all_goals (try have hk := k.isLt)
  all_goals first | omega | (dsimp only; omega)

theorem final5 (c : Dev nD) : (dats m 0 c).arrAt 5 (cfgs 0).N = GZ (m ((c : Thread nD τ).loc main_arg0)) (ZA (m ((c : Thread nD τ).loc main_arg1))) (m ((c : Thread nD τ).loc main_arg2)) (DM (m ((c : Thread nD τ).loc main_arg3))) := by
  refine (dats m 0 c).arrAt_eq_of_covers 5 _ (by decide +kernel) fun t _ y => ?_
  blk_simp
  rw [after0_5, outZ]
  rw [eq_ix2 (n0 := 256) (n1 := 1024) y]
  refine (kz _ _ _ _ (y 0) (y 1)).trans ?_
  have h0 : (y 0).val < 256 := (y 0).isLt
  have h1 : (y 1).val < 1024 := (y 1).isLt
  refine head_congr headZ (fun k => rowO m c t _ _ _ _ ?_ ?_) (fun k => rowZ m c t _ _ _ _ ?_ ?_) (fun k => rowW m c t k) (fun k => rowD m c t _ _ _ _ ?_ ?_) ?_
  all_goals blk_simp [idx t, rowOf, laneOf, colOf]
  all_goals (try have hk := k.isLt)
  all_goals first | omega | (dsimp only; omega)

theorem pay4 (j) : k0_pay4 (F := Ideal) j = 0 := by pointwise [k0_pay4]

theorem kw' (o z w d acc) (j : S8x128.Idx) : KW o z w d acc j = acc j + if (j 0).val = 4 then ∑ h : Fin 8, ∑ r : Fin 256, headW (fun k => o (ix2 r (col h k))) (fun k => z (ix2 r (col h k))) (fun k => d (ix2 r (col h k))) (j 1) else 0 := by
  have h := kw o z w d acc (j 0) (j 1)
  rw [eq_ix2 (n0 := 8) (n1 := 128) j]
  exact h

theorem final6 (c : Dev nD) : (dats m 0 c).arrAt 6 (cfgs 0).N = GW (m ((c : Thread nD τ).loc main_arg0)) (ZA (m ((c : Thread nD τ).loc main_arg1))) (DM (m ((c : Thread nD τ).loc main_arg3))) := by
  refine (dats m 0 c).arrAt_eq_of_covers 6 _ (by decide +kernel) fun t hf y => ?_
  have ht : t.val % 8 = 7 := (flush0_6 t).mp hf
  blk_simp
  rw [after0_6, Pipeline.eq_sum_fin_of_reset_step_apply_of_flush (fun n h => (outsAt0 m c n h).2.2) 8 (fun _ => 0)
    (fun p j => if (j 0).val = 4 then ∑ h : Fin 8, ∑ r : Fin 256, headW (fun k => (show FVec Ideal S256x1024 .f32 from iblk m c 0 p) (ix2 r (col h k))) (fun k => (show FVec Ideal S256x1024 .f32 from X0_1 m c p) (ix2 r (col h k))) (fun k => (show FVec Ideal S256x1024 .f32 from iblk m c 3 p) (ix2 r (col h k))) (j 1) else 0)
    (fun t h j => by rw [outW0 m c t h, kw', pay4])
    (fun t h j => by rw [outW1 m c t h, kw'])
    t ht _, zero_add]
  have h8 := (idx t).2.2.2.2.2.2.2
  unfold GW
  refine regroup_row _ _ ?_ _ _ fun p h r => ?_
  · blk_simp [idx t]
  · have hp := p.isLt
    have hh := h.isLt
    have hr := r.isLt
    refine headW_congr (fun k => rowO m c _ _ _ _ _ ?_ ?_) (fun k => rowZ m c _ _ _ _ _ ?_ ?_) (fun k => rowD m c _ _ _ _ _ ?_ ?_) ?_
    all_goals blk_simp [idx t, col]
    all_goals (try have hk := k.isLt)
    all_goals first | omega | (dsimp only; omega) | skip

end Kernel

theorem algebraic : Cert.algebraic_DeltaOutIdeal_DeltaOutRefIdeal := fun m ρ m' ρ' _ hag =>
  ⟨fun c => GO (m ((c : Thread nD τ).loc main_arg0)) (ZA (m ((c : Thread nD τ).loc main_arg1))) (m ((c : Thread nD τ).loc main_arg2)) (DM (m ((c : Thread nD τ).loc main_arg3))), fun c => GZ (m ((c : Thread nD τ).loc main_arg0)) (ZA (m ((c : Thread nD τ).loc main_arg1))) (m ((c : Thread nD τ).loc main_arg2)) (DM (m ((c : Thread nD τ).loc main_arg3))), fun c => GW (m ((c : Thread nD τ).loc main_arg0)) (ZA (m ((c : Thread nD τ).loc main_arg1))) (DM (m ((c : Thread nD τ).loc main_arg3))),
   (θ_run _ _ _).mono (fun _ h c => ⟨(h c).1.trans (final4 m c), (h c).2.1.trans (final5 m c), (h c).2.2.1.trans (final6 m c), (h c).2.2.2⟩)
     (Cert.DeltaOutIdeal.Value.run_blocks m ρ),
   (θ_run _ _ _).mono (fun _ h c => ⟨(h c).1.trans (by
        rw [Cert.DeltaOutRefIdeal.Read.val_main_v56_eq, (hag c).1, (hag c).2.1, (hag c).2.2.1, (hag c).2.2.2]
        funext i
        exact (congrArg _ (eq_ix2 (n0 := 2048) (n1 := 1024) i)).trans ((ref_o _ _ _ _ _ _).trans (congrArg _ (eq_ix2 (n0 := 2048) (n1 := 1024) i).symm))),
      (h c).2.1.trans (by
        rw [Cert.DeltaOutRefIdeal.Read.val_main_v58_eq, (hag c).1, (hag c).2.1, (hag c).2.2.1, (hag c).2.2.2]
        funext i
        exact (congrArg _ (eq_ix2 (n0 := 2048) (n1 := 1024) i)).trans ((ref_z _ _ _ _ _ _).trans (congrArg _ (eq_ix2 (n0 := 2048) (n1 := 1024) i).symm))),
      (h c).2.2.1.trans (by
        rw [Cert.DeltaOutRefIdeal.Read.val_main_v60_eq, (hag c).1, (hag c).2.1, (hag c).2.2.2]
        funext i
        exact (congrArg _ (eq_ix2 (n0 := 8) (n1 := 128) i)).trans ((ref_w _ _ _ _ _).trans (congrArg _ (eq_ix2 (n0 := 8) (n1 := 128) i).symm))),
      (h c).2.2.2⟩)
     (Cert.DeltaOutRefIdeal.Value.run m' ρ')⟩

end Cert.DeltaOutIdeal.Hand

end
-- ==== Proof.Scale.lean ====
/- The step's constants as extended reals, and a positive constant taken out of a sum. -/
module

public import Idealize.ShloMosaic.Lib.Pointwise
public import Idealize.ShloMosaic.Lib.IdealHost

@[expose] public section

noncomputable section

namespace Cert.Rows

open Idealize.ShloMosaic

theorem half_eq : Ideal.ofBits .f32 0x3F000000#32 = (((1 : ℝ) / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem n2048_eq : Ideal.ofBits .f32 0x45000000#32 = ((2048 : ℝ) : EReal) := by
  simp [Ideal.ofBits, Ideal.ieee, -EReal.coe_mul]; norm_num
theorem inv2048_eq : Ideal.ofBits .f32 0x3A000000#32 = (((1 : ℝ) / 2048 : ℝ) : EReal) := by
  simp [Ideal.ofBits, Ideal.ieee, -EReal.coe_mul]; norm_num

/-- Dividing by the row length is multiplying by its inverse. -/
theorem div2048 (x : EReal) : Ideal.div x (Ideal.ofBits .f32 0x45000000#32) = x * Ideal.ofBits .f32 0x3A000000#32 := by
  rw [n2048_eq, inv2048_eq, Ideal.div_coe (by norm_num)]

/-- A constant that is neither negative nor infinite distributes over a sum. -/
theorem mul_sum_of_real (c : ℝ) (hc : 0 ≤ c) {n : ℕ} (f : Fin n → EReal) : (c : EReal) * ∑ k, f k = ∑ k, (c : EReal) * f k := by
  refine Finset.induction_on (Finset.univ : Finset (Fin n)) (by simp) fun a s ha ih => ?_
  rw [Finset.sum_insert ha, Finset.sum_insert ha, EReal.left_distrib_of_nonneg_of_ne_top (EReal.coe_nonneg.2 hc) (EReal.coe_ne_top c), ih]

theorem sum_mul_of_real (c : ℝ) (hc : 0 ≤ c) {n : ℕ} (f : Fin n → EReal) : (∑ k, f k) * (c : EReal) = ∑ k, f k * (c : EReal) := by
  rw [mul_comm, mul_sum_of_real c hc]
  exact Finset.sum_congr rfl fun k _ => mul_comm _ _

end Cert.Rows

end
-- ==== Proof.HeadValue.lean ====
/- The output projection with the loss, its gradient, and the two products of the gradient. -/
module

public import proofs.«01_k».proof.Proof.Scale
public import proofs.«01_k».proof.Proof.Gen.HeadIdeal.Frame
public import proofs.«01_k».proof.Proof.Gen.HeadRefIdeal.Read
public import Idealize.ShloMosaic.Lib.Pipeline.ValueKit

@[expose] public section

set_option maxRecDepth 16384

noncomputable section

namespace Cert.HeadIdeal.Hand

open Cert.HeadIdeal Cert.HeadIdeal.Gen Cert.Rows Idealize.ShloMosaic Idealize.ShloMosaic.TcCoe Idealize.SL.Sem

/-- The residual: the layer's output less the target. -/
def RES (a w : FVec Ideal S2048x2048 .bf16) (x t : FVec Ideal S2048x2048 .f32) (r l : Fin 2048) : EReal :=
  x (ix2 r l) + (∑ k : Fin 2048, a (ix2 r k) * w (ix2 k l)) - t (ix2 r l)

/-- The gradient of the loss in the layer's output. -/
def DY (a w : FVec Ideal S2048x2048 .bf16) (x t : FVec Ideal S2048x2048 .f32) : FVec Ideal S2048x2048 .f32 :=
  fun i => RES a w x t (i 0) (i 1) * Ideal.ofBits .f32 0x3A000000#32

/-- One tile's part of the loss. -/
def PART (a w : FVec Ideal S2048x2048 .bf16) (x t : FVec Ideal S2048x2048 .f32) : FVec Ideal S8x8x128 .f32 :=
  fun i => Ideal.ofBits .f32 0x3F000000#32 * ∑ r : Fin 1024, (∑ l : Fin 512,
    RES a w x t ⟨(i 0).val / 4 * 1024 + r.val, by have h : (i 0).val < 8 := (i 0).isLt; omega⟩ ⟨(i 0).val % 4 * 512 + l.val, by omega⟩
      * RES a w x t ⟨(i 0).val / 4 * 1024 + r.val, by have h : (i 0).val < 8 := (i 0).isLt; omega⟩ ⟨(i 0).val % 4 * 512 + l.val, by omega⟩)
      * Ideal.ofBits .f32 0x3A000000#32

/-- The loss. -/
def LOSS (a w : FVec Ideal S2048x2048 .bf16) (x t : FVec Ideal S2048x2048 .f32) : FVec Ideal S_ .f32 :=
  fun _ => Ideal.ofBits .f32 0x3F000000#32 * ∑ r : Fin 2048, (∑ l : Fin 2048, RES a w x t r l * RES a w x t r l) * Ideal.ofBits .f32 0x3A000000#32

/-- Rows of `g` against rows of `w`. -/
def DM (g w : FVec Ideal S2048x2048 .bf16) : FVec Ideal S2048x2048 .f32 :=
  fun i => ∑ k : Fin 2048, g (ix2 (i 0) k) * w (ix2 (i 1) k)

/-- Columns of `a` against columns of `g`. -/
def GW (a g : FVec Ideal S2048x2048 .bf16) : FVec Ideal S2048x2048 .f32 :=
  fun i => ∑ k : Fin 2048, a (ix2 k (i 0)) * g (ix2 k (i 1))

theorem pay01 (x : Vec Ideal S1024x512 .f32) (a : Vec Ideal S1024x2048 .bf16) (w : Vec Ideal S2048x512 .bf16) (t : Vec Ideal S1024x512 .f32)
    (r : Fin 1024) (l : Fin 512) :
    k0_pay1 (F := Ideal) x a w t (ix2 r l) = x (ix2 r l) + (∑ k : Fin 2048, a (ix2 r k) * w (ix2 k l)) - t (ix2 r l) := by
  pointwise [k0_pay1]

theorem pay02 (x : Vec Ideal S1024x512 .f32) (a : Vec Ideal S1024x2048 .bf16) (w : Vec Ideal S2048x512 .bf16) (t : Vec Ideal S1024x512 .f32)
    (r : Fin 1024) (l : Fin 512) :
    k0_pay2 (F := Ideal) x a w t (ix2 r l) = k0_pay1 (F := Ideal) x a w t (ix2 r l) * Ideal.ofBits .f32 0x3A000000#32 := by
  pointwise [k0_pay2]

theorem pay04 (x : Vec Ideal S1024x512 .f32) (a : Vec Ideal S1024x2048 .bf16) (w : Vec Ideal S2048x512 .bf16) (t : Vec Ideal S1024x512 .f32)
    (p : Fin 1) (q : Fin 8) (s : Fin 128) :
    k0_pay4 (F := Ideal) x a w t (ix3 p q s) = Ideal.ofBits .f32 0x3F000000#32 * ∑ r : Fin 1024, (∑ l : Fin 512,
      k0_pay1 (F := Ideal) x a w t (ix2 r l) * k0_pay1 (F := Ideal) x a w t (ix2 r l)) * Ideal.ofBits .f32 0x3A000000#32 := by
  pointwise [k0_pay4]
  simp only [Fin.sum_univ_one]

theorem pay1 (a : Vec Ideal S1024x2048 .bf16) (b : Vec Ideal S512x2048 .bf16) (r : Fin 1024) (l : Fin 512) :
    k1_pay1 (F := Ideal) a b (ix2 r l) = ∑ k : Fin 2048, a (ix2 r k) * b (ix2 l k) := by
  pointwise [k1_pay1]

theorem pay2 (a : Vec Ideal S2048x1024 .bf16) (b : Vec Ideal S2048x512 .bf16) (r : Fin 1024) (l : Fin 512) :
    k2_pay1 (F := Ideal) a b (ix2 r l) = ∑ k : Fin 2048, a (ix2 k r) * b (ix2 k l) := by
  pointwise [k2_pay1]

/-- The loss gradient's two constants, multiplied out. -/
theorem consts (d : EReal) : Ideal.div (Ideal.ofBits .f32 0x3F000000#32) (Ideal.ofBits .f32 0x45000000#32) * (Ideal.ofBits .f32 0x40000000#32 * d)
    = d * Ideal.ofBits .f32 0x3A000000#32 := by
  rw [div2048, ← mul_assoc, mul_comm _ d, half_eq, two_eq, inv2048_eq, ← EReal.coe_mul, ← EReal.coe_mul]
  norm_num

section Ref
variable (a w : FVec Ideal S2048x2048 .bf16) (x t : FVec Ideal S2048x2048 .f32)

theorem ref_loss (i : S_.Idx) : Cert.HeadRefIdeal.Read.val_main_v12 (F := Ideal) a w x t i = LOSS a w x t i := by
  rw [← Cert.HeadRefIdeal.Read.val_main_v12_eq]
  pointwise [LOSS, RES]
  simp only [div2048]

theorem ref_dy (r l : Fin 2048) : Cert.HeadRefIdeal.Read.val_main_v18 (F := Ideal) a w x t (ix2 r l) = DY a w x t (ix2 r l) := by
  rw [← Cert.HeadRefIdeal.Read.val_main_v18_eq]
  pointwise [DY, RES, consts]

theorem ref_dm (r l : Fin 2048) : Cert.HeadRefIdeal.Read.val_main_v21 (F := Ideal) a w x t (ix2 r l) = DM (DY a w x t) w (ix2 r l) := by
  rw [← Cert.HeadRefIdeal.Read.val_main_v21_eq]
  pointwise [DM, DY, RES, consts]

theorem ref_gw (r l : Fin 2048) : Cert.HeadRefIdeal.Read.val_main_v20 (F := Ideal) a w x t (ix2 r l) = GW a (DY a w x t) (ix2 r l) := by
  rw [← Cert.HeadRefIdeal.Read.val_main_v20_eq]
  pointwise [GW, DY, RES, consts]
  exact Finset.sum_congr rfl fun k _ => mul_comm _ _

/-- The tiles' parts add up to the loss. -/
theorem parts (f : Fin 2048 → Fin 2048 → EReal) :
    (∑ i : Fin 8, Ideal.ofBits .f32 0x3F000000#32 * ∑ r : Fin 1024, (∑ l : Fin 512,
        f ⟨i.val / 4 * 1024 + r.val, by omega⟩ ⟨i.val % 4 * 512 + l.val, by omega⟩) * Ideal.ofBits .f32 0x3A000000#32)
      = Ideal.ofBits .f32 0x3F000000#32 * ∑ r : Fin 2048, (∑ l : Fin 2048, f r l) * Ideal.ofBits .f32 0x3A000000#32 := by
  rw [half_eq, ← mul_sum_of_real _ (by norm_num), inv2048_eq]
  refine congrArg _ ?_
  rw [Fin.sum_univ_tiles 2 4 rfl, Fin.sum_univ_tiles 2 1024 rfl]
  refine Finset.sum_congr rfl fun j _ => ?_
  rw [Finset.sum_comm]
  refine Finset.sum_congr rfl fun r _ => ?_
  rw [← sum_mul_of_real _ (by norm_num), Fin.sum_univ_tiles 4 512 rfl]
  refine congrArg (· * _) (Finset.sum_congr rfl fun s _ => Finset.sum_congr rfl fun l _ => ?_)
  have hj := j.isLt
  have hs := s.isLt
  congr 1
  · exact Fin.ext (by show (j.val * 4 + s.val) / 4 * 1024 + r.val = j.val * 1024 + r.val; omega)
  · exact Fin.ext (by show (j.val * 4 + s.val) % 4 * 512 + l.val = s.val * 512 + l.val; omega)

end Ref

section Kernel
variable (V : (c : Dev nD) → (b : Ref sig .tc) → Buf (Elt Ideal) ((c : Thread nD τ).loc b))

theorem idx0 : ∀ t : Fin cfg0.N, win0_0.index t = ![t.val / 4, 0] ∧ win0_1.index t = ![0, t.val % 4] ∧ win0_2.index t = ![t.val / 4, t.val % 4]
    ∧ win0_3.index t = ![t.val / 4, t.val % 4] ∧ win0_4.index t = ![t.val / 4, t.val % 4] ∧ win0_5.index t = ![t.val / 4, t.val % 4]
    ∧ win0_6.index t = ![t.val, 0, 0] ∧ t.val < 8 :=
  (by decide +kernel : ∀ t : Fin grid0.N, _)

theorem idx1 : ∀ t : Fin cfg1.N, win1_0.index t = ![t.val / 4, 0] ∧ win1_1.index t = ![t.val % 4, 0]
    ∧ win1_2.index t = ![t.val / 4, t.val % 4] ∧ t.val < 8 :=
  (by decide +kernel : ∀ t : Fin grid1.N, _)

theorem idx2 : ∀ t : Fin cfg2.N, win2_0.index t = ![0, t.val / 4] ∧ win2_1.index t = ![0, t.val % 4]
    ∧ win2_2.index t = ![t.val / 4, t.val % 4] ∧ t.val < 8 :=
  (by decide +kernel : ∀ t : Fin grid2.N, _)

/-- The block's residual is the array's. -/
theorem res (c : Dev nD) (t : Fin cfg0.N) (r : Fin 1024) (l : Fin 512) (i j : Fin 2048)
    (hi : i.val = t.val / 4 * 1024 + r.val) (hj : j.val = t.val % 4 * 512 + l.val) :
    k0_pay1 (F := Ideal) (iblk0 V c 2 t) (iblk0 V c 0 t) (iblk0 V c 1 t) (iblk0 V c 3 t) (ix2 r l)
      = RES (V c main_arg0) (V c main_arg1) (V c main_arg2) (V c main_arg3) i j := by
  rw [pay01]
  unfold RES
  have ht := (idx0 t).2.2.2.2.2.2.2
  have e1 : ∀ k : Fin 2048, iblk0 V c 0 t (ix2 r k) = V c main_arg0 (ix2 i k) := fun k => by blk_ext [iblk0, idx0 t]
  have e2 : ∀ k : Fin 2048, iblk0 V c 1 t (ix2 k l) = V c main_arg1 (ix2 k j) := fun k => by blk_ext [iblk0, idx0 t]
  have e3 : iblk0 V c 2 t (ix2 r l) = V c main_arg2 (ix2 i j) := by blk_ext [iblk0, idx0 t]
  have e4 : iblk0 V c 3 t (ix2 r l) = V c main_arg3 (ix2 i j) := by blk_ext [iblk0, idx0 t]
  rw [e3, e4]
  simp only [e1, e2]

theorem DY_at (a w : FVec Ideal S2048x2048 .bf16) (x t : FVec Ideal S2048x2048 .f32) (i : S2048x2048.Idx) :
    DY a w x t i = RES a w x t (i 0) (i 1) * Ideal.ofBits .f32 0x3A000000#32 := rfl

theorem final4 (c : Dev nD) : (dat0 V c).arrAt 4 cfg0.N = DY (V c main_arg0) (V c main_arg1) (V c main_arg2) (V c main_arg3) := by
  refine (dat0 V c).arrAt_eq_of_covers 4 _ (by decide +kernel) fun t _ y => ?_
  blk_simp
  rw [after0_4]
  frame_out
  rw [eq_ix2 (n0 := 1024) (n1 := 512) y]
  refine (pay02 _ _ _ _ (y 0) (y 1)).trans ((congrArg (· * _) (res V c t (y 0) (y 1) _ _ ?_ ?_)).trans (DY_at _ _ _ _ _).symm) <;> blk_simp [idx0 t]

theorem final5 (c : Dev nD) : (dat0 V c).arrAt 5 cfg0.N = DY (V c main_arg0) (V c main_arg1) (V c main_arg2) (V c main_arg3) := by
  refine (dat0 V c).arrAt_eq_of_covers 5 _ (by decide +kernel) fun t _ y => ?_
  blk_simp
  rw [after0_5]
  frame_out
  rw [eq_ix2 (n0 := 1024) (n1 := 512) y]
  refine (pay02 _ _ _ _ (y 0) (y 1)).trans ((congrArg (· * _) (res V c t (y 0) (y 1) _ _ ?_ ?_)).trans (DY_at _ _ _ _ _).symm) <;> blk_simp [idx0 t]

theorem final6 (c : Dev nD) : (dat0 V c).arrAt 6 cfg0.N = PART (V c main_arg0) (V c main_arg1) (V c main_arg2) (V c main_arg3) := by
  refine (dat0 V c).arrAt_eq_of_covers 6 _ (by decide +kernel) fun t _ y => ?_
  blk_simp
  rw [after0_6]
  frame_out
  rw [eq_ix3 (n0 := 1) (n1 := 8) (n2 := 128) y]
  refine (pay04 _ _ _ _ (y 0) (y 1) (y 2)).trans (congrArg (_ * ·) ?_)
  refine Fin.sum_fin_congr fun r => congrArg (· * _) (Fin.sum_fin_congr fun l => ?_)
  have ht := (idx0 t).2.2.2.2.2.2.2
  have e := res V c t r l
    ⟨(((View.whole main_v0_2).slice (win0_6.rect t)).emb (ix3 (n0 := 1) (n1 := 8) (n2 := 128) (y 0) (y 1) (y 2)) 0).val / 4 * 1024 + r.val, by blk_simp [idx0 t]; omega⟩
    ⟨(((View.whole main_v0_2).slice (win0_6.rect t)).emb (ix3 (n0 := 1) (n1 := 8) (n2 := 128) (y 0) (y 1) (y 2)) 0).val % 4 * 512 + l.val, by omega⟩
    (by blk_simp [idx0 t]) (by blk_simp [idx0 t])
  rw [e]

theorem final1 (c : Dev nD) : (dat1 V c).arrAt 2 cfg1.N = DM (V c main_v0_1) (V c main_arg1) := by
  refine (dat1 V c).arrAt_eq_of_covers 2 _ (by decide +kernel) fun t _ y => ?_
  blk_simp
  rw [after1_2]
  frame_out
  rw [eq_ix2 (n0 := 1024) (n1 := 512) y]
  refine (pay1 _ _ (y 0) (y 1)).trans ?_
  refine Fin.sum_fin_congr fun k => ?_
  blk_point [iblk1, idx1 t]

theorem final2 (c : Dev nD) : (dat2 V c).arrAt 2 cfg2.N = GW (V c main_arg0) (V c main_v0_1) := by
  refine (dat2 V c).arrAt_eq_of_covers 2 _ (by decide +kernel) fun t _ y => ?_
  blk_simp
  rw [after2_2]
  frame_out
  rw [eq_ix2 (n0 := 1024) (n1 := 512) y]
  refine (pay2 _ _ (y 0) (y 1)).trans ?_
  refine Fin.sum_fin_congr fun k => ?_
  blk_point [iblk2, idx2 t]

end Kernel
end Cert.HeadIdeal.Hand

end
-- ==== Proof.HeadRun.lean ====
/- The run of `HeadIdeal` with what every array holds at its end. -/
module

public import proofs.«01_k».proof.Proof.Gen.HeadIdeal.Frame

@[expose] public section

set_option maxRecDepth 16384

noncomputable section

namespace Cert.HeadIdeal.Hand

open Cert.HeadIdeal Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The launch's share of the protocol's cells, the devices owing nothing. -/
theorem start : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj))) ∗
      bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- At the end every array is at the last boundary's contents. -/
theorem ends (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      iapply start
      iexact Hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W4 m ρ c b)
    (hfin := fun c s => by
      iintro ⟨⟨Hh, -⟩, HSI⟩
      unfold StableHlo.held
      imodintro
      iapply (pointsTo_read_all (Pipeline.ucRefs τ sig) (fun b => (((c : Thread nD τ)).1, b)) (W4 m ρ c) s)
      isplitl [Hh] <;> iassumption)
    (hQ := fun s h _ c b hb => h c _ (mem_uc b hb))

end Cert.HeadIdeal.Hand

end
-- ==== Proof.HeadClaim.lean ====
/- The output projection, the loss and its gradients compute what the reference computes. -/
module

public import proofs.«01_k».proof.Defs
public import proofs.«01_k».proof.Proof.HeadValue
public import proofs.«01_k».proof.Proof.HeadRun
public import proofs.«01_k».proof.Proof.Gen.HeadRefIdeal.Run

@[expose] public section

set_option maxRecDepth 16384

noncomputable section

namespace Cert.HeadIdeal.Hand

open Cert.HeadIdeal Cert.HeadIdeal.Gen Cert.Rows Idealize.ShloMosaic Idealize.ShloMosaic.TcCoe Idealize.SL.Sem

/-- The parts' first elements added up. -/
def SUMP (p : FVec Ideal S8x8x128 .f32) : FVec Ideal S_ .f32 :=
  Host.reduceAdd (shapeCast S8 (extractStridedSlice S8x1x1 ![0, 0, 0] p slices_S8x8x128_S8x1x1_0_0_0) shapeCasts_S8x1x1_S8)
    (constant S_ .f32 0x00000000#32) reducesTo_S8_S_d0 h_S_

section
variable (m : (ℓ : Loc nD τ sig) → Buf (Elt Ideal) ℓ) (ρ : Dev nD → PrngReg) (c : Dev nD)

/-- The loss gradient of the arguments in memory. -/
abbrev dy : FVec Ideal S2048x2048 .f32 := DY (m ((c : Thread nD τ).loc main_arg0)) (m ((c : Thread nD τ).loc main_arg1))
  (m ((c : Thread nD τ).loc main_arg2)) (m ((c : Thread nD τ).loc main_arg3))

theorem at_dyb1 : V1 m ρ c main_v0_1 = dy m c := (W1_arr m ρ c 5).trans (final5 (V0 m ρ) c)

theorem at_dyb2 : V2 m ρ c main_v0_1 = dy m c := (W2_of m ρ c main_v0_1 (by decide +kernel)).trans (at_dyb1 m ρ c)

theorem last_dy : W4 m ρ c (Proc.devRef .tc main_v0_0) = dy m c :=
  (W4_of m ρ c main_v0_0 (by decide)).trans ((W3_of m ρ c main_v0_0 (by decide +kernel)).trans ((W2_of m ρ c main_v0_0 (by decide +kernel)).trans
    ((W1_arr m ρ c 4).trans (final4 (V0 m ρ) c))))

theorem last_dm : W4 m ρ c (Proc.devRef .tc main_v1) = DM (dy m c) (m ((c : Thread nD τ).loc main_arg1)) :=
  (W4_of m ρ c main_v1 (by decide)).trans ((W3_of m ρ c main_v1 (by decide +kernel)).trans ((W2_arr m ρ c 2).trans ((final1 (V1 m ρ) c).trans
    (congrArg₂ DM (at_dyb1 m ρ c) (W1_args m ρ c main_arg1 (by decide))))))

theorem last_gw : W4 m ρ c (Proc.devRef .tc main_v2) = GW (m ((c : Thread nD τ).loc main_arg0)) (dy m c) :=
  (W4_of m ρ c main_v2 (by decide)).trans ((W3_arr m ρ c 2).trans ((final2 (V2 m ρ) c).trans
    (congrArg₂ GW (W2_args m ρ c main_arg0 (by decide)) (at_dyb2 m ρ c))))

theorem at_parts : W3 m ρ c (Proc.devRef .tc main_v0_2) = PART (m ((c : Thread nD τ).loc main_arg0)) (m ((c : Thread nD τ).loc main_arg1))
    (m ((c : Thread nD τ).loc main_arg2)) (m ((c : Thread nD τ).loc main_arg3)) :=
  (W3_of m ρ c main_v0_2 (by decide +kernel)).trans ((W2_of m ρ c main_v0_2 (by decide +kernel)).trans
    ((W1_arr m ρ c 6).trans (final6 (V0 m ρ) c)))

/-- What the lines after the last call leave in the loss. -/
theorem tail : W4 m ρ c (Proc.devRef .tc main_v5) = SUMP (W3 m ρ c (Proc.devRef .tc main_v0_2)) := by
  unfold SUMP
  after_results
  rfl

theorem last_loss : W4 m ρ c (Proc.devRef .tc main_v5) = LOSS (m ((c : Thread nD τ).loc main_arg0)) (m ((c : Thread nD τ).loc main_arg1))
    (m ((c : Thread nD τ).loc main_arg2)) (m ((c : Thread nD τ).loc main_arg3)) := by
  rw [tail, at_parts]
  funext i
  refine Eq.trans ?_ (parts fun r l => RES (m ((c : Thread nD τ).loc main_arg0)) (m ((c : Thread nD τ).loc main_arg1))
    (m ((c : Thread nD τ).loc main_arg2)) (m ((c : Thread nD τ).loc main_arg3)) r l * RES (m ((c : Thread nD τ).loc main_arg0)) (m ((c : Thread nD τ).loc main_arg1))
    (m ((c : Thread nD τ).loc main_arg2)) (m ((c : Thread nD τ).loc main_arg3)) r l)
  pointwise [SUMP, PART]

end

theorem algebraic : Cert.algebraic_HeadIdeal_HeadRefIdeal := fun m ρ m' ρ' _ hag =>
  ⟨fun c => LOSS (m ((c : Thread nD τ).loc main_arg0)) (m ((c : Thread nD τ).loc main_arg1)) (m ((c : Thread nD τ).loc main_arg2))
      (m ((c : Thread nD τ).loc main_arg3)),
    fun c => dy m c, fun c => DM (dy m c) (m ((c : Thread nD τ).loc main_arg1)), fun c => GW (m ((c : Thread nD τ).loc main_arg0)) (dy m c),
    (θ_run _ _ _).mono (fun _ h c => ⟨(h c main_v5 (by decide)).trans (last_loss m ρ c), (h c main_v0_0 (by decide)).trans (last_dy m ρ c),
      (h c main_v1 (by decide)).trans (last_dm m ρ c), (h c main_v2 (by decide)).trans (last_gw m ρ c),
      (h c main_arg0 (by decide)).trans (W4_main_arg0 m ρ c), (h c main_arg1 (by decide)).trans (W4_main_arg1 m ρ c),
      (h c main_arg2 (by decide)).trans (W4_main_arg2 m ρ c), (h c main_arg3 (by decide)).trans (W4_main_arg3 m ρ c)⟩) (ends m ρ),
    (θ_run _ _ _).mono (fun _ h c => ⟨(h c).1.trans (by
        rw [Cert.HeadRefIdeal.Read.val_main_v12_eq, (hag c).1, (hag c).2.1, (hag c).2.2.1, (hag c).2.2.2]
        exact funext fun i => ref_loss _ _ _ _ i),
      (h c).2.1.trans (by
        rw [Cert.HeadRefIdeal.Read.val_main_v18_eq, (hag c).1, (hag c).2.1, (hag c).2.2.1, (hag c).2.2.2]
        funext i
        exact (congrArg _ (eq_ix2 (n0 := 2048) (n1 := 2048) i)).trans ((ref_dy _ _ _ _ _ _).trans (congrArg _ (eq_ix2 (n0 := 2048) (n1 := 2048) i).symm))),
      (h c).2.2.1.trans (by
        rw [Cert.HeadRefIdeal.Read.val_main_v21_eq, (hag c).1, (hag c).2.1, (hag c).2.2.1, (hag c).2.2.2]
        funext i
        exact (congrArg _ (eq_ix2 (n0 := 2048) (n1 := 2048) i)).trans ((ref_dm _ _ _ _ _ _).trans (congrArg _ (eq_ix2 (n0 := 2048) (n1 := 2048) i).symm))),
      (h c).2.2.2.1.trans (by
        rw [Cert.HeadRefIdeal.Read.val_main_v20_eq, (hag c).1, (hag c).2.1, (hag c).2.2.1, (hag c).2.2.2]
        funext i
        exact (congrArg _ (eq_ix2 (n0 := 2048) (n1 := 2048) i)).trans ((ref_gw _ _ _ _ _ _).trans (congrArg _ (eq_ix2 (n0 := 2048) (n1 := 2048) i).symm))),
      (h c).2.2.2.2⟩) (Cert.HeadRefIdeal.Value.run m' ρ')⟩

end Cert.HeadIdeal.Hand

end
-- ==== Proof.InProjValue.lean ====
/- The input projection: the normalised rows times the packed weight. -/
module

public import proofs.«01_k».proof.Proof.RmsRow
public import proofs.«01_k».proof.Proof.Gen.InProjIdeal.Frame
public import proofs.«01_k».proof.Proof.Gen.InProjRefIdeal.Read

@[expose] public section

set_option maxRecDepth 16384

noncomputable section

namespace Cert.InProjIdeal.Hand

open Cert.InProjIdeal Cert.InProjIdeal.Gen Cert.Rows Idealize.ShloMosaic Idealize.ShloMosaic.TcCoe Idealize.SL.Sem

/-- The normalised rows. -/
def HN (x : FVec Ideal S2048x2048 .f32) (w : FVec Ideal S1x2048 .f32) : FVec Ideal S2048x2048 .bf16 :=
  fun i => nrow (fun k => x (ix2 (i 0) k)) (fun k => w (ix2 0 k)) (i 1)

/-- Rows of `a` against rows of `b`. -/
def MM (a : FVec Ideal S2048x2048 .bf16) (b : FVec Ideal S6656x2048 .bf16) : FVec Ideal S2048x6656 .f32 :=
  fun i => ∑ k : Fin 2048, a (ix2 (i 0) k) * b (ix2 (i 1) k)

theorem pay0 (x : Vec Ideal S256x2048 .f32) (w : Vec Ideal S1x2048 .f32) (r : Fin 256) (l : Fin 2048) :
    k0_pay1 (F := Ideal) x w (ix2 r l) = nrow (fun k => x (ix2 r k)) (fun k => w (ix2 0 k)) l := by
  pointwise [k0_pay1, nrow, rinv]

theorem pay1 (a : Vec Ideal S1024x2048 .bf16) (b : Vec Ideal S512x2048 .bf16) (r : Fin 1024) (l : Fin 512) :
    k1_pay1 (F := Ideal) a b (ix2 r l) = ∑ k : Fin 2048, a (ix2 r k) * b (ix2 l k) := by
  pointwise [k1_pay1]

theorem ref (x : FVec Ideal S2048x2048 .f32) (w : FVec Ideal S1x2048 .f32) (b : FVec Ideal S6656x2048 .bf16) (r : Fin 2048) (l : Fin 6656) :
    Cert.InProjRefIdeal.Read.val_main_v14 (F := Ideal) x w b (ix2 r l) = MM (HN x w) b (ix2 r l) := by
  rw [← Cert.InProjRefIdeal.Read.val_main_v14_eq]
  pointwise [MM, HN, nrow, rinv]

section Kernel
variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] ∧ t.val < 8 :=
  (by decide +kernel : ∀ t : Fin grid0.N, _)

theorem idx1 : ∀ t : Fin cfg1.N, win1_0.index t = ![t.val / 13, 0] ∧ win1_1.index t = ![t.val % 13, 0]
    ∧ win1_2.index t = ![t.val / 13, t.val % 13] ∧ t.val < 26 :=
  (by decide +kernel : ∀ t : Fin grid1.N, _)

theorem final0 (c : Dev nD) : (dat0 V c).arrAt 2 cfg0.N = HN (V c main_arg0) (V c main_arg1) := by
  refine (dat0 V c).arrAt_eq_of_covers 2 _ (by decide +kernel) fun t _ y => ?_
  blk_simp
  rw [after0_2]
  frame_out
  rw [eq_ix2 (n0 := 256) (n1 := 2048) y]
  refine (pay0 _ _ (y 0) (y 1)).trans ?_
  refine nrow_congr (fun k => ?_) (fun k => ?_) ?_
  · blk_ext [iblk0, idx0 t]
  · blk_ext [iblk0, idx0 t]
  · blk_simp [idx0 t]

theorem final1 (c : Dev nD) : (dat1 V c).arrAt 2 cfg1.N = MM (V c main_v0) (V c main_arg2) := by
  refine (dat1 V c).arrAt_eq_of_covers 2 _ (by decide +kernel) fun t _ y => ?_
  blk_simp
  rw [after1_2]
  frame_out
  rw [eq_ix2 (n0 := 1024) (n1 := 512) y]
  refine (pay1 _ _ (y 0) (y 1)).trans ?_
  refine Fin.sum_fin_congr fun k => ?_
  blk_point [iblk1, idx1 t]

end Kernel
end Cert.InProjIdeal.Hand

end
-- ==== Proof.InProjRun.lean ====
/- The run of `InProjIdeal` with what every array holds at its end. -/
module

public import proofs.«01_k».proof.Proof.Gen.InProjIdeal.Frame

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The launch's share of the protocol's cells, the devices owing nothing. -/
theorem start : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj))) ∗
      bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- At the end every array is at the last boundary's contents. -/
theorem ends (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W2 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      iapply start
      iexact Hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W2 m ρ c b)
    (hfin := fun c s => by
      iintro ⟨⟨Hh, -⟩, HSI⟩
      unfold StableHlo.held
      imodintro
      iapply (pointsTo_read_all (Pipeline.ucRefs τ sig) (fun b => (((c : Thread nD τ)).1, b)) (W2 m ρ c) s)
      isplitl [Hh] <;> iassumption)
    (hQ := fun s h _ c b hb => h c _ (mem_uc b hb))

end Cert.InProjIdeal.Hand

end
-- ==== Proof.InProjClaim.lean ====
/- The input projection computes what the reference computes. -/
module

public import proofs.«01_k».proof.Defs
public import proofs.«01_k».proof.Proof.InProjValue
public import proofs.«01_k».proof.Proof.InProjRun
public import proofs.«01_k».proof.Proof.Gen.InProjRefIdeal.Run

@[expose] public section

set_option maxRecDepth 16384

noncomputable section

namespace Cert.InProjIdeal.Hand

open Cert.InProjIdeal Cert.InProjIdeal.Gen Cert.Rows Idealize.ShloMosaic Idealize.ShloMosaic.TcCoe Idealize.SL.Sem

section
variable (m : (ℓ : Loc nD τ sig) → Buf (Elt Ideal) ℓ) (ρ : Dev nD → PrngReg)

theorem mid (c : Dev nD) : V1 m ρ c main_v0 = HN (m ((c : Thread nD τ).loc main_arg0)) (m ((c : Thread nD τ).loc main_arg1)) :=
  (W1_arr m ρ c 2).trans (final0 (V0 m ρ) c)

theorem last (c : Dev nD) : W2 m ρ c (Proc.devRef .tc main_v1)
    = MM (HN (m ((c : Thread nD τ).loc main_arg0)) (m ((c : Thread nD τ).loc main_arg1))) (m ((c : Thread nD τ).loc main_arg2)) := by
  refine (W2_arr m ρ c 2).trans ((final1 (V1 m ρ) c).trans ?_)
  rw [mid m ρ c]
  exact congrArg (MM _) (W1_args m ρ c main_arg2 (by decide))

end

theorem algebraic : Cert.algebraic_InProjIdeal_InProjRefIdeal := fun m ρ m' ρ' _ hag =>
  ⟨fun c => MM (HN (m ((c : Thread nD τ).loc main_arg0)) (m ((c : Thread nD τ).loc main_arg1))) (m ((c : Thread nD τ).loc main_arg2)),
    (θ_run _ _ _).mono (fun _ h c => ⟨(h c main_v1 (by decide)).trans (last m ρ c),
      (h c main_arg0 (by decide)).trans (W2_main_arg0 m ρ c), (h c main_arg1 (by decide)).trans (W2_main_arg1 m ρ c),
      (h c main_arg2 (by decide)).trans (W2_main_arg2 m ρ c)⟩) (ends m ρ),
    (θ_run _ _ _).mono (fun _ h c => ⟨(h c).1.trans (by
      rw [Cert.InProjRefIdeal.Read.val_main_v14_eq, (hag c).1, (hag c).2.1, (hag c).2.2]
      funext i
      exact (congrArg _ (eq_ix2 (n0 := 2048) (n1 := 6656) i)).trans ((ref _ _ _ _ _).trans (congrArg _ (eq_ix2 (n0 := 2048) (n1 := 6656) i).symm))),
      (h c).2⟩) (Cert.InProjRefIdeal.Value.run m' ρ')⟩

end Cert.InProjIdeal.Hand

end
-- ==== Proof.MemKvValue.lean ====
/- The memory's projection and its two gradients. -/
module

public import proofs.«01_k».proof.Proof.RmsRow
public import proofs.«01_k».proof.Proof.Gen.MemKvIdeal.Frame
public import proofs.«01_k».proof.Proof.Gen.MemKvRefIdeal.Read

@[expose] public section

set_option maxRecDepth 16384

noncomputable section

namespace Cert.MemKvIdeal.Hand

open Cert.MemKvIdeal Cert.MemKvIdeal.Gen Cert.Rows Idealize.ShloMosaic Idealize.ShloMosaic.TcCoe Idealize.SL.Sem

section Ref
variable (x : FVec Ideal S256x2048 .f32) (g : FVec Ideal S1x2048 .f32) (w : FVec Ideal S2048x1024 .bf16) (d : FVec Ideal S256x1024 .f32)

theorem ref_kv (r : Fin 256) (l : Fin 1024) :
    Cert.MemKvRefIdeal.Read.val_main_v13 (F := Ideal) x g w (ix2 r l) = k0_pay1 (F := Ideal) x g w (ix2 r l) := by
  rw [← Cert.MemKvRefIdeal.Read.val_main_v13_eq]
  pointwise [k0_pay1]

theorem ref_gw (r : Fin 2048) (l : Fin 1024) :
    Cert.MemKvRefIdeal.Read.val_main_v15 (F := Ideal) x g d (ix2 r l) = k1_pay3 (F := Ideal) x g d (ix2 r l) := by
  rw [← Cert.MemKvRefIdeal.Read.val_main_v15_eq]
  pointwise [k1_pay3, k1_pay2, k1_pay1]
  exact Finset.sum_congr rfl fun k _ => mul_comm _ _

theorem ref_gn (r : Fin 1) (l : Fin 2048) :
    Cert.MemKvRefIdeal.Read.val_main_v19 (F := Ideal) x w d (ix2 r l) = k1_pay4 (F := Ideal) x d w (ix2 r l) := by
  rw [← Cert.MemKvRefIdeal.Read.val_main_v19_eq]
  pointwise [k1_pay4, k1_pay2, k1_pay1]

end Ref

section Kernel
variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] :=
  (by decide +kernel : ∀ t : Fin grid1.N, _)

theorem final3 (c : Dev nD) : (dat0 V c).arrAt 3 cfg0.N = k0_pay1 (F := Ideal) (V c main_arg0) (V c main_arg1) (V c main_arg2) := by
  refine (dat0 V c).arrAt_eq_of_after_last 3 t0_0 (by decide +kernel) _ fun j => ?_
  blk_simp
  rw [after0_3]
  frame_out
  blk_point [iblk0, idx0 t0_0]

theorem final4 (c : Dev nD) : (dat1 V c).arrAt 4 cfg1.N = k1_pay3 (F := Ideal) (V c main_arg0) (V c main_arg1) (V c main_arg3) := by
  refine (dat1 V c).arrAt_eq_of_after_last 4 t1_0 (by decide +kernel) _ fun j => ?_
  blk_simp
  rw [after1_4]
  frame_out
  blk_point [iblk1, idx1 t1_0]

theorem final5 (c : Dev nD) : (dat1 V c).arrAt 5 cfg1.N = k1_pay4 (F := Ideal) (V c main_arg0) (V c main_arg3) (V c main_arg2) := by
  refine (dat1 V c).arrAt_eq_of_after_last 5 t1_0 (by decide +kernel) _ fun j => ?_
  blk_simp
  rw [after1_5]
  frame_out
  blk_point [iblk1, idx1 t1_0]

end Kernel
end Cert.MemKvIdeal.Hand

end
-- ==== Proof.MemKvRun.lean ====
/- The run of `MemKvIdeal` with what every array holds at its end. -/
module

public import proofs.«01_k».proof.Proof.Gen.MemKvIdeal.Frame

@[expose] public section

set_option maxRecDepth 16384

noncomputable section

namespace Cert.MemKvIdeal.Hand

open Cert.MemKvIdeal Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The launch's share of the protocol's cells, the devices owing nothing. -/
theorem start : (ownU (initOf (Pipeline.cells cfgs cellOf_inj) (Pipeline.launchToks cfgs cellOf_inj)) : sProp 𝕄)
    ⊢ iprop(BI.own (emb₁ (initOf (Pipeline.cells cfgs cellOf_inj) (Pipeline.launchToks cfgs cellOf_inj))) ∗
      bigSep Finset.univ (fun _ : Dev nD => (BI.emp : sProp 𝕄))) := by
  rw [BI.bigSep_emp_const]
  iintro H
  isplitl [H]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact H
  · iempintro

set_option backward.isDefEq.respectTransparency.types false in
/-- At the end every array is at the last boundary's contents. -/
theorem ends (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W2 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      iapply start
      iexact Hu)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _; iexact Hp
      · iexists ∅; iexact HO)
    (QY := fun c s => ∀ b ∈ Pipeline.ucRefs τ sig, s.mem (((c : Thread nD τ)).1, b) = W2 m ρ c b)
    (hfin := fun c s => by
      iintro ⟨⟨Hh, -⟩, HSI⟩
      unfold StableHlo.held
      imodintro
      iapply (pointsTo_read_all (Pipeline.ucRefs τ sig) (fun b => (((c : Thread nD τ)).1, b)) (W2 m ρ c) s)
      isplitl [Hh] <;> iassumption)
    (hQ := fun s h _ c b hb => h c _ (mem_uc b hb))

end Cert.MemKvIdeal.Hand

end
-- ==== Proof.MemKvClaim.lean ====
/- The memory's projection and its gradients are the reference's. -/
module

public import proofs.«01_k».proof.Defs
public import proofs.«01_k».proof.Proof.MemKvValue
public import proofs.«01_k».proof.Proof.MemKvRun
public import proofs.«01_k».proof.Proof.Gen.MemKvRefIdeal.Run

@[expose] public section

set_option maxRecDepth 16384

noncomputable section

namespace Cert.MemKvIdeal.Hand

open Cert.MemKvIdeal Cert.MemKvIdeal.Gen Idealize.ShloMosaic Idealize.ShloMosaic.TcCoe Idealize.SL.Sem

section
variable (m : (ℓ : Loc nD τ sig) → Buf (Elt Ideal) ℓ) (ρ : Dev nD → PrngReg) (c : Dev nD)

theorem at1 : ∀ a ∈ argRefs, V1 m ρ c a = m ((c : Thread nD τ).loc a) := W1_args m ρ c

theorem last_kv : W2 m ρ c (Proc.devRef .tc main_v0) = k0_pay1 (F := Ideal) (m ((c : Thread nD τ).loc main_arg0)) (m ((c : Thread nD τ).loc main_arg1))
    (m ((c : Thread nD τ).loc main_arg2)) :=
  (W2_of m ρ c main_v0 (by decide +kernel)).trans ((W1_arr m ρ c 3).trans (final3 (V0 m ρ) c))

theorem last_gw : W2 m ρ c (Proc.devRef .tc main_v1_0) = k1_pay3 (F := Ideal) (m ((c : Thread nD τ).loc main_arg0)) (m ((c : Thread nD τ).loc main_arg1))
    (m ((c : Thread nD τ).loc main_arg3)) := by
  refine (W2_arr m ρ c 4).trans ((final4 (V1 m ρ) c).trans ?_)
  rw [at1 m ρ c main_arg0 (by decide), at1 m ρ c main_arg1 (by decide), at1 m ρ c main_arg3 (by decide)]

theorem last_gn : W2 m ρ c (Proc.devRef .tc main_v1_1) = k1_pay4 (F := Ideal) (m ((c : Thread nD τ).loc main_arg0)) (m ((c : Thread nD τ).loc main_arg3))
    (m ((c : Thread nD τ).loc main_arg2)) := by
  refine (W2_arr m ρ c 5).trans ((final5 (V1 m ρ) c).trans ?_)
  rw [at1 m ρ c main_arg0 (by decide), at1 m ρ c main_arg2 (by decide), at1 m ρ c main_arg3 (by decide)]

end

theorem algebraic : Cert.algebraic_MemKvIdeal_MemKvRefIdeal := fun m ρ m' ρ' _ hag =>
  ⟨_, _, _,
    (θ_run _ _ _).mono (fun _ h c => ⟨(h c main_v0 (by decide)).trans (last_kv m ρ c), (h c main_v1_0 (by decide)).trans (last_gw m ρ c),
      (h c main_v1_1 (by decide)).trans (last_gn m ρ c),
      (h c main_arg0 (by decide)).trans (W2_main_arg0 m ρ c), (h c main_arg1 (by decide)).trans (W2_main_arg1 m ρ c),
      (h c main_arg2 (by decide)).trans (W2_main_arg2 m ρ c), (h c main_arg3 (by decide)).trans (W2_main_arg3 m ρ c)⟩) (ends m ρ),
    (θ_run _ _ _).mono (fun _ h c => ⟨(h c).1.trans (by
        rw [Cert.MemKvRefIdeal.Read.val_main_v13_eq, (hag c).1, (hag c).2.1, (hag c).2.2.1]
        funext i
        exact (congrArg _ (eq_ix2 (n0 := 256) (n1 := 1024) i)).trans ((ref_kv _ _ _ _ _).trans (congrArg _ (eq_ix2 (n0 := 256) (n1 := 1024) i).symm))),
      (h c).2.1.trans (by
        rw [Cert.MemKvRefIdeal.Read.val_main_v15_eq, (hag c).1, (hag c).2.1, (hag c).2.2.2]
        funext i
        exact (congrArg _ (eq_ix2 (n0 := 2048) (n1 := 1024) i)).trans ((ref_gw _ _ _ _ _).trans (congrArg _ (eq_ix2 (n0 := 2048) (n1 := 1024) i).symm))),
      (h c).2.2.1.trans (by
        rw [Cert.MemKvRefIdeal.Read.val_main_v19_eq, (hag c).1, (hag c).2.2.1, (hag c).2.2.2]
        funext i
        exact (congrArg _ (eq_ix2 (n0 := 1) (n1 := 2048) i)).trans ((ref_gn _ _ _ _ _).trans (congrArg _ (eq_ix2 (n0 := 1) (n1 := 2048) i).symm))),
      (h c).2.2.2⟩) (Cert.MemKvRefIdeal.Value.run m' ρ')⟩

end Cert.MemKvIdeal.Hand

end
-- ==== Proof.AdamRow.lean ====
/- One AdamW step at one entry. -/
module

public import Idealize.ShloMosaic.Lib.Pointwise
public import Idealize.ShloMosaic.Lib.Pipeline.ValueKit

@[expose] public section

noncomputable section

namespace Cert.Rows

open Idealize.ShloMosaic

/-- The first moment after the step. -/
def mom1 (g m : EReal) : EReal := Ideal.ofBits .f32 0x3F666666#32 * m + Ideal.ofBits .f32 0x3DCCCCCD#32 * g

/-- The second moment after the step. -/
def mom2 (g v : EReal) : EReal := Ideal.ofBits .f32 0x3F7FBE77#32 * v + Ideal.ofBits .f32 0x3A83126F#32 * (g * g)

/-- What the step adds to the weight. -/
def step (w g m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32) + Ideal.ofBits .f32 0x3C23D70A#32 * w)

end Cert.Rows

end
-- ==== Proof.AdamInClaim.lean ====
/- AdamW of the input projection's weight: the step on transposed arrays, transposed back. -/
module

public import proofs.«01_k».proof.Proof.AdamRow
public import proofs.«01_k».proof.Proof.Gen.AdamInIdeal.Frame
public import proofs.«01_k».proof.Proof.Gen.AdamInRefIdeal.Run
public import proofs.«01_k».proof.Proof.Gen.AdamInRefIdeal.Read
public import proofs.«01_k».proof.Defs
public import Idealize.ShloMosaic.Lib.Pipeline.ValueKit

@[expose] public section

set_option maxRecDepth 16384

noncomputable section

namespace Cert.AdamInIdeal.Hand

open Cert.AdamInIdeal Cert.AdamInIdeal.Gen Cert.Rows Idealize.ShloMosaic Idealize.ShloMosaic.TcCoe Idealize.SL.Sem

/-- The transposed array. -/
abbrev TP (x : FVec Ideal S2048x1608 .f32) : FVec Ideal S1608x2048 .f32 := transpose S1608x2048 [1, 0] x transposes_S2048x1608_S1608x2048_1_0
/-- And back. -/
abbrev TB (x : FVec Ideal S1608x2048 .f32) : FVec Ideal S2048x1608 .f32 := transpose S2048x1608 [1, 0] x transposes_S1608x2048_S2048x1608_1_0

def ST (w g m v : FVec Ideal S1608x2048 .f32) : FVec Ideal S1608x2048 .f32 := fun i => step (w i) (g i) (m i) (v i)
def M1 (g m : FVec Ideal S1608x2048 .f32) : FVec Ideal S1608x2048 .f32 := fun i => mom1 (g i) (m i)
def M2 (g v : FVec Ideal S1608x2048 .f32) : FVec Ideal S1608x2048 .f32 := fun i => mom2 (g i) (v i)

theorem pay1 (g m : Vec Ideal S536x1024 .f32) (r : Fin 536) (l : Fin 1024) : k0_pay1 (F := Ideal) g m (ix2 r l) = mom1 (g (ix2 r l)) (m (ix2 r l)) := by
  pointwise [k0_pay1, mom1]

theorem pay2 (g v : Vec Ideal S536x1024 .f32) (r : Fin 536) (l : Fin 1024) : k0_pay2 (F := Ideal) g v (ix2 r l) = mom2 (g (ix2 r l)) (v (ix2 r l)) := by
  pointwise [k0_pay2, mom2]

theorem pay3 (g m v w : Vec Ideal S536x1024 .f32) (r : Fin 536) (l : Fin 1024) :
    k0_pay3 (F := Ideal) g m v w (ix2 r l) = step (w (ix2 r l)) (g (ix2 r l)) (m (ix2 r l)) (v (ix2 r l)) := by
  pointwise [k0_pay3, k0_pay1, k0_pay2, mom1, mom2, step]

theorem ref_step (w : FVec Ideal S2048x1608 .f32) (g : FVec Ideal S1608x2048 .f32) (m v : FVec Ideal S2048x1608 .f32) (r : Fin 2048) (l : Fin 1608) :
    Cert.AdamInRefIdeal.Read.val_main_v24 (F := Ideal) w g m v (ix2 r l) = TB (ST (TP w) g (TP m) (TP v)) (ix2 r l) := by
  rw [← Cert.AdamInRefIdeal.Read.val_main_v24_eq]
  pointwise [TB, TP, ST, step, mom1, mom2]

theorem ref_m1 (g : FVec Ideal S1608x2048 .f32) (m : FVec Ideal S2048x1608 .f32) (r : Fin 2048) (l : Fin 1608) :
    Cert.AdamInRefIdeal.Read.val_main_v5 (F := Ideal) g m (ix2 r l) = TB (M1 g (TP m)) (ix2 r l) := by
  rw [← Cert.AdamInRefIdeal.Read.val_main_v5_eq]
  pointwise [TB, TP, M1, mom1]

theorem ref_m2 (g : FVec Ideal S1608x2048 .f32) (v : FVec Ideal S2048x1608 .f32) (r : Fin 2048) (l : Fin 1608) :
    Cert.AdamInRefIdeal.Read.val_main_v11 (F := Ideal) g v (ix2 r l) = TB (M2 g (TP v)) (ix2 r l) := by
  rw [← Cert.AdamInRefIdeal.Read.val_main_v11_eq]
  pointwise [TB, TP, M2, mom2]

section Kernel
variable (m : (ℓ : Loc nD τ sig) → Buf (Elt Ideal) ℓ)

theorem idx : ∀ t : Fin cfg0.N, win0_0.index t = ![t.val / 2, t.val % 2] ∧ win0_1.index t = ![t.val / 2, t.val % 2] ∧ win0_2.index t = ![t.val / 2, t.val % 2] ∧ win0_3.index t = ![t.val / 2, t.val % 2] ∧ win0_4.index t = ![t.val / 2, t.val % 2] ∧ win0_5.index t = ![t.val / 2, t.val % 2] ∧ win0_6.index t = ![t.val / 2, t.val % 2] ∧ win0_7.index t = ![t.val / 2, t.val % 2] ∧ t.val < 6 :=
  (by decide +kernel : ∀ t : Fin grid0.N, _)

theorem step_congr {w w' g g' m m' v v' : EReal} (hw : w = w') (hg : g = g') (hm : m = m') (hv : v = v') : step w g m v = step w' g' m' v' := by
  rw [hw, hg, hm, hv]

theorem final4 (c : Dev nD) : (dats m 0 c).arrAt 4 (cfgs 0).N = ST (V m c main_v0) (V m c main_arg1) (V m c main_v1) (V m c main_v2) := by
  refine (dats m 0 c).arrAt_eq_of_covers 4 _ (by decide +kernel) fun t _ y => ?_
  blk_simp
  rw [after0_4]
  frame_out
  rw [eq_ix2 (n0 := 536) (n1 := 1024) y]
  refine (pay3 _ _ _ _ (y 0) (y 1)).trans ?_
  refine step_congr ?_ ?_ ?_ ?_ <;> blk_ext [iblk, idx t]

theorem final5 (c : Dev nD) : (dats m 0 c).arrAt 5 (cfgs 0).N = M1 (V m c main_arg1) (V m c main_v1) := by
  refine (dats m 0 c).arrAt_eq_of_covers 5 _ (by decide +kernel) fun t _ y => ?_
  blk_simp
  rw [after0_5]
  frame_out
  rw [eq_ix2 (n0 := 536) (n1 := 1024) y]
  refine (pay1 _ _ (y 0) (y 1)).trans ?_
  refine congrArg₂ mom1 ?_ ?_ <;> blk_ext [iblk, idx t]

theorem final6 (c : Dev nD) : (dats m 0 c).arrAt 6 (cfgs 0).N = M2 (V m c main_arg1) (V m c main_v2) := by
  refine (dats m 0 c).arrAt_eq_of_covers 6 _ (by decide +kernel) fun t _ y => ?_
  blk_simp
  rw [after0_6]
  frame_out
  rw [eq_ix2 (n0 := 536) (n1 := 1024) y]
  refine (pay2 _ _ (y 0) (y 1)).trans ?_
  refine congrArg₂ mom2 ?_ ?_ <;> blk_ext [iblk, idx t]

theorem final7 (c : Dev nD) : (dats m 0 c).arrAt 7 (cfgs 0).N = (V m c main_arg1) := by
  refine (dats m 0 c).arrAt_eq_of_covers 7 _ (by decide +kernel) fun t _ y => ?_
  blk_simp
  rw [after0_7]
  frame_out
  blk_ext [iblk, idx t]

theorem V_v0 (c : Dev nD) : V m c main_v0 = TP (m ((c : Thread nD τ).loc main_arg0)) := by
  show StableHlo.after hostOps0 (fun b => m (c, b)) (Proc.devRef .tc main_v0) = _
  unfold TP
  after_results
  try rfl

theorem V_v1 (c : Dev nD) : V m c main_v1 = TP (m ((c : Thread nD τ).loc main_arg2)) := by
  show StableHlo.after hostOps0 (fun b => m (c, b)) (Proc.devRef .tc main_v1) = _
  unfold TP
  after_results
  try rfl

theorem V_v2 (c : Dev nD) : V m c main_v2 = TP (m ((c : Thread nD τ).loc main_arg3)) := by
  show StableHlo.after hostOps0 (fun b => m (c, b)) (Proc.devRef .tc main_v2) = _
  unfold TP
  after_results
  try rfl

theorem tail4 (c : Dev nD) : Pipeline.afterTail₀ cfgs (dats m) 0 (V0 m) [hostOps1] c main_v4 = TB ((dats m 0 c).arrAt 4 (cfgs 0).N) := by
  unfold Pipeline.afterTail₀ TB
  refine Eq.trans (b := transpose S2048x1608 [1, 0] (Pipeline.withArrays (cfgs 0).spec c (V0 m c) (fun w => (dats m 0 c).arrAt w (cfgs 0).N) (Proc.devRef .tc main_v3_0)) transposes_S1608x2048_S2048x1608_1_0) ?_ ?_
  · after_results
    try rfl
  · exact congrArg (fun x => transpose S2048x1608 [1, 0] x transposes_S1608x2048_S2048x1608_1_0)
      (Pipeline.withArrays_arr spec0 launch0.win.arr_inj c (V0 m c) (fun w => (dats m 0 c).arrAt w (cfgs 0).N) 4)

theorem tail5 (c : Dev nD) : Pipeline.afterTail₀ cfgs (dats m) 0 (V0 m) [hostOps1] c main_v5 = TB ((dats m 0 c).arrAt 5 (cfgs 0).N) := by
  unfold Pipeline.afterTail₀ TB
  refine Eq.trans (b := transpose S2048x1608 [1, 0] (Pipeline.withArrays (cfgs 0).spec c (V0 m c) (fun w => (dats m 0 c).arrAt w (cfgs 0).N) (Proc.devRef .tc main_v3_1)) transposes_S1608x2048_S2048x1608_1_0) ?_ ?_
  · after_results
    try rfl
  · exact congrArg (fun x => transpose S2048x1608 [1, 0] x transposes_S1608x2048_S2048x1608_1_0)
      (Pipeline.withArrays_arr spec0 launch0.win.arr_inj c (V0 m c) (fun w => (dats m 0 c).arrAt w (cfgs 0).N) 5)

theorem tail6 (c : Dev nD) : Pipeline.afterTail₀ cfgs (dats m) 0 (V0 m) [hostOps1] c main_v6 = TB ((dats m 0 c).arrAt 6 (cfgs 0).N) := by
  unfold Pipeline.afterTail₀ TB
  refine Eq.trans (b := transpose S2048x1608 [1, 0] (Pipeline.withArrays (cfgs 0).spec c (V0 m c) (fun w => (dats m 0 c).arrAt w (cfgs 0).N) (Proc.devRef .tc main_v3_2)) transposes_S1608x2048_S2048x1608_1_0) ?_ ?_
  · after_results
    try rfl
  · exact congrArg (fun x => transpose S2048x1608 [1, 0] x transposes_S1608x2048_S2048x1608_1_0)
      (Pipeline.withArrays_arr spec0 launch0.win.arr_inj c (V0 m c) (fun w => (dats m 0 c).arrAt w (cfgs 0).N) 6)

theorem tail7 (c : Dev nD) : Pipeline.afterTail₀ cfgs (dats m) 0 (V0 m) [hostOps1] c main_v7 = TB ((dats m 0 c).arrAt 7 (cfgs 0).N) := by
  unfold Pipeline.afterTail₀ TB
  refine Eq.trans (b := transpose S2048x1608 [1, 0] (Pipeline.withArrays (cfgs 0).spec c (V0 m c) (fun w => (dats m 0 c).arrAt w (cfgs 0).N) (Proc.devRef .tc main_v3_3)) transposes_S1608x2048_S2048x1608_1_0) ?_ ?_
  · after_results
    try rfl
  · exact congrArg (fun x => transpose S2048x1608 [1, 0] x transposes_S1608x2048_S2048x1608_1_0)
      (Pipeline.withArrays_arr spec0 launch0.win.arr_inj c (V0 m c) (fun w => (dats m 0 c).arrAt w (cfgs 0).N) 7)

theorem last4 (c : Dev nD) : Pipeline.afterTail₀ cfgs (dats m) 0 (V0 m) [hostOps1] c main_v4 = TB (ST (TP (m ((c : Thread nD τ).loc main_arg0))) (m ((c : Thread nD τ).loc main_arg1)) (TP (m ((c : Thread nD τ).loc main_arg2))) (TP (m ((c : Thread nD τ).loc main_arg3)))) := by
  rw [tail4, final4, V_v0, V_main_arg1, V_v1, V_v2]

theorem last5 (c : Dev nD) : Pipeline.afterTail₀ cfgs (dats m) 0 (V0 m) [hostOps1] c main_v5 = TB (M1 (m ((c : Thread nD τ).loc main_arg1)) (TP (m ((c : Thread nD τ).loc main_arg2)))) := by
  rw [tail5, final5, V_main_arg1, V_v1]

theorem last6 (c : Dev nD) : Pipeline.afterTail₀ cfgs (dats m) 0 (V0 m) [hostOps1] c main_v6 = TB (M2 (m ((c : Thread nD τ).loc main_arg1)) (TP (m ((c : Thread nD τ).loc main_arg3)))) := by
  rw [tail6, final6, V_main_arg1, V_v2]

theorem last7 (c : Dev nD) : Pipeline.afterTail₀ cfgs (dats m) 0 (V0 m) [hostOps1] c main_v7 = TB (m ((c : Thread nD τ).loc main_arg1)) := by
  rw [tail7, final7, V_main_arg1]

end Kernel

theorem algebraic : Cert.algebraic_AdamInIdeal_AdamInRefIdeal := fun m ρ m' ρ' _ hag =>
  ⟨fun c => TB (ST (TP (m ((c : Thread nD τ).loc main_arg0))) (m ((c : Thread nD τ).loc main_arg1)) (TP (m ((c : Thread nD τ).loc main_arg2))) (TP (m ((c : Thread nD τ).loc main_arg3)))),
    fun c => TB (M1 (m ((c : Thread nD τ).loc main_arg1)) (TP (m ((c : Thread nD τ).loc main_arg2)))),
    fun c => TB (M2 (m ((c : Thread nD τ).loc main_arg1)) (TP (m ((c : Thread nD τ).loc main_arg3)))),
    fun c => TB (m ((c : Thread nD τ).loc main_arg1)),
    (θ_run _ _ _).mono (fun _ h c => ⟨((h c).2 main_v4 (Pipeline.mem_restRefs_of main_v4 (by decide) (by decide))).trans (last4 m c),
      ((h c).2 main_v5 (Pipeline.mem_restRefs_of main_v5 (by decide) (by decide))).trans (last5 m c),
      ((h c).2 main_v6 (Pipeline.mem_restRefs_of main_v6 (by decide) (by decide))).trans (last6 m c),
      ((h c).2 main_v7 (Pipeline.mem_restRefs_of main_v7 (by decide) (by decide))).trans (last7 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
      (run_main m ρ),
    (θ_run _ _ _).mono (fun _ h c => ⟨(h c).1.trans (by
        rw [Cert.AdamInRefIdeal.Read.val_main_v24_eq, (hag c).1, (hag c).2.1, (hag c).2.2.1, (hag c).2.2.2]
        funext i
        exact (congrArg _ (eq_ix2 (n0 := 2048) (n1 := 1608) i)).trans ((ref_step _ _ _ _ _ _).trans (congrArg _ (eq_ix2 (n0 := 2048) (n1 := 1608) i).symm))),
      (h c).2.1.trans (by
        rw [Cert.AdamInRefIdeal.Read.val_main_v5_eq, (hag c).2.1, (hag c).2.2.1]
        funext i
        exact (congrArg _ (eq_ix2 (n0 := 2048) (n1 := 1608) i)).trans ((ref_m1 _ _ _ _).trans (congrArg _ (eq_ix2 (n0 := 2048) (n1 := 1608) i).symm))),
      (h c).2.2.1.trans (by
        rw [Cert.AdamInRefIdeal.Read.val_main_v11_eq, (hag c).2.1, (hag c).2.2.2]
        funext i
        exact (congrArg _ (eq_ix2 (n0 := 2048) (n1 := 1608) i)).trans ((ref_m2 _ _ _ _).trans (congrArg _ (eq_ix2 (n0 := 2048) (n1 := 1608) i).symm))),
      (h c).2.2.2.1.trans (by rw [(hag c).2.1]),
      (h c).2.2.2.2⟩)
      (Cert.AdamInRefIdeal.Value.run m' ρ')⟩

end Cert.AdamInIdeal.Hand

end
-- ==== Proof.AdamOutClaim.lean ====
/- AdamW of the output projection's weight: the step at every entry. -/
module

public import proofs.«01_k».proof.Proof.AdamRow
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Defs

@[expose] public section

set_option maxRecDepth 16384

noncomputable section

namespace Cert.AdamOutIdeal.Hand

open Cert.AdamOutIdeal Cert.AdamOutIdeal.Gen Cert.Rows Idealize.ShloMosaic Idealize.ShloMosaic.TcCoe Idealize.SL.Sem

def ST (w g m v : FVec Ideal S512x2048 .f32) : FVec Ideal S512x2048 .f32 := fun i => step (w i) (g i) (m i) (v i)
def M1 (g m : FVec Ideal S512x2048 .f32) : FVec Ideal S512x2048 .f32 := fun i => mom1 (g i) (m i)
def M2 (g v : FVec Ideal S512x2048 .f32) : FVec Ideal S512x2048 .f32 := fun i => mom2 (g i) (v i)

theorem pay1 (g m : Vec Ideal S512x1024 .f32) (r : Fin 512) (l : Fin 1024) : k0_pay1 (F := Ideal) g m (ix2 r l) = mom1 (g (ix2 r l)) (m (ix2 r l)) := by
  pointwise [k0_pay1, mom1]

theorem pay2 (g v : Vec Ideal S512x1024 .f32) (r : Fin 512) (l : Fin 1024) : k0_pay2 (F := Ideal) g v (ix2 r l) = mom2 (g (ix2 r l)) (v (ix2 r l)) := by
  pointwise [k0_pay2, mom2]

theorem pay3 (g m v w : Vec Ideal S512x1024 .f32) (r : Fin 512) (l : Fin 1024) :
    k0_pay3 (F := Ideal) g m v w (ix2 r l) = step (w (ix2 r l)) (g (ix2 r l)) (m (ix2 r l)) (v (ix2 r l)) := by
  pointwise [k0_pay3, k0_pay1, k0_pay2, mom1, mom2, step]

theorem ref_step (w g m v : FVec Ideal S512x2048 .f32) (r : Fin 512) (l : Fin 2048) :
    Cert.AdamOutRefIdeal.Read.val_main_v23 (F := Ideal) w g m v (ix2 r l) = ST w g m v (ix2 r l) := by
  rw [← Cert.AdamOutRefIdeal.Read.val_main_v23_eq]
  pointwise [ST, step, mom1, mom2]

theorem ref_m1 (g m : FVec Ideal S512x2048 .f32) (r : Fin 512) (l : Fin 2048) :
    Cert.AdamOutRefIdeal.Read.val_main_v4 (F := Ideal) g m (ix2 r l) = M1 g m (ix2 r l) := by
  rw [← Cert.AdamOutRefIdeal.Read.val_main_v4_eq]
  pointwise [M1, mom1]

theorem ref_m2 (g v : FVec Ideal S512x2048 .f32) (r : Fin 512) (l : Fin 2048) :
    Cert.AdamOutRefIdeal.Read.val_main_v10 (F := Ideal) g v (ix2 r l) = M2 g v (ix2 r l) := by
  rw [← Cert.AdamOutRefIdeal.Read.val_main_v10_eq]
  pointwise [M2, mom2]

section Kernel
variable (m : (ℓ : Loc nD τ sig) → Buf (Elt Ideal) ℓ)

theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] ∧ t.val < 2 :=
  (by decide +kernel : ∀ t : Fin grid0.N, _)

theorem step_congr {w w' g g' m m' v v' : EReal} (hw : w = w') (hg : g = g') (hm : m = m') (hv : v = v') : step w g m v = step w' g' m' v' := by
  rw [hw, hg, hm, hv]

theorem final4 (c : Dev nD) : (dats m 0 c).arrAt 4 (cfgs 0).N = ST (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [eq_ix2 (n0 := 512) (n1 := 1024) y]
  refine (pay3 _ _ _ _ (y 0) (y 1)).trans ?_
  refine step_congr ?_ ?_ ?_ ?_ <;> blk_ext [iblk, V, idx t]

theorem final5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [eq_ix2 (n0 := 512) (n1 := 1024) y]
  refine (pay1 _ _ (y 0) (y 1)).trans ?_
  refine congrArg₂ mom1 ?_ ?_ <;> blk_ext [iblk, V, idx t]

theorem final6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t _ y => ?_
  blk_simp
  rw [after0_6]
  frame_out
  rw [eq_ix2 (n0 := 512) (n1 := 1024) y]
  refine (pay2 _ _ (y 0) (y 1)).trans ?_
  refine congrArg₂ mom2 ?_ ?_ <;> blk_ext [iblk, V, idx t]

theorem final7 (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]
  frame_out
  blk_ext [iblk, V, idx t]

end Kernel

theorem algebraic : Cert.algebraic_AdamOutIdeal_AdamOutRefIdeal := fun m ρ m' ρ' _ hag =>
  ⟨fun c => ST (m ((c : Thread nD τ).loc main_arg0)) (m ((c : Thread nD τ).loc main_arg1)) (m ((c : Thread nD τ).loc main_arg2)) (m ((c : Thread nD τ).loc main_arg3)),
   fun c => M1 (m ((c : Thread nD τ).loc main_arg1)) (m ((c : Thread nD τ).loc main_arg2)),
   fun c => M2 (m ((c : Thread nD τ).loc main_arg1)) (m ((c : Thread nD τ).loc main_arg3)),
   fun c => (m ((c : Thread nD τ).loc main_arg1)),
   (θ_run _ _ _).mono (fun _ h c => ⟨(h c).1.trans (final4 m c), (h c).2.1.trans (final5 m c), (h c).2.2.1.trans (final6 m c), (h c).2.2.2.1.trans (final7 m c), (h c).2.2.2.2⟩)
     (Cert.AdamOutIdeal.Value.run_blocks m ρ),
   (θ_run _ _ _).mono (fun _ h c => ⟨(h c).1.trans (by
        rw [Cert.AdamOutRefIdeal.Read.val_main_v23_eq, (hag c).1, (hag c).2.1, (hag c).2.2.1, (hag c).2.2.2]
        funext i
        exact (congrArg _ (eq_ix2 (n0 := 512) (n1 := 2048) i)).trans ((ref_step _ _ _ _ _ _).trans (congrArg _ (eq_ix2 (n0 := 512) (n1 := 2048) i).symm))),
      (h c).2.1.trans (by
        rw [Cert.AdamOutRefIdeal.Read.val_main_v4_eq, (hag c).2.1, (hag c).2.2.1]
        funext i
        exact (congrArg _ (eq_ix2 (n0 := 512) (n1 := 2048) i)).trans ((ref_m1 _ _ _ _).trans (congrArg _ (eq_ix2 (n0 := 512) (n1 := 2048) i).symm))),
      (h c).2.2.1.trans (by
        rw [Cert.AdamOutRefIdeal.Read.val_main_v10_eq, (hag c).2.1, (hag c).2.2.2]
        funext i
        exact (congrArg _ (eq_ix2 (n0 := 512) (n1 := 2048) i)).trans ((ref_m2 _ _ _ _).trans (congrArg _ (eq_ix2 (n0 := 512) (n1 := 2048) i).symm))),
      (h c).2.2.2.1.trans (hag c).2.1,
      (h c).2.2.2.2⟩)
     (Cert.AdamOutRefIdeal.Value.run m' ρ')⟩

end Cert.AdamOutIdeal.Hand

end
-- ==== Proof.AdamKvClaim.lean ====
/- AdamW of the memory projection's weight: the step at every entry. -/
module

public import proofs.«01_k».proof.Proof.AdamRow
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Defs

@[expose] public section

set_option maxRecDepth 16384

noncomputable section

namespace Cert.AdamKvIdeal.Hand

open Cert.AdamKvIdeal Cert.AdamKvIdeal.Gen Cert.Rows Idealize.ShloMosaic Idealize.ShloMosaic.TcCoe Idealize.SL.Sem

def ST (w g m v : FVec Ideal S512x1024 .f32) : FVec Ideal S512x1024 .f32 := fun i => step (w i) (g i) (m i) (v i)
def M1 (g m : FVec Ideal S512x1024 .f32) : FVec Ideal S512x1024 .f32 := fun i => mom1 (g i) (m i)
def M2 (g v : FVec Ideal S512x1024 .f32) : FVec Ideal S512x1024 .f32 := fun i => mom2 (g i) (v i)

theorem pay1 (g m : Vec Ideal S512x1024 .f32) (r : Fin 512) (l : Fin 1024) : k0_pay1 (F := Ideal) g m (ix2 r l) = mom1 (g (ix2 r l)) (m (ix2 r l)) := by
  pointwise [k0_pay1, mom1]

theorem pay2 (g v : Vec Ideal S512x1024 .f32) (r : Fin 512) (l : Fin 1024) : k0_pay2 (F := Ideal) g v (ix2 r l) = mom2 (g (ix2 r l)) (v (ix2 r l)) := by
  pointwise [k0_pay2, mom2]

theorem pay3 (g m v w : Vec Ideal S512x1024 .f32) (r : Fin 512) (l : Fin 1024) :
    k0_pay3 (F := Ideal) g m v w (ix2 r l) = step (w (ix2 r l)) (g (ix2 r l)) (m (ix2 r l)) (v (ix2 r l)) := by
  pointwise [k0_pay3, k0_pay1, k0_pay2, mom1, mom2, step]

theorem ref_step (w g m v : FVec Ideal S512x1024 .f32) (r : Fin 512) (l : Fin 1024) :
    Cert.AdamKvRefIdeal.Read.val_main_v23 (F := Ideal) w g m v (ix2 r l) = ST w g m v (ix2 r l) := by
  rw [← Cert.AdamKvRefIdeal.Read.val_main_v23_eq]
  pointwise [ST, step, mom1, mom2]

theorem ref_m1 (g m : FVec Ideal S512x1024 .f32) (r : Fin 512) (l : Fin 1024) :
    Cert.AdamKvRefIdeal.Read.val_main_v4 (F := Ideal) g m (ix2 r l) = M1 g m (ix2 r l) := by
  rw [← Cert.AdamKvRefIdeal.Read.val_main_v4_eq]
  pointwise [M1, mom1]

theorem ref_m2 (g v : FVec Ideal S512x1024 .f32) (r : Fin 512) (l : Fin 1024) :
    Cert.AdamKvRefIdeal.Read.val_main_v10 (F := Ideal) g v (ix2 r l) = M2 g v (ix2 r l) := by
  rw [← Cert.AdamKvRefIdeal.Read.val_main_v10_eq]
  pointwise [M2, mom2]

section Kernel
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ t.val < 1 :=
  (by decide +kernel : ∀ t : Fin grid0.N, _)

theorem step_congr {w w' g g' m m' v v' : EReal} (hw : w = w') (hg : g = g') (hm : m = m') (hv : v = v') : step w g m v = step w' g' m' v' := by
  rw [hw, hg, hm, hv]

theorem final4 (c : Dev nD) : (dats m 0 c).arrAt 4 (cfgs 0).N = ST (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [eq_ix2 (n0 := 512) (n1 := 1024) y]
  refine (pay3 _ _ _ _ (y 0) (y 1)).trans ?_
  refine step_congr ?_ ?_ ?_ ?_ <;> blk_ext [iblk, V, idx t]

theorem final5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [eq_ix2 (n0 := 512) (n1 := 1024) y]
  refine (pay1 _ _ (y 0) (y 1)).trans ?_
  refine congrArg₂ mom1 ?_ ?_ <;> blk_ext [iblk, V, idx t]

theorem final6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t _ y => ?_
  blk_simp
  rw [after0_6]
  frame_out
  rw [eq_ix2 (n0 := 512) (n1 := 1024) y]
  refine (pay2 _ _ (y 0) (y 1)).trans ?_
  refine congrArg₂ mom2 ?_ ?_ <;> blk_ext [iblk, V, idx t]

theorem final7 (c : Dev nD) : (dats m 0 c).arrAt 7 (cfgs 0).N = (m ((c : Thread nD τ).loc main_arg1)) := by
  refine (dats m 0 c).arrAt_eq_of_covers 7 _ (by decide +kernel) fun t _ y => ?_
  blk_simp
  rw [after0_7]
  frame_out
  blk_ext [iblk, V, idx t]

end Kernel

theorem algebraic : Cert.algebraic_AdamKvIdeal_AdamKvRefIdeal := fun m ρ m' ρ' _ hag =>
  ⟨fun c => ST (m ((c : Thread nD τ).loc main_arg0)) (m ((c : Thread nD τ).loc main_arg1)) (m ((c : Thread nD τ).loc main_arg2)) (m ((c : Thread nD τ).loc main_arg3)),
   fun c => M1 (m ((c : Thread nD τ).loc main_arg1)) (m ((c : Thread nD τ).loc main_arg2)),
   fun c => M2 (m ((c : Thread nD τ).loc main_arg1)) (m ((c : Thread nD τ).loc main_arg3)),
   fun c => (m ((c : Thread nD τ).loc main_arg1)),
   (θ_run _ _ _).mono (fun _ h c => ⟨(h c).1.trans (final4 m c), (h c).2.1.trans (final5 m c), (h c).2.2.1.trans (final6 m c), (h c).2.2.2.1.trans (final7 m c), (h c).2.2.2.2⟩)
     (Cert.AdamKvIdeal.Value.run_blocks m ρ),
   (θ_run _ _ _).mono (fun _ h c => ⟨(h c).1.trans (by
        rw [Cert.AdamKvRefIdeal.Read.val_main_v23_eq, (hag c).1, (hag c).2.1, (hag c).2.2.1, (hag c).2.2.2]
        funext i
        exact (congrArg _ (eq_ix2 (n0 := 512) (n1 := 1024) i)).trans ((ref_step _ _ _ _ _ _).trans (congrArg _ (eq_ix2 (n0 := 512) (n1 := 1024) i).symm))),
      (h c).2.1.trans (by
        rw [Cert.AdamKvRefIdeal.Read.val_main_v4_eq, (hag c).2.1, (hag c).2.2.1]
        funext i
        exact (congrArg _ (eq_ix2 (n0 := 512) (n1 := 1024) i)).trans ((ref_m1 _ _ _ _).trans (congrArg _ (eq_ix2 (n0 := 512) (n1 := 1024) i).symm))),
      (h c).2.2.1.trans (by
        rw [Cert.AdamKvRefIdeal.Read.val_main_v10_eq, (hag c).2.1, (hag c).2.2.2]
        funext i
        exact (congrArg _ (eq_ix2 (n0 := 512) (n1 := 1024) i)).trans ((ref_m2 _ _ _ _).trans (congrArg _ (eq_ix2 (n0 := 512) (n1 := 1024) i).symm))),
      (h c).2.2.2.1.trans (hag c).2.1,
      (h c).2.2.2.2⟩)
     (Cert.AdamKvRefIdeal.Value.run m' ρ')⟩

end Cert.AdamKvIdeal.Hand

end
-- ==== Proof.AdamConvClaim.lean ====
/- AdamW of the convolution's taps: the step at every entry. -/
module

public import proofs.«01_k».proof.Proof.AdamRow
public import proofs.«01_k».proof.Proof.Gen.AdamConvIdeal.Value
public import proofs.«01_k».proof.Proof.Gen.AdamConvRefIdeal.Run
public import proofs.«01_k».proof.Proof.Gen.AdamConvRefIdeal.Read
public import proofs.«01_k».proof.Defs

@[expose] public section

set_option maxRecDepth 16384

noncomputable section

namespace Cert.AdamConvIdeal.Hand

open Cert.AdamConvIdeal Cert.AdamConvIdeal.Gen Cert.Rows Idealize.ShloMosaic Idealize.ShloMosaic.TcCoe Idealize.SL.Sem

def ST (w g m v : FVec Ideal S5x768 .f32) : FVec Ideal S5x768 .f32 := fun i => step (w i) (g i) (m i) (v i)
def M1 (g m : FVec Ideal S5x768 .f32) : FVec Ideal S5x768 .f32 := fun i => mom1 (g i) (m i)
def M2 (g v : FVec Ideal S5x768 .f32) : FVec Ideal S5x768 .f32 := fun i => mom2 (g i) (v i)

theorem pay1 (g m : Vec Ideal S5x768 .f32) (r : Fin 5) (l : Fin 768) : k0_pay1 (F := Ideal) g m (ix2 r l) = mom1 (g (ix2 r l)) (m (ix2 r l)) := by
  pointwise [k0_pay1, mom1]

theorem pay2 (g v : Vec Ideal S5x768 .f32) (r : Fin 5) (l : Fin 768) : k0_pay2 (F := Ideal) g v (ix2 r l) = mom2 (g (ix2 r l)) (v (ix2 r l)) := by
  pointwise [k0_pay2, mom2]

theorem pay3 (g m v w : Vec Ideal S5x768 .f32) (r : Fin 5) (l : Fin 768) :
    k0_pay3 (F := Ideal) g m v w (ix2 r l) = step (w (ix2 r l)) (g (ix2 r l)) (m (ix2 r l)) (v (ix2 r l)) := by
  pointwise [k0_pay3, k0_pay1, k0_pay2, mom1, mom2, step]

theorem ref_step (w g m v : FVec Ideal S5x768 .f32) (r : Fin 5) (l : Fin 768) :
    Cert.AdamConvRefIdeal.Read.val_main_v23 (F := Ideal) w g m v (ix2 r l) = ST w g m v (ix2 r l) := by
  rw [← Cert.AdamConvRefIdeal.Read.val_main_v23_eq]
  pointwise [ST, step, mom1, mom2]

theorem ref_m1 (g m : FVec Ideal S5x768 .f32) (r : Fin 5) (l : Fin 768) :
    Cert.AdamConvRefIdeal.Read.val_main_v4 (F := Ideal) g m (ix2 r l) = M1 g m (ix2 r l) := by
  rw [← Cert.AdamConvRefIdeal.Read.val_main_v4_eq]
  pointwise [M1, mom1]

theorem ref_m2 (g v : FVec Ideal S5x768 .f32) (r : Fin 5) (l : Fin 768) :
    Cert.AdamConvRefIdeal.Read.val_main_v10 (F := Ideal) g v (ix2 r l) = M2 g v (ix2 r l) := by
  rw [← Cert.AdamConvRefIdeal.Read.val_main_v10_eq]
  pointwise [M2, mom2]

section Kernel
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ t.val < 1 :=
  (by decide +kernel : ∀ t : Fin grid0.N, _)

theorem step_congr {w w' g g' m m' v v' : EReal} (hw : w = w') (hg : g = g') (hm : m = m') (hv : v = v') : step w g m v = step w' g' m' v' := by
  rw [hw, hg, hm, hv]

theorem final4 (c : Dev nD) : (dats m 0 c).arrAt 4 (cfgs 0).N = ST (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [eq_ix2 (n0 := 5) (n1 := 768) y]
  refine (pay3 _ _ _ _ (y 0) (y 1)).trans ?_
  refine step_congr ?_ ?_ ?_ ?_ <;> blk_ext [iblk, V, idx t]

theorem final5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [eq_ix2 (n0 := 5) (n1 := 768) y]
  refine (pay1 _ _ (y 0) (y 1)).trans ?_
  refine congrArg₂ mom1 ?_ ?_ <;> blk_ext [iblk, V, idx t]

theorem final6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t _ y => ?_
  blk_simp
  rw [after0_6]
  frame_out
  rw [eq_ix2 (n0 := 5) (n1 := 768) y]
  refine (pay2 _ _ (y 0) (y 1)).trans ?_
  refine congrArg₂ mom2 ?_ ?_ <;> blk_ext [iblk, V, idx t]

end Kernel

theorem algebraic : Cert.algebraic_AdamConvIdeal_AdamConvRefIdeal := fun m ρ m' ρ' _ hag =>
  ⟨fun c => ST (m ((c : Thread nD τ).loc main_arg0)) (m ((c : Thread nD τ).loc main_arg1)) (m ((c : Thread nD τ).loc main_arg2)) (m ((c : Thread nD τ).loc main_arg3)),
   fun c => M1 (m ((c : Thread nD τ).loc main_arg1)) (m ((c : Thread nD τ).loc main_arg2)),
   fun c => M2 (m ((c : Thread nD τ).loc main_arg1)) (m ((c : Thread nD τ).loc main_arg3)),
   (θ_run _ _ _).mono (fun _ h c => ⟨(h c).1.trans (final4 m c), (h c).2.1.trans (final5 m c), (h c).2.2.1.trans (final6 m c), (h c).2.2.2⟩)
     (Cert.AdamConvIdeal.Value.run_blocks m ρ),
   (θ_run _ _ _).mono (fun _ h c => ⟨(h c).1.trans (by
        rw [Cert.AdamConvRefIdeal.Read.val_main_v23_eq, (hag c).1, (hag c).2.1, (hag c).2.2.1, (hag c).2.2.2]
        funext i
        exact (congrArg _ (eq_ix2 (n0 := 5) (n1 := 768) i)).trans ((ref_step _ _ _ _ _ _).trans (congrArg _ (eq_ix2 (n0 := 5) (n1 := 768) i).symm))),
      (h c).2.1.trans (by
        rw [Cert.AdamConvRefIdeal.Read.val_main_v4_eq, (hag c).2.1, (hag c).2.2.1]
        funext i
        exact (congrArg _ (eq_ix2 (n0 := 5) (n1 := 768) i)).trans ((ref_m1 _ _ _ _).trans (congrArg _ (eq_ix2 (n0 := 5) (n1 := 768) i).symm))),
      (h c).2.2.1.trans (by
        rw [Cert.AdamConvRefIdeal.Read.val_main_v10_eq, (hag c).2.1, (hag c).2.2.2]
        funext i
        exact (congrArg _ (eq_ix2 (n0 := 5) (n1 := 768) i)).trans ((ref_m2 _ _ _ _).trans (congrArg _ (eq_ix2 (n0 := 5) (n1 := 768) i).symm))),
      (h c).2.2.2⟩)
     (Cert.AdamConvRefIdeal.Value.run m' ρ')⟩

end Cert.AdamConvIdeal.Hand

end
-- ==== Proof.AdamSmallClaim.lean ====
/- AdamW of the packed small weights: the step at every entry. -/
module

public import proofs.«01_k».proof.Proof.AdamRow
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Defs

@[expose] public section

set_option maxRecDepth 16384

noncomputable section

namespace Cert.AdamSmallIdeal.Hand

open Cert.AdamSmallIdeal Cert.AdamSmallIdeal.Gen Cert.Rows Idealize.ShloMosaic Idealize.ShloMosaic.TcCoe Idealize.SL.Sem

def ST (w g m v : FVec Ideal S160x128 .f32) : FVec Ideal S160x128 .f32 := fun i => step (w i) (g i) (m i) (v i)
def M1 (g m : FVec Ideal S160x128 .f32) : FVec Ideal S160x128 .f32 := fun i => mom1 (g i) (m i)
def M2 (g v : FVec Ideal S160x128 .f32) : FVec Ideal S160x128 .f32 := fun i => mom2 (g i) (v i)

theorem pay1 (g m : Vec Ideal S160x128 .f32) (r : Fin 160) (l : Fin 128) : k0_pay1 (F := Ideal) g m (ix2 r l) = mom1 (g (ix2 r l)) (m (ix2 r l)) := by
  pointwise [k0_pay1, mom1]

theorem pay2 (g v : Vec Ideal S160x128 .f32) (r : Fin 160) (l : Fin 128) : k0_pay2 (F := Ideal) g v (ix2 r l) = mom2 (g (ix2 r l)) (v (ix2 r l)) := by
  pointwise [k0_pay2, mom2]

theorem pay3 (g m v w : Vec Ideal S160x128 .f32) (r : Fin 160) (l : Fin 128) :
    k0_pay3 (F := Ideal) g m v w (ix2 r l) = step (w (ix2 r l)) (g (ix2 r l)) (m (ix2 r l)) (v (ix2 r l)) := by
  pointwise [k0_pay3, k0_pay1, k0_pay2, mom1, mom2, step]

theorem ref_step (w g m v : FVec Ideal S160x128 .f32) (r : Fin 160) (l : Fin 128) :
    Cert.AdamSmallRefIdeal.Read.val_main_v23 (F := Ideal) w g m v (ix2 r l) = ST w g m v (ix2 r l) := by
  rw [← Cert.AdamSmallRefIdeal.Read.val_main_v23_eq]
  pointwise [ST, step, mom1, mom2]

theorem ref_m1 (g m : FVec Ideal S160x128 .f32) (r : Fin 160) (l : Fin 128) :
    Cert.AdamSmallRefIdeal.Read.val_main_v4 (F := Ideal) g m (ix2 r l) = M1 g m (ix2 r l) := by
  rw [← Cert.AdamSmallRefIdeal.Read.val_main_v4_eq]
  pointwise [M1, mom1]

theorem ref_m2 (g v : FVec Ideal S160x128 .f32) (r : Fin 160) (l : Fin 128) :
    Cert.AdamSmallRefIdeal.Read.val_main_v10 (F := Ideal) g v (ix2 r l) = M2 g v (ix2 r l) := by
  rw [← Cert.AdamSmallRefIdeal.Read.val_main_v10_eq]
  pointwise [M2, mom2]

section Kernel
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ t.val < 1 :=
  (by decide +kernel : ∀ t : Fin grid0.N, _)

theorem step_congr {w w' g g' m m' v v' : EReal} (hw : w = w') (hg : g = g') (hm : m = m') (hv : v = v') : step w g m v = step w' g' m' v' := by
  rw [hw, hg, hm, hv]

theorem final4 (c : Dev nD) : (dats m 0 c).arrAt 4 (cfgs 0).N = ST (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [eq_ix2 (n0 := 160) (n1 := 128) y]
  refine (pay3 _ _ _ _ (y 0) (y 1)).trans ?_
  refine step_congr ?_ ?_ ?_ ?_ <;> blk_ext [iblk, V, idx t]

theorem final5 (c : Dev nD) : (dats m 0 c).arrAt 5 (cfgs 0).N = M1 (m ((c : Thread nD τ).loc main_arg1)) (m ((c : Thread nD τ).loc main_arg2)) := by
  refine (dats m 0 c).arrAt_eq_of_covers 5 _ (by decide +kernel) fun t _ y => ?_
  blk_simp
  rw [after0_5]
  frame_out
  rw [eq_ix2 (n0 := 160) (n1 := 128) y]
  refine (pay1 _ _ (y 0) (y 1)).trans ?_
  refine congrArg₂ mom1 ?_ ?_ <;> blk_ext [iblk, V, idx t]

theorem final6 (c : Dev nD) : (dats m 0 c).arrAt 6 (cfgs 0).N = M2 (m ((c : Thread nD τ).loc main_arg1)) (m ((c : Thread nD τ).loc main_arg3)) := by
  refine (dats m 0 c).arrAt_eq_of_covers 6 _ (by decide +kernel) fun t _ y => ?_
  blk_simp
  rw [after0_6]
  frame_out
  rw [eq_ix2 (n0 := 160) (n1 := 128) y]
  refine (pay2 _ _ (y 0) (y 1)).trans ?_
  refine congrArg₂ mom2 ?_ ?_ <;> blk_ext [iblk, V, idx t]

end Kernel

theorem algebraic : Cert.algebraic_AdamSmallIdeal_AdamSmallRefIdeal := fun m ρ m' ρ' _ hag =>
  ⟨fun c => ST (m ((c : Thread nD τ).loc main_arg0)) (m ((c : Thread nD τ).loc main_arg1)) (m ((c : Thread nD τ).loc main_arg2)) (m ((c : Thread nD τ).loc main_arg3)),
   fun c => M1 (m ((c : Thread nD τ).loc main_arg1)) (m ((c : Thread nD τ).loc main_arg2)),
   fun c => M2 (m ((c : Thread nD τ).loc main_arg1)) (m ((c : Thread nD τ).loc main_arg3)),
   (θ_run _ _ _).mono (fun _ h c => ⟨(h c).1.trans (final4 m c), (h c).2.1.trans (final5 m c), (h c).2.2.1.trans (final6 m c), (h c).2.2.2⟩)
     (Cert.AdamSmallIdeal.Value.run_blocks m ρ),
   (θ_run _ _ _).mono (fun _ h c => ⟨(h c).1.trans (by
        rw [Cert.AdamSmallRefIdeal.Read.val_main_v23_eq, (hag c).1, (hag c).2.1, (hag c).2.2.1, (hag c).2.2.2]
        funext i
        exact (congrArg _ (eq_ix2 (n0 := 160) (n1 := 128) i)).trans ((ref_step _ _ _ _ _ _).trans (congrArg _ (eq_ix2 (n0 := 160) (n1 := 128) i).symm))),
      (h c).2.1.trans (by
        rw [Cert.AdamSmallRefIdeal.Read.val_main_v4_eq, (hag c).2.1, (hag c).2.2.1]
        funext i
        exact (congrArg _ (eq_ix2 (n0 := 160) (n1 := 128) i)).trans ((ref_m1 _ _ _ _).trans (congrArg _ (eq_ix2 (n0 := 160) (n1 := 128) i).symm))),
      (h c).2.2.1.trans (by
        rw [Cert.AdamSmallRefIdeal.Read.val_main_v10_eq, (hag c).2.1, (hag c).2.2.2]
        funext i
        exact (congrArg _ (eq_ix2 (n0 := 160) (n1 := 128) i)).trans ((ref_m2 _ _ _ _).trans (congrArg _ (eq_ix2 (n0 := 160) (n1 := 128) i).symm))),
      (h c).2.2.2⟩)
     (Cert.AdamSmallRefIdeal.Value.run m' ρ')⟩

end Cert.AdamSmallIdeal.Hand

end
-- ==== Proof.SumInClaim.lean ====
/- The reduced gradient of w_in: the device's own part, the sibling's and the other chips' parts added up. -/
module

public import proofs.«01_k».proof.Proof.Gen.SumInIdeal.Frame
public import proofs.«01_k».proof.Proof.Gen.SumIn.Frame
public import proofs.«01_k».proof.Proof.Gen.SumInRefIdeal.Run
public import proofs.«01_k».proof.Proof.Gen.SumInRefIdeal.Read
public import proofs.«01_k».proof.Defs
public import Idealize.ShloMosaic.Lib.Pointwise
public import Idealize.ShloMosaic.Lib.Pipeline.ValueKit

@[expose] public section

set_option maxRecDepth 16384

noncomputable section

namespace Cert.SumIn.Hand

open Cert.SumIn Cert.SumIn.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumIn.Hand

namespace Cert.SumInIdeal.Hand

open Cert.SumInIdeal Cert.SumInIdeal.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumInIdeal.Hand

namespace Cert.SumInIdeal.Hand

open Cert.SumInIdeal Cert.SumInIdeal.Gen Idealize.ShloMosaic Idealize.ShloMosaic.TcCoe Idealize.SL.Sem

/-- The own part, the sibling's, and the three other chips'. -/
def TOT (a : FVec Ideal S4x1664x2048 .f32) (b : FVec Ideal S4x1664x1024 .bf16) (l : FVec Ideal S3x1664x1024 .bf16) : FVec Ideal S1664x1024 .f32 := fun i =>
  (a (ix3 (0 : Fin 4) (i 0) (Fin.castLE (by decide) (i 1))) : EReal) + b (ix3 (0 : Fin 4) (i 0) (i 1)) + l (ix3 (0 : Fin 3) (i 0) (i 1)) + l (ix3 (1 : Fin 3) (i 0) (i 1)) + l (ix3 (2 : Fin 3) (i 0) (i 1))

theorem pay (v0 : Vec Ideal S1x416x1024 .f32) (v2 v6 v10 v14 : Vec Ideal S1x416x1024 .bf16) (r : Fin 416) (l : Fin 1024) :
    k0_pay1 (F := Ideal) v0 v2 v6 v10 v14 (ix2 r l) = (v0 (ix3 0 r l) : EReal) + v2 (ix3 0 r l) + v6 (ix3 0 r l) + v10 (ix3 0 r l) + v14 (ix3 0 r l) := by
  pointwise [k0_pay1]

theorem ref_tot (a : FVec Ideal S4x1664x2048 .f32) (b : FVec Ideal S4x1664x1024 .bf16) (p : FVec Ideal S3x1664x1024 .bf16) (i : S1664x1024.Idx) :
    Cert.SumInRefIdeal.Read.val_main_v8 (F := Ideal) a b p i = TOT a b p i := by
  obtain ⟨r, l, rfl⟩ : ∃ (r : Fin 1664) (l : Fin 1024), i = ix2 r l := ⟨i 0, i 1, eq_ix2 (n0 := 1664) (n1 := 1024) i⟩
  rw [Cert.SumInRefIdeal.Read.val_main_v8_apply, Cert.SumInRefIdeal.Read.val_main_v7_apply, Fin.sum_univ_three, Cert.SumInRefIdeal.Read.val_main_cst_apply]
  have hz : (FloatOps.ofBits (F := Ideal) .f32 0x00000000#32 : EReal) = 0 := Ideal.ofBits_zero .f32
  rw [hz, zero_add]
  unfold Cert.SumInRefIdeal.Read.val_main_v5 Cert.SumInRefIdeal.Read.val_main_v4 Cert.SumInRefIdeal.Read.val_main_v3 Cert.SumInRefIdeal.Read.val_main_v2 Cert.SumInRefIdeal.Read.val_main_v1 Cert.SumInRefIdeal.Read.val_main_v0
  pointwise [TOT]
  have hk : ∀ k : Fin 3, Cert.SumInRefIdeal.Read.val_main_v6 (F := Ideal) p (Cert.SumInRefIdeal.Read.idx_main_v7 (ix2 r l) k) = p (ix3 k r l) := fun k =>
    congrArg p (funext fun (x : Fin 3) => by fin_cases x <;> rfl)
  rw [hk 0, hk 1, hk 2, ← add_assoc, ← add_assoc]
  rfl

section Kernel
variable (m : (ℓ : Loc nD τ sig) → Buf (Elt Ideal) ℓ) (hO : Ok m)

theorem idx (t : Fin (cfgM m hO).N) : ((cfgM m hO).win 0).index t = ![0, t.val, 0] ∧ ((cfgM m hO).win 1).index t = ![0, t.val, 0] ∧ ((cfgM m hO).win 2).index t = ![0, t.val, 0] ∧ ((cfgM m hO).win 3).index t = ![t.val, 0] ∧ t.val < 4 :=
  ⟨(at0 m _).trans ((by decide +kernel : ∀ t : Fin grid0.N, (![0, ((grid0.coords t) 0).val, 0] : Fin 3 → Nat) = ![0, t.val, 0]) t),
   (at1 m _).trans ((by decide +kernel : ∀ t : Fin grid0.N, (![0, ((grid0.coords t) 0).val, 0] : Fin 3 → Nat) = ![0, t.val, 0]) t),
   (by decide +kernel : ∀ t : Fin grid0.N, cc0_transform_2 (grid0.coords t) = ![0, t.val, 0]) t,
   (by decide +kernel : ∀ t : Fin grid0.N, cc0_transform_3 (grid0.coords t) = ![t.val, 0]) t,
   (by decide +kernel : ∀ t : Fin grid0.N, t.val < 4) t⟩

theorem add_congr5 {a a' b b' c c' d d' e e' : EReal} (ha : a = a') (hb : b = b') (hc : c = c') (hd : d = d') (he : e = e') : a + b + c + d + e = a' + b' + c' + d' + e' := by
  rw [ha, hb, hc, hd, he]

theorem covers : ((cfgM m hO).win 3).Covers := by
  refine ⟨fun a => (by decide +kernel : ∀ a : Fin 2, 0 < S416x1024.size a) a, fun (β : (a : Fin 2) → Fin ((S1664x1024.size a + S416x1024.size a - 1) / S416x1024.size a)) => ⟨(⟨(β 0).val, (β 0).isLt⟩ : Fin grid0.N), flush0_3 _ _, fun a => ?_⟩⟩
  rw [(idx m hO _).2.2.2.1]
  have hb : (β 1).val = 0 := Nat.lt_one_iff.1 (β 1).isLt
  revert a
  refine fun (a : Fin 2) => ?_
  fin_cases a
  · exact ⟨rfl, Or.inl rfl⟩
  · exact ⟨hb.symm, Or.inl rfl⟩

theorem blk0 (c : Dev nD) (t : Fin (cfgM m hO).N) (r : Fin 416) (l : Fin 1024) (R : Fin 1664) (hR : R.val = t.val * 416 + r.val) :
    (iblk m hO c 0 t : Vec Ideal S1x416x1024 .f32) (ix3 0 r l) = (m ((c : Thread nD τ).loc main_arg0) : FVec Ideal S4x1664x2048 .f32) (ix3 0 R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x416x1024.size a + 1 * _ = _
  rw [h]
  fin_cases a
  · rfl
  · show t.val * 416 + 1 * r.val = R.val
    omega
  · show 0 * 1024 + 1 * l.val = l.val
    omega

theorem blk1 (c : Dev nD) (t : Fin (cfgM m hO).N) (r : Fin 416) (l : Fin 1024) (R : Fin 1664) (hR : R.val = t.val * 416 + r.val) :
    (iblk m hO c 1 t : Vec Ideal S1x416x1024 .bf16) (ix3 0 r l) = (m ((c : Thread nD τ).loc main_arg1) : FVec Ideal S4x1664x1024 .bf16) (ix3 0 R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x416x1024.size a + 1 * _ = _
  rw [h]
  fin_cases a
  · rfl
  · show t.val * 416 + 1 * r.val = R.val
    omega
  · show 0 * 1024 + 1 * l.val = l.val
    omega

theorem blk2 (c : Dev nD) (t : Fin (cfgM m hO).N) (k : Fin 3) (r : Fin 416) (l : Fin 1024) (R : Fin 1664) (hR : R.val = t.val * 416 + r.val) :
    (iblk m hO c 2 t : Vec Ideal S3x416x1024 .bf16) (ix3 k r l) = (m ((c : Thread nD τ).loc main_arg2) : FVec Ideal S3x1664x1024 .bf16) (ix3 k R l) := by
  have h := (idx m hO t).2.2.1
  unfold iblk
  show V m c main_arg2 ((((cfgM m hO).win 2).blk t).view.emb (ix3 k r l)) = _
  rw [V_main_arg2]
  refine congrArg _ (funext fun (a : Fin 3) => Fin.ext ?_)
  show ((cfgM m hO).win 2).index t a * S3x416x1024.size a + 1 * _ = _
  rw [h]
  fin_cases a
  · show 0 * 3 + 1 * k.val = k.val
    omega
  · show t.val * 416 + 1 * r.val = R.val
    omega
  · show 0 * 1024 + 1 * l.val = l.val
    omega

/-- One of the three landed parts, loaded by itself. -/
theorem row (x : Vec Ideal S3x416x1024 .bf16) (k : Fin 3) (h : ∀ a, (![k.val, 0, 0] : Fin 3 → Nat) a + S1x416x1024.size a ≤ S3x416x1024.size a) (r : Fin 416) (l : Fin 1024) :
    View.ld x (Rect.unit (s := S3x416x1024) ![k.val, 0, 0] S1x416x1024.size h) (ix3 0 r l) = x (ix3 k r l) := by
  refine congrArg x (funext fun (a : Fin 3) => Fin.ext ?_)
  fin_cases a
  · show k.val + 1 * 0 = k.val
    omega
  · show 0 + 1 * r.val = r.val
    omega
  · show 0 + 1 * l.val = l.val
    omega

theorem out (c : Dev nD) (i : grid0.Coords) (arg2 : Memref sig .tc .vmem S1x416x1024 .f32) (harg2 : arg2.IsWhole) (arg3 : Memref sig .tc .vmem S1x416x1024 .bf16) (harg3 : arg3.IsWhole)
    (arg4 : Memref sig .tc .vmem S3x416x1024 .bf16) (harg4 : arg4.IsWhole) (arg5 : Memref sig .tc .vmem S416x1024 .f32) (harg5 : arg5.IsWhole)
    (x0 : Vec Ideal S1x416x1024 .f32) (x1 : Vec Ideal S1x416x1024 .bf16) (x2 : Vec Ideal S3x416x1024 .bf16) (xt0 : TbBuf0 (F := Ideal) c tbM0_0) (r : Fin 416) (l : Fin 1024) :
    out0_A_3 c i arg2 harg2 arg3 harg3 arg4 harg4 arg5 harg5 x0 x1 x2 xt0 (ix2 r l) = (x0 (ix3 0 r l) : EReal) + x1 (ix3 0 r l) + x2 (ix3 0 r l) + x2 (ix3 1 r l) + x2 (ix3 2 r l) := by
  frame_out
  refine (pay _ _ _ _ _ r l).trans ?_
  refine add_congr5 rfl rfl (row x2 0 _ r l) (row x2 1 _ r l) (row x2 2 _ r l)

theorem left (c : Dev nD) (t : Fin (cfgM m hO).N) (r : Fin 416) (l : Fin 1024) (R : Fin 1664) (hR : R.val = t.val * 416 + r.val) :
    outsAt0 m hO c t (ix2 r l) = TOT (m ((c : Thread nD τ).loc main_arg0)) (m ((c : Thread nD τ).loc main_arg1)) (m ((c : Thread nD τ).loc main_arg2)) (ix2 R l) := by
  unfold outsAt0
  refine (out _ _ _ _ _ _ _ _ _ _ _ _ _ _ r l).trans ?_
  exact add_congr5 (blk0 m hO c t r l R hR) (blk1 m hO c t r l R hR) (blk2 m hO c t 0 r l R hR) (blk2 m hO c t 1 r l R hR) (blk2 m hO c t 2 r l R hR)

theorem emb3 (t : Fin (cfgM m hO).N) (y : S416x1024.Idx) (R : Fin 1664) (hR : R.val = t.val * 416 + (y 0).val) :
    (((cfgM m hO).win 3).blk t).view.emb y = (ix2 R (y 1 : Fin 1024) : S1664x1024.Idx) := by
  refine funext fun (a : Fin 2) => Fin.ext ?_
  show ((cfgM m hO).win 3).index t a * S416x1024.size a + 1 * _ = _
  rw [(idx m hO t).2.2.2.1]
  fin_cases a
  · show t.val * 416 + 1 * (y 0).val = R.val
    omega
  · show 0 * 1024 + 1 * (y 1).val = (y 1).val
    omega

theorem at3 (c : Dev nD) (t : Fin (cfgM m hO).N) (y : S416x1024.Idx) :
    outsAt0 m hO c t y = TOT (m ((c : Thread nD τ).loc main_arg0)) (m ((c : Thread nD τ).loc main_arg1)) (m ((c : Thread nD τ).loc main_arg2)) ((((cfgM m hO).win 3).blk t).view.emb y) := by
  have ht := (idx m hO t).2.2.2.2
  have hR : t.val * 416 + (y 0).val < 1664 := by
    have h0 : (y 0).val < 416 := (y 0).isLt
    omega
  refine (congrArg _ (eq_ix2 (n0 := 416) (n1 := 1024) y)).trans ((left m hO c t (y 0) (y 1) ⟨_, hR⟩ rfl).trans (congrArg _ (emb3 m hO t y ⟨_, hR⟩ rfl).symm))

theorem whole3 : (((cfgM m hO).win 3).arr).IsWhole := Memref.isWhole_whole main_v4

theorem left3 (c : Dev nD) (t : Fin (cfgM m hO).N) (y : (((cfgM m hO).win 3).xblock ((cfgM m hO).grid.coords t)).Idx) :
    _root_.cast (congrArg (Elt Ideal) (((cfgM m hO).win 3).blk t).view.elt_eq.symm) ((dats m hO 0 c).after 3 t (((cfgM m hO).win 3).xinj ((cfgM m hO).grid.coords t) y))
      = TOT (m ((c : Thread nD τ).loc main_arg0)) (m ((c : Thread nD τ).loc main_arg1)) (m ((c : Thread nD τ).loc main_arg2)) ((((cfgM m hO).win 3).blk t).view.emb y) := by
  rw [after0_3]
  revert y
  refine fun (y : S416x1024.Idx) => ?_
  refine (cast_eq _ _).trans ?_
  have e : ((cfgM m hO).win 3).xinj ((cfgM m hO).grid.coords t) y = y := rfl
  refine (congrArg (outsAt0 m hO c t) e).trans ?_
  exact at3 m hO c t y

theorem final3 (c : Dev nD) (G : Buf (Elt Ideal) ((c : Thread nD τ).loc main_v4))
    (hG : G = TOT (m ((c : Thread nD τ).loc main_arg0)) (m ((c : Thread nD τ).loc main_arg1)) (m ((c : Thread nD τ).loc main_arg2))) :
    (dats m hO 0 c).arrAt 3 (cfgM m hO).N = G := by
  subst hG
  exact Pipeline.Dat.arrAt_eq_of_covers (dats m hO 0 c) 3 _ (covers m hO) (fun t _ y => left3 m hO c t y) (whole3 m hO)

end Kernel

theorem algebraic : Cert.algebraic_SumInIdeal_SumInRefIdeal := fun m ρ m' ρ' _ hag =>
  ⟨fun c => TOT (m ((c : Thread nD τ).loc main_arg0)) (m ((c : Thread nD τ).loc main_arg1)) (m ((c : Thread nD τ).loc main_arg2)),
   (θ_run _ _ _).mono (fun _ h c => ⟨((h c).1 3).trans (final3 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
     (run_main m ρ (ok m)),
   (θ_run _ _ _).mono (fun _ h c => ⟨(h c).1.trans (by
        rw [Cert.SumInRefIdeal.Read.val_main_v8_eq, (hag c).1, (hag c).2.1, (hag c).2.2]
        funext i
        exact ref_tot _ _ _ i), (h c).2⟩)
     (Cert.SumInRefIdeal.Value.run m' ρ')⟩

end Cert.SumInIdeal.Hand

end
-- ==== Proof.SumOutClaim.lean ====
/- The reduced gradient of w_out: the device's own part, the sibling's and the other chips' parts added up. -/
module

public import proofs.«01_k».proof.Proof.Gen.SumOutIdeal.Frame
public import proofs.«01_k».proof.Proof.Gen.SumOut.Frame
public import proofs.«01_k».proof.Proof.Gen.SumOutRefIdeal.Run
public import proofs.«01_k».proof.Proof.Gen.SumOutRefIdeal.Read
public import proofs.«01_k».proof.Defs
public import Idealize.ShloMosaic.Lib.Pointwise
public import Idealize.ShloMosaic.Lib.Pipeline.ValueKit

@[expose] public section

set_option maxRecDepth 16384

noncomputable section

namespace Cert.SumOut.Hand

open Cert.SumOut Cert.SumOut.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumOut.Hand

namespace Cert.SumOutIdeal.Hand

open Cert.SumOutIdeal Cert.SumOutIdeal.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumOutIdeal.Hand

namespace Cert.SumOutIdeal.Hand

open Cert.SumOutIdeal Cert.SumOutIdeal.Gen Idealize.ShloMosaic Idealize.ShloMosaic.TcCoe Idealize.SL.Sem

/-- The own part, the sibling's, and the three other chips'. -/
def TOT (a : FVec Ideal S4x512x2048 .f32) (b : FVec Ideal S4x512x1024 .bf16) (l : FVec Ideal S3x512x1024 .bf16) : FVec Ideal S512x1024 .f32 := fun i =>
  (a (ix3 (0 : Fin 4) (i 0) (Fin.castLE (by decide) (i 1))) : EReal) + b (ix3 (0 : Fin 4) (i 0) (i 1)) + l (ix3 (0 : Fin 3) (i 0) (i 1)) + l (ix3 (1 : Fin 3) (i 0) (i 1)) + l (ix3 (2 : Fin 3) (i 0) (i 1))

theorem pay (v0 : Vec Ideal S1x512x1024 .f32) (v2 v6 v10 v14 : Vec Ideal S1x512x1024 .bf16) (r : Fin 512) (l : Fin 1024) :
    k0_pay1 (F := Ideal) v0 v2 v6 v10 v14 (ix2 r l) = (v0 (ix3 0 r l) : EReal) + v2 (ix3 0 r l) + v6 (ix3 0 r l) + v10 (ix3 0 r l) + v14 (ix3 0 r l) := by
  pointwise [k0_pay1]

theorem ref_tot (a : FVec Ideal S4x512x2048 .f32) (b : FVec Ideal S4x512x1024 .bf16) (p : FVec Ideal S3x512x1024 .bf16) (i : S512x1024.Idx) :
    Cert.SumOutRefIdeal.Read.val_main_v8 (F := Ideal) a b p i = TOT a b p i := by
  obtain ⟨r, l, rfl⟩ : ∃ (r : Fin 512) (l : Fin 1024), i = ix2 r l := ⟨i 0, i 1, eq_ix2 (n0 := 512) (n1 := 1024) i⟩
  rw [Cert.SumOutRefIdeal.Read.val_main_v8_apply, Cert.SumOutRefIdeal.Read.val_main_v7_apply, Fin.sum_univ_three, Cert.SumOutRefIdeal.Read.val_main_cst_apply]
  have hz : (FloatOps.ofBits (F := Ideal) .f32 0x00000000#32 : EReal) = 0 := Ideal.ofBits_zero .f32
  rw [hz, zero_add]
  unfold Cert.SumOutRefIdeal.Read.val_main_v5 Cert.SumOutRefIdeal.Read.val_main_v4 Cert.SumOutRefIdeal.Read.val_main_v3 Cert.SumOutRefIdeal.Read.val_main_v2 Cert.SumOutRefIdeal.Read.val_main_v1 Cert.SumOutRefIdeal.Read.val_main_v0
  pointwise [TOT]
  have hk : ∀ k : Fin 3, Cert.SumOutRefIdeal.Read.val_main_v6 (F := Ideal) p (Cert.SumOutRefIdeal.Read.idx_main_v7 (ix2 r l) k) = p (ix3 k r l) := fun k =>
    congrArg p (funext fun (x : Fin 3) => by fin_cases x <;> rfl)
  rw [hk 0, hk 1, hk 2, ← add_assoc, ← add_assoc]
  rfl

section Kernel
variable (m : (ℓ : Loc nD τ sig) → Buf (Elt Ideal) ℓ) (hO : Ok m)

theorem idx (t : Fin (cfgM m hO).N) : ((cfgM m hO).win 0).index t = ![0, t.val, 0] ∧ ((cfgM m hO).win 1).index t = ![0, t.val, 0] ∧ ((cfgM m hO).win 2).index t = ![0, t.val, 0] ∧ ((cfgM m hO).win 3).index t = ![t.val, 0] ∧ t.val < 1 :=
  ⟨(at0 m _).trans ((by decide +kernel : ∀ t : Fin grid0.N, (![0, ((grid0.coords t) 0).val, 0] : Fin 3 → Nat) = ![0, t.val, 0]) t),
   (at1 m _).trans ((by decide +kernel : ∀ t : Fin grid0.N, (![0, ((grid0.coords t) 0).val, 0] : Fin 3 → Nat) = ![0, t.val, 0]) t),
   (by decide +kernel : ∀ t : Fin grid0.N, cc0_transform_2 (grid0.coords t) = ![0, t.val, 0]) t,
   (by decide +kernel : ∀ t : Fin grid0.N, cc0_transform_3 (grid0.coords t) = ![t.val, 0]) t,
   (by decide +kernel : ∀ t : Fin grid0.N, t.val < 1) t⟩

theorem add_congr5 {a a' b b' c c' d d' e e' : EReal} (ha : a = a') (hb : b = b') (hc : c = c') (hd : d = d') (he : e = e') : a + b + c + d + e = a' + b' + c' + d' + e' := by
  rw [ha, hb, hc, hd, he]

theorem covers : ((cfgM m hO).win 3).Covers := by
  refine ⟨fun a => (by decide +kernel : ∀ a : Fin 2, 0 < S512x1024.size a) a, fun (β : (a : Fin 2) → Fin ((S512x1024.size a + S512x1024.size a - 1) / S512x1024.size a)) => ⟨(⟨(β 0).val, (β 0).isLt⟩ : Fin grid0.N), flush0_3 _ _, fun a => ?_⟩⟩
  rw [(idx m hO _).2.2.2.1]
  have hb : (β 1).val = 0 := Nat.lt_one_iff.1 (β 1).isLt
  revert a
  refine fun (a : Fin 2) => ?_
  fin_cases a
  · exact ⟨rfl, Or.inl rfl⟩
  · exact ⟨hb.symm, Or.inl rfl⟩

theorem blk0 (c : Dev nD) (t : Fin (cfgM m hO).N) (r : Fin 512) (l : Fin 1024) (R : Fin 512) (hR : R.val = t.val * 512 + r.val) :
    (iblk m hO c 0 t : Vec Ideal S1x512x1024 .f32) (ix3 0 r l) = (m ((c : Thread nD τ).loc main_arg0) : FVec Ideal S4x512x2048 .f32) (ix3 0 R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x512x1024.size a + 1 * _ = _
  rw [h]
  fin_cases a
  · rfl
  · show t.val * 512 + 1 * r.val = R.val
    omega
  · show 0 * 1024 + 1 * l.val = l.val
    omega

theorem blk1 (c : Dev nD) (t : Fin (cfgM m hO).N) (r : Fin 512) (l : Fin 1024) (R : Fin 512) (hR : R.val = t.val * 512 + r.val) :
    (iblk m hO c 1 t : Vec Ideal S1x512x1024 .bf16) (ix3 0 r l) = (m ((c : Thread nD τ).loc main_arg1) : FVec Ideal S4x512x1024 .bf16) (ix3 0 R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x512x1024.size a + 1 * _ = _
  rw [h]
  fin_cases a
  · rfl
  · show t.val * 512 + 1 * r.val = R.val
    omega
  · show 0 * 1024 + 1 * l.val = l.val
    omega

theorem blk2 (c : Dev nD) (t : Fin (cfgM m hO).N) (k : Fin 3) (r : Fin 512) (l : Fin 1024) (R : Fin 512) (hR : R.val = t.val * 512 + r.val) :
    (iblk m hO c 2 t : Vec Ideal S3x512x1024 .bf16) (ix3 k r l) = (m ((c : Thread nD τ).loc main_arg2) : FVec Ideal S3x512x1024 .bf16) (ix3 k R l) := by
  have h := (idx m hO t).2.2.1
  unfold iblk
  show V m c main_arg2 ((((cfgM m hO).win 2).blk t).view.emb (ix3 k r l)) = _
  rw [V_main_arg2]
  refine congrArg _ (funext fun (a : Fin 3) => Fin.ext ?_)
  show ((cfgM m hO).win 2).index t a * S3x512x1024.size a + 1 * _ = _
  rw [h]
  fin_cases a
  · show 0 * 3 + 1 * k.val = k.val
    omega
  · show t.val * 512 + 1 * r.val = R.val
    omega
  · show 0 * 1024 + 1 * l.val = l.val
    omega

/-- One of the three landed parts, loaded by itself. -/
theorem row (x : Vec Ideal S3x512x1024 .bf16) (k : Fin 3) (h : ∀ a, (![k.val, 0, 0] : Fin 3 → Nat) a + S1x512x1024.size a ≤ S3x512x1024.size a) (r : Fin 512) (l : Fin 1024) :
    View.ld x (Rect.unit (s := S3x512x1024) ![k.val, 0, 0] S1x512x1024.size h) (ix3 0 r l) = x (ix3 k r l) := by
  refine congrArg x (funext fun (a : Fin 3) => Fin.ext ?_)
  fin_cases a
  · show k.val + 1 * 0 = k.val
    omega
  · show 0 + 1 * r.val = r.val
    omega
  · show 0 + 1 * l.val = l.val
    omega

theorem out (c : Dev nD) (i : grid0.Coords) (arg2 : Memref sig .tc .vmem S1x512x1024 .f32) (harg2 : arg2.IsWhole) (arg3 : Memref sig .tc .vmem S1x512x1024 .bf16) (harg3 : arg3.IsWhole)
    (arg4 : Memref sig .tc .vmem S3x512x1024 .bf16) (harg4 : arg4.IsWhole) (arg5 : Memref sig .tc .vmem S512x1024 .f32) (harg5 : arg5.IsWhole)
    (x0 : Vec Ideal S1x512x1024 .f32) (x1 : Vec Ideal S1x512x1024 .bf16) (x2 : Vec Ideal S3x512x1024 .bf16) (xt0 : TbBuf0 (F := Ideal) c tbM0_0) (r : Fin 512) (l : Fin 1024) :
    out0_A_3 c i arg2 harg2 arg3 harg3 arg4 harg4 arg5 harg5 x0 x1 x2 xt0 (ix2 r l) = (x0 (ix3 0 r l) : EReal) + x1 (ix3 0 r l) + x2 (ix3 0 r l) + x2 (ix3 1 r l) + x2 (ix3 2 r l) := by
  frame_out
  refine (pay _ _ _ _ _ r l).trans ?_
  refine add_congr5 rfl rfl (row x2 0 _ r l) (row x2 1 _ r l) (row x2 2 _ r l)

theorem left (c : Dev nD) (t : Fin (cfgM m hO).N) (r : Fin 512) (l : Fin 1024) (R : Fin 512) (hR : R.val = t.val * 512 + r.val) :
    outsAt0 m hO c t (ix2 r l) = TOT (m ((c : Thread nD τ).loc main_arg0)) (m ((c : Thread nD τ).loc main_arg1)) (m ((c : Thread nD τ).loc main_arg2)) (ix2 R l) := by
  unfold outsAt0
  refine (out _ _ _ _ _ _ _ _ _ _ _ _ _ _ r l).trans ?_
  exact add_congr5 (blk0 m hO c t r l R hR) (blk1 m hO c t r l R hR) (blk2 m hO c t 0 r l R hR) (blk2 m hO c t 1 r l R hR) (blk2 m hO c t 2 r l R hR)

theorem emb3 (t : Fin (cfgM m hO).N) (y : S512x1024.Idx) (R : Fin 512) (hR : R.val = t.val * 512 + (y 0).val) :
    (((cfgM m hO).win 3).blk t).view.emb y = (ix2 R (y 1 : Fin 1024) : S512x1024.Idx) := by
  refine funext fun (a : Fin 2) => Fin.ext ?_
  show ((cfgM m hO).win 3).index t a * S512x1024.size a + 1 * _ = _
  rw [(idx m hO t).2.2.2.1]
  fin_cases a
  · show t.val * 512 + 1 * (y 0).val = R.val
    omega
  · show 0 * 1024 + 1 * (y 1).val = (y 1).val
    omega

theorem at3 (c : Dev nD) (t : Fin (cfgM m hO).N) (y : S512x1024.Idx) :
    outsAt0 m hO c t y = TOT (m ((c : Thread nD τ).loc main_arg0)) (m ((c : Thread nD τ).loc main_arg1)) (m ((c : Thread nD τ).loc main_arg2)) ((((cfgM m hO).win 3).blk t).view.emb y) := by
  have ht := (idx m hO t).2.2.2.2
  have hR : t.val * 512 + (y 0).val < 512 := by
    have h0 : (y 0).val < 512 := (y 0).isLt
    omega
  refine (congrArg _ (eq_ix2 (n0 := 512) (n1 := 1024) y)).trans ((left m hO c t (y 0) (y 1) ⟨_, hR⟩ rfl).trans (congrArg _ (emb3 m hO t y ⟨_, hR⟩ rfl).symm))

theorem whole3 : (((cfgM m hO).win 3).arr).IsWhole := Memref.isWhole_whole main_v4

theorem left3 (c : Dev nD) (t : Fin (cfgM m hO).N) (y : (((cfgM m hO).win 3).xblock ((cfgM m hO).grid.coords t)).Idx) :
    _root_.cast (congrArg (Elt Ideal) (((cfgM m hO).win 3).blk t).view.elt_eq.symm) ((dats m hO 0 c).after 3 t (((cfgM m hO).win 3).xinj ((cfgM m hO).grid.coords t) y))
      = TOT (m ((c : Thread nD τ).loc main_arg0)) (m ((c : Thread nD τ).loc main_arg1)) (m ((c : Thread nD τ).loc main_arg2)) ((((cfgM m hO).win 3).blk t).view.emb y) := by
  rw [after0_3]
  revert y
  refine fun (y : S512x1024.Idx) => ?_
  refine (cast_eq _ _).trans ?_
  have e : ((cfgM m hO).win 3).xinj ((cfgM m hO).grid.coords t) y = y := rfl
  refine (congrArg (outsAt0 m hO c t) e).trans ?_
  exact at3 m hO c t y

theorem final3 (c : Dev nD) (G : Buf (Elt Ideal) ((c : Thread nD τ).loc main_v4))
    (hG : G = TOT (m ((c : Thread nD τ).loc main_arg0)) (m ((c : Thread nD τ).loc main_arg1)) (m ((c : Thread nD τ).loc main_arg2))) :
    (dats m hO 0 c).arrAt 3 (cfgM m hO).N = G := by
  subst hG
  exact Pipeline.Dat.arrAt_eq_of_covers (dats m hO 0 c) 3 _ (covers m hO) (fun t _ y => left3 m hO c t y) (whole3 m hO)

end Kernel

theorem algebraic : Cert.algebraic_SumOutIdeal_SumOutRefIdeal := fun m ρ m' ρ' _ hag =>
  ⟨fun c => TOT (m ((c : Thread nD τ).loc main_arg0)) (m ((c : Thread nD τ).loc main_arg1)) (m ((c : Thread nD τ).loc main_arg2)),
   (θ_run _ _ _).mono (fun _ h c => ⟨((h c).1 3).trans (final3 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
     (run_main m ρ (ok m)),
   (θ_run _ _ _).mono (fun _ h c => ⟨(h c).1.trans (by
        rw [Cert.SumOutRefIdeal.Read.val_main_v8_eq, (hag c).1, (hag c).2.1, (hag c).2.2]
        funext i
        exact ref_tot _ _ _ i), (h c).2⟩)
     (Cert.SumOutRefIdeal.Value.run m' ρ')⟩

end Cert.SumOutIdeal.Hand

end
-- ==== Proof.SumKvClaim.lean ====
/- The reduced gradient of w_mem_kv: the device's own part, the sibling's and the other chips' parts added up. -/
module

public import proofs.«01_k».proof.Proof.Gen.SumKvIdeal.Frame
public import proofs.«01_k».proof.Proof.Gen.SumKv.Frame
public import proofs.«01_k».proof.Proof.Gen.SumKvRefIdeal.Run
public import proofs.«01_k».proof.Proof.Gen.SumKvRefIdeal.Read
public import proofs.«01_k».proof.Defs
public import Idealize.ShloMosaic.Lib.Pointwise
public import Idealize.ShloMosaic.Lib.Pipeline.ValueKit

@[expose] public section

set_option maxRecDepth 16384

noncomputable section

namespace Cert.SumKv.Hand

open Cert.SumKv Cert.SumKv.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumKv.Hand

namespace Cert.SumKvIdeal.Hand

open Cert.SumKvIdeal Cert.SumKvIdeal.Gen Idealize.ShloMosaic Idealize.ShloMosaic.TcCoe Idealize.SL.Sem

variable {F : FTy → Type} [FloatOps F] (m : (ℓ : Loc nD τ sig) → Buf (Elt F) ℓ)

/-- The table of places holds two zeros. -/
theorem table (i : S2.Idx) : tbl m 0 i = 0#32 := by
  show StableHlo.after hostOps0 (fun b => m ((0 : Dev nD), b)) (Proc.devRef .tc main_v3) i = _
  after_results
  revert i
  exact (by decide +kernel : ∀ i : S2.Idx, concatenate S2 0 [⟨S1, broadcastInDim S1 ![] bcast_S_S1 (constantI S_ 32 0#32)⟩, ⟨S1, broadcastInDim S1 ![] bcast_S_S1 (constantI S_ 32 0#32)⟩] concatenates_S1_S1_S2_d0 i = 0#32)

theorem place (i : grid0.Coords) : (BitVec.ofNat 32 (i 0).val).toNat = (i 0).val := by
  revert i
  decide +kernel

theorem at0 (i : grid0.Coords) : cc0_transform_0 inb_S2_S1_0 numel1_S1 inb_S2_S1_1 (tbl m) i = ![0, (i 0).val, 0] := funext fun a => by
  fin_cases a
  · exact congrArg BitVec.toNat (table m _)
  · exact place i
  · exact congrArg BitVec.toNat (table m _)

theorem at1 (i : grid0.Coords) : cc0_transform_1 inb_S2_S1_0 numel1_S1 (tbl m) i = ![0, (i 0).val, 0] := funext fun a => by
  fin_cases a
  · exact congrArg BitVec.toNat (table m _)
  · exact place i
  · rfl

/-- With such a table every block lies inside its array. -/
theorem ok : Ok m := by
  refine ⟨fun i => ?_, fun i => ?_⟩
  · rw [at0 m i]
    revert i
    decide +kernel
  · rw [at1 m i]
    revert i
    decide +kernel

end Cert.SumKvIdeal.Hand

namespace Cert.SumKvIdeal.Hand

open Cert.SumKvIdeal Cert.SumKvIdeal.Gen Idealize.ShloMosaic Idealize.ShloMosaic.TcCoe Idealize.SL.Sem

/-- The own part, the sibling's, and the three other chips'. -/
def TOT (a : FVec Ideal S4x512x1024 .f32) (b : FVec Ideal S4x512x512 .bf16) (l : FVec Ideal S3x512x512 .bf16) : FVec Ideal S512x512 .f32 := fun i =>
  (a (ix3 (0 : Fin 4) (i 0) (Fin.castLE (by decide) (i 1))) : EReal) + b (ix3 (0 : Fin 4) (i 0) (i 1)) + l (ix3 (0 : Fin 3) (i 0) (i 1)) + l (ix3 (1 : Fin 3) (i 0) (i 1)) + l (ix3 (2 : Fin 3) (i 0) (i 1))

theorem pay (v0 : Vec Ideal S1x512x512 .f32) (v2 v6 v10 v14 : Vec Ideal S1x512x512 .bf16) (r : Fin 512) (l : Fin 512) :
    k0_pay1 (F := Ideal) v0 v2 v6 v10 v14 (ix2 r l) = (v0 (ix3 0 r l) : EReal) + v2 (ix3 0 r l) + v6 (ix3 0 r l) + v10 (ix3 0 r l) + v14 (ix3 0 r l) := by
  pointwise [k0_pay1]

theorem ref_tot (a : FVec Ideal S4x512x1024 .f32) (b : FVec Ideal S4x512x512 .bf16) (p : FVec Ideal S3x512x512 .bf16) (i : S512x512.Idx) :
    Cert.SumKvRefIdeal.Read.val_main_v8 (F := Ideal) a b p i = TOT a b p i := by
  obtain ⟨r, l, rfl⟩ : ∃ (r : Fin 512) (l : Fin 512), i = ix2 r l := ⟨i 0, i 1, eq_ix2 (n0 := 512) (n1 := 512) i⟩
  rw [Cert.SumKvRefIdeal.Read.val_main_v8_apply, Cert.SumKvRefIdeal.Read.val_main_v7_apply, Fin.sum_univ_three, Cert.SumKvRefIdeal.Read.val_main_cst_apply]
  have hz : (FloatOps.ofBits (F := Ideal) .f32 0x00000000#32 : EReal) = 0 := Ideal.ofBits_zero .f32
  rw [hz, zero_add]
  unfold Cert.SumKvRefIdeal.Read.val_main_v5 Cert.SumKvRefIdeal.Read.val_main_v4 Cert.SumKvRefIdeal.Read.val_main_v3 Cert.SumKvRefIdeal.Read.val_main_v2 Cert.SumKvRefIdeal.Read.val_main_v1 Cert.SumKvRefIdeal.Read.val_main_v0
  pointwise [TOT]
  have hk : ∀ k : Fin 3, Cert.SumKvRefIdeal.Read.val_main_v6 (F := Ideal) p (Cert.SumKvRefIdeal.Read.idx_main_v7 (ix2 r l) k) = p (ix3 k r l) := fun k =>
    congrArg p (funext fun (x : Fin 3) => by fin_cases x <;> rfl)
  rw [hk 0, hk 1, hk 2, ← add_assoc, ← add_assoc]
  rfl

section Kernel
variable (m : (ℓ : Loc nD τ sig) → Buf (Elt Ideal) ℓ) (hO : Ok m)

theorem idx (t : Fin (cfgM m hO).N) : ((cfgM m hO).win 0).index t = ![0, t.val, 0] ∧ ((cfgM m hO).win 1).index t = ![0, t.val, 0] ∧ ((cfgM m hO).win 2).index t = ![0, t.val, 0] ∧ ((cfgM m hO).win 3).index t = ![t.val, 0] ∧ t.val < 1 :=
  ⟨(at0 m _).trans ((by decide +kernel : ∀ t : Fin grid0.N, (![0, ((grid0.coords t) 0).val, 0] : Fin 3 → Nat) = ![0, t.val, 0]) t),
   (at1 m _).trans ((by decide +kernel : ∀ t : Fin grid0.N, (![0, ((grid0.coords t) 0).val, 0] : Fin 3 → Nat) = ![0, t.val, 0]) t),
   (by decide +kernel : ∀ t : Fin grid0.N, cc0_transform_2 (grid0.coords t) = ![0, t.val, 0]) t,
   (by decide +kernel : ∀ t : Fin grid0.N, cc0_transform_3 (grid0.coords t) = ![t.val, 0]) t,
   (by decide +kernel : ∀ t : Fin grid0.N, t.val < 1) t⟩

theorem add_congr5 {a a' b b' c c' d d' e e' : EReal} (ha : a = a') (hb : b = b') (hc : c = c') (hd : d = d') (he : e = e') : a + b + c + d + e = a' + b' + c' + d' + e' := by
  rw [ha, hb, hc, hd, he]

theorem covers : ((cfgM m hO).win 3).Covers := by
  refine ⟨fun a => (by decide +kernel : ∀ a : Fin 2, 0 < S512x512.size a) a, fun (β : (a : Fin 2) → Fin ((S512x512.size a + S512x512.size a - 1) / S512x512.size a)) => ⟨(⟨(β 0).val, (β 0).isLt⟩ : Fin grid0.N), flush0_3 _ _, fun a => ?_⟩⟩
  rw [(idx m hO _).2.2.2.1]
  have hb : (β 1).val = 0 := Nat.lt_one_iff.1 (β 1).isLt
  revert a
  refine fun (a : Fin 2) => ?_
  fin_cases a
  · exact ⟨rfl, Or.inl rfl⟩
  · exact ⟨hb.symm, Or.inl rfl⟩

theorem blk0 (c : Dev nD) (t : Fin (cfgM m hO).N) (r : Fin 512) (l : Fin 512) (R : Fin 512) (hR : R.val = t.val * 512 + r.val) :
    (iblk m hO c 0 t : Vec Ideal S1x512x512 .f32) (ix3 0 r l) = (m ((c : Thread nD τ).loc main_arg0) : FVec Ideal S4x512x1024 .f32) (ix3 0 R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x512x512.size a + 1 * _ = _
  rw [h]
  fin_cases a
  · rfl
  · show t.val * 512 + 1 * r.val = R.val
    omega
  · show 0 * 512 + 1 * l.val = l.val
    omega

theorem blk1 (c : Dev nD) (t : Fin (cfgM m hO).N) (r : Fin 512) (l : Fin 512) (R : Fin 512) (hR : R.val = t.val * 512 + r.val) :
    (iblk m hO c 1 t : Vec Ideal S1x512x512 .bf16) (ix3 0 r l) = (m ((c : Thread nD τ).loc main_arg1) : FVec Ideal S4x512x512 .bf16) (ix3 0 R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x512x512.size a + 1 * _ = _
  rw [h]
  fin_cases a
  · rfl
  · show t.val * 512 + 1 * r.val = R.val
    omega
  · show 0 * 512 + 1 * l.val = l.val
    omega

theorem blk2 (c : Dev nD) (t : Fin (cfgM m hO).N) (k : Fin 3) (r : Fin 512) (l : Fin 512) (R : Fin 512) (hR : R.val = t.val * 512 + r.val) :
    (iblk m hO c 2 t : Vec Ideal S3x512x512 .bf16) (ix3 k r l) = (m ((c : Thread nD τ).loc main_arg2) : FVec Ideal S3x512x512 .bf16) (ix3 k R l) := by
  have h := (idx m hO t).2.2.1
  unfold iblk
  show V m c main_arg2 ((((cfgM m hO).win 2).blk t).view.emb (ix3 k r l)) = _
  rw [V_main_arg2]
  refine congrArg _ (funext fun (a : Fin 3) => Fin.ext ?_)
  show ((cfgM m hO).win 2).index t a * S3x512x512.size a + 1 * _ = _
  rw [h]
  fin_cases a
  · show 0 * 3 + 1 * k.val = k.val
    omega
  · show t.val * 512 + 1 * r.val = R.val
    omega
  · show 0 * 512 + 1 * l.val = l.val
    omega

/-- One of the three landed parts, loaded by itself. -/
theorem row (x : Vec Ideal S3x512x512 .bf16) (k : Fin 3) (h : ∀ a, (![k.val, 0, 0] : Fin 3 → Nat) a + S1x512x512.size a ≤ S3x512x512.size a) (r : Fin 512) (l : Fin 512) :
    View.ld x (Rect.unit (s := S3x512x512) ![k.val, 0, 0] S1x512x512.size h) (ix3 0 r l) = x (ix3 k r l) := by
  refine congrArg x (funext fun (a : Fin 3) => Fin.ext ?_)
  fin_cases a
  · show k.val + 1 * 0 = k.val
    omega
  · show 0 + 1 * r.val = r.val
    omega
  · show 0 + 1 * l.val = l.val
    omega

theorem out (c : Dev nD) (i : grid0.Coords) (arg2 : Memref sig .tc .vmem S1x512x512 .f32) (harg2 : arg2.IsWhole) (arg3 : Memref sig .tc .vmem S1x512x512 .bf16) (harg3 : arg3.IsWhole)
    (arg4 : Memref sig .tc .vmem S3x512x512 .bf16) (harg4 : arg4.IsWhole) (arg5 : Memref sig .tc .vmem S512x512 .f32) (harg5 : arg5.IsWhole)
    (x0 : Vec Ideal S1x512x512 .f32) (x1 : Vec Ideal S1x512x512 .bf16) (x2 : Vec Ideal S3x512x512 .bf16) (xt0 : TbBuf0 (F := Ideal) c tbM0_0) (r : Fin 512) (l : Fin 512) :
    out0_A_3 c i arg2 harg2 arg3 harg3 arg4 harg4 arg5 harg5 x0 x1 x2 xt0 (ix2 r l) = (x0 (ix3 0 r l) : EReal) + x1 (ix3 0 r l) + x2 (ix3 0 r l) + x2 (ix3 1 r l) + x2 (ix3 2 r l) := by
  frame_out
  refine (pay _ _ _ _ _ r l).trans ?_
  refine add_congr5 rfl rfl (row x2 0 _ r l) (row x2 1 _ r l) (row x2 2 _ r l)

theorem left (c : Dev nD) (t : Fin (cfgM m hO).N) (r : Fin 512) (l : Fin 512) (R : Fin 512) (hR : R.val = t.val * 512 + r.val) :
    outsAt0 m hO c t (ix2 r l) = TOT (m ((c : Thread nD τ).loc main_arg0)) (m ((c : Thread nD τ).loc main_arg1)) (m ((c : Thread nD τ).loc main_arg2)) (ix2 R l) := by
  unfold outsAt0
  refine (out _ _ _ _ _ _ _ _ _ _ _ _ _ _ r l).trans ?_
  exact add_congr5 (blk0 m hO c t r l R hR) (blk1 m hO c t r l R hR) (blk2 m hO c t 0 r l R hR) (blk2 m hO c t 1 r l R hR) (blk2 m hO c t 2 r l R hR)

theorem emb3 (t : Fin (cfgM m hO).N) (y : S512x512.Idx) (R : Fin 512) (hR : R.val = t.val * 512 + (y 0).val) :
    (((cfgM m hO).win 3).blk t).view.emb y = (ix2 R (y 1 : Fin 512) : S512x512.Idx) := by
  refine funext fun (a : Fin 2) => Fin.ext ?_
  show ((cfgM m hO).win 3).index t a * S512x512.size a + 1 * _ = _
  rw [(idx m hO t).2.2.2.1]
  fin_cases a
  · show t.val * 512 + 1 * (y 0).val = R.val
    omega
  · show 0 * 512 + 1 * (y 1).val = (y 1).val
    omega

theorem at3 (c : Dev nD) (t : Fin (cfgM m hO).N) (y : S512x512.Idx) :
    outsAt0 m hO c t y = TOT (m ((c : Thread nD τ).loc main_arg0)) (m ((c : Thread nD τ).loc main_arg1)) (m ((c : Thread nD τ).loc main_arg2)) ((((cfgM m hO).win 3).blk t).view.emb y) := by
  have ht := (idx m hO t).2.2.2.2
  have hR : t.val * 512 + (y 0).val < 512 := by
    have h0 : (y 0).val < 512 := (y 0).isLt
    omega
  refine (congrArg _ (eq_ix2 (n0 := 512) (n1 := 512) y)).trans ((left m hO c t (y 0) (y 1) ⟨_, hR⟩ rfl).trans (congrArg _ (emb3 m hO t y ⟨_, hR⟩ rfl).symm))

theorem whole3 : (((cfgM m hO).win 3).arr).IsWhole := Memref.isWhole_whole main_v4

theorem left3 (c : Dev nD) (t : Fin (cfgM m hO).N) (y : (((cfgM m hO).win 3).xblock ((cfgM m hO).grid.coords t)).Idx) :
    _root_.cast (congrArg (Elt Ideal) (((cfgM m hO).win 3).blk t).view.elt_eq.symm) ((dats m hO 0 c).after 3 t (((cfgM m hO).win 3).xinj ((cfgM m hO).grid.coords t) y))
      = TOT (m ((c : Thread nD τ).loc main_arg0)) (m ((c : Thread nD τ).loc main_arg1)) (m ((c : Thread nD τ).loc main_arg2)) ((((cfgM m hO).win 3).blk t).view.emb y) := by
  rw [after0_3]
  revert y
  refine fun (y : S512x512.Idx) => ?_
  refine (cast_eq _ _).trans ?_
  have e : ((cfgM m hO).win 3).xinj ((cfgM m hO).grid.coords t) y = y := rfl
  refine (congrArg (outsAt0 m hO c t) e).trans ?_
  exact at3 m hO c t y

theorem final3 (c : Dev nD) (G : Buf (Elt Ideal) ((c : Thread nD τ).loc main_v4))
    (hG : G = TOT (m ((c : Thread nD τ).loc main_arg0)) (m ((c : Thread nD τ).loc main_arg1)) (m ((c : Thread nD τ).loc main_arg2))) :
    (dats m hO 0 c).arrAt 3 (cfgM m hO).N = G := by
  subst hG
  exact Pipeline.Dat.arrAt_eq_of_covers (dats m hO 0 c) 3 _ (covers m hO) (fun t _ y => left3 m hO c t y) (whole3 m hO)

end Kernel

theorem algebraic : Cert.algebraic_SumKvIdeal_SumKvRefIdeal := fun m ρ m' ρ' _ hag =>
  ⟨fun c => TOT (m ((c : Thread nD τ).loc main_arg0)) (m ((c : Thread nD τ).loc main_arg1)) (m ((c : Thread nD τ).loc main_arg2)),
   (θ_run _ _ _).mono (fun _ h c => ⟨((h c).1 3).trans (final3 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c)))⟩)
     (run_main m ρ (ok m)),
   (θ_run _ _ _).mono (fun _ h c => ⟨(h c).1.trans (by
        rw [Cert.SumKvRefIdeal.Read.val_main_v8_eq, (hag c).1, (hag c).2.1, (hag c).2.2]
        funext i
        exact ref_tot _ _ _ i), (h c).2⟩)
     (Cert.SumKvRefIdeal.Value.run m' ρ')⟩

end Cert.SumKvIdeal.Hand

end
-- ==== Proof.ConvFwdClaim.lean ====
/- The forward convolution: five shifted products added up, on the kernel's side and on the reference's. -/
module

public import proofs.«01_k».proof.Defs
public import proofs.«01_k».proof.Proof.ConvShift
public import proofs.«01_k».proof.Proof.Gen.ConvFwdIdeal.Value
public import proofs.«01_k».proof.Proof.Gen.ConvFwdRefIdeal.Run
public import proofs.«01_k».proof.Proof.Gen.ConvFwdRefIdeal.Read
public import Idealize.ShloMosaic.Lib.Pipeline.ValueKit

@[expose] public section

set_option maxRecDepth 16384

noncomputable section

namespace Cert.ConvFwdIdeal.Hand

open Cert.ConvFwdIdeal Cert.ConvFwdIdeal.Gen Cert.ConvGradIdeal.Hand Idealize.ShloMosaic Idealize.ShloMosaic.TcCoe Idealize.SL.Sem

/-- The convolution at row `r`, from the column `g` and the five taps. -/
def yAt (w : Fin 5 → EReal) (g : Fin 2048 → EReal) (r : ℕ) : EReal :=
  w 0 * padRead g (r + 0) + w 1 * padRead g (r + 1) + w 2 * padRead g (r + 2) + w 3 * padRead g (r + 3) + w 4 * padRead g (r + 4)

theorem yAt_congr {w w' : Fin 5 → EReal} {g g' : Fin 2048 → EReal} {r r' : ℕ} (hw : w = w') (hg : g = g') (hr : r = r') : yAt w g r = yAt w' g' r' := by
  rw [hw, hg, hr]

/-- The three groups of 1024 columns, one above the other. -/
def Y (x : FVec Ideal S2048x6656 .f32) (w : FVec Ideal S5x3072 .f32) : FVec Ideal S3x2048x1024 .f32 := fun i =>
  yAt (fun j => w (ix2 j ⟨(i 0).val * 1024 + (i 2).val, by have h0 : (i 0).val < 3 := (i 0).isLt; have h2 : (i 2).val < 1024 := (i 2).isLt; omega⟩))
    (fun s => x (ix2 s ⟨(i 0).val * 1024 + (i 2).val, by have h0 : (i 0).val < 3 := (i 0).isLt; have h2 : (i 2).val < 1024 := (i 2).isLt; omega⟩)) (i 1).val

def shifted5 (n d : BitVec 32) (x : FVec Ideal S2048x512 .f32) : FVec Ideal S2048x512 .f32 :=
  select (andi (cmpi .sge (addi (iota .tc S2048x512 32 [0] iota_S2048x512_d0_w32) (broadcast S2048x512 d)) (broadcast S2048x512 0#32))
      (cmpi .slt (addi (iota .tc S2048x512 32 [0] iota_S2048x512_d0_w32) (broadcast S2048x512 d)) (broadcast S2048x512 2048#32)))
    (dynamicRotate 0 n none x rotates_S2048x512_d0) (broadcast S2048x512 (Scalar.ofBits .f32 0x00000000#32))

theorem shifted5_apply (n d : BitVec 32) (e : ℕ) (he : e ≤ 4) (hd : d = BitVec.ofInt 32 ((e : Int) - 2))
    (hn : n.toNat = (2050 - e) % 2048) (x : FVec Ideal S2048x512 .f32) (r : Fin 2048) (l : Fin 512) :
    shifted5 n d x (ix2 r l) = padRead (fun s => x (ix2 s l)) (r.val + e) := by
  pointwise [shifted5]
  have hr := r.isLt
  have hm := mask_word r d e he hd
  unfold padRead
  by_cases h : 2 ≤ r.val + e ∧ r.val + e < 2050
  · rw [dif_pos h]
    rw [if_pos h] at hm
    refine (congrArg (fun w => Scalar.select w _ _) hm).trans ?_
    refine congrArg x (congrArg (fun s => ix2 s l) (Fin.ext ?_))
    dsimp only
    show (r.val + 2048 - n.toNat % 2048) % 2048 = r.val + e - 2
    omega
  · rw [dif_neg h]
    rw [if_neg h] at hm
    exact (congrArg (fun w => Scalar.select w _ _) hm).trans rfl

theorem pay (x : Vec Ideal S2048x512 .f32) (w0 w1 w2 w3 w4 : Vec Ideal S1x512 .f32) (r : Fin 2048) (l : Fin 512) :
    k0_pay1 x (k0_pay2 x w0 w1 w2) w3 2047#32 w4 (ix3 0 r l)
      = yAt ![w0 (ix2 0 l), w1 (ix2 0 l), w2 (ix2 0 l), w3 (ix2 0 l), w4 (ix2 0 l)] (fun s => x (ix2 s l)) r.val := by
  have e : k0_pay1 x (k0_pay2 x w0 w1 w2) w3 2047#32 w4
      = shapeCast S1x2048x512 (addf (addf (addf (addf (addf (broadcast S2048x512 (Scalar.ofBits .f32 0x00000000#32))
          (mulf (broadcastTo S2048x512 w0 broadcasts_S1x512_S2048x512) (shifted5 2#32 4294967294#32 x)))
          (mulf (broadcastTo S2048x512 w1 broadcasts_S1x512_S2048x512) (shifted5 1#32 4294967295#32 x)))
          (mulf (broadcastTo S2048x512 w2 broadcasts_S1x512_S2048x512) x))
          (mulf (broadcastTo S2048x512 w3 broadcasts_S1x512_S2048x512) (shifted5 2047#32 1#32 x)))
          (mulf (broadcastTo S2048x512 w4 broadcasts_S1x512_S2048x512) (shifted5 2046#32 2#32 x))) shapeCasts_S2048x512_S1x2048x512 := rfl
  rw [e]
  pointwise []
  rw [shifted5_apply 2#32 4294967294#32 0 (by omega) (by decide) (by decide), shifted5_apply 1#32 4294967295#32 1 (by omega) (by decide) (by decide),
    shifted5_apply 2047#32 1#32 3 (by omega) (by decide) (by decide), shifted5_apply 2046#32 2#32 4 (by omega) (by decide) (by decide)]
  unfold yAt
  rw [padRead_mid]
  first | rfl | pointwise []

theorem Y_at (x : FVec Ideal S2048x6656 .f32) (w : FVec Ideal S5x3072 .f32) (i : S3x2048x1024.Idx) (r : ℕ) (l : Fin 3072) (h1 : (i 1).val = r) (h2 : (i 0).val * 1024 + (i 2).val = l.val) :
    Y x w i = yAt (fun j => w (ix2 j l)) (fun s => x (ix2 s ⟨l.val, by omega⟩)) r := by
  subst h1
  obtain ⟨l, hl⟩ := l
  dsimp only at h2
  subst h2
  rfl

theorem ref_pad (x : FVec Ideal S2048x6656 .f32) (k : Fin 2052) (l : Fin 3072) :
    Cert.ConvFwdRefIdeal.Read.val_main_v2 (F := Ideal) x (ix2 k l) = padRead (fun s => x (ix2 s ⟨l.val, by omega⟩)) k.val := by
  unfold padRead
  have hl := l.isLt
  pointwise [Cert.ConvFwdRefIdeal.Read.val_main_v2, Cert.ConvFwdRefIdeal.Read.val_main_v1, Cert.ConvFwdRefIdeal.Read.val_main_v0, Cert.ConvFwdRefIdeal.Read.val_main_cst]
  by_cases h1 : k.val < 2
  · rw [dif_pos h1, dif_neg (by omega)]
  · by_cases h2 : k.val - 2 < 2048
    · rw [dif_neg h1, dif_pos h2, dif_pos (by omega)]
    · rw [dif_neg h1, dif_neg h2, dif_neg (by omega)]

theorem ref_y (x : FVec Ideal S2048x6656 .f32) (w : FVec Ideal S5x3072 .f32) (r : Fin 2048) (l : Fin 3072) :
    Cert.ConvFwdRefIdeal.Read.val_main_v38 (F := Ideal) x w (ix2 r l) = yAt (fun j => w (ix2 j l)) (fun s => x (ix2 s ⟨l.val, by omega⟩)) r.val := by
  have hp := fun k => ref_pad x k l
  unfold Cert.ConvFwdRefIdeal.Read.val_main_v38 Cert.ConvFwdRefIdeal.Read.val_main_v37 Cert.ConvFwdRefIdeal.Read.val_main_v36 Cert.ConvFwdRefIdeal.Read.val_main_v35 Cert.ConvFwdRefIdeal.Read.val_main_v34 Cert.ConvFwdRefIdeal.Read.val_main_v33 Cert.ConvFwdRefIdeal.Read.val_main_v32 Cert.ConvFwdRefIdeal.Read.val_main_v31 Cert.ConvFwdRefIdeal.Read.val_main_v30 Cert.ConvFwdRefIdeal.Read.val_main_v29 Cert.ConvFwdRefIdeal.Read.val_main_v28 Cert.ConvFwdRefIdeal.Read.val_main_v27 Cert.ConvFwdRefIdeal.Read.val_main_v26 Cert.ConvFwdRefIdeal.Read.val_main_v25 Cert.ConvFwdRefIdeal.Read.val_main_v24 Cert.ConvFwdRefIdeal.Read.val_main_v23 Cert.ConvFwdRefIdeal.Read.val_main_v22 Cert.ConvFwdRefIdeal.Read.val_main_v21 Cert.ConvFwdRefIdeal.Read.val_main_v20 Cert.ConvFwdRefIdeal.Read.val_main_v19 Cert.ConvFwdRefIdeal.Read.val_main_v18 Cert.ConvFwdRefIdeal.Read.val_main_v17 Cert.ConvFwdRefIdeal.Read.val_main_v16 Cert.ConvFwdRefIdeal.Read.val_main_v15 Cert.ConvFwdRefIdeal.Read.val_main_v14 Cert.ConvFwdRefIdeal.Read.val_main_v13 Cert.ConvFwdRefIdeal.Read.val_main_v12 Cert.ConvFwdRefIdeal.Read.val_main_v11 Cert.ConvFwdRefIdeal.Read.val_main_v10 Cert.ConvFwdRefIdeal.Read.val_main_v9 Cert.ConvFwdRefIdeal.Read.val_main_v8 Cert.ConvFwdRefIdeal.Read.val_main_v7 Cert.ConvFwdRefIdeal.Read.val_main_v6 Cert.ConvFwdRefIdeal.Read.val_main_v5 Cert.ConvFwdRefIdeal.Read.val_main_v4 Cert.ConvFwdRefIdeal.Read.val_main_v3 Cert.ConvFwdRefIdeal.Read.val_main_cst_0
  generalize Cert.ConvFwdRefIdeal.Read.val_main_v2 (F := Ideal) x = v at hp
  have hr := r.isLt
  pointwise []
  rw [hp, hp, hp, hp, hp]
  unfold yAt
  dsimp only
  rw [Nat.add_comm 1 r.val, Nat.add_comm 2 r.val, Nat.add_comm 3 r.val, Nat.add_comm 4 r.val, Nat.add_zero r.val]

theorem ref_Y (x : FVec Ideal S2048x6656 .f32) (w : FVec Ideal S5x3072 .f32) (g : Fin 3) (r : Fin 2048) (l : Fin 1024) :
    Cert.ConvFwdRefIdeal.Read.val_main_v45 (F := Ideal) x w (ix3 g r l) = Y x w (ix3 g r l) := by
  unfold Cert.ConvFwdRefIdeal.Read.val_main_v45 Cert.ConvFwdRefIdeal.Read.val_main_v42 Cert.ConvFwdRefIdeal.Read.val_main_v43 Cert.ConvFwdRefIdeal.Read.val_main_v44 Cert.ConvFwdRefIdeal.Read.val_main_v39 Cert.ConvFwdRefIdeal.Read.val_main_v40 Cert.ConvFwdRefIdeal.Read.val_main_v41
  have hr := ref_y x w r
  generalize Cert.ConvFwdRefIdeal.Read.val_main_v38 (F := Ideal) x w = v at hr
  pointwise []
  have hg := g.isLt
  split_ifs with h h'
  · exact (hr _).trans (Y_at x w _ r.val _ rfl (by show g.val * 1024 + l.val = l.val; omega)).symm
  · exact (hr _).trans (Y_at x w _ r.val _ rfl (by show g.val * 1024 + l.val = 1024 + l.val; omega)).symm
  · exact (hr _).trans (Y_at x w _ r.val _ rfl (by show g.val * 1024 + l.val = 2048 + l.val; omega)).symm

section Kernel
variable (m : (ℓ : Loc nD τ sig) → Buf (Elt Ideal) ℓ)

theorem idx : ∀ t : Fin cfg0.N, win0_0.index t = ![0, t.val] ∧ win0_1.index t = ![0, t.val] ∧ win0_2.index t = ![t.val / 2, 0, t.val % 2] ∧ t.val < 6 :=
  (by decide +kernel : ∀ t : Fin grid0.N, _)

theorem w_read (c : Dev nD) (t : Fin cfg0.N) (a : Fin 512) (l : Fin 3072) (hl : l.val = t.val * 512 + a.val) (j : Fin 5) :
    (![View.ld (iblk m c 1 t) r0_1 (ix2 0 a), View.ld (iblk m c 1 t) r0_2 (ix2 0 a), View.ld (iblk m c 1 t) r0_3 (ix2 0 a), View.ld (iblk m c 1 t) r0_4 (ix2 0 a),
        View.ld (iblk m c 1 t) r0_5 (ix2 0 a)] : Fin 5 → EReal) j = (m ((c : Thread nD τ).loc main_arg1) : FVec Ideal S5x3072 .f32) (ix2 j l) := by
  have e0 : View.ld (iblk m c 1 t) r0_1 (ix2 0 a) = (m ((c : Thread nD τ).loc main_arg1) : FVec Ideal S5x3072 .f32) (ix2 0 l) := by
    pointwise
    blk_ext [iblk, V, idx t]
  have e1 : View.ld (iblk m c 1 t) r0_2 (ix2 0 a) = (m ((c : Thread nD τ).loc main_arg1) : FVec Ideal S5x3072 .f32) (ix2 1 l) := by
    pointwise
    blk_ext [iblk, V, idx t]
  have e2 : View.ld (iblk m c 1 t) r0_3 (ix2 0 a) = (m ((c : Thread nD τ).loc main_arg1) : FVec Ideal S5x3072 .f32) (ix2 2 l) := by
    pointwise
    blk_ext [iblk, V, idx t]
  have e3 : View.ld (iblk m c 1 t) r0_4 (ix2 0 a) = (m ((c : Thread nD τ).loc main_arg1) : FVec Ideal S5x3072 .f32) (ix2 3 l) := by
    pointwise
    blk_ext [iblk, V, idx t]
  have e4 : View.ld (iblk m c 1 t) r0_5 (ix2 0 a) = (m ((c : Thread nD τ).loc main_arg1) : FVec Ideal S5x3072 .f32) (ix2 4 l) := by
    pointwise
    blk_ext [iblk, V, idx t]
  fin_cases j
  · exact e0
  · exact e1
  · exact e2
  · exact e3
  · exact e4

theorem x_read (c : Dev nD) (t : Fin cfg0.N) (a : Fin 512) (l : Fin 3072) (hl : l.val = t.val * 512 + a.val) (s : Fin 2048) :
    (iblk m c 0 t : Vec Ideal S2048x512 .f32) (ix2 s a) = (m ((c : Thread nD τ).loc main_arg0) : FVec Ideal S2048x6656 .f32) (ix2 s ⟨l.val, by omega⟩) := by
  blk_ext [iblk, V, idx t]

theorem point (c : Dev nD) (t : Fin cfg0.N) (i : S3x2048x1024.Idx) (r : Fin 2048) (a : Fin 512)
    (h0 : (i 0).val = t.val / 2) (h1 : (i 1).val = r.val) (h2 : (i 2).val = t.val % 2 * 512 + a.val) :
    k0_pay1 (F := Ideal) (iblk m c 0 t) (k0_pay2 (iblk m c 0 t) (View.ld (iblk m c 1 t) r0_1) (View.ld (iblk m c 1 t) r0_2) (View.ld (iblk m c 1 t) r0_3)) (View.ld (iblk m c 1 t) r0_4) 2047#32 (View.ld (iblk m c 1 t) r0_5) (ix3 0 r a)
      = Y (m ((c : Thread nD τ).loc main_arg0)) (m ((c : Thread nD τ).loc main_arg1)) i := by
  have ht := (idx t).2.2.2
  have ha := a.isLt
  rw [Y_at _ _ i r.val ⟨t.val * 512 + a.val, by omega⟩ h1 (by dsimp only; omega)]
  refine (pay _ _ _ _ _ _ r a).trans (yAt_congr ?_ ?_ rfl)
  · funext j
    exact w_read m c t a _ rfl j
  · funext s
    exact x_read m c t a ⟨t.val * 512 + a.val, by omega⟩ rfl s

theorem final2 (c : Dev nD) : (dats m 0 c).arrAt 2 (cfgs 0).N = Y (m ((c : Thread nD τ).loc main_arg0)) (m ((c : Thread nD τ).loc main_arg1)) := by
  refine (dats m 0 c).arrAt_eq_of_covers 2 _ (by decide +kernel) fun t _ y => ?_
  blk_simp
  rw [after0_2]
  frame_out
  have ht := (idx t).2.2.2
  have key := fun h0 h1 h2 => point m c t (((View.whole main_v0).slice (win0_2.rect t)).emb y) (y 1) (y 2) h0 h1 h2
  rw [show (ix3 (n0 := 1) (n1 := 2048) (n2 := 512) 0 (y 1) (y 2)) = y from (congrArg (fun z : Fin 1 => ix3 (n0 := 1) (n1 := 2048) (n2 := 512) z (y 1) (y 2)) (Subsingleton.elim (α := Fin 1) 0 (y 0))).trans (eq_ix3 (n0 := 1) (n1 := 2048) (n2 := 512) y).symm] at key
  exact key (by blk_simp [idx t]) (by blk_simp [idx t]) (by blk_simp [idx t])

end Kernel

theorem algebraic : Cert.algebraic_ConvFwdIdeal_ConvFwdRefIdeal := fun m ρ m' ρ' _ hag =>
  ⟨fun c => Y (m ((c : Thread nD τ).loc main_arg0)) (m ((c : Thread nD τ).loc main_arg1)),
   (θ_run _ _ _).mono (fun _ h c => ⟨(h c).1.trans (final2 m c), (h c).2⟩)
     (Cert.ConvFwdIdeal.Value.run_blocks m ρ),
   (θ_run _ _ _).mono (fun _ h c => ⟨(h c).1.trans (by
        rw [Cert.ConvFwdRefIdeal.Read.val_main_v45_eq, (hag c).1, (hag c).2]
        funext i
        exact (congrArg _ (eq_ix3 (n0 := 3) (n1 := 2048) (n2 := 1024) i)).trans ((ref_Y _ _ _ _ _).trans (congrArg _ (eq_ix3 (n0 := 3) (n1 := 2048) (n2 := 1024) i).symm))),
      (h c).2⟩)
     (Cert.ConvFwdRefIdeal.Value.run m' ρ')⟩

end Cert.ConvFwdIdeal.Hand

end
-- ==== Proof.AttnCFwdRow.lean ====
/- The memory attention, forward: one row of one head, on the kernel's side and on the reference's. -/
module

public import Idealize.ShloMosaic.Lib.Pointwise
public import Idealize.ShloMosaic.Lib.Pipeline.ValueKit
public import proofs.«01_k».proof.Proof.Gen.AttnCFwdIdeal.Value
public import proofs.«01_k».proof.Proof.Gen.AttnCFwdRefIdeal.Run
public import proofs.«01_k».proof.Proof.Gen.AttnCFwdRefIdeal.Read
public import proofs.«01_k».proof.Defs

@[expose] public section

set_option maxRecDepth 16384

noncomputable section

namespace Cert.AttnCFwdIdeal.Hand

open Cert.AttnCFwdIdeal Cert.AttnCFwdIdeal.Gen Idealize.ShloMosaic Idealize.ShloMosaic.TcCoe Idealize.SL.Sem

/-- Column `128 * h + k` of the four heads. -/
def hc (h : Fin 4) (k : Fin 128) : Fin 512 := ⟨128 * h.val + k.val, by have := h.isLt; have := k.isLt; omega⟩

/-- A head's row divided by its root mean square, times the norm's weight. -/
def qn (v w : Fin 128 → EReal) (k : Fin 128) : EReal :=
  v k * Ideal.rsqrt (Ideal.div (∑ k : Fin 128, v k * v k) (Ideal.ofBits .f32 0x43000000#32) + Ideal.ofBits .f32 0x358637BD#32) * w k

/-- A query row against the key row `j`, scaled. -/
def sc (q : Fin 128 → EReal) (kk : Fin 256 → Fin 128 → EReal) (j : Fin 256) : EReal :=
  (∑ d : Fin 128, q d * kk j d) * Ideal.ofBits .f32 0x3DB504F3#32

/-- One entry of a head: the softmax of the scores against a column of values, gated. -/
def att (s v : Fin 256 → EReal) (z : EReal) : EReal :=
  (∑ j : Fin 256, Ideal.div (Ideal.exp (s j - Finset.fold max (Ideal.ofBits .f32 0xFF800000#32) s Finset.univ))
      (∑ j : Fin 256, Ideal.exp (s j - Finset.fold max (Ideal.ofBits .f32 0xFF800000#32) s Finset.univ)) * v j) * (z * Ideal.logistic z)

theorem four (h : Fin 4) : h = 0 ∨ h = 1 ∨ h = 2 ∨ h = 3 := by
  revert h
  decide

theorem p3 (kv : Vec Ideal S256x1024 .f32) (h : Fin 4) (j : Fin 256) (d : Fin 128) :
    k0_pay3 (F := Ideal) kv (ix3 h j d) = kv (ix2 j ⟨128 * h.val + d.val, by omega⟩) := by
  have hd := d.isLt
  rcases four h with rfl | rfl | rfl | rfl
  all_goals pointwise [k0_pay3]

theorem p4 (kv : Vec Ideal S256x1024 .f32) (h : Fin 4) (j : Fin 256) (d : Fin 128) :
    k0_pay4 (F := Ideal) kv (ix3 h j d) = kv (ix2 j ⟨512 + (128 * h.val + d.val), by omega⟩) := by
  have hd := d.isLt
  rcases four h with rfl | rfl | rfl | rfl
  all_goals pointwise [k0_pay4]
  all_goals exact congrArg kv (congrArg (ix2 j) (Fin.ext (by dsimp only; omega)))

theorem p5 (q : Vec Ideal S256x512 .f32) (w : Vec Ideal S8x128 .f32) (h : Fin 4) (r : Fin 256) (d : Fin 128) :
    k0_pay5 (F := Ideal) q w (ix3 h r d) = qn (fun k => q (ix2 r (hc h k))) (fun k => w (ix2 0 k)) d := by
  have hd := d.isLt
  rcases four h with rfl | rfl | rfl | rfl
  all_goals pointwise [k0_pay5, k0_pay2, qn, hc]

theorem p6 (w : Vec Ideal S8x128 .f32) (d : Fin 128) : k0_pay6 (F := Ideal) w (ix2 0 d) = w (ix2 1 d) := by
  pointwise! [k0_pay6, k0_pay2]

set_option maxHeartbeats 8000000 in
theorem p1 (z : Vec Ideal S256x512 .f32) (k v q : FVec Ideal S4x256x128 .f32) (w : FVec Ideal S1x128 .f32) (r : Fin 256) (h : Fin 4) (d : Fin 128) :
    k0_pay1 (F := Ideal) z k v q w (mulf k k) (ix2 r (hc h d))
      = att (sc (fun d => q (ix3 h r d)) fun j => qn (fun d => k (ix3 h j d)) (fun d => w (ix2 0 d))) (fun j => v (ix3 h j d)) (z (ix2 r (hc h d))) := by
  have hd := d.isLt
  rcases four h with rfl | rfl | rfl | rfl
  all_goals have hd := d.isLt
  all_goals pointwise [k0_pay1, att, hc, qn, sc]
  all_goals split_ifs
  all_goals first
    | rfl
    | (exfalso; omega)
    | (have e4 : 128 + d.val - 128 = d.val := by omega
       simp only [e4]; done)
    | (have e4 : 256 + d.val - 128 - 128 = d.val := by omega
       simp only [e4]; done)
    | (have e4 : 384 + d.val - 128 - 128 - 128 = d.val := by omega
       simp only [e4]; done)

end Cert.AttnCFwdIdeal.Hand

end
-- ==== Proof.AttnCFwdRef.lean ====
/- The memory attention, forward: one row of one head, on the reference's side. -/
module

public import Idealize.ShloMosaic.Lib.Pointwise
public import Idealize.ShloMosaic.Lib.Pipeline.ValueKit
public import proofs.«01_k».proof.Proof.Gen.AttnCFwdIdeal.Value
public import proofs.«01_k».proof.Proof.Gen.AttnCFwdRefIdeal.Run
public import proofs.«01_k».proof.Proof.Gen.AttnCFwdRefIdeal.Read
public import proofs.«01_k».proof.Defs
public import proofs.«01_k».proof.Proof.AttnCFwdRow

@[expose] public section

set_option maxRecDepth 16384

noncomputable section

namespace Cert.AttnCFwdIdeal.Hand

open Cert.AttnCFwdIdeal Cert.AttnCFwdIdeal.Gen Idealize.ShloMosaic Idealize.ShloMosaic.TcCoe Idealize.SL.Sem

open Cert.AttnCFwdRefIdeal.Read in
theorem r15 (x1 : FVec Ideal S256x1024 .f32) (x3 : FVec Ideal S1x128 .f32) (j : Fin 256) (h : Fin 4) (d : Fin 128) :
    val_main_v15 (F := Ideal) x1 x3 (ix3 j h d) = qn (fun k => x1 (ix2 j ⟨128 * h.val + k.val, by omega⟩)) (fun k => x3 (ix2 0 k)) d := by
  have hd := d.isLt
  have hh := h.isLt
  have e : ∀ k : Fin 128, val_main_v2 (F := Ideal) x1 (ix3 j h k) = x1 (ix2 j ⟨128 * h.val + k.val, by omega⟩) := fun k => by
    rw [val_main_v2_apply, val_main_v0_apply]
    exact congrArg x1 (funext fun a => Fin.ext (by match a with | ⟨0, _⟩ => (show ((j.val * 4 + h.val) * 128 + k.val) / 512 = j.val; omega) | ⟨1, _⟩ => (show ((j.val * 4 + h.val) * 128 + k.val) % 512 = 128 * h.val + k.val; omega)))
  unfold val_main_v15 val_main_v12 val_main_v11 val_main_v10 val_main_v9 val_main_v7 val_main_v5 val_main_v4 val_main_v3
  generalize val_main_v2 (F := Ideal) x1 = y at e
  unfold qn
  simp only [← e]
  pointwise [val_main_v14, val_main_v13, val_main_v8, val_main_cst_1, val_main_v6, val_main_cst_0, val_main_cst]

open Cert.AttnCFwdRefIdeal.Read in
theorem r30 (x0 : FVec Ideal S2048x6656 .f32) (x2 : FVec Ideal S1x128 .f32) (r : Fin 2048) (h : Fin 4) (d : Fin 128) :
    val_main_v30 (F := Ideal) x0 x2 (ix3 r h d) = qn (fun k => x0 (ix2 r ⟨5120 + (128 * h.val + k.val), by omega⟩)) (fun k => x2 (ix2 0 k)) d := by
  have hd := d.isLt
  have hh := h.isLt
  have e : ∀ k : Fin 128, val_main_v17 (F := Ideal) x0 (ix3 r h k) = x0 (ix2 r ⟨5120 + (128 * h.val + k.val), by omega⟩) := fun k => by
    rw [val_main_v17_apply, val_main_v16_apply]
    exact congrArg x0 (funext fun a => Fin.ext (by match a with | ⟨0, _⟩ => (show ((r.val * 4 + h.val) * 128 + k.val) / 512 = r.val; omega) | ⟨1, _⟩ => (show 5120 + ((r.val * 4 + h.val) * 128 + k.val) % 512 = 5120 + (128 * h.val + k.val); omega)))
  unfold val_main_v30 val_main_v27 val_main_v26 val_main_v25 val_main_v24 val_main_v22 val_main_v20 val_main_v19 val_main_v18
  generalize val_main_v17 (F := Ideal) x0 = y at e
  unfold qn
  simp only [← e]
  pointwise [val_main_v29, val_main_v28, val_main_v23, val_main_cst_4, val_main_v21, val_main_cst_3, val_main_cst_2]

open Cert.AttnCFwdRefIdeal.Read in
theorem r31 (x1 : FVec Ideal S256x1024 .f32) (j : Fin 256) (h : Fin 4) (d : Fin 128) :
    val_main_v31 (F := Ideal) x1 (ix3 j h d) = x1 (ix2 j ⟨512 + (128 * h.val + d.val), by omega⟩) := by
  have hd := d.isLt
  have hh := h.isLt
  rw [val_main_v31_apply, val_main_v1_apply]
  exact congrArg x1 (funext fun a => Fin.ext (by match a with | ⟨0, _⟩ => (show ((j.val * 4 + h.val) * 128 + d.val) / 512 = j.val; omega) | ⟨1, _⟩ => (show 512 + ((j.val * 4 + h.val) * 128 + d.val) % 512 = 512 + (128 * h.val + d.val); omega)))

/-- The largest of the scores does not change when the starting value is taken once more. -/
theorem max_fold (b : EReal) (f : Fin 256 → EReal) : max b (Finset.fold max b f Finset.univ) = Finset.fold max b f Finset.univ :=
  max_eq_right ((Finset.le_fold_max b).2 (Or.inl le_rfl))

open Cert.AttnCFwdRefIdeal.Read in
theorem r34 (x0 : FVec Ideal S2048x6656 .f32) (x1 : FVec Ideal S256x1024 .f32) (x2 x3 : FVec Ideal S1x128 .f32) (h : Fin 4) (r : Fin 2048) (j : Fin 256) :
    val_main_v34 (F := Ideal) x0 x1 x2 x3 (ix3 h r j)
      = sc (qn (fun k => x0 (ix2 r ⟨5120 + (128 * h.val + k.val), by omega⟩)) (fun k => x2 (ix2 0 k))) (fun j => qn (fun k => x1 (ix2 j ⟨128 * h.val + k.val, by omega⟩)) (fun k => x3 (ix2 0 k))) j := by
  have e1 := fun j d => r15 x1 x3 j h d
  have e2 := fun d => r30 x0 x2 r h d
  unfold val_main_v34 val_main_v32
  generalize val_main_v30 (F := Ideal) x0 x2 = y at e2
  generalize val_main_v15 (F := Ideal) x1 x3 = y' at e1
  unfold sc
  simp only [← e1, ← e2]
  pointwise [val_main_v33, val_main_cst_5]

open Cert.AttnCFwdRefIdeal.Read in
theorem r46 (x0 : FVec Ideal S2048x6656 .f32) (x1 : FVec Ideal S256x1024 .f32) (x2 x3 : FVec Ideal S1x128 .f32) (z : EReal) (h : Fin 4) (r : Fin 2048) (d : Fin 128) :
    val_main_v46 (F := Ideal) x0 x1 x2 x3 (ix3 h d r) * (z * Ideal.logistic z)
      = att (sc (qn (fun k => x0 (ix2 r ⟨5120 + (128 * h.val + k.val), by omega⟩)) (fun k => x2 (ix2 0 k))) (fun j => qn (fun k => x1 (ix2 j ⟨128 * h.val + k.val, by omega⟩)) (fun k => x3 (ix2 0 k))))
          (fun j => x1 (ix2 j ⟨512 + (128 * h.val + d.val), by omega⟩)) z := by
  have e1 : (fun j => val_main_v34 (F := Ideal) x0 x1 x2 x3 (ix3 h r j)) = _ := funext fun j => r34 x0 x1 x2 x3 h r j
  have e3 := fun j => r31 x1 j h d
  rw [← e1]
  simp only [← e3]
  unfold val_main_v46 val_main_v45 val_main_v44 val_main_v43 val_main_v42 val_main_v41 val_main_v40 val_main_v39 val_main_v38 val_main_v37 val_main_v35 att
  clear e1 e3
  generalize val_main_v34 (F := Ideal) x0 x1 x2 x3 = s
  generalize val_main_v31 (F := Ideal) x1 = v
  pointwise [val_main_v36, val_main_cst_7, val_main_cst_6, val_main_cst_8]
  simp only [max_fold]
  exact congrArg (· * (z * Ideal.logistic z)) (Finset.sum_congr rfl fun j _ => mul_comm _ _)

open Cert.AttnCFwdRefIdeal.Read in
theorem r57 (x0 : FVec Ideal S2048x6656 .f32) (x1 : FVec Ideal S256x1024 .f32) (x2 x3 : FVec Ideal S1x128 .f32) (r : Fin 2048) (h : Fin 4) (d : Fin 128) :
    val_main_v57 (F := Ideal) x0 x1 x2 x3 (ix2 r (hc h d))
      = att (sc (qn (fun k => x0 (ix2 r ⟨5120 + (128 * h.val + k.val), by omega⟩)) (fun k => x2 (ix2 0 k))) (fun j => qn (fun k => x1 (ix2 j ⟨128 * h.val + k.val, by omega⟩)) (fun k => x3 (ix2 0 k))))
          (fun j => x1 (ix2 j ⟨512 + (128 * h.val + d.val), by omega⟩)) (x0 (ix2 r ⟨5632 + (128 * h.val + d.val), by omega⟩)) := by
  have hd := d.isLt
  have hh := h.isLt
  rw [← r46]
  have e : val_main_v48 (F := Ideal) x0 x1 x2 x3 (ix2 r (hc h d)) = val_main_v46 (F := Ideal) x0 x1 x2 x3 (ix3 h d r) := by
    rw [val_main_v48_apply, val_main_v47_apply]
    refine congrArg _ (funext fun a => Fin.ext ?_)
    match a with
    | ⟨0, _⟩ => show (r.val * 512 + (128 * h.val + d.val)) / 128 % 4 = h.val; omega
    | ⟨1, _⟩ => show (r.val * 512 + (128 * h.val + d.val)) % 128 = d.val; omega
    | ⟨2, _⟩ => show (r.val * 512 + (128 * h.val + d.val)) / 512 = r.val; omega
  rw [← e]
  unfold val_main_v57
  generalize val_main_v48 (F := Ideal) x0 x1 x2 x3 = y
  pointwise [val_main_v56, val_main_v55, val_main_v54, val_main_cst_10, val_main_v53, val_main_v52, val_main_cst_9, val_main_v51, val_main_v50, val_main_v49, hc, Ideal.logistic]

end Cert.AttnCFwdIdeal.Hand

end
-- ==== Proof.AttnCFwdClaim.lean ====
/- The memory attention, forward: the whole array. -/
module

public import Idealize.ShloMosaic.Lib.Pointwise
public import Idealize.ShloMosaic.Lib.Pipeline.ValueKit
public import proofs.«01_k».proof.Proof.Gen.AttnCFwdIdeal.Value
public import proofs.«01_k».proof.Proof.Gen.AttnCFwdRefIdeal.Run
public import proofs.«01_k».proof.Proof.Gen.AttnCFwdRefIdeal.Read
public import proofs.«01_k».proof.Defs
public import proofs.«01_k».proof.Proof.AttnCFwdRow
public import proofs.«01_k».proof.Proof.AttnCFwdRef

@[expose] public section

set_option maxRecDepth 16384

noncomputable section

namespace Cert.AttnCFwdIdeal.Hand

open Cert.AttnCFwdIdeal Cert.AttnCFwdIdeal.Gen Idealize.ShloMosaic Idealize.ShloMosaic.TcCoe Idealize.SL.Sem

/-- The row `r` of head `h`, lane `d`, from the arguments. -/
def AT (x0 : FVec Ideal S2048x6656 .f32) (x1 : FVec Ideal S256x1024 .f32) (x2 x3 : FVec Ideal S1x128 .f32) (r : Fin 2048) (h : Fin 4) (d : Fin 128) : EReal :=
  att (sc (qn (fun k => x0 (ix2 r ⟨5120 + (128 * h.val + k.val), by omega⟩)) (fun k => x2 (ix2 0 k))) (fun j => qn (fun k => x1 (ix2 j ⟨128 * h.val + k.val, by omega⟩)) (fun k => x3 (ix2 0 k))))
    (fun j => x1 (ix2 j ⟨512 + (128 * h.val + d.val), by omega⟩)) (x0 (ix2 r ⟨5632 + (128 * h.val + d.val), by omega⟩))

/-- The array after the call: the first 1536 columns as given, the others the memory attention. -/
def Z (x0 : FVec Ideal S2048x6656 .f32) (x1 : FVec Ideal S256x1024 .f32) (x2 x3 : FVec Ideal S1x128 .f32) (x4 : FVec Ideal S2048x2048 .bf16) : FVec Ideal S2048x2048 .bf16 := fun i =>
  if h : (i 1).val < 1536 then x4 i
  else AT x0 x1 x2 x3 (i 0) ⟨((i 1).val - 1536) / 128, by have h1 : (i 1).val < 2048 := (i 1).isLt; omega⟩ ⟨((i 1).val - 1536) % 128, by omega⟩

theorem att_congr {f f' : Fin 128 → EReal} {F F' : Fin 256 → Fin 128 → EReal} {g g' w w' : Fin 128 → EReal} {v v' : Fin 256 → EReal} {z z' : EReal}
    (hf : ∀ k, f k = f' k) (hF : ∀ j k, F j k = F' j k) (hg : ∀ k, g k = g' k) (hw : ∀ k, w k = w' k) (hv : ∀ j, v j = v' j) (hz : z = z') :
    att (sc (qn f g) (fun j => qn (F j) w)) v z = att (sc (qn f' g') (fun j => qn (F' j) w')) v' z' := by
  obtain rfl : f = f' := funext hf
  obtain rfl : F = F' := funext fun j => funext (hF j)
  obtain rfl : g = g' := funext hg
  obtain rfl : w = w' := funext hw
  obtain rfl : v = v' := funext hv
  rw [hz]

theorem Z_at (x0 : FVec Ideal S2048x6656 .f32) (x1 : FVec Ideal S256x1024 .f32) (x2 x3 : FVec Ideal S1x128 .f32) (x4 : FVec Ideal S2048x2048 .bf16) (i : S2048x2048.Idx)
    (r : Fin 2048) (h : Fin 4) (d : Fin 128) (h0 : (i 0).val = r.val) (h1 : (i 1).val = 1536 + (128 * h.val + d.val)) :
    Z x0 x1 x2 x3 x4 i = AT x0 x1 x2 x3 r h d := by
  have hd := d.isLt
  unfold Z
  rw [dif_neg (by omega)]
  have e0 : i 0 = r := Fin.ext h0
  have e1 : (⟨((i 1).val - 1536) / 128, by omega⟩ : Fin 4) = h := Fin.ext (by dsimp only; omega)
  have e2 : (⟨((i 1).val - 1536) % 128, by omega⟩ : Fin 128) = d := Fin.ext (by dsimp only; omega)
  rw [e1, e2]
  exact congrArg (fun r => AT x0 x1 x2 x3 r h d) e0

theorem hc_split (l : Fin 512) : ∃ (h : Fin 4) (d : Fin 128), l = hc h d :=
  ⟨⟨l.val / 128, by omega⟩, ⟨l.val % 128, by omega⟩, Fin.ext (by show l.val = 128 * (l.val / 128) + l.val % 128; omega)⟩

theorem ref_Z (x0 : FVec Ideal S2048x6656 .f32) (x1 : FVec Ideal S256x1024 .f32) (x2 x3 : FVec Ideal S1x128 .f32) (x4 : FVec Ideal S2048x2048 .bf16) (r : Fin 2048) (c : Fin 2048) :
    Cert.AttnCFwdRefIdeal.Read.val_main_v60 (F := Ideal) x0 x1 x2 x3 x4 (ix2 r c) = Z x0 x1 x2 x3 x4 (ix2 r c) := by
  have hr := fun h d => r57 x0 x1 x2 x3 r h d
  have hc' := c.isLt
  unfold Cert.AttnCFwdRefIdeal.Read.val_main_v60 Cert.AttnCFwdRefIdeal.Read.val_main_v59 Cert.AttnCFwdRefIdeal.Read.val_main_v58
  generalize Cert.AttnCFwdRefIdeal.Read.val_main_v57 (F := Ideal) x0 x1 x2 x3 = v at hr
  pointwise []
  by_cases h : c.val < 1536
  · rw [dif_pos h]
    unfold Z
    exact (dif_pos (c := c.val < 1536) (t := fun _ => x4 (ix2 r c)) h).symm
  · rw [dif_neg h]
    obtain ⟨hh, d, e⟩ := hc_split ⟨c.val - 1536, by omega⟩
    have e' : c.val - 1536 = 128 * hh.val + d.val := congrArg Fin.val e
    rw [Z_at x0 x1 x2 x3 x4 (ix2 r c) r hh d rfl (by show c.val = _; omega)]
    exact (congrArg (fun l => v (ix2 r l)) e).trans (hr hh d)

theorem pay (z q : Vec Ideal S256x512 .f32) (kv : Vec Ideal S256x1024 .f32) (w : Vec Ideal S8x128 .f32) (r : Fin 256) (h : Fin 4) (d : Fin 128) :
    k0_pay1 (F := Ideal) z (k0_pay3 kv) (k0_pay4 kv) (k0_pay5 q w) (k0_pay6 w) (k0_pay7 kv) (ix2 r (hc h d))
      = att (sc (qn (fun k => q (ix2 r (hc h k))) (fun k => w (ix2 0 k))) (fun j => qn (fun k => kv (ix2 j ⟨128 * h.val + k.val, by omega⟩)) (fun k => w (ix2 1 k))))
          (fun j => kv (ix2 j ⟨512 + (128 * h.val + d.val), by omega⟩)) (z (ix2 r (hc h d))) := by
  have e7 : k0_pay7 (F := Ideal) kv = mulf (k0_pay3 kv) (k0_pay3 kv) := rfl
  rw [e7, p1]
  simp only [p3, p4, p5, p6]

section Kernel
variable (m : (ℓ : Loc nD τ sig) → Buf (Elt Ideal) ℓ)

theorem idx : ∀ t : Fin cfg0.N, win0_0.index t = ![t.val, 10] ∧ win0_1.index t = ![t.val, 11] ∧ win0_2.index t = ![0, 0] ∧ win0_3.index t = ![0, 0] ∧ win0_4.index t = ![t.val, 3] ∧ t.val < 8 :=
  (by decide +kernel : ∀ t : Fin grid0.N, _)

/-- The two rows of weights, packed above six rows of zeros. -/
def PC (a b : FVec Ideal S1x128 .f32) : FVec Ideal S8x128 .f32 :=
  concatenate S8x128 0 [⟨S1x128, a⟩, ⟨S1x128, b⟩, ⟨S6x128, broadcastInDim S6x128 ![] bcast_S_S6x128 (constant (F := Ideal) S_ .f32 0x00000000#32 : (⟨S_, .f32⟩ : BufTy).Contents (Elt Ideal))⟩] concatenates_S1x128_S1x128_S6x128_S8x128_d0

theorem V_v1 (c : Dev nD) : V m c main_v1 = PC (m ((c : Thread nD τ).loc main_arg2)) (m ((c : Thread nD τ).loc main_arg3)) := by
  show StableHlo.after hostOps0 (fun b => m (c, b)) (Proc.devRef .tc main_v1) = _
  unfold PC
  after_results
  try rfl

theorem V_v2 (c : Dev nD) : V m c main_v2 = m ((c : Thread nD τ).loc main_arg4) := by
  show StableHlo.after hostOps0 (fun b => m (c, b)) (Proc.devRef .tc main_v2) = _
  after_results
  try rfl

theorem PC0 (a b : FVec Ideal S1x128 .f32) (k : Fin 128) : PC a b (ix2 0 k) = a (ix2 0 k) := by
  pointwise [PC]

theorem PC1 (a b : FVec Ideal S1x128 .f32) (k : Fin 128) : PC a b (ix2 1 k) = b (ix2 0 k) := by
  pointwise [PC]

theorem w_read (c : Dev nD) (t : Fin cfg0.N) (j : Fin 8) (k : Fin 128) :
    (iblk m c 3 t : Vec Ideal S8x128 .f32) (ix2 j k) = PC (m ((c : Thread nD τ).loc main_arg2)) (m ((c : Thread nD τ).loc main_arg3)) (ix2 j k) := by
  rw [← V_v1]
  blk_ext [iblk, idx t]

theorem q_read (c : Dev nD) (t : Fin cfg0.N) (r : Fin 256) (l : Fin 512) (R : Fin 2048) (C : Fin 6656) (hR : R.val = t.val * 256 + r.val) (hC : C.val = 5120 + l.val) :
    (iblk m c 0 t : Vec Ideal S256x512 .f32) (ix2 r l) = (m ((c : Thread nD τ).loc main_arg0) : FVec Ideal S2048x6656 .f32) (ix2 R C) := by
  rw [← V_main_arg0 m c]
  blk_ext [iblk, idx t]

theorem z_read (c : Dev nD) (t : Fin cfg0.N) (r : Fin 256) (l : Fin 512) (R : Fin 2048) (C : Fin 6656) (hR : R.val = t.val * 256 + r.val) (hC : C.val = 5632 + l.val) :
    (iblk m c 1 t : Vec Ideal S256x512 .f32) (ix2 r l) = (m ((c : Thread nD τ).loc main_arg0) : FVec Ideal S2048x6656 .f32) (ix2 R C) := by
  rw [← V_main_arg0 m c]
  blk_ext [iblk, idx t]

theorem kv_read (c : Dev nD) (t : Fin cfg0.N) (j : Fin 256) (l : Fin 1024) :
    (iblk m c 2 t : Vec Ideal S256x1024 .f32) (ix2 j l) = (m ((c : Thread nD τ).loc main_arg1) : FVec Ideal S256x1024 .f32) (ix2 j l) := by
  rw [← V_main_arg1 m c]
  blk_ext [iblk, idx t]

theorem point (c : Dev nD) (t : Fin cfg0.N) (i : S2048x2048.Idx) (r : Fin 256) (l : Fin 512) (h0 : (i 0).val = t.val * 256 + r.val) (h1 : (i 1).val = 3 * 512 + l.val) :
    k0_pay1 (F := Ideal) (iblk m c 1 t) (k0_pay3 (iblk m c 2 t)) (k0_pay4 (iblk m c 2 t)) (k0_pay5 (iblk m c 0 t) (iblk m c 3 t)) (k0_pay6 (iblk m c 3 t)) (k0_pay7 (iblk m c 2 t)) (ix2 r l)
      = Z (m ((c : Thread nD τ).loc main_arg0)) (m ((c : Thread nD τ).loc main_arg1)) (m ((c : Thread nD τ).loc main_arg2)) (m ((c : Thread nD τ).loc main_arg3)) (m ((c : Thread nD τ).loc main_arg4)) i := by
  have ht := (idx t).2.2.2.2.2
  have hr := r.isLt
  obtain ⟨h, d, rfl⟩ := hc_split l
  have hl : (hc h d).val = 128 * h.val + d.val := rfl
  rw [Z_at _ _ _ _ _ i ⟨t.val * 256 + r.val, by omega⟩ h d h0 (by omega)]
  refine (pay _ _ _ _ r h d).trans ?_
  unfold AT
  refine att_congr (fun k => ?_) (fun j k => ?_) (fun k => ?_) (fun k => ?_) (fun j => ?_) ?_
  · exact q_read m c t r (hc h k) _ _ rfl rfl
  · exact kv_read m c t j _
  · exact (w_read m c t 0 k).trans (PC0 _ _ k)
  · exact (w_read m c t 1 k).trans (PC1 _ _ k)
  · exact kv_read m c t j _
  · exact z_read m c t r (hc h d) _ _ rfl rfl

theorem final4 (c : Dev nD) : (dats m 0 c).arrAt 4 (cfgs 0).N
    = Z (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_coversWhere_of_agree 4 _ (fun β => 3 ≤ β (1 : Fin 2)) (by decide +kernel) (fun t _ y => ?_) (fun j hj => ?_)
  · blk_simp
    rw [after0_4]
    unfold outsAt0
    frame_out
    have key := fun h0 h1 => point m c t (((View.whole main_v2).slice (win0_4.rect t)).emb y) (y 0) (y 1) h0 h1
    rw [show (ix2 (n0 := 256) (n1 := 512) (y 0) (y 1)) = y from (eq_ix2 (n0 := 256) (n1 := 512) y).symm] at key
    exact key (by blk_simp [idx t]) (by blk_simp [idx t])
  · blk_simp [Pipeline.Window.cell_apply] at hj
    have e : ∀ i : S2048x2048.Idx, (i 1).val < 1536 → V m c main_v2 i = Z (m ((c : Thread nD τ).loc main_arg0)) (m ((c : Thread nD τ).loc main_arg1)) (m ((c : Thread nD τ).loc main_arg2)) (m ((c : Thread nD τ).loc main_arg3)) (m ((c : Thread nD τ).loc main_arg4)) i := fun i hi => by
      unfold Z
      rw [dif_pos hi, V_v2]
    refine e _ ?_
    blk_simp
    omega

end Kernel

theorem algebraic : Cert.algebraic_AttnCFwdIdeal_AttnCFwdRefIdeal := fun m ρ m' ρ' _ hag =>
  ⟨fun c => Z (m ((c : Thread nD τ).loc main_arg0)) (m ((c : Thread nD τ).loc main_arg1)) (m ((c : Thread nD τ).loc main_arg2)) (m ((c : Thread nD τ).loc main_arg3)) (m ((c : Thread nD τ).loc main_arg4)),
   (θ_run _ _ _).mono (fun _ h c => ⟨(h c).1.trans (final4 m c), (h c).2⟩)
     (Cert.AttnCFwdIdeal.Value.run_blocks m ρ),
   (θ_run _ _ _).mono (fun _ h c => ⟨(h c).1.trans (by
        rw [Cert.AttnCFwdRefIdeal.Read.val_main_v60_eq, (hag c).1, (hag c).2.1, (hag c).2.2.1, (hag c).2.2.2.1, (hag c).2.2.2.2]
        funext i
        exact (congrArg _ (eq_ix2 (n0 := 2048) (n1 := 2048) i)).trans ((ref_Z _ _ _ _ _ _ _).trans (congrArg _ (eq_ix2 (n0 := 2048) (n1 := 2048) i).symm))),
      (h c).2⟩)
     (Cert.AttnCFwdRefIdeal.Value.run m' ρ')⟩

end Cert.AttnCFwdIdeal.Hand

end
-- ==== Proof.PairInClaim.lean ====
/- The gradient of w_in before the chips exchange: the device's own half of the columns and the sibling's part of it added up. -/
module

public import proofs.«01_k».proof.Proof.Gen.PairInIdeal.Frame
public import proofs.«01_k».proof.Proof.Gen.PairIn.Frame
public import proofs.«01_k».proof.Proof.Gen.PairInRefIdeal.Run
public import proofs.«01_k».proof.Proof.Gen.PairInRefIdeal.Read
public import proofs.«01_k».proof.Defs
public import Idealize.ShloMosaic.Lib.Pointwise
public import Idealize.ShloMosaic.Lib.Pipeline.ValueKit

@[expose] public section

set_option maxRecDepth 16384

noncomputable section

namespace Cert.PairIn.Hand

open Cert.PairIn Cert.PairIn.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairIn.Hand

namespace Cert.PairInIdeal.Hand

open Cert.PairInIdeal Cert.PairInIdeal.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairInIdeal.Hand

namespace Cert.PairInIdeal.Hand

open Cert.PairInIdeal Cert.PairInIdeal.Gen Idealize.ShloMosaic Idealize.ShloMosaic.TcCoe Idealize.SL.Sem

/-- The own part and the sibling's. -/
def TOT (a : FVec Ideal S4x1664x2048 .f32) (b : FVec Ideal S4x1664x1024 .bf16) : FVec Ideal S4x1664x1024 .bf16 := fun i =>
  (a (ix3 (i 0) (i 1) (Fin.castLE (by decide) (i 2))) : EReal) + b (ix3 (i 0) (i 1) (i 2))

theorem pay (v0 : Vec Ideal S1x416x1024 .f32) (v2 : Vec Ideal S1x416x1024 .bf16) (r : Fin 416) (l : Fin 1024) :
    k0_pay1 (F := Ideal) v0 v2 (ix3 0 r l) = (v0 (ix3 0 r l) : EReal) + v2 (ix3 0 r l) := by
  pointwise [k0_pay1]

theorem ref_tot (a : FVec Ideal S4x1664x2048 .f32) (b : FVec Ideal S4x1664x1024 .bf16) (i : S4x1664x1024.Idx) :
    Cert.PairInRefIdeal.Read.val_main_v3 (F := Ideal) a b i = TOT a b i := by
  obtain ⟨k, r, l, rfl⟩ : ∃ (k : Fin 4) (r : Fin 1664) (l : Fin 1024), i = ix3 k r l := ⟨i 0, i 1, i 2, eq_ix3 (n0 := 4) (n1 := 1664) (n2 := 1024) i⟩
  unfold Cert.PairInRefIdeal.Read.val_main_v3 Cert.PairInRefIdeal.Read.val_main_v2 Cert.PairInRefIdeal.Read.val_main_v1 Cert.PairInRefIdeal.Read.val_main_v0
  pointwise [TOT]
  try rfl

section Kernel
variable (m : (ℓ : Loc nD τ sig) → Buf (Elt Ideal) ℓ) (hO : Ok m)

theorem idx (t : Fin (cfgM m hO).N) : ((cfgM m hO).win 0).index t = ![t.val / 4, t.val % 4, 0] ∧ ((cfgM m hO).win 1).index t = ![t.val / 4, t.val % 4, 0] ∧ ((cfgM m hO).win 2).index t = ![t.val / 4, t.val % 4, 0] ∧ t.val < 16 :=
  ⟨(at0 m _).trans ((by decide +kernel : ∀ t : Fin grid0.N, (![((grid0.coords t) 0).val, ((grid0.coords t) 1).val, 0] : Fin 3 → Nat) = ![t.val / 4, t.val % 4, 0]) t),
   (by decide +kernel : ∀ t : Fin grid0.N, cc0_transform_1 (grid0.coords t) = ![t.val / 4, t.val % 4, 0]) t,
   (by decide +kernel : ∀ t : Fin grid0.N, cc0_transform_2 (grid0.coords t) = ![t.val / 4, t.val % 4, 0]) t,
   (by decide +kernel : ∀ t : Fin grid0.N, t.val < 16) t⟩

theorem add_congr2 {a a' b b' : EReal} (ha : a = a') (hb : b = b') : a + b = a' + b' := by
  rw [ha, hb]

theorem covers : ((cfgM m hO).win 2).Covers := by
  refine ⟨fun a => (by decide +kernel : ∀ a : Fin 3, 0 < S1x416x1024.size a) a, fun (β : (a : Fin 3) → Fin ((S4x1664x1024.size a + S1x416x1024.size a - 1) / S1x416x1024.size a)) => ?_⟩
  have h0 : (β 0).val < 4 := (β 0).isLt
  have h1 : (β 1).val < 4 := (β 1).isLt
  have hb : (β 2).val = 0 := Nat.lt_one_iff.1 (β 2).isLt
  refine ⟨(⟨(β 0).val * 4 + (β 1).val, lt_of_lt_of_eq (show (β 0).val * 4 + (β 1).val < 16 by omega) (by decide +kernel : 16 = grid0.N)⟩ : Fin grid0.N), flush0_2 _ _, fun a => ?_⟩
  rw [(idx m hO _).2.2.1]
  revert a
  refine fun (a : Fin 3) => ?_
  fin_cases a
  · exact ⟨by show ((β 0).val * 4 + (β 1).val) / 4 = (β 0).val; omega, Or.inl rfl⟩
  · exact ⟨by show ((β 0).val * 4 + (β 1).val) % 4 = (β 1).val; omega, Or.inl rfl⟩
  · exact ⟨hb.symm, Or.inl rfl⟩

theorem blk0 (c : Dev nD) (t : Fin (cfgM m hO).N) (r : Fin 416) (l : Fin 1024) (K : Fin 4) (R : Fin 1664) (hK : K.val = t.val / 4) (hR : R.val = t.val % 4 * 416 + r.val) :
    (iblk m hO c 0 t : Vec Ideal S1x416x1024 .f32) (ix3 0 r l) = (m ((c : Thread nD τ).loc main_arg0) : FVec Ideal S4x1664x2048 .f32) (ix3 K R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x416x1024.size a + 1 * _ = _
  rw [h]
  fin_cases a
  · show t.val / 4 * 1 + 1 * 0 = K.val
    omega
  · show t.val % 4 * 416 + 1 * r.val = R.val
    omega
  · show 0 * 1024 + 1 * l.val = l.val
    omega

theorem blk1 (c : Dev nD) (t : Fin (cfgM m hO).N) (r : Fin 416) (l : Fin 1024) (K : Fin 4) (R : Fin 1664) (hK : K.val = t.val / 4) (hR : R.val = t.val % 4 * 416 + r.val) :
    (iblk m hO c 1 t : Vec Ideal S1x416x1024 .bf16) (ix3 0 r l) = (m ((c : Thread nD τ).loc main_arg1) : FVec Ideal S4x1664x1024 .bf16) (ix3 K R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x416x1024.size a + 1 * _ = _
  rw [h]
  fin_cases a
  · show t.val / 4 * 1 + 1 * 0 = K.val
    omega
  · show t.val % 4 * 416 + 1 * r.val = R.val
    omega
  · show 0 * 1024 + 1 * l.val = l.val
    omega

theorem out (c : Dev nD) (i : grid0.Coords) (arg3 : Memref sig .tc .vmem S1x416x1024 .f32) (harg3 : arg3.IsWhole) (arg4 : Memref sig .tc .vmem S1x416x1024 .bf16) (harg4 : arg4.IsWhole)
    (arg5 : Memref sig .tc .vmem S1x416x1024 .bf16) (harg5 : arg5.IsWhole)
    (x0 : Vec Ideal S1x416x1024 .f32) (x1 : Vec Ideal S1x416x1024 .bf16) (xt0 : TbBuf0 (F := Ideal) c tbM0_0) (r : Fin 416) (l : Fin 1024) :
    out0_A_2 c i arg3 harg3 arg4 harg4 arg5 harg5 x0 x1 xt0 (ix3 0 r l) = (x0 (ix3 0 r l) : EReal) + x1 (ix3 0 r l) := by
  frame_out
  exact pay _ _ r l

theorem left (c : Dev nD) (t : Fin (cfgM m hO).N) (r : Fin 416) (l : Fin 1024) (K : Fin 4) (R : Fin 1664) (hK : K.val = t.val / 4) (hR : R.val = t.val % 4 * 416 + r.val) :
    outsAt0 m hO c t (ix3 0 r l) = TOT (m ((c : Thread nD τ).loc main_arg0)) (m ((c : Thread nD τ).loc main_arg1)) (ix3 K R l) := by
  unfold outsAt0
  refine (out _ _ _ _ _ _ _ _ _ _ _ r l).trans ?_
  exact add_congr2 (blk0 m hO c t r l K R hK hR) (blk1 m hO c t r l K R hK hR)

theorem emb2 (t : Fin (cfgM m hO).N) (y : S1x416x1024.Idx) (K : Fin 4) (R : Fin 1664) (hK : K.val = t.val / 4) (hR : R.val = t.val % 4 * 416 + (y 1).val) :
    (((cfgM m hO).win 2).blk t).view.emb y = (ix3 K R (y 2 : Fin 1024) : S4x1664x1024.Idx) := by
  have hy : (y 0).val < 1 := (y 0).isLt
  refine funext fun (a : Fin 3) => Fin.ext ?_
  show ((cfgM m hO).win 2).index t a * S1x416x1024.size a + 1 * _ = _
  rw [(idx m hO t).2.2.1]
  fin_cases a
  · show t.val / 4 * 1 + 1 * (y 0).val = K.val
    omega
  · show t.val % 4 * 416 + 1 * (y 1).val = R.val
    omega
  · show 0 * 1024 + 1 * (y 2).val = (y 2).val
    omega

theorem at2 (c : Dev nD) (t : Fin (cfgM m hO).N) (y : S1x416x1024.Idx) :
    outsAt0 m hO c t y = TOT (m ((c : Thread nD τ).loc main_arg0)) (m ((c : Thread nD τ).loc main_arg1)) ((((cfgM m hO).win 2).blk t).view.emb y) := by
  have ht := (idx m hO t).2.2.2
  have hK : t.val / 4 < 4 := by omega
  have hR : t.val % 4 * 416 + (y 1).val < 1664 := by
    have h0 : (y 1).val < 416 := (y 1).isLt
    omega
  have e : y = ix3 (0 : Fin 1) (y 1 : Fin 416) (y 2 : Fin 1024) := (eq_ix3 (n0 := 1) (n1 := 416) (n2 := 1024) y).trans (congrArg (fun z : Fin 1 => ix3 (n0 := 1) (n1 := 416) (n2 := 1024) z (y 1) (y 2)) (Subsingleton.elim (α := Fin 1) (y 0) 0))
  refine (congrArg _ e).trans ((left m hO c t (y 1) (y 2) ⟨_, hK⟩ ⟨_, hR⟩ rfl rfl).trans (congrArg _ (emb2 m hO t y ⟨_, hK⟩ ⟨_, hR⟩ rfl rfl).symm))

theorem whole2 : (((cfgM m hO).win 2).arr).IsWhole := Memref.isWhole_whole main_v2

theorem left2 (c : Dev nD) (t : Fin (cfgM m hO).N) (y : (((cfgM m hO).win 2).xblock ((cfgM m hO).grid.coords t)).Idx) :
    _root_.cast (congrArg (Elt Ideal) (((cfgM m hO).win 2).blk t).view.elt_eq.symm) ((dats m hO 0 c).after 2 t (((cfgM m hO).win 2).xinj ((cfgM m hO).grid.coords t) y))
      = TOT (m ((c : Thread nD τ).loc main_arg0)) (m ((c : Thread nD τ).loc main_arg1)) ((((cfgM m hO).win 2).blk t).view.emb y) := by
  rw [after0_2]
  revert y
  refine fun (y : S1x416x1024.Idx) => ?_
  refine (cast_eq _ _).trans ?_
  have e : ((cfgM m hO).win 2).xinj ((cfgM m hO).grid.coords t) y = y := rfl
  refine (congrArg (outsAt0 m hO c t) e).trans ?_
  exact at2 m hO c t y

theorem final2 (c : Dev nD) (G : Buf (Elt Ideal) ((c : Thread nD τ).loc main_v2))
    (hG : G = TOT (m ((c : Thread nD τ).loc main_arg0)) (m ((c : Thread nD τ).loc main_arg1))) :
    (dats m hO 0 c).arrAt 2 (cfgM m hO).N = G := by
  subst hG
  exact Pipeline.Dat.arrAt_eq_of_covers (dats m hO 0 c) 2 _ (covers m hO) (fun t _ y => left2 m hO c t y) (whole2 m hO)

end Kernel

theorem algebraic : Cert.algebraic_PairInIdeal_PairInRefIdeal := fun m ρ m' ρ' _ hag =>
  ⟨fun c => TOT (m ((c : Thread nD τ).loc main_arg0)) (m ((c : Thread nD τ).loc main_arg1)),
   (θ_run _ _ _).mono (fun _ h c => ⟨((h c).1 2).trans (final2 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
     (run_main m ρ (ok m)),
   (θ_run _ _ _).mono (fun _ h c => ⟨(h c).1.trans (by
        rw [Cert.PairInRefIdeal.Read.val_main_v3_eq, (hag c).1, (hag c).2]
        funext i
        exact ref_tot _ _ i), (h c).2⟩)
     (Cert.PairInRefIdeal.Value.run m' ρ')⟩

end Cert.PairInIdeal.Hand

end
-- ==== Proof.PairOutClaim.lean ====
/- The gradient of w_out before the chips exchange: the device's own half of the columns and the sibling's part of it added up. -/
module

public import proofs.«01_k».proof.Proof.Gen.PairOutIdeal.Frame
public import proofs.«01_k».proof.Proof.Gen.PairOut.Frame
public import proofs.«01_k».proof.Proof.Gen.PairOutRefIdeal.Run
public import proofs.«01_k».proof.Proof.Gen.PairOutRefIdeal.Read
public import proofs.«01_k».proof.Defs
public import Idealize.ShloMosaic.Lib.Pointwise
public import Idealize.ShloMosaic.Lib.Pipeline.ValueKit

@[expose] public section

set_option maxRecDepth 16384

noncomputable section

namespace Cert.PairOut.Hand

open Cert.PairOut Cert.PairOut.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairOut.Hand

namespace Cert.PairOutIdeal.Hand

open Cert.PairOutIdeal Cert.PairOutIdeal.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairOutIdeal.Hand

namespace Cert.PairOutIdeal.Hand

open Cert.PairOutIdeal Cert.PairOutIdeal.Gen Idealize.ShloMosaic Idealize.ShloMosaic.TcCoe Idealize.SL.Sem

/-- The own part and the sibling's. -/
def TOT (a : FVec Ideal S4x512x2048 .f32) (b : FVec Ideal S4x512x1024 .bf16) : FVec Ideal S4x512x1024 .bf16 := fun i =>
  (a (ix3 (i 0) (i 1) (Fin.castLE (by decide) (i 2))) : EReal) + b (ix3 (i 0) (i 1) (i 2))

theorem pay (v0 : Vec Ideal S1x512x1024 .f32) (v2 : Vec Ideal S1x512x1024 .bf16) (r : Fin 512) (l : Fin 1024) :
    k0_pay1 (F := Ideal) v0 v2 (ix3 0 r l) = (v0 (ix3 0 r l) : EReal) + v2 (ix3 0 r l) := by
  pointwise [k0_pay1]

theorem ref_tot (a : FVec Ideal S4x512x2048 .f32) (b : FVec Ideal S4x512x1024 .bf16) (i : S4x512x1024.Idx) :
    Cert.PairOutRefIdeal.Read.val_main_v3 (F := Ideal) a b i = TOT a b i := by
  obtain ⟨k, r, l, rfl⟩ : ∃ (k : Fin 4) (r : Fin 512) (l : Fin 1024), i = ix3 k r l := ⟨i 0, i 1, i 2, eq_ix3 (n0 := 4) (n1 := 512) (n2 := 1024) i⟩
  unfold Cert.PairOutRefIdeal.Read.val_main_v3 Cert.PairOutRefIdeal.Read.val_main_v2 Cert.PairOutRefIdeal.Read.val_main_v1 Cert.PairOutRefIdeal.Read.val_main_v0
  pointwise [TOT]
  try rfl

section Kernel
variable (m : (ℓ : Loc nD τ sig) → Buf (Elt Ideal) ℓ) (hO : Ok m)

theorem idx (t : Fin (cfgM m hO).N) : ((cfgM m hO).win 0).index t = ![t.val / 1, t.val % 1, 0] ∧ ((cfgM m hO).win 1).index t = ![t.val / 1, t.val % 1, 0] ∧ ((cfgM m hO).win 2).index t = ![t.val / 1, t.val % 1, 0] ∧ t.val < 4 :=
  ⟨(at0 m _).trans ((by decide +kernel : ∀ t : Fin grid0.N, (![((grid0.coords t) 0).val, ((grid0.coords t) 1).val, 0] : Fin 3 → Nat) = ![t.val / 1, t.val % 1, 0]) t),
   (by decide +kernel : ∀ t : Fin grid0.N, cc0_transform_1 (grid0.coords t) = ![t.val / 1, t.val % 1, 0]) t,
   (by decide +kernel : ∀ t : Fin grid0.N, cc0_transform_2 (grid0.coords t) = ![t.val / 1, t.val % 1, 0]) t,
   (by decide +kernel : ∀ t : Fin grid0.N, t.val < 4) t⟩

theorem add_congr2 {a a' b b' : EReal} (ha : a = a') (hb : b = b') : a + b = a' + b' := by
  rw [ha, hb]

theorem covers : ((cfgM m hO).win 2).Covers := by
  refine ⟨fun a => (by decide +kernel : ∀ a : Fin 3, 0 < S1x512x1024.size a) a, fun (β : (a : Fin 3) → Fin ((S4x512x1024.size a + S1x512x1024.size a - 1) / S1x512x1024.size a)) => ?_⟩
  have h0 : (β 0).val < 4 := (β 0).isLt
  have h1 : (β 1).val < 1 := (β 1).isLt
  have hb : (β 2).val = 0 := Nat.lt_one_iff.1 (β 2).isLt
  refine ⟨(⟨(β 0).val * 1 + (β 1).val, lt_of_lt_of_eq (show (β 0).val * 1 + (β 1).val < 4 by omega) (by decide +kernel : 4 = grid0.N)⟩ : Fin grid0.N), flush0_2 _ _, fun a => ?_⟩
  rw [(idx m hO _).2.2.1]
  revert a
  refine fun (a : Fin 3) => ?_
  fin_cases a
  · exact ⟨by show ((β 0).val * 1 + (β 1).val) / 1 = (β 0).val; omega, Or.inl rfl⟩
  · exact ⟨by show ((β 0).val * 1 + (β 1).val) % 1 = (β 1).val; omega, Or.inl rfl⟩
  · exact ⟨hb.symm, Or.inl rfl⟩

theorem blk0 (c : Dev nD) (t : Fin (cfgM m hO).N) (r : Fin 512) (l : Fin 1024) (K : Fin 4) (R : Fin 512) (hK : K.val = t.val / 1) (hR : R.val = t.val % 1 * 512 + r.val) :
    (iblk m hO c 0 t : Vec Ideal S1x512x1024 .f32) (ix3 0 r l) = (m ((c : Thread nD τ).loc main_arg0) : FVec Ideal S4x512x2048 .f32) (ix3 K R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x512x1024.size a + 1 * _ = _
  rw [h]
  fin_cases a
  · show t.val / 1 * 1 + 1 * 0 = K.val
    omega
  · show t.val % 1 * 512 + 1 * r.val = R.val
    omega
  · show 0 * 1024 + 1 * l.val = l.val
    omega

theorem blk1 (c : Dev nD) (t : Fin (cfgM m hO).N) (r : Fin 512) (l : Fin 1024) (K : Fin 4) (R : Fin 512) (hK : K.val = t.val / 1) (hR : R.val = t.val % 1 * 512 + r.val) :
    (iblk m hO c 1 t : Vec Ideal S1x512x1024 .bf16) (ix3 0 r l) = (m ((c : Thread nD τ).loc main_arg1) : FVec Ideal S4x512x1024 .bf16) (ix3 K R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x512x1024.size a + 1 * _ = _
  rw [h]
  fin_cases a
  · show t.val / 1 * 1 + 1 * 0 = K.val
    omega
  · show t.val % 1 * 512 + 1 * r.val = R.val
    omega
  · show 0 * 1024 + 1 * l.val = l.val
    omega

theorem out (c : Dev nD) (i : grid0.Coords) (arg3 : Memref sig .tc .vmem S1x512x1024 .f32) (harg3 : arg3.IsWhole) (arg4 : Memref sig .tc .vmem S1x512x1024 .bf16) (harg4 : arg4.IsWhole)
    (arg5 : Memref sig .tc .vmem S1x512x1024 .bf16) (harg5 : arg5.IsWhole)
    (x0 : Vec Ideal S1x512x1024 .f32) (x1 : Vec Ideal S1x512x1024 .bf16) (xt0 : TbBuf0 (F := Ideal) c tbM0_0) (r : Fin 512) (l : Fin 1024) :
    out0_A_2 c i arg3 harg3 arg4 harg4 arg5 harg5 x0 x1 xt0 (ix3 0 r l) = (x0 (ix3 0 r l) : EReal) + x1 (ix3 0 r l) := by
  frame_out
  exact pay _ _ r l

theorem left (c : Dev nD) (t : Fin (cfgM m hO).N) (r : Fin 512) (l : Fin 1024) (K : Fin 4) (R : Fin 512) (hK : K.val = t.val / 1) (hR : R.val = t.val % 1 * 512 + r.val) :
    outsAt0 m hO c t (ix3 0 r l) = TOT (m ((c : Thread nD τ).loc main_arg0)) (m ((c : Thread nD τ).loc main_arg1)) (ix3 K R l) := by
  unfold outsAt0
  refine (out _ _ _ _ _ _ _ _ _ _ _ r l).trans ?_
  exact add_congr2 (blk0 m hO c t r l K R hK hR) (blk1 m hO c t r l K R hK hR)

theorem emb2 (t : Fin (cfgM m hO).N) (y : S1x512x1024.Idx) (K : Fin 4) (R : Fin 512) (hK : K.val = t.val / 1) (hR : R.val = t.val % 1 * 512 + (y 1).val) :
    (((cfgM m hO).win 2).blk t).view.emb y = (ix3 K R (y 2 : Fin 1024) : S4x512x1024.Idx) := by
  have hy : (y 0).val < 1 := (y 0).isLt
  refine funext fun (a : Fin 3) => Fin.ext ?_
  show ((cfgM m hO).win 2).index t a * S1x512x1024.size a + 1 * _ = _
  rw [(idx m hO t).2.2.1]
  fin_cases a
  · show t.val / 1 * 1 + 1 * (y 0).val = K.val
    omega
  · show t.val % 1 * 512 + 1 * (y 1).val = R.val
    omega
  · show 0 * 1024 + 1 * (y 2).val = (y 2).val
    omega

theorem at2 (c : Dev nD) (t : Fin (cfgM m hO).N) (y : S1x512x1024.Idx) :
    outsAt0 m hO c t y = TOT (m ((c : Thread nD τ).loc main_arg0)) (m ((c : Thread nD τ).loc main_arg1)) ((((cfgM m hO).win 2).blk t).view.emb y) := by
  have ht := (idx m hO t).2.2.2
  have hK : t.val / 1 < 4 := by omega
  have hR : t.val % 1 * 512 + (y 1).val < 512 := by
    have h0 : (y 1).val < 512 := (y 1).isLt
    omega
  have e : y = ix3 (0 : Fin 1) (y 1 : Fin 512) (y 2 : Fin 1024) := (eq_ix3 (n0 := 1) (n1 := 512) (n2 := 1024) y).trans (congrArg (fun z : Fin 1 => ix3 (n0 := 1) (n1 := 512) (n2 := 1024) z (y 1) (y 2)) (Subsingleton.elim (α := Fin 1) (y 0) 0))
  refine (congrArg _ e).trans ((left m hO c t (y 1) (y 2) ⟨_, hK⟩ ⟨_, hR⟩ rfl rfl).trans (congrArg _ (emb2 m hO t y ⟨_, hK⟩ ⟨_, hR⟩ rfl rfl).symm))

theorem whole2 : (((cfgM m hO).win 2).arr).IsWhole := Memref.isWhole_whole main_v2

theorem left2 (c : Dev nD) (t : Fin (cfgM m hO).N) (y : (((cfgM m hO).win 2).xblock ((cfgM m hO).grid.coords t)).Idx) :
    _root_.cast (congrArg (Elt Ideal) (((cfgM m hO).win 2).blk t).view.elt_eq.symm) ((dats m hO 0 c).after 2 t (((cfgM m hO).win 2).xinj ((cfgM m hO).grid.coords t) y))
      = TOT (m ((c : Thread nD τ).loc main_arg0)) (m ((c : Thread nD τ).loc main_arg1)) ((((cfgM m hO).win 2).blk t).view.emb y) := by
  rw [after0_2]
  revert y
  refine fun (y : S1x512x1024.Idx) => ?_
  refine (cast_eq _ _).trans ?_
  have e : ((cfgM m hO).win 2).xinj ((cfgM m hO).grid.coords t) y = y := rfl
  refine (congrArg (outsAt0 m hO c t) e).trans ?_
  exact at2 m hO c t y

theorem final2 (c : Dev nD) (G : Buf (Elt Ideal) ((c : Thread nD τ).loc main_v2))
    (hG : G = TOT (m ((c : Thread nD τ).loc main_arg0)) (m ((c : Thread nD τ).loc main_arg1))) :
    (dats m hO 0 c).arrAt 2 (cfgM m hO).N = G := by
  subst hG
  exact Pipeline.Dat.arrAt_eq_of_covers (dats m hO 0 c) 2 _ (covers m hO) (fun t _ y => left2 m hO c t y) (whole2 m hO)

end Kernel

theorem algebraic : Cert.algebraic_PairOutIdeal_PairOutRefIdeal := fun m ρ m' ρ' _ hag =>
  ⟨fun c => TOT (m ((c : Thread nD τ).loc main_arg0)) (m ((c : Thread nD τ).loc main_arg1)),
   (θ_run _ _ _).mono (fun _ h c => ⟨((h c).1 2).trans (final2 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
     (run_main m ρ (ok m)),
   (θ_run _ _ _).mono (fun _ h c => ⟨(h c).1.trans (by
        rw [Cert.PairOutRefIdeal.Read.val_main_v3_eq, (hag c).1, (hag c).2]
        funext i
        exact ref_tot _ _ i), (h c).2⟩)
     (Cert.PairOutRefIdeal.Value.run m' ρ')⟩

end Cert.PairOutIdeal.Hand

end
-- ==== Proof.PairKvClaim.lean ====
/- The gradient of w_mem_kv before the chips exchange: the device's own half of the columns and the sibling's part of it added up. -/
module

public import proofs.«01_k».proof.Proof.Gen.PairKvIdeal.Frame
public import proofs.«01_k».proof.Proof.Gen.PairKv.Frame
public import proofs.«01_k».proof.Proof.Gen.PairKvRefIdeal.Run
public import proofs.«01_k».proof.Proof.Gen.PairKvRefIdeal.Read
public import proofs.«01_k».proof.Defs
public import Idealize.ShloMosaic.Lib.Pointwise
public import Idealize.ShloMosaic.Lib.Pipeline.ValueKit

@[expose] public section

set_option maxRecDepth 16384

noncomputable section

namespace Cert.PairKv.Hand

open Cert.PairKv Cert.PairKv.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairKv.Hand

namespace Cert.PairKvIdeal.Hand

open Cert.PairKvIdeal Cert.PairKvIdeal.Gen Idealize.ShloMosaic Idealize.ShloMosaic.TcCoe Idealize.SL.Sem

variable {F : FTy → Type} [FloatOps F] (m : (ℓ : Loc nD τ sig) → Buf (Elt F) ℓ)

/-- The table of places holds a zero. -/
theorem table (i : S1.Idx) : tbl m 0 i = 0#32 := by
  show StableHlo.after hostOps0 (fun b => m ((0 : Dev nD), b)) (Proc.devRef .tc main_v1) i = _
  after_results
  rfl

theorem place (i : grid0.Coords) : (BitVec.ofNat 32 (i 0).val).toNat = (i 0).val ∧ (BitVec.ofNat 32 (i 1).val).toNat = (i 1).val := by
  revert i
  decide +kernel

theorem at0 (i : grid0.Coords) : cc0_transform_0 inb_S1_S1_0 numel1_S1 (tbl m) i = ![(i 0).val, (i 1).val, 0] := funext fun a => by
  fin_cases a
  · exact (place i).1
  · exact (place i).2
  · exact congrArg BitVec.toNat (table m _)

/-- With such a table every block lies inside its array. -/
theorem ok : Ok m := by
  refine fun i => ?_
  rw [at0 m i]
  revert i
  decide +kernel

end Cert.PairKvIdeal.Hand

namespace Cert.PairKvIdeal.Hand

open Cert.PairKvIdeal Cert.PairKvIdeal.Gen Idealize.ShloMosaic Idealize.ShloMosaic.TcCoe Idealize.SL.Sem

/-- The own part and the sibling's. -/
def TOT (a : FVec Ideal S4x512x1024 .f32) (b : FVec Ideal S4x512x512 .bf16) : FVec Ideal S4x512x512 .bf16 := fun i =>
  (a (ix3 (i 0) (i 1) (Fin.castLE (by decide) (i 2))) : EReal) + b (ix3 (i 0) (i 1) (i 2))

theorem pay (v0 : Vec Ideal S1x512x512 .f32) (v2 : Vec Ideal S1x512x512 .bf16) (r : Fin 512) (l : Fin 512) :
    k0_pay1 (F := Ideal) v0 v2 (ix3 0 r l) = (v0 (ix3 0 r l) : EReal) + v2 (ix3 0 r l) := by
  pointwise [k0_pay1]

theorem ref_tot (a : FVec Ideal S4x512x1024 .f32) (b : FVec Ideal S4x512x512 .bf16) (i : S4x512x512.Idx) :
    Cert.PairKvRefIdeal.Read.val_main_v3 (F := Ideal) a b i = TOT a b i := by
  obtain ⟨k, r, l, rfl⟩ : ∃ (k : Fin 4) (r : Fin 512) (l : Fin 512), i = ix3 k r l := ⟨i 0, i 1, i 2, eq_ix3 (n0 := 4) (n1 := 512) (n2 := 512) i⟩
  unfold Cert.PairKvRefIdeal.Read.val_main_v3 Cert.PairKvRefIdeal.Read.val_main_v2 Cert.PairKvRefIdeal.Read.val_main_v1 Cert.PairKvRefIdeal.Read.val_main_v0
  pointwise [TOT]
  try rfl

section Kernel
variable (m : (ℓ : Loc nD τ sig) → Buf (Elt Ideal) ℓ) (hO : Ok m)

theorem idx (t : Fin (cfgM m hO).N) : ((cfgM m hO).win 0).index t = ![t.val / 1, t.val % 1, 0] ∧ ((cfgM m hO).win 1).index t = ![t.val / 1, t.val % 1, 0] ∧ ((cfgM m hO).win 2).index t = ![t.val / 1, t.val % 1, 0] ∧ t.val < 4 :=
  ⟨(at0 m _).trans ((by decide +kernel : ∀ t : Fin grid0.N, (![((grid0.coords t) 0).val, ((grid0.coords t) 1).val, 0] : Fin 3 → Nat) = ![t.val / 1, t.val % 1, 0]) t),
   (by decide +kernel : ∀ t : Fin grid0.N, cc0_transform_1 (grid0.coords t) = ![t.val / 1, t.val % 1, 0]) t,
   (by decide +kernel : ∀ t : Fin grid0.N, cc0_transform_2 (grid0.coords t) = ![t.val / 1, t.val % 1, 0]) t,
   (by decide +kernel : ∀ t : Fin grid0.N, t.val < 4) t⟩

theorem add_congr2 {a a' b b' : EReal} (ha : a = a') (hb : b = b') : a + b = a' + b' := by
  rw [ha, hb]

theorem covers : ((cfgM m hO).win 2).Covers := by
  refine ⟨fun a => (by decide +kernel : ∀ a : Fin 3, 0 < S1x512x512.size a) a, fun (β : (a : Fin 3) → Fin ((S4x512x512.size a + S1x512x512.size a - 1) / S1x512x512.size a)) => ?_⟩
  have h0 : (β 0).val < 4 := (β 0).isLt
  have h1 : (β 1).val < 1 := (β 1).isLt
  have hb : (β 2).val = 0 := Nat.lt_one_iff.1 (β 2).isLt
  refine ⟨(⟨(β 0).val * 1 + (β 1).val, lt_of_lt_of_eq (show (β 0).val * 1 + (β 1).val < 4 by omega) (by decide +kernel : 4 = grid0.N)⟩ : Fin grid0.N), flush0_2 _ _, fun a => ?_⟩
  rw [(idx m hO _).2.2.1]
  revert a
  refine fun (a : Fin 3) => ?_
  fin_cases a
  · exact ⟨by show ((β 0).val * 1 + (β 1).val) / 1 = (β 0).val; omega, Or.inl rfl⟩
  · exact ⟨by show ((β 0).val * 1 + (β 1).val) % 1 = (β 1).val; omega, Or.inl rfl⟩
  · exact ⟨hb.symm, Or.inl rfl⟩

theorem blk0 (c : Dev nD) (t : Fin (cfgM m hO).N) (r : Fin 512) (l : Fin 512) (K : Fin 4) (R : Fin 512) (hK : K.val = t.val / 1) (hR : R.val = t.val % 1 * 512 + r.val) :
    (iblk m hO c 0 t : Vec Ideal S1x512x512 .f32) (ix3 0 r l) = (m ((c : Thread nD τ).loc main_arg0) : FVec Ideal S4x512x1024 .f32) (ix3 K R (Fin.castLE (by decide) l)) := by
  have h := (idx m hO t).1
  unfold iblk
  show V m c main_arg0 ((((cfgM m hO).win 0).blk t).view.emb (ix3 0 r l)) = _
  rw [V_main_arg0]
  refine congrArg _ (funext fun (a : Fin 3) => Fin.ext ?_)
  show ((cfgM m hO).win 0).index t a * S1x512x512.size a + 1 * _ = _
  rw [h]
  fin_cases a
  · show t.val / 1 * 1 + 1 * 0 = K.val
    omega
  · show t.val % 1 * 512 + 1 * r.val = R.val
    omega
  · show 0 * 512 + 1 * l.val = l.val
    omega

theorem blk1 (c : Dev nD) (t : Fin (cfgM m hO).N) (r : Fin 512) (l : Fin 512) (K : Fin 4) (R : Fin 512) (hK : K.val = t.val / 1) (hR : R.val = t.val % 1 * 512 + r.val) :
    (iblk m hO c 1 t : Vec Ideal S1x512x512 .bf16) (ix3 0 r l) = (m ((c : Thread nD τ).loc main_arg1) : FVec Ideal S4x512x512 .bf16) (ix3 K R l) := by
  have h := (idx m hO t).2.1
  unfold iblk
  show V m c main_arg1 ((((cfgM m hO).win 1).blk t).view.emb (ix3 0 r l)) = _
  rw [V_main_arg1]
  refine congrArg _ (funext fun (a : Fin 3) => Fin.ext ?_)
  show ((cfgM m hO).win 1).index t a * S1x512x512.size a + 1 * _ = _
  rw [h]
  fin_cases a
  · show t.val / 1 * 1 + 1 * 0 = K.val
    omega
  · show t.val % 1 * 512 + 1 * r.val = R.val
    omega
  · show 0 * 512 + 1 * l.val = l.val
    omega

theorem out (c : Dev nD) (i : grid0.Coords) (arg3 : Memref sig .tc .vmem S1x512x512 .f32) (harg3 : arg3.IsWhole) (arg4 : Memref sig .tc .vmem S1x512x512 .bf16) (harg4 : arg4.IsWhole)
    (arg5 : Memref sig .tc .vmem S1x512x512 .bf16) (harg5 : arg5.IsWhole)
    (x0 : Vec Ideal S1x512x512 .f32) (x1 : Vec Ideal S1x512x512 .bf16) (xt0 : TbBuf0 (F := Ideal) c tbM0_0) (r : Fin 512) (l : Fin 512) :
    out0_A_2 c i arg3 harg3 arg4 harg4 arg5 harg5 x0 x1 xt0 (ix3 0 r l) = (x0 (ix3 0 r l) : EReal) + x1 (ix3 0 r l) := by
  frame_out
  exact pay _ _ r l

theorem left (c : Dev nD) (t : Fin (cfgM m hO).N) (r : Fin 512) (l : Fin 512) (K : Fin 4) (R : Fin 512) (hK : K.val = t.val / 1) (hR : R.val = t.val % 1 * 512 + r.val) :
    outsAt0 m hO c t (ix3 0 r l) = TOT (m ((c : Thread nD τ).loc main_arg0)) (m ((c : Thread nD τ).loc main_arg1)) (ix3 K R l) := by
  unfold outsAt0
  refine (out _ _ _ _ _ _ _ _ _ _ _ r l).trans ?_
  exact add_congr2 (blk0 m hO c t r l K R hK hR) (blk1 m hO c t r l K R hK hR)

theorem emb2 (t : Fin (cfgM m hO).N) (y : S1x512x512.Idx) (K : Fin 4) (R : Fin 512) (hK : K.val = t.val / 1) (hR : R.val = t.val % 1 * 512 + (y 1).val) :
    (((cfgM m hO).win 2).blk t).view.emb y = (ix3 K R (y 2 : Fin 512) : S4x512x512.Idx) := by
  have hy : (y 0).val < 1 := (y 0).isLt
  refine funext fun (a : Fin 3) => Fin.ext ?_
  show ((cfgM m hO).win 2).index t a * S1x512x512.size a + 1 * _ = _
  rw [(idx m hO t).2.2.1]
  fin_cases a
  · show t.val / 1 * 1 + 1 * (y 0).val = K.val
    omega
  · show t.val % 1 * 512 + 1 * (y 1).val = R.val
    omega
  · show 0 * 512 + 1 * (y 2).val = (y 2).val
    omega

theorem at2 (c : Dev nD) (t : Fin (cfgM m hO).N) (y : S1x512x512.Idx) :
    outsAt0 m hO c t y = TOT (m ((c : Thread nD τ).loc main_arg0)) (m ((c : Thread nD τ).loc main_arg1)) ((((cfgM m hO).win 2).blk t).view.emb y) := by
  have ht := (idx m hO t).2.2.2
  have hK : t.val / 1 < 4 := by omega
  have hR : t.val % 1 * 512 + (y 1).val < 512 := by
    have h0 : (y 1).val < 512 := (y 1).isLt
    omega
  have e : y = ix3 (0 : Fin 1) (y 1 : Fin 512) (y 2 : Fin 512) := (eq_ix3 (n0 := 1) (n1 := 512) (n2 := 512) y).trans (congrArg (fun z : Fin 1 => ix3 (n0 := 1) (n1 := 512) (n2 := 512) z (y 1) (y 2)) (Subsingleton.elim (α := Fin 1) (y 0) 0))
  refine (congrArg _ e).trans ((left m hO c t (y 1) (y 2) ⟨_, hK⟩ ⟨_, hR⟩ rfl rfl).trans (congrArg _ (emb2 m hO t y ⟨_, hK⟩ ⟨_, hR⟩ rfl rfl).symm))

theorem whole2 : (((cfgM m hO).win 2).arr).IsWhole := Memref.isWhole_whole main_v2

theorem left2 (c : Dev nD) (t : Fin (cfgM m hO).N) (y : (((cfgM m hO).win 2).xblock ((cfgM m hO).grid.coords t)).Idx) :
    _root_.cast (congrArg (Elt Ideal) (((cfgM m hO).win 2).blk t).view.elt_eq.symm) ((dats m hO 0 c).after 2 t (((cfgM m hO).win 2).xinj ((cfgM m hO).grid.coords t) y))
      = TOT (m ((c : Thread nD τ).loc main_arg0)) (m ((c : Thread nD τ).loc main_arg1)) ((((cfgM m hO).win 2).blk t).view.emb y) := by
  rw [after0_2]
  revert y
  refine fun (y : S1x512x512.Idx) => ?_
  refine (cast_eq _ _).trans ?_
  have e : ((cfgM m hO).win 2).xinj ((cfgM m hO).grid.coords t) y = y := rfl
  refine (congrArg (outsAt0 m hO c t) e).trans ?_
  exact at2 m hO c t y

theorem final2 (c : Dev nD) (G : Buf (Elt Ideal) ((c : Thread nD τ).loc main_v2))
    (hG : G = TOT (m ((c : Thread nD τ).loc main_arg0)) (m ((c : Thread nD τ).loc main_arg1))) :
    (dats m hO 0 c).arrAt 2 (cfgM m hO).N = G := by
  subst hG
  exact Pipeline.Dat.arrAt_eq_of_covers (dats m hO 0 c) 2 _ (covers m hO) (fun t _ y => left2 m hO c t y) (whole2 m hO)

end Kernel

theorem algebraic : Cert.algebraic_PairKvIdeal_PairKvRefIdeal := fun m ρ m' ρ' _ hag =>
  ⟨fun c => TOT (m ((c : Thread nD τ).loc main_arg0)) (m ((c : Thread nD τ).loc main_arg1)),
   (θ_run _ _ _).mono (fun _ h c => ⟨((h c).1 2).trans (final2 m (ok m) c _ rfl),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c)))⟩)
     (run_main m ρ (ok m)),
   (θ_run _ _ _).mono (fun _ h c => ⟨(h c).1.trans (by
        rw [Cert.PairKvRefIdeal.Read.val_main_v3_eq, (hag c).1, (hag c).2]
        funext i
        exact ref_tot _ _ i), (h c).2⟩)
     (Cert.PairKvRefIdeal.Value.run m' ρ')⟩

end Cert.PairKvIdeal.Hand

end
-- ==== Proof.ProjGradClaim.lean ====
/- The projection's gradient: nine pieces side by side, cut in four blocks of 1608 columns, each followed by 56 columns of zeros. -/
module

public import Idealize.ShloMosaic.Lib.Pointwise
public import Idealize.ShloMosaic.Lib.Pipeline.ValueKit
public import proofs.«01_k».proof.Proof.Gen.ProjGradIdeal.Value
public import proofs.«01_k».proof.Proof.Gen.ProjGradRefIdeal.Run
public import proofs.«01_k».proof.Proof.Gen.ProjGradRefIdeal.Read
public import proofs.«01_k».proof.Defs

@[expose] public section

set_option maxRecDepth 16384

noncomputable section

namespace Cert.ProjGradIdeal.Hand

open Cert.ProjGradIdeal Cert.ProjGradIdeal.Gen Idealize.ShloMosaic Idealize.ShloMosaic.TcCoe Idealize.SL.Sem

/-- Column `n` of the nine pieces side by side. -/
def wh (a0 : Fin 3072 → EReal) (a1 : Fin 1024 → EReal) (a2 : Fin 128 → EReal) (a3 : Fin 512 → EReal) (a4 : Fin 128 → EReal) (a5 : Fin 128 → EReal) (a6 : Fin 512 → EReal) (a7 : Fin 512 → EReal) (a8 : Fin 512 → EReal) (n : ℕ) (hn : n < 6432) : EReal :=
  if h : n < 3072 then a0 ⟨n, h⟩ else
  if h : n - 3072 < 1024 then a1 ⟨n - 3072, h⟩ else
  if h : n - 3072 - 1024 < 32 then a2 ⟨n - 3072 - 1024, by omega⟩ else
  if h : n - 3072 - 1024 - 32 < 512 then a3 ⟨n - 3072 - 1024 - 32, h⟩ else
  if h : n - 3072 - 1024 - 32 - 512 < 128 then a4 ⟨n - 3072 - 1024 - 32 - 512, h⟩ else
  if h : n - 3072 - 1024 - 32 - 512 - 128 < 128 then a5 ⟨n - 3072 - 1024 - 32 - 512 - 128, h⟩ else
  if h : n - 3072 - 1024 - 32 - 512 - 128 - 128 < 512 then a6 ⟨n - 3072 - 1024 - 32 - 512 - 128 - 128, h⟩ else
  if h : n - 3072 - 1024 - 32 - 512 - 128 - 128 - 512 < 512 then a7 ⟨n - 3072 - 1024 - 32 - 512 - 128 - 128 - 512, h⟩ else
  a8 ⟨n - 3072 - 1024 - 32 - 512 - 128 - 128 - 512 - 512, by omega⟩

/-- Column `c` of a row `w` cut in blocks. -/
def cut (w : Fin 6432 → EReal) (c : ℕ) (hc : c < 6656) : EReal :=
  if h : c % 1664 < 1608 then w ⟨c / 1664 * 1608 + c % 1664, by omega⟩ else Ideal.ofBits .bf16 0x0000#16

def WHOLE (v0 : Vec Ideal S256x3072 .bf16) (v1 : Vec Ideal S256x1024 .bf16) (v2 : Vec Ideal S256x128 .f32) (v4 : Vec Ideal S256x512 .bf16) (v5 : Vec Ideal S256x128 .f32) (v7 : Vec Ideal S256x128 .f32) (v9 : Vec Ideal S256x512 .bf16) (v10 : Vec Ideal S256x512 .bf16) (v11 : Vec Ideal S256x512 .bf16) : FVec Ideal S256x6432 .bf16 :=
  concatenate S256x6432 1 [⟨S256x3072, v0⟩, ⟨S256x1024, v1⟩, ⟨S256x32, (extractStridedSlice S256x32 ![0, 0] (truncf .bf16 v2 bitsLt_bf16_f32) slices_S256x128_o0_0_S256x32)⟩, ⟨S256x512, v4⟩, ⟨S256x128, (truncf .bf16 v5 bitsLt_bf16_f32)⟩, ⟨S256x128, (truncf .bf16 v7 bitsLt_bf16_f32)⟩, ⟨S256x512, v9⟩, ⟨S256x512, v10⟩, ⟨S256x512, v11⟩] concatenates_S256x3072_S256x1024_S256x32_S256x512_S256x128_S256x128_S256x512_S256x512_S256x512_S256x6432_d1

def BLOCKS (v : FVec Ideal S256x6432 .bf16) : FVec Ideal S256x6656 .bf16 :=
  concatenate S256x6656 1 [⟨S256x1608, (extractStridedSlice S256x1608 ![0, 0] v slices_S256x6432_o0_0_S256x1608)⟩, ⟨S256x56, (broadcast S256x56 (Scalar.ofBits .bf16 0x0000#16 : Ideal .bf16))⟩, ⟨S256x1608, (extractStridedSlice S256x1608 ![0, 1608] v slices_S256x6432_o0_1608_S256x1608)⟩, ⟨S256x56, (broadcast S256x56 (Scalar.ofBits .bf16 0x0000#16 : Ideal .bf16))⟩, ⟨S256x1608, (extractStridedSlice S256x1608 ![0, 3216] v slices_S256x6432_o0_3216_S256x1608)⟩, ⟨S256x56, (broadcast S256x56 (Scalar.ofBits .bf16 0x0000#16 : Ideal .bf16))⟩, ⟨S256x1608, (extractStridedSlice S256x1608 ![0, 4824] v slices_S256x6432_o0_4824_S256x1608)⟩, ⟨S256x56, (broadcast S256x56 (Scalar.ofBits .bf16 0x0000#16 : Ideal .bf16))⟩] concatenates_S256x1608_S256x56_S256x1608_S256x56_S256x1608_S256x56_S256x1608_S256x56_S256x6656_d1

theorem pay_eq (v0 : Vec Ideal S256x3072 .bf16) (v1 : Vec Ideal S256x1024 .bf16) (v2 : Vec Ideal S256x128 .f32) (v4 : Vec Ideal S256x512 .bf16) (v5 : Vec Ideal S256x128 .f32) (v7 : Vec Ideal S256x128 .f32) (v9 : Vec Ideal S256x512 .bf16) (v10 : Vec Ideal S256x512 .bf16) (v11 : Vec Ideal S256x512 .bf16) : k0_pay1 (F := Ideal) v0 v1 v2 v4 v5 v7 v9 v10 v11 = BLOCKS (WHOLE v0 v1 v2 v4 v5 v7 v9 v10 v11) := rfl

theorem blocks_row (v : FVec Ideal S256x6432 .bf16) (r : Fin 256) (c : Fin 6656) : BLOCKS v (ix2 r c) = cut (fun n => v (ix2 r n)) c.val c.isLt := by
  have hc := c.isLt
  unfold cut
  pointwise [BLOCKS]
  split_ifs
  all_goals first
    | rfl
    | (exfalso; omega)
    | (have q : c.val % 1664 < 1608 := by omega
       simp only [q, dite_true]
       refine congrArg v (congrArg (ix2 r) (Fin.ext ?_)); dsimp only; omega)
    | (have q : ¬ c.val % 1664 < 1608 := by omega
       simp only [q, dite_false])

theorem whole_row (v0 : Vec Ideal S256x3072 .bf16) (v1 : Vec Ideal S256x1024 .bf16) (v2 : Vec Ideal S256x128 .f32) (v4 : Vec Ideal S256x512 .bf16) (v5 : Vec Ideal S256x128 .f32) (v7 : Vec Ideal S256x128 .f32) (v9 : Vec Ideal S256x512 .bf16) (v10 : Vec Ideal S256x512 .bf16) (v11 : Vec Ideal S256x512 .bf16) (r : Fin 256) (n : Fin 6432) : WHOLE v0 v1 v2 v4 v5 v7 v9 v10 v11 (ix2 r n) = wh (fun k => v0 (ix2 r k)) (fun k => v1 (ix2 r k)) (fun k => v2 (ix2 r k)) (fun k => v4 (ix2 r k)) (fun k => v5 (ix2 r k)) (fun k => v7 (ix2 r k)) (fun k => v9 (ix2 r k)) (fun k => v10 (ix2 r k)) (fun k => v11 (ix2 r k)) n.val n.isLt := by
  have hn := n.isLt
  unfold wh
  pointwise [WHOLE]

theorem pay (v0 : Vec Ideal S256x3072 .bf16) (v1 : Vec Ideal S256x1024 .bf16) (v2 : Vec Ideal S256x128 .f32) (v4 : Vec Ideal S256x512 .bf16) (v5 : Vec Ideal S256x128 .f32) (v7 : Vec Ideal S256x128 .f32) (v9 : Vec Ideal S256x512 .bf16) (v10 : Vec Ideal S256x512 .bf16) (v11 : Vec Ideal S256x512 .bf16) (r : Fin 256) (c : Fin 6656) :
    k0_pay1 (F := Ideal) v0 v1 v2 v4 v5 v7 v9 v10 v11 (ix2 r c) = cut (fun n => wh (fun k => v0 (ix2 r k)) (fun k => v1 (ix2 r k)) (fun k => v2 (ix2 r k)) (fun k => v4 (ix2 r k)) (fun k => v5 (ix2 r k)) (fun k => v7 (ix2 r k)) (fun k => v9 (ix2 r k)) (fun k => v10 (ix2 r k)) (fun k => v11 (ix2 r k)) n.val n.isLt) c.val c.isLt := by
  rw [pay_eq, blocks_row]
  exact congrArg (fun w => cut w c.val c.isLt) (funext fun n => whole_row v0 v1 v2 v4 v5 v7 v9 v10 v11 r n)

/-- The array after the call. -/
def Z (x0 : FVec Ideal S2048x3072 .bf16) (x1 : FVec Ideal S2048x1024 .bf16) (x2 : FVec Ideal S2048x128 .f32) (x3 : FVec Ideal S2048x512 .bf16) (x4 : FVec Ideal S2048x128 .f32) (x5 : FVec Ideal S2048x128 .f32) (x6 : FVec Ideal S2048x512 .bf16) (x7 : FVec Ideal S2048x512 .bf16) (x8 : FVec Ideal S2048x512 .bf16) : FVec Ideal S2048x6656 .bf16 := fun i =>
  cut (fun n => wh (fun k => x0 (ix2 (i 0) k)) (fun k => x1 (ix2 (i 0) k)) (fun k => x2 (ix2 (i 0) k)) (fun k => x3 (ix2 (i 0) k)) (fun k => x4 (ix2 (i 0) k)) (fun k => x5 (ix2 (i 0) k)) (fun k => x6 (ix2 (i 0) k)) (fun k => x7 (ix2 (i 0) k)) (fun k => x8 (ix2 (i 0) k)) n.val n.isLt) (i 1).val (i 1).isLt

open Cert.ProjGradRefIdeal.Read in
theorem ref_whole (x0 : FVec Ideal S2048x3072 .bf16) (x1 : FVec Ideal S2048x1024 .bf16) (x2 : FVec Ideal S2048x128 .f32) (x3 : FVec Ideal S2048x512 .bf16) (x4 : FVec Ideal S2048x128 .f32) (x5 : FVec Ideal S2048x128 .f32) (x6 : FVec Ideal S2048x512 .bf16) (x7 : FVec Ideal S2048x512 .bf16) (x8 : FVec Ideal S2048x512 .bf16) (r : Fin 2048) (n : Fin 6432) :
    val_main_v4 (F := Ideal) x0 x1 x2 x3 x4 x5 x6 x7 x8 (ix2 r n) = wh (fun k => x0 (ix2 r k)) (fun k => x1 (ix2 r k)) (fun k => x2 (ix2 r k)) (fun k => x3 (ix2 r k)) (fun k => x4 (ix2 r k)) (fun k => x5 (ix2 r k)) (fun k => x6 (ix2 r k)) (fun k => x7 (ix2 r k)) (fun k => x8 (ix2 r k)) n.val n.isLt := by
  have hn := n.isLt
  unfold wh
  pointwise [val_main_v4, val_main_v3, val_main_v2, val_main_v1, val_main_v0]

open Cert.ProjGradRefIdeal.Read in
theorem ref_Z (x0 : FVec Ideal S2048x3072 .bf16) (x1 : FVec Ideal S2048x1024 .bf16) (x2 : FVec Ideal S2048x128 .f32) (x3 : FVec Ideal S2048x512 .bf16) (x4 : FVec Ideal S2048x128 .f32) (x5 : FVec Ideal S2048x128 .f32) (x6 : FVec Ideal S2048x512 .bf16) (x7 : FVec Ideal S2048x512 .bf16) (x8 : FVec Ideal S2048x512 .bf16) (r : Fin 2048) (c : Fin 6656) :
    val_main_v8 (F := Ideal) x0 x1 x2 x3 x4 x5 x6 x7 x8 (ix2 r c) = Z x0 x1 x2 x3 x4 x5 x6 x7 x8 (ix2 r c) := by
  have hc := c.isLt
  have hr := r.isLt
  have e : val_main_v8 (F := Ideal) x0 x1 x2 x3 x4 x5 x6 x7 x8 (ix2 r c) = val_main_v7 (F := Ideal) x0 x1 x2 x3 x4 x5 x6 x7 x8 (ix3 r (⟨c.val / 1664, by omega⟩ : Fin 4) (⟨c.val % 1664, by omega⟩ : Fin 1664)) := by
    rw [val_main_v8_apply]
    refine congrArg _ (funext fun a => Fin.ext ?_)
    match a with
    | ⟨0, _⟩ => show (r.val * 6656 + c.val) / 6656 = r.val; omega
    | ⟨1, _⟩ => show (r.val * 6656 + c.val) / 1664 % 4 = c.val / 1664; omega
    | ⟨2, _⟩ => show (r.val * 6656 + c.val) % 1664 = c.val % 1664; omega
  have e5 : ∀ (k : Fin 4) (l : Fin 1608), val_main_v5 (F := Ideal) x0 x1 x2 x3 x4 x5 x6 x7 x8 (ix3 r k l) = wh (fun k => x0 (ix2 r k)) (fun k => x1 (ix2 r k)) (fun k => x2 (ix2 r k)) (fun k => x3 (ix2 r k)) (fun k => x4 (ix2 r k)) (fun k => x5 (ix2 r k)) (fun k => x6 (ix2 r k)) (fun k => x7 (ix2 r k)) (fun k => x8 (ix2 r k)) (k.val * 1608 + l.val) (by omega) := fun k l => by
    rw [val_main_v5_apply]
    have hk := k.isLt
    have hl := l.isLt
    refine (congrArg (val_main_v4 (F := Ideal) x0 x1 x2 x3 x4 x5 x6 x7 x8) (funext fun a => Fin.ext ?_)).trans (ref_whole x0 x1 x2 x3 x4 x5 x6 x7 x8 r ⟨k.val * 1608 + l.val, by omega⟩)
    match a with
    | ⟨0, _⟩ => show ((r.val * 4 + k.val) * 1608 + l.val) / 6432 = r.val; omega
    | ⟨1, _⟩ => show ((r.val * 4 + k.val) * 1608 + l.val) % 6432 = k.val * 1608 + l.val; omega
  rw [e]
  unfold val_main_v7 Z cut
  generalize val_main_v5 (F := Ideal) x0 x1 x2 x3 x4 x5 x6 x7 x8 = v at e5
  pointwise [val_main_v6, val_main_cst]
  by_cases h : c.val % 1664 < 1608
  · rw [dif_pos h]
    refine (e5 _ ⟨c.val % 1664, h⟩).trans ?_
    simp only [h, dite_true]
  · rw [dif_neg h]
    simp only [h, dite_false]

section Kernel
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ t.val < 8 :=
  (by decide +kernel : ∀ t : Fin grid0.N, _)

theorem read0 (c : Dev nD) (t : Fin cfg0.N) (r : Fin 256) (R : Fin 2048) (hR : R.val = t.val * 256 + r.val) :
    (fun k => (iblk m c 0 t : Vec Ideal S256x3072 .bf16) (ix2 r k)) = fun k => (m ((c : Thread nD τ).loc main_arg0) : FVec Ideal S2048x3072 .bf16) (ix2 R k) := by
  funext k
  rw [← V_main_arg0 m c]
  blk_ext [iblk, idx t]

theorem read1 (c : Dev nD) (t : Fin cfg0.N) (r : Fin 256) (R : Fin 2048) (hR : R.val = t.val * 256 + r.val) :
    (fun k => (iblk m c 1 t : Vec Ideal S256x1024 .bf16) (ix2 r k)) = fun k => (m ((c : Thread nD τ).loc main_arg1) : FVec Ideal S2048x1024 .bf16) (ix2 R k) := by
  funext k
  rw [← V_main_arg1 m c]
  blk_ext [iblk, idx t]

theorem read2 (c : Dev nD) (t : Fin cfg0.N) (r : Fin 256) (R : Fin 2048) (hR : R.val = t.val * 256 + r.val) :
    (fun k => (iblk m c 2 t : Vec Ideal S256x128 .f32) (ix2 r k)) = fun k => (m ((c : Thread nD τ).loc main_arg2) : FVec Ideal S2048x128 .f32) (ix2 R k) := by
  funext k
  rw [← V_main_arg2 m c]
  blk_ext [iblk, idx t]

theorem read3 (c : Dev nD) (t : Fin cfg0.N) (r : Fin 256) (R : Fin 2048) (hR : R.val = t.val * 256 + r.val) :
    (fun k => (iblk m c 3 t : Vec Ideal S256x512 .bf16) (ix2 r k)) = fun k => (m ((c : Thread nD τ).loc main_arg3) : FVec Ideal S2048x512 .bf16) (ix2 R k) := by
  funext k
  rw [← V_main_arg3 m c]
  blk_ext [iblk, idx t]

theorem read4 (c : Dev nD) (t : Fin cfg0.N) (r : Fin 256) (R : Fin 2048) (hR : R.val = t.val * 256 + r.val) :
    (fun k => (iblk m c 4 t : Vec Ideal S256x128 .f32) (ix2 r k)) = fun k => (m ((c : Thread nD τ).loc main_arg4) : FVec Ideal S2048x128 .f32) (ix2 R k) := by
  funext k
  rw [← V_main_arg4 m c]
  blk_ext [iblk, idx t]

theorem read5 (c : Dev nD) (t : Fin cfg0.N) (r : Fin 256) (R : Fin 2048) (hR : R.val = t.val * 256 + r.val) :
    (fun k => (iblk m c 5 t : Vec Ideal S256x128 .f32) (ix2 r k)) = fun k => (m ((c : Thread nD τ).loc main_arg5) : FVec Ideal S2048x128 .f32) (ix2 R k) := by
  funext k
  rw [← V_main_arg5 m c]
  blk_ext [iblk, idx t]

theorem read6 (c : Dev nD) (t : Fin cfg0.N) (r : Fin 256) (R : Fin 2048) (hR : R.val = t.val * 256 + r.val) :
    (fun k => (iblk m c 6 t : Vec Ideal S256x512 .bf16) (ix2 r k)) = fun k => (m ((c : Thread nD τ).loc main_arg6) : FVec Ideal S2048x512 .bf16) (ix2 R k) := by
  funext k
  rw [← V_main_arg6 m c]
  blk_ext [iblk, idx t]

theorem read7 (c : Dev nD) (t : Fin cfg0.N) (r : Fin 256) (R : Fin 2048) (hR : R.val = t.val * 256 + r.val) :
    (fun k => (iblk m c 7 t : Vec Ideal S256x512 .bf16) (ix2 r k)) = fun k => (m ((c : Thread nD τ).loc main_arg7) : FVec Ideal S2048x512 .bf16) (ix2 R k) := by
  funext k
  rw [← V_main_arg7 m c]
  blk_ext [iblk, idx t]

theorem read8 (c : Dev nD) (t : Fin cfg0.N) (r : Fin 256) (R : Fin 2048) (hR : R.val = t.val * 256 + r.val) :
    (fun k => (iblk m c 8 t : Vec Ideal S256x512 .bf16) (ix2 r k)) = fun k => (m ((c : Thread nD τ).loc main_arg8) : FVec Ideal S2048x512 .bf16) (ix2 R k) := by
  funext k
  rw [← V_main_arg8 m c]
  blk_ext [iblk, idx t]

theorem point (c : Dev nD) (t : Fin cfg0.N) (i : S2048x6656.Idx) (r : Fin 256) (l : Fin 6656) (h0 : (i 0).val = t.val * 256 + r.val) (h1 : (i 1).val = l.val) :
    k0_pay1 (F := Ideal) (iblk m c 0 t) (iblk m c 1 t) (iblk m c 2 t) (iblk m c 3 t) (iblk m c 4 t) (iblk m c 5 t) (iblk m c 6 t) (iblk m c 7 t) (iblk m c 8 t) (ix2 r l) = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  refine (pay (iblk m c 0 t) (iblk m c 1 t) (iblk m c 2 t) (iblk m c 3 t) (iblk m c 4 t) (iblk m c 5 t) (iblk m c 6 t) (iblk m c 7 t) (iblk m c 8 t) r l).trans ?_
  rw [show i = ix2 (i 0) l from (eq_ix2 (n0 := 2048) (n1 := 6656) i).trans (congrArg (ix2 (n0 := 2048) (n1 := 6656) (i 0)) (Fin.ext h1))]
  refine congrArg (fun w => cut w l.val l.isLt) (funext fun n => ?_)
  rw [read0 m c t r (i 0) h0, read1 m c t r (i 0) h0, read2 m c t r (i 0) h0, read3 m c t r (i 0) h0, read4 m c t r (i 0) h0, read5 m c t r (i 0) h0, read6 m c t r (i 0) h0, read7 m c t r (i 0) h0, read8 m c t r (i 0) h0]
  rfl

theorem final9 (c : Dev nD) : (dats m 0 c).arrAt 9 (cfgs 0).N = Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  frame_out
  have key := fun h0 h1 => point m c t (((View.whole main_v0).slice (win0_9.rect t)).emb y) (y 0) (y 1) h0 h1
  rw [show (ix2 (n0 := 256) (n1 := 6656) (y 0) (y 1)) = y from (eq_ix2 (n0 := 256) (n1 := 6656) y).symm] at key
  exact key (by blk_simp [idx t]) (by blk_simp [idx t])

end Kernel

theorem algebraic : Cert.algebraic_ProjGradIdeal_ProjGradRefIdeal := fun m ρ m' ρ' _ hag =>
  ⟨fun c => Z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)),
   (θ_run _ _ _).mono (fun _ h c => ⟨(h c).1.trans (final9 m c), (h c).2⟩)
     (Cert.ProjGradIdeal.Value.run_blocks m ρ),
   (θ_run _ _ _).mono (fun _ h c => ⟨(h c).1.trans (by
        rw [Cert.ProjGradRefIdeal.Read.val_main_v8_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
        funext i
        exact (congrArg _ (eq_ix2 (n0 := 2048) (n1 := 6656) i)).trans ((ref_Z _ _ _ _ _ _ _ _ _ _ _ ).trans (congrArg _ (eq_ix2 (n0 := 2048) (n1 := 6656) i).symm))),
      (h c).2⟩)
     (Cert.ProjGradRefIdeal.Value.run m' ρ')⟩

end Cert.ProjGradIdeal.Hand

end
-- ==== Proof.lean ====
/- The claims: each kernel call and its idealized text run with their arguments unchanged, and compute what the reference computes. -/
module

public import proofs.«01_k».proof.Defs
public import proofs.«01_k».proof.Proof.Gen.ConvGrad
public import proofs.«01_k».proof.Proof.Gen.ConvGrad.Frame
public import proofs.«01_k».proof.Proof.Gen.ConvGradIdeal
public import proofs.«01_k».proof.Proof.Gen.ConvGradIdeal.Frame
public import proofs.«01_k».proof.Proof.Gen.ConvGradIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.InWeight
public import proofs.«01_k».proof.Proof.Gen.InWeight.Frame
public import proofs.«01_k».proof.Proof.Gen.InWeightIdeal
public import proofs.«01_k».proof.Proof.Gen.InWeightIdeal.Frame
public import proofs.«01_k».proof.Proof.Gen.InWeightRefIdeal
public import proofs.«01_k».proof.Proof.Gen.InWeightRefIdeal.Run
public import proofs.«01_k».proof.Proof.Gen.InWeightRefIdeal.Read
public import proofs.«01_k».proof.Proof.Gen.InGrad
public import proofs.«01_k».proof.Proof.Gen.InGrad.Frame
public import proofs.«01_k».proof.Proof.Gen.InGradIdeal
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.InGradRefIdeal.Read
public import proofs.«01_k».proof.Proof.Gen.DeltaOut
public import proofs.«01_k».proof.Proof.Gen.DeltaOut.Frame
public import proofs.«01_k».proof.Proof.Gen.DeltaOutIdeal
public import proofs.«01_k».proof.Proof.Gen.DeltaOutIdeal.Frame
public import proofs.«01_k».proof.Proof.Gen.DeltaOutIdeal.Value
public import proofs.«01_k».proof.Proof.Gen.DeltaOutRefIdeal
public import proofs.«01_k».proof.Proof.Gen.DeltaOutRefIdeal.Run
public import proofs.«01_k».proof.Proof.Gen.DeltaOutRefIdeal.Read
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamKv
public import proofs.«01_k».proof.Proof.Gen.AdamKv.Frame
public import proofs.«01_k».proof.Proof.Gen.AdamKvIdeal
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamKvRefIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.SumIn
public import proofs.«01_k».proof.Proof.Gen.SumIn.Frame
public import proofs.«01_k».proof.Proof.Gen.SumInIdeal
public import proofs.«01_k».proof.Proof.Gen.SumInIdeal.Frame
public import proofs.«01_k».proof.Proof.Gen.SumInRefIdeal
public import proofs.«01_k».proof.Proof.Gen.SumInRefIdeal.Run
public import proofs.«01_k».proof.Proof.Gen.SumInRefIdeal.Read
public import proofs.«01_k».proof.Proof.Gen.SumOut
public import proofs.«01_k».proof.Proof.Gen.SumOut.Frame
public import proofs.«01_k».proof.Proof.Gen.SumOutIdeal
public import proofs.«01_k».proof.Proof.Gen.SumOutIdeal.Frame
public import proofs.«01_k».proof.Proof.Gen.SumOutRefIdeal
public import proofs.«01_k».proof.Proof.Gen.SumOutRefIdeal.Run
public import proofs.«01_k».proof.Proof.Gen.SumOutRefIdeal.Read
public import proofs.«01_k».proof.Proof.Gen.SumKv
public import proofs.«01_k».proof.Proof.Gen.SumKv.Frame
public import proofs.«01_k».proof.Proof.Gen.SumKvIdeal
public import proofs.«01_k».proof.Proof.Gen.SumKvIdeal.Frame
public import proofs.«01_k».proof.Proof.Gen.SumKvRefIdeal
public import proofs.«01_k».proof.Proof.Gen.SumKvRefIdeal.Run
public import proofs.«01_k».proof.Proof.Gen.SumKvRefIdeal.Read
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.AttnCFwd
public import proofs.«01_k».proof.Proof.Gen.AttnCFwd.Frame
public import proofs.«01_k».proof.Proof.Gen.AttnCFwdIdeal
public import proofs.«01_k».proof.Proof.Gen.AttnCFwdIdeal.Frame
public import proofs.«01_k».proof.Proof.Gen.AttnCFwdIdeal.Value
public import proofs.«01_k».proof.Proof.Gen.AttnCFwdRefIdeal
public import proofs.«01_k».proof.Proof.Gen.AttnCFwdRefIdeal.Run
public import proofs.«01_k».proof.Proof.Gen.AttnCFwdRefIdeal.Read
public import proofs.«01_k».proof.Proof.Gen.PairIn
public import proofs.«01_k».proof.Proof.Gen.PairIn.Frame
public import proofs.«01_k».proof.Proof.Gen.PairInIdeal
public import proofs.«01_k».proof.Proof.Gen.PairInIdeal.Frame
public import proofs.«01_k».proof.Proof.Gen.PairInRefIdeal
public import proofs.«01_k».proof.Proof.Gen.PairInRefIdeal.Run
public import proofs.«01_k».proof.Proof.Gen.PairInRefIdeal.Read
public import proofs.«01_k».proof.Proof.Gen.PairOut
public import proofs.«01_k».proof.Proof.Gen.PairOut.Frame
public import proofs.«01_k».proof.Proof.Gen.PairOutIdeal
public import proofs.«01_k».proof.Proof.Gen.PairOutIdeal.Frame
public import proofs.«01_k».proof.Proof.Gen.PairOutRefIdeal
public import proofs.«01_k».proof.Proof.Gen.PairOutRefIdeal.Run
public import proofs.«01_k».proof.Proof.Gen.PairOutRefIdeal.Read
public import proofs.«01_k».proof.Proof.Gen.PairKv
public import proofs.«01_k».proof.Proof.Gen.PairKv.Frame
public import proofs.«01_k».proof.Proof.Gen.PairKvIdeal
public import proofs.«01_k».proof.Proof.Gen.PairKvIdeal.Frame
public import proofs.«01_k».proof.Proof.Gen.PairKvRefIdeal
public import proofs.«01_k».proof.Proof.Gen.PairKvRefIdeal.Run
public import proofs.«01_k».proof.Proof.Gen.PairKvRefIdeal.Read
public import proofs.«01_k».proof.Proof.Gen.ProjGrad
public import proofs.«01_k».proof.Proof.Gen.ProjGrad.Frame
public import proofs.«01_k».proof.Proof.Gen.ProjGradIdeal
public import proofs.«01_k».proof.Proof.Gen.ProjGradIdeal.Frame
public import proofs.«01_k».proof.Proof.Gen.ProjGradIdeal.Value
public import proofs.«01_k».proof.Proof.Gen.ProjGradRefIdeal
public import proofs.«01_k».proof.Proof.Gen.ProjGradRefIdeal.Run
public import proofs.«01_k».proof.Proof.Gen.ProjGradRefIdeal.Read
public import proofs.«01_k».proof.Proof.Gen.AttnCGrad
public import proofs.«01_k».proof.Proof.Gen.AttnCGrad.Frame
public import proofs.«01_k».proof.Proof.Gen.AttnCGradIdeal
public import proofs.«01_k».proof.Proof.Gen.AttnCGradIdeal.Frame
public import proofs.«01_k».proof.Proof.Gen.AttnBFwd
public import proofs.«01_k».proof.Proof.Gen.AttnBFwd.Frame
public import proofs.«01_k».proof.Proof.Gen.AttnBFwdIdeal
public import proofs.«01_k».proof.Proof.Gen.AttnBFwdIdeal.Frame
public import proofs.«01_k».proof.Proof.ConvClaim
public import proofs.«01_k».proof.Proof.InWeightClaim
public import proofs.«01_k».proof.Proof.InGradClaim
public import proofs.«01_k».proof.Proof.DeltaOutClaim
public import proofs.«01_k».proof.Proof.HeadClaim
public import proofs.«01_k».proof.Proof.InProjClaim
public import proofs.«01_k».proof.Proof.MemKvClaim
public import proofs.«01_k».proof.Proof.AdamInClaim
public import proofs.«01_k».proof.Proof.AdamOutClaim
public import proofs.«01_k».proof.Proof.AdamKvClaim
public import proofs.«01_k».proof.Proof.AdamConvClaim
public import proofs.«01_k».proof.Proof.AdamSmallClaim
public import proofs.«01_k».proof.Proof.SumInClaim
public import proofs.«01_k».proof.Proof.SumOutClaim
public import proofs.«01_k».proof.Proof.SumKvClaim
public import proofs.«01_k».proof.Proof.ConvFwdClaim
public import proofs.«01_k».proof.Proof.AttnCFwdClaim
public import proofs.«01_k».proof.Proof.PairInClaim
public import proofs.«01_k».proof.Proof.PairOutClaim
public import proofs.«01_k».proof.Proof.PairKvClaim
public import proofs.«01_k».proof.Proof.ProjGradClaim
public import Idealize.ShloMosaic.Adequacy
public import Idealize.ShloMosaic.Init

@[expose] public section

noncomputable section

namespace Cert.Proof

open Idealize.ShloMosaic Idealize.SL.Sem

theorem claim : Cert.Claim := ⟨Cert.ConvGrad.Gen.facts, Cert.ConvGradIdeal.Gen.facts, Cert.ConvRefIdeal.Gen.facts, Cert.InWeight.Gen.facts, Cert.InWeightIdeal.Gen.facts, Cert.InWeightRefIdeal.Gen.facts, Cert.InGrad.Gen.facts, Cert.InGradIdeal.Gen.facts, Cert.InGradRefIdeal.Gen.facts, Cert.DeltaOut.Gen.facts, Cert.DeltaOutIdeal.Gen.facts, Cert.DeltaOutRefIdeal.Gen.facts, Cert.Head.Gen.facts, Cert.HeadIdeal.Gen.facts, Cert.HeadRefIdeal.Gen.facts, Cert.InProj.Gen.facts, Cert.InProjIdeal.Gen.facts, Cert.InProjRefIdeal.Gen.facts, Cert.MemKv.Gen.facts, Cert.MemKvIdeal.Gen.facts, Cert.MemKvRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamKv.Gen.facts, Cert.AdamKvIdeal.Gen.facts, Cert.AdamKvRefIdeal.Gen.facts, Cert.AdamConv.Gen.facts, Cert.AdamConvIdeal.Gen.facts, Cert.AdamConvRefIdeal.Gen.facts, Cert.AdamSmall.Gen.facts, Cert.AdamSmallIdeal.Gen.facts, Cert.AdamSmallRefIdeal.Gen.facts, Cert.SumIn.Gen.facts, Cert.SumInIdeal.Gen.facts, Cert.SumInRefIdeal.Gen.facts, Cert.SumOut.Gen.facts, Cert.SumOutIdeal.Gen.facts, Cert.SumOutRefIdeal.Gen.facts, Cert.SumKv.Gen.facts, Cert.SumKvIdeal.Gen.facts, Cert.SumKvRefIdeal.Gen.facts, Cert.ConvFwd.Gen.facts, Cert.ConvFwdIdeal.Gen.facts, Cert.ConvFwdRefIdeal.Gen.facts, Cert.AttnCFwd.Gen.facts, Cert.AttnCFwdIdeal.Gen.facts, Cert.AttnCFwdRefIdeal.Gen.facts, Cert.PairIn.Gen.facts, Cert.PairInIdeal.Gen.facts, Cert.PairInRefIdeal.Gen.facts, Cert.PairOut.Gen.facts, Cert.PairOutIdeal.Gen.facts, Cert.PairOutRefIdeal.Gen.facts, Cert.PairKv.Gen.facts, Cert.PairKvIdeal.Gen.facts, Cert.PairKvRefIdeal.Gen.facts, Cert.ProjGrad.Gen.facts, Cert.ProjGradIdeal.Gen.facts, Cert.ProjGradRefIdeal.Gen.facts, Cert.AttnCGrad.Gen.facts, Cert.AttnCGradIdeal.Gen.facts, Cert.AttnBFwd.Gen.facts, Cert.AttnBFwdIdeal.Gen.facts, by
  exact ⟨fun m ρ _ => Cert.ConvGrad.Gen.frame m ρ, fun m ρ _ => Cert.ConvGradIdeal.Gen.frame m ρ,
    fun m ρ _ => (θ_run _ _ _).mono (fun r h => ⟨fun c => (h c).2.2, sem_eq_zero_of_no_sems rfl r.2⟩) (Cert.ConvRefIdeal.Value.run m ρ),
    fun m ρ _ => Cert.InWeight.Gen.frame m ρ, fun m ρ _ => Cert.InWeightIdeal.Gen.frame m ρ,
    fun m ρ _ => (θ_run _ _ _).mono (fun r h => ⟨fun c => (h c).2, sem_eq_zero_of_no_sems rfl r.2⟩) (Cert.InWeightRefIdeal.Value.run m ρ),
    fun m ρ _ => Cert.InGrad.Gen.frame m ρ, fun m ρ _ => Cert.InGradIdeal.Gen.frame m ρ,
    fun m ρ _ => (θ_run _ _ _).mono (fun r h => ⟨fun c => (h c).2.2, sem_eq_zero_of_no_sems rfl r.2⟩) (Cert.InGradRefIdeal.Value.run m ρ),
    fun m ρ _ => Cert.DeltaOut.Gen.frame m ρ, fun m ρ _ => Cert.DeltaOutIdeal.Gen.frame m ρ,
    fun m ρ _ => (θ_run _ _ _).mono (fun r h => ⟨fun c => (h c).2.2.2, sem_eq_zero_of_no_sems rfl r.2⟩) (Cert.DeltaOutRefIdeal.Value.run m ρ),
    fun m ρ _ => Cert.Head.Gen.frame m ρ, fun m ρ _ => Cert.HeadIdeal.Gen.frame m ρ,
    fun m ρ _ => (θ_run _ _ _).mono (fun r h => ⟨fun c => (h c).2.2.2.2, sem_eq_zero_of_no_sems rfl r.2⟩) (Cert.HeadRefIdeal.Value.run m ρ),
    fun m ρ _ => Cert.InProj.Gen.frame m ρ, fun m ρ _ => Cert.InProjIdeal.Gen.frame m ρ,
    fun m ρ _ => (θ_run _ _ _).mono (fun r h => ⟨fun c => (h c).2, sem_eq_zero_of_no_sems rfl r.2⟩) (Cert.InProjRefIdeal.Value.run m ρ),
    fun m ρ _ => Cert.MemKv.Gen.frame m ρ, fun m ρ _ => Cert.MemKvIdeal.Gen.frame m ρ,
    fun m ρ _ => (θ_run _ _ _).mono (fun r h => ⟨fun c => (h c).2.2.2, sem_eq_zero_of_no_sems rfl r.2⟩) (Cert.MemKvRefIdeal.Value.run m ρ),
    fun m ρ _ => Cert.AdamIn.Gen.frame m ρ, fun m ρ _ => Cert.AdamInIdeal.Gen.frame m ρ,
    fun m ρ _ => (θ_run _ _ _).mono (fun r h => ⟨fun c => (h c).2.2.2.2, sem_eq_zero_of_no_sems rfl r.2⟩) (Cert.AdamInRefIdeal.Value.run m ρ),
    fun m ρ _ => Cert.AdamOut.Gen.frame m ρ, fun m ρ _ => Cert.AdamOutIdeal.Gen.frame m ρ,
    fun m ρ _ => (θ_run _ _ _).mono (fun r h => ⟨fun c => (h c).2.2.2.2, sem_eq_zero_of_no_sems rfl r.2⟩) (Cert.AdamOutRefIdeal.Value.run m ρ),
    fun m ρ _ => Cert.AdamKv.Gen.frame m ρ, fun m ρ _ => Cert.AdamKvIdeal.Gen.frame m ρ,
    fun m ρ _ => (θ_run _ _ _).mono (fun r h => ⟨fun c => (h c).2.2.2.2, sem_eq_zero_of_no_sems rfl r.2⟩) (Cert.AdamKvRefIdeal.Value.run m ρ),
    fun m ρ _ => Cert.AdamConv.Gen.frame m ρ, fun m ρ _ => Cert.AdamConvIdeal.Gen.frame m ρ,
    fun m ρ _ => (θ_run _ _ _).mono (fun r h => ⟨fun c => (h c).2.2.2, sem_eq_zero_of_no_sems rfl r.2⟩) (Cert.AdamConvRefIdeal.Value.run m ρ),
    fun m ρ _ => Cert.AdamSmall.Gen.frame m ρ, fun m ρ _ => Cert.AdamSmallIdeal.Gen.frame m ρ,
    fun m ρ _ => (θ_run _ _ _).mono (fun r h => ⟨fun c => (h c).2.2.2, sem_eq_zero_of_no_sems rfl r.2⟩) (Cert.AdamSmallRefIdeal.Value.run m ρ),
    fun m ρ _ => Cert.SumIn.Gen.frame m ρ (Cert.SumIn.Hand.ok m), fun m ρ _ => Cert.SumInIdeal.Gen.frame m ρ (Cert.SumInIdeal.Hand.ok m),
    fun m ρ _ => (θ_run _ _ _).mono (fun r h => ⟨fun c => (h c).2, sem_eq_zero_of_no_sems rfl r.2⟩) (Cert.SumInRefIdeal.Value.run m ρ),
    fun m ρ _ => Cert.SumOut.Gen.frame m ρ (Cert.SumOut.Hand.ok m), fun m ρ _ => Cert.SumOutIdeal.Gen.frame m ρ (Cert.SumOutIdeal.Hand.ok m),
    fun m ρ _ => (θ_run _ _ _).mono (fun r h => ⟨fun c => (h c).2, sem_eq_zero_of_no_sems rfl r.2⟩) (Cert.SumOutRefIdeal.Value.run m ρ),
    fun m ρ _ => Cert.SumKv.Gen.frame m ρ (Cert.SumKv.Hand.ok m), fun m ρ _ => Cert.SumKvIdeal.Gen.frame m ρ (Cert.SumKvIdeal.Hand.ok m),
    fun m ρ _ => (θ_run _ _ _).mono (fun r h => ⟨fun c => (h c).2, sem_eq_zero_of_no_sems rfl r.2⟩) (Cert.SumKvRefIdeal.Value.run m ρ),
    fun m ρ _ => Cert.ConvFwd.Gen.frame m ρ, fun m ρ _ => Cert.ConvFwdIdeal.Gen.frame m ρ,
    fun m ρ _ => (θ_run _ _ _).mono (fun r h => ⟨fun c => (h c).2, sem_eq_zero_of_no_sems rfl r.2⟩) (Cert.ConvFwdRefIdeal.Value.run m ρ),
    fun m ρ _ => Cert.AttnCFwd.Gen.frame m ρ, fun m ρ _ => Cert.AttnCFwdIdeal.Gen.frame m ρ,
    fun m ρ _ => (θ_run _ _ _).mono (fun r h => ⟨fun c => (h c).2, sem_eq_zero_of_no_sems rfl r.2⟩) (Cert.AttnCFwdRefIdeal.Value.run m ρ),
    fun m ρ _ => Cert.PairIn.Gen.frame m ρ (Cert.PairIn.Hand.ok m), fun m ρ _ => Cert.PairInIdeal.Gen.frame m ρ (Cert.PairInIdeal.Hand.ok m),
    fun m ρ _ => (θ_run _ _ _).mono (fun r h => ⟨fun c => (h c).2, sem_eq_zero_of_no_sems rfl r.2⟩) (Cert.PairInRefIdeal.Value.run m ρ),
    fun m ρ _ => Cert.PairOut.Gen.frame m ρ (Cert.PairOut.Hand.ok m), fun m ρ _ => Cert.PairOutIdeal.Gen.frame m ρ (Cert.PairOutIdeal.Hand.ok m),
    fun m ρ _ => (θ_run _ _ _).mono (fun r h => ⟨fun c => (h c).2, sem_eq_zero_of_no_sems rfl r.2⟩) (Cert.PairOutRefIdeal.Value.run m ρ),
    fun m ρ _ => Cert.PairKv.Gen.frame m ρ (Cert.PairKv.Hand.ok m), fun m ρ _ => Cert.PairKvIdeal.Gen.frame m ρ (Cert.PairKvIdeal.Hand.ok m),
    fun m ρ _ => (θ_run _ _ _).mono (fun r h => ⟨fun c => (h c).2, sem_eq_zero_of_no_sems rfl r.2⟩) (Cert.PairKvRefIdeal.Value.run m ρ),
    fun m ρ _ => Cert.ProjGrad.Gen.frame m ρ, fun m ρ _ => Cert.ProjGradIdeal.Gen.frame m ρ,
    fun m ρ _ => (θ_run _ _ _).mono (fun r h => ⟨fun c => (h c).2, sem_eq_zero_of_no_sems rfl r.2⟩) (Cert.ProjGradRefIdeal.Value.run m ρ),
    fun m ρ _ => Cert.AttnCGrad.Gen.frame m ρ, fun m ρ _ => Cert.AttnCGradIdeal.Gen.frame m ρ,
    fun m ρ _ => Cert.AttnBFwd.Gen.frame m ρ, fun m ρ _ => Cert.AttnBFwdIdeal.Gen.frame m ρ,
    trivial, Cert.ConvGradIdeal.Hand.algebraic,
    trivial, Cert.InWeightIdeal.Hand.algebraic,
    trivial, Cert.InGradIdeal.Hand.algebraic,
    trivial, Cert.DeltaOutIdeal.Hand.algebraic,
    trivial, Cert.HeadIdeal.Hand.algebraic,
    trivial, Cert.InProjIdeal.Hand.algebraic,
    trivial, Cert.MemKvIdeal.Hand.algebraic,
    trivial, Cert.AdamInIdeal.Hand.algebraic,
    trivial, Cert.AdamOutIdeal.Hand.algebraic,
    trivial, Cert.AdamKvIdeal.Hand.algebraic,
    trivial, Cert.AdamConvIdeal.Hand.algebraic,
    trivial, Cert.AdamSmallIdeal.Hand.algebraic,
    trivial, Cert.SumInIdeal.Hand.algebraic,
    trivial, Cert.SumOutIdeal.Hand.algebraic,
    trivial, Cert.SumKvIdeal.Hand.algebraic,
    trivial, Cert.ConvFwdIdeal.Hand.algebraic,
    trivial, Cert.AttnCFwdIdeal.Hand.algebraic,
    trivial, Cert.PairInIdeal.Hand.algebraic,
    trivial, Cert.PairOutIdeal.Hand.algebraic,
    trivial, Cert.PairKvIdeal.Hand.algebraic,
    trivial, Cert.ProjGradIdeal.Hand.algebraic,
    trivial,
    trivial⟩⟩

end Cert.Proof

end
